-- ==== Defs.lean ====
def Pre_ProjTail (m : (ℓ : Loc Cert.ProjTail.nD Cert.ProjTail.τ Cert.ProjTail.sig) → Buf (Elt Bits) ℓ) : Prop :=
  True

def Pre_ProjTailIdeal (m : (ℓ : Loc Cert.ProjTailIdeal.nD Cert.ProjTailIdeal.τ Cert.ProjTailIdeal.sig) → Buf (Elt Ideal) ℓ) : Prop :=
  True

def Pre_ProjTailReferenceIdeal (m : (ℓ : Loc Cert.ProjTailReferenceIdeal.nD Cert.ProjTailReferenceIdeal.τ Cert.ProjTailReferenceIdeal.sig) → Buf (Elt Ideal) ℓ) : Prop :=
  True

def Pre_MoeGateUp [hPre_up_tables : Cert.Pre_up_tables.Facts] (m : (ℓ : Loc Cert.MoeGateUp.nD Cert.MoeGateUp.τ Cert.MoeGateUp.sig) → Buf (Elt Bits) ℓ) : Prop :=
  ∀ c : Dev Cert.MoeGateUp.nD,
    (Cert.Pre_up_tables.fn (F := Bits) (m ((c.tc : Thread Cert.MoeGateUp.nD Cert.MoeGateUp.τ).loc Cert.MoeGateUp.main_arg0)) (m ((c.tc : Thread Cert.MoeGateUp.nD Cert.MoeGateUp.τ).loc Cert.MoeGateUp.main_arg1)) (m ((c.tc : Thread Cert.MoeGateUp.nD Cert.MoeGateUp.τ).loc Cert.MoeGateUp.main_arg2)) (m ((c.tc : Thread Cert.MoeGateUp.nD Cert.MoeGateUp.τ).loc Cert.MoeGateUp.main_arg3)) (m ((c.tc : Thread Cert.MoeGateUp.nD Cert.MoeGateUp.τ).loc Cert.MoeGateUp.main_arg4))).1 = (fun _ => 1#1)
    ∧ (Cert.Pre_up_tables.fn (F := Bits) (m ((c.tc : Thread Cert.MoeGateUp.nD Cert.MoeGateUp.τ).loc Cert.MoeGateUp.main_arg0)) (m ((c.tc : Thread Cert.MoeGateUp.nD Cert.MoeGateUp.τ).loc Cert.MoeGateUp.main_arg1)) (m ((c.tc : Thread Cert.MoeGateUp.nD Cert.MoeGateUp.τ).loc Cert.MoeGateUp.main_arg2)) (m ((c.tc : Thread Cert.MoeGateUp.nD Cert.MoeGateUp.τ).loc Cert.MoeGateUp.main_arg3)) (m ((c.tc : Thread Cert.MoeGateUp.nD Cert.MoeGateUp.τ).loc Cert.MoeGateUp.main_arg4))).2 = (fun _ => 1#1)

def Pre_MoeGateUpIdeal [hPre_up_tables : Cert.Pre_up_tables.Facts] (m : (ℓ : Loc Cert.MoeGateUpIdeal.nD Cert.MoeGateUpIdeal.τ Cert.MoeGateUpIdeal.sig) → Buf (Elt Ideal) ℓ) : Prop :=
  ∀ c : Dev Cert.MoeGateUpIdeal.nD,
    (Cert.Pre_up_tables.fn (F := Ideal) (m ((c.tc : Thread Cert.MoeGateUpIdeal.nD Cert.MoeGateUpIdeal.τ).loc Cert.MoeGateUpIdeal.main_arg0)) (m ((c.tc : Thread Cert.MoeGateUpIdeal.nD Cert.MoeGateUpIdeal.τ).loc Cert.MoeGateUpIdeal.main_arg1)) (m ((c.tc : Thread Cert.MoeGateUpIdeal.nD Cert.MoeGateUpIdeal.τ).loc Cert.MoeGateUpIdeal.main_arg2)) (m ((c.tc : Thread Cert.MoeGateUpIdeal.nD Cert.MoeGateUpIdeal.τ).loc Cert.MoeGateUpIdeal.main_arg3)) (m ((c.tc : Thread Cert.MoeGateUpIdeal.nD Cert.MoeGateUpIdeal.τ).loc Cert.MoeGateUpIdeal.main_arg4))).1 = (fun _ => 1#1)
    ∧ (Cert.Pre_up_tables.fn (F := Ideal) (m ((c.tc : Thread Cert.MoeGateUpIdeal.nD Cert.MoeGateUpIdeal.τ).loc Cert.MoeGateUpIdeal.main_arg0)) (m ((c.tc : Thread Cert.MoeGateUpIdeal.nD Cert.MoeGateUpIdeal.τ).loc Cert.MoeGateUpIdeal.main_arg1)) (m ((c.tc : Thread Cert.MoeGateUpIdeal.nD Cert.MoeGateUpIdeal.τ).loc Cert.MoeGateUpIdeal.main_arg2)) (m ((c.tc : Thread Cert.MoeGateUpIdeal.nD Cert.MoeGateUpIdeal.τ).loc Cert.MoeGateUpIdeal.main_arg3)) (m ((c.tc : Thread Cert.MoeGateUpIdeal.nD Cert.MoeGateUpIdeal.τ).loc Cert.MoeGateUpIdeal.main_arg4))).2 = (fun _ => 1#1)

def Pre_MoeGateUpReferenceIdeal [hPre_up_tables : Cert.Pre_up_tables.Facts] (m : (ℓ : Loc Cert.MoeGateUpReferenceIdeal.nD Cert.MoeGateUpReferenceIdeal.τ Cert.MoeGateUpReferenceIdeal.sig) → Buf (Elt Ideal) ℓ) : Prop :=
  ∀ c : Dev Cert.MoeGateUpReferenceIdeal.nD,
    (Cert.Pre_up_tables.fn (F := Ideal) (m ((c.tc : Thread Cert.MoeGateUpReferenceIdeal.nD Cert.MoeGateUpReferenceIdeal.τ).loc Cert.MoeGateUpReferenceIdeal.main_arg0)) (m ((c.tc : Thread Cert.MoeGateUpReferenceIdeal.nD Cert.MoeGateUpReferenceIdeal.τ).loc Cert.MoeGateUpReferenceIdeal.main_arg1)) (m ((c.tc : Thread Cert.MoeGateUpReferenceIdeal.nD Cert.MoeGateUpReferenceIdeal.τ).loc Cert.MoeGateUpReferenceIdeal.main_arg2)) (m ((c.tc : Thread Cert.MoeGateUpReferenceIdeal.nD Cert.MoeGateUpReferenceIdeal.τ).loc Cert.MoeGateUpReferenceIdeal.main_arg3)) (m ((c.tc : Thread Cert.MoeGateUpReferenceIdeal.nD Cert.MoeGateUpReferenceIdeal.τ).loc Cert.MoeGateUpReferenceIdeal.main_arg4))).1 = (fun _ => 1#1)
    ∧ (Cert.Pre_up_tables.fn (F := Ideal) (m ((c.tc : Thread Cert.MoeGateUpReferenceIdeal.nD Cert.MoeGateUpReferenceIdeal.τ).loc Cert.MoeGateUpReferenceIdeal.main_arg0)) (m ((c.tc : Thread Cert.MoeGateUpReferenceIdeal.nD Cert.MoeGateUpReferenceIdeal.τ).loc Cert.MoeGateUpReferenceIdeal.main_arg1)) (m ((c.tc : Thread Cert.MoeGateUpReferenceIdeal.nD Cert.MoeGateUpReferenceIdeal.τ).loc Cert.MoeGateUpReferenceIdeal.main_arg2)) (m ((c.tc : Thread Cert.MoeGateUpReferenceIdeal.nD Cert.MoeGateUpReferenceIdeal.τ).loc Cert.MoeGateUpReferenceIdeal.main_arg3)) (m ((c.tc : Thread Cert.MoeGateUpReferenceIdeal.nD Cert.MoeGateUpReferenceIdeal.τ).loc Cert.MoeGateUpReferenceIdeal.main_arg4))).2 = (fun _ => 1#1)

def Pre_MoeDown [hPre_down_tables : Cert.Pre_down_tables.Facts] (m : (ℓ : Loc Cert.MoeDown.nD Cert.MoeDown.τ Cert.MoeDown.sig) → Buf (Elt Bits) ℓ) : Prop :=
  ∀ c : Dev Cert.MoeDown.nD,
    (Cert.Pre_down_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))).1 = (fun _ => 1#1)
    ∧ (Cert.Pre_down_tables.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))).2 = (fun _ => 1#1)

def Pre_MoeDownIdeal [hPre_down_tables : Cert.Pre_down_tables.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_down_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))).1 = (fun _ => 1#1)
    ∧ (Cert.Pre_down_tables.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))).2 = (fun _ => 1#1)

def Pre_MoeDownReferenceIdeal [hPre_down_tables : Cert.Pre_down_tables.Facts] (m : (ℓ : Loc Cert.MoeDownReferenceIdeal.nD Cert.MoeDownReferenceIdeal.τ Cert.MoeDownReferenceIdeal.sig) → Buf (Elt Ideal) ℓ) : Prop :=
  ∀ c : Dev Cert.MoeDownReferenceIdeal.nD,
    (Cert.Pre_down_tables.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3))).1 = (fun _ => 1#1)
    ∧ (Cert.Pre_down_tables.fn (F := Ideal) (m ((c.tc : Thread Cert.MoeDownReferenceIdeal.nD Cert.MoeDownReferenceIdeal.τ).loc Cert.MoeDownReferenceIdeal.main_arg0)) (m ((c.tc : Thread Cert.MoeDownReferenceIdeal.nD Cert.MoeDownReferenceIdeal.τ).loc Cert.MoeDownReferenceIdeal.main_arg1)) (m ((c.tc : Thread Cert.MoeDownReferenceIdeal.nD Cert.MoeDownReferenceIdeal.τ).loc Cert.MoeDownReferenceIdeal.main_arg2)) (m ((c.tc : Thread Cert.MoeDownReferenceIdeal.nD Cert.MoeDownReferenceIdeal.τ).loc Cert.MoeDownReferenceIdeal.main_arg3))).2 = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MatmulNorm (m : (ℓ : Loc Cert.MatmulNorm.nD Cert.MatmulNorm.τ Cert.MatmulNorm.sig) → Buf (Elt Bits) ℓ) : Prop :=
  True

def Pre_MatmulNormIdeal (m : (ℓ : Loc Cert.MatmulNormIdeal.nD Cert.MatmulNormIdeal.τ Cert.MatmulNormIdeal.sig) → Buf (Elt Ideal) ℓ) : Prop :=
  True

def Pre_MatmulNormReferenceIdeal (m : (ℓ : Loc Cert.MatmulNormReferenceIdeal.nD Cert.MatmulNormReferenceIdeal.τ Cert.MatmulNormReferenceIdeal.sig) → Buf (Elt Ideal) ℓ) : Prop :=
  True

def Pre_ProjK (m : (ℓ : Loc Cert.ProjK.nD Cert.ProjK.τ Cert.ProjK.sig) → Buf (Elt Bits) ℓ) : Prop :=
  True

def Pre_ProjKIdeal (m : (ℓ : Loc Cert.ProjKIdeal.nD Cert.ProjKIdeal.τ Cert.ProjKIdeal.sig) → Buf (Elt Ideal) ℓ) : Prop :=
  True

def Pre_ProjKReferenceIdeal (m : (ℓ : Loc Cert.ProjKReferenceIdeal.nD Cert.ProjKReferenceIdeal.τ Cert.ProjKReferenceIdeal.sig) → Buf (Elt Ideal) ℓ) : Prop :=
  True

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_ProjVReferenceIdeal (m : (ℓ : Loc Cert.ProjVReferenceIdeal.nD Cert.ProjVReferenceIdeal.τ Cert.ProjVReferenceIdeal.sig) → Buf (Elt Ideal) ℓ) : Prop :=
  True

def Pre_ProjIdx (m : (ℓ : Loc Cert.ProjIdx.nD Cert.ProjIdx.τ Cert.ProjIdx.sig) → Buf (Elt Bits) ℓ) : Prop :=
  True

def Pre_ProjIdxIdeal (m : (ℓ : Loc Cert.ProjIdxIdeal.nD Cert.ProjIdxIdeal.τ Cert.ProjIdxIdeal.sig) → Buf (Elt Ideal) ℓ) : Prop :=
  True

def Pre_ProjIdxReferenceIdeal (m : (ℓ : Loc Cert.ProjIdxReferenceIdeal.nD Cert.ProjIdxReferenceIdeal.τ Cert.ProjIdxReferenceIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQReferenceIdeal (m : (ℓ : Loc Cert.ProjQReferenceIdeal.nD Cert.ProjQReferenceIdeal.τ Cert.ProjQReferenceIdeal.sig) → Buf (Elt Ideal) ℓ) : Prop :=
  True

def Pre_ProjQI (m : (ℓ : Loc Cert.ProjQI.nD Cert.ProjQI.τ Cert.ProjQI.sig) → Buf (Elt Bits) ℓ) : Prop :=
  True

def Pre_ProjQIIdeal (m : (ℓ : Loc Cert.ProjQIIdeal.nD Cert.ProjQIIdeal.τ Cert.ProjQIIdeal.sig) → Buf (Elt Ideal) ℓ) : Prop :=
  True

def Pre_ProjQIReferenceIdeal (m : (ℓ : Loc Cert.ProjQIReferenceIdeal.nD Cert.ProjQIReferenceIdeal.τ Cert.ProjQIReferenceIdeal.sig) → Buf (Elt Ideal) ℓ) : Prop :=
  True

def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionReferenceIdeal (m : (ℓ : Loc Cert.RetentionReferenceIdeal.nD Cert.RetentionReferenceIdeal.τ Cert.RetentionReferenceIdeal.sig) → Buf (Elt Ideal) ℓ) : Prop :=
  True

def quiescent_ProjTail [hProjTail : Cert.ProjTail.Facts] : Prop :=
  ∀ (m : (ℓ : Loc Cert.ProjTail.nD Cert.ProjTail.τ Cert.ProjTail.sig) → Buf (Elt Bits) ℓ) (g : Dev Cert.ProjTail.nD → PrngReg), Pre_ProjTail m →
    θ_run (Cert.ProjTail.defs (F := Bits)) (onTc (τ := Cert.ProjTail.τ) (Cert.ProjTail.main (F := Bits))) ⟨m, fun _ => 0, g⟩ (fun r => (∀ c : Dev Cert.ProjTail.nD,
      r.2.mem ((c.tc : Thread Cert.ProjTail.nD Cert.ProjTail.τ).loc Cert.ProjTail.main_arg0) = m ((c.tc : Thread Cert.ProjTail.nD Cert.ProjTail.τ).loc Cert.ProjTail.main_arg0)
      ∧ r.2.mem ((c.tc : Thread Cert.ProjTail.nD Cert.ProjTail.τ).loc Cert.ProjTail.main_arg1) = m ((c.tc : Thread Cert.ProjTail.nD Cert.ProjTail.τ).loc Cert.ProjTail.main_arg1))
      ∧ r.2.sem = fun _ => 0)

def quiescent_ProjTailIdeal [hProjTailIdeal : Cert.ProjTailIdeal.Facts] : Prop :=
  ∀ (m : (ℓ : Loc Cert.ProjTailIdeal.nD Cert.ProjTailIdeal.τ Cert.ProjTailIdeal.sig) → Buf (Elt Ideal) ℓ) (g : Dev Cert.ProjTailIdeal.nD → PrngReg), Pre_ProjTailIdeal m →
    θ_run (Cert.ProjTailIdeal.defs (F := Ideal)) (onTc (τ := Cert.ProjTailIdeal.τ) (Cert.ProjTailIdeal.main (F := Ideal))) ⟨m, fun _ => 0, g⟩ (fun r => (∀ c : Dev Cert.ProjTailIdeal.nD,
      r.2.mem ((c.tc : Thread Cert.ProjTailIdeal.nD Cert.ProjTailIdeal.τ).loc Cert.ProjTailIdeal.main_arg0) = m ((c.tc : Thread Cert.ProjTailIdeal.nD Cert.ProjTailIdeal.τ).loc Cert.ProjTailIdeal.main_arg0)
      ∧ r.2.mem ((c.tc : Thread Cert.ProjTailIdeal.nD Cert.ProjTailIdeal.τ).loc Cert.ProjTailIdeal.main_arg1) = m ((c.tc : Thread Cert.ProjTailIdeal.nD Cert.ProjTailIdeal.τ).loc Cert.ProjTailIdeal.main_arg1))
      ∧ r.2.sem = fun _ => 0)

def quiescent_ProjTailReferenceIdeal [hProjTailReferenceIdeal : Cert.ProjTailReferenceIdeal.Facts] : Prop :=
  ∀ (m : (ℓ : Loc Cert.ProjTailReferenceIdeal.nD Cert.ProjTailReferenceIdeal.τ Cert.ProjTailReferenceIdeal.sig) → Buf (Elt Ideal) ℓ) (g : Dev Cert.ProjTailReferenceIdeal.nD → PrngReg), Pre_ProjTailReferenceIdeal m →
    θ_run (Cert.ProjTailReferenceIdeal.defs (F := Ideal)) (onTc (τ := Cert.ProjTailReferenceIdeal.τ) (Cert.ProjTailReferenceIdeal.main (F := Ideal))) ⟨m, fun _ => 0, g⟩ (fun r => (∀ c : Dev Cert.ProjTailReferenceIdeal.nD,
      r.2.mem ((c.tc : Thread Cert.ProjTailReferenceIdeal.nD Cert.ProjTailReferenceIdeal.τ).loc Cert.ProjTailReferenceIdeal.main_arg0) = m ((c.tc : Thread Cert.ProjTailReferenceIdeal.nD Cert.ProjTailReferenceIdeal.τ).loc Cert.ProjTailReferenceIdeal.main_arg0)
      ∧ r.2.mem ((c.tc : Thread Cert.ProjTailReferenceIdeal.nD Cert.ProjTailReferenceIdeal.τ).loc Cert.ProjTailReferenceIdeal.main_arg1) = m ((c.tc : Thread Cert.ProjTailReferenceIdeal.nD Cert.ProjTailReferenceIdeal.τ).loc Cert.ProjTailReferenceIdeal.main_arg1))
      ∧ r.2.sem = fun _ => 0)

def quiescent_MoeGateUp [hMoeGateUp : Cert.MoeGateUp.Facts] [hPre_up_tables : Cert.Pre_up_tables.Facts] : Prop :=
  ∀ (m : (ℓ : Loc Cert.MoeGateUp.nD Cert.MoeGateUp.τ Cert.MoeGateUp.sig) → Buf (Elt Bits) ℓ) (g : Dev Cert.MoeGateUp.nD → PrngReg), Pre_MoeGateUp m →
    θ_run (Cert.MoeGateUp.defs (F := Bits)) (onTc (τ := Cert.MoeGateUp.τ) (Cert.MoeGateUp.main (F := Bits))) ⟨m, fun _ => 0, g⟩ (fun r => (∀ c : Dev Cert.MoeGateUp.nD,
      r.2.mem ((c.tc : Thread Cert.MoeGateUp.nD Cert.MoeGateUp.τ).loc Cert.MoeGateUp.main_arg0) = m ((c.tc : Thread Cert.MoeGateUp.nD Cert.MoeGateUp.τ).loc Cert.MoeGateUp.main_arg0)
      ∧ r.2.mem ((c.tc : Thread Cert.MoeGateUp.nD Cert.MoeGateUp.τ).loc Cert.MoeGateUp.main_arg1) = m ((c.tc : Thread Cert.MoeGateUp.nD Cert.MoeGateUp.τ).loc Cert.MoeGateUp.main_arg1)
      ∧ r.2.mem ((c.tc : Thread Cert.MoeGateUp.nD Cert.MoeGateUp.τ).loc Cert.MoeGateUp.main_arg2) = m ((c.tc : Thread Cert.MoeGateUp.nD Cert.MoeGateUp.τ).loc Cert.MoeGateUp.main_arg2)
      ∧ r.2.mem ((c.tc : Thread Cert.MoeGateUp.nD Cert.MoeGateUp.τ).loc Cert.MoeGateUp.main_arg3) = m ((c.tc : Thread Cert.MoeGateUp.nD Cert.MoeGateUp.τ).loc Cert.MoeGateUp.main_arg3)
      ∧ r.2.mem ((c.tc : Thread Cert.MoeGateUp.nD Cert.MoeGateUp.τ).loc Cert.MoeGateUp.main_arg4) = m ((c.tc : Thread Cert.MoeGateUp.nD Cert.MoeGateUp.τ).loc Cert.MoeGateUp.main_arg4))
      ∧ r.2.sem = fun _ => 0)

def quiescent_MoeGateUpIdeal [hMoeGateUpIdeal : Cert.MoeGateUpIdeal.Facts] [hPre_up_tables : Cert.Pre_up_tables.Facts] : Prop :=
  ∀ (m : (ℓ : Loc Cert.MoeGateUpIdeal.nD Cert.MoeGateUpIdeal.τ Cert.MoeGateUpIdeal.sig) → Buf (Elt Ideal) ℓ) (g : Dev Cert.MoeGateUpIdeal.nD → PrngReg), Pre_MoeGateUpIdeal m →
    θ_run (Cert.MoeGateUpIdeal.defs (F := Ideal)) (onTc (τ := Cert.MoeGateUpIdeal.τ) (Cert.MoeGateUpIdeal.main (F := Ideal))) ⟨m, fun _ => 0, g⟩ (fun r => (∀ c : Dev Cert.MoeGateUpIdeal.nD,
      r.2.mem ((c.tc : Thread Cert.MoeGateUpIdeal.nD Cert.MoeGateUpIdeal.τ).loc Cert.MoeGateUpIdeal.main_arg0) = m ((c.tc : Thread Cert.MoeGateUpIdeal.nD Cert.MoeGateUpIdeal.τ).loc Cert.MoeGateUpIdeal.main_arg0)
      ∧ r.2.mem ((c.tc : Thread Cert.MoeGateUpIdeal.nD Cert.MoeGateUpIdeal.τ).loc Cert.MoeGateUpIdeal.main_arg1) = m ((c.tc : Thread Cert.MoeGateUpIdeal.nD Cert.MoeGateUpIdeal.τ).loc Cert.MoeGateUpIdeal.main_arg1)
      ∧ r.2.mem ((c.tc : Thread Cert.MoeGateUpIdeal.nD Cert.MoeGateUpIdeal.τ).loc Cert.MoeGateUpIdeal.main_arg2) = m ((c.tc : Thread Cert.MoeGateUpIdeal.nD Cert.MoeGateUpIdeal.τ).loc Cert.MoeGateUpIdeal.main_arg2)
      ∧ r.2.mem ((c.tc : Thread Cert.MoeGateUpIdeal.nD Cert.MoeGateUpIdeal.τ).loc Cert.MoeGateUpIdeal.main_arg3) = m ((c.tc : Thread Cert.MoeGateUpIdeal.nD Cert.MoeGateUpIdeal.τ).loc Cert.MoeGateUpIdeal.main_arg3)
      ∧ r.2.mem ((c.tc : Thread Cert.MoeGateUpIdeal.nD Cert.MoeGateUpIdeal.τ).loc Cert.MoeGateUpIdeal.main_arg4) = m ((c.tc : Thread Cert.MoeGateUpIdeal.nD Cert.MoeGateUpIdeal.τ).loc Cert.MoeGateUpIdeal.main_arg4))
      ∧ r.2.sem = fun _ => 0)

def quiescent_MoeGateUpReferenceIdeal [hMoeGateUpReferenceIdeal : Cert.MoeGateUpReferenceIdeal.Facts] [hPre_up_tables : Cert.Pre_up_tables.Facts] : Prop :=
  ∀ (m : (ℓ : Loc Cert.MoeGateUpReferenceIdeal.nD Cert.MoeGateUpReferenceIdeal.τ Cert.MoeGateUpReferenceIdeal.sig) → Buf (Elt Ideal) ℓ) (g : Dev Cert.MoeGateUpReferenceIdeal.nD → PrngReg), Pre_MoeGateUpReferenceIdeal m →
    θ_run (Cert.MoeGateUpReferenceIdeal.defs (F := Ideal)) (onTc (τ := Cert.MoeGateUpReferenceIdeal.τ) (Cert.MoeGateUpReferenceIdeal.main (F := Ideal))) ⟨m, fun _ => 0, g⟩ (fun r => (∀ c : Dev Cert.MoeGateUpReferenceIdeal.nD,
      r.2.mem ((c.tc : Thread Cert.MoeGateUpReferenceIdeal.nD Cert.MoeGateUpReferenceIdeal.τ).loc Cert.MoeGateUpReferenceIdeal.main_arg0) = m ((c.tc : Thread Cert.MoeGateUpReferenceIdeal.nD Cert.MoeGateUpReferenceIdeal.τ).loc Cert.MoeGateUpReferenceIdeal.main_arg0)
      ∧ r.2.mem ((c.tc : Thread Cert.MoeGateUpReferenceIdeal.nD Cert.MoeGateUpReferenceIdeal.τ).loc Cert.MoeGateUpReferenceIdeal.main_arg1) = m ((c.tc : Thread Cert.MoeGateUpReferenceIdeal.nD Cert.MoeGateUpReferenceIdeal.τ).loc Cert.MoeGateUpReferenceIdeal.main_arg1)
      ∧ r.2.mem ((c.tc : Thread Cert.MoeGateUpReferenceIdeal.nD Cert.MoeGateUpReferenceIdeal.τ).loc Cert.MoeGateUpReferenceIdeal.main_arg2) = m ((c.tc : Thread Cert.MoeGateUpReferenceIdeal.nD Cert.MoeGateUpReferenceIdeal.τ).loc Cert.MoeGateUpReferenceIdeal.main_arg2)
      ∧ r.2.mem ((c.tc : Thread Cert.MoeGateUpReferenceIdeal.nD Cert.MoeGateUpReferenceIdeal.τ).loc Cert.MoeGateUpReferenceIdeal.main_arg3) = m ((c.tc : Thread Cert.MoeGateUpReferenceIdeal.nD Cert.MoeGateUpReferenceIdeal.τ).loc Cert.MoeGateUpReferenceIdeal.main_arg3)
      ∧ r.2.mem ((c.tc : Thread Cert.MoeGateUpReferenceIdeal.nD Cert.MoeGateUpReferenceIdeal.τ).loc Cert.MoeGateUpReferenceIdeal.main_arg4) = m ((c.tc : Thread Cert.MoeGateUpReferenceIdeal.nD Cert.MoeGateUpReferenceIdeal.τ).loc Cert.MoeGateUpReferenceIdeal.main_arg4))
      ∧ r.2.sem = fun _ => 0)

def quiescent_MoeDown [hMoeDown : Cert.MoeDown.Facts] [hPre_down_tables : Cert.Pre_down_tables.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_down_tables : Cert.Pre_down_tables.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownReferenceIdeal [hMoeDownReferenceIdeal : Cert.MoeDownReferenceIdeal.Facts] [hPre_down_tables : Cert.Pre_down_tables.Facts] : Prop :=
  ∀ (m : (ℓ : Loc Cert.MoeDownReferenceIdeal.nD Cert.MoeDownReferenceIdeal.τ Cert.MoeDownReferenceIdeal.sig) → Buf (Elt Ideal) ℓ) (g : Dev Cert.MoeDownReferenceIdeal.nD → PrngReg), Pre_MoeDownReferenceIdeal m →
    θ_run (Cert.MoeDownReferenceIdeal.defs (F := Ideal)) (onTc (τ := Cert.MoeDownReferenceIdeal.τ) (Cert.MoeDownReferenceIdeal.main (F := Ideal))) ⟨m, fun _ => 0, g⟩ (fun r => (∀ c : Dev Cert.MoeDownReferenceIdeal.nD,
      r.2.mem ((c.tc : Thread Cert.MoeDownReferenceIdeal.nD Cert.MoeDownReferenceIdeal.τ).loc Cert.MoeDownReferenceIdeal.main_arg0) = m ((c.tc : Thread Cert.MoeDownReferenceIdeal.nD Cert.MoeDownReferenceIdeal.τ).loc Cert.MoeDownReferenceIdeal.main_arg0)
      ∧ r.2.mem ((c.tc : Thread Cert.MoeDownReferenceIdeal.nD Cert.MoeDownReferenceIdeal.τ).loc Cert.MoeDownReferenceIdeal.main_arg1) = m ((c.tc : Thread Cert.MoeDownReferenceIdeal.nD Cert.MoeDownReferenceIdeal.τ).loc Cert.MoeDownReferenceIdeal.main_arg1)
      ∧ r.2.mem ((c.tc : Thread Cert.MoeDownReferenceIdeal.nD Cert.MoeDownReferenceIdeal.τ).loc Cert.MoeDownReferenceIdeal.main_arg2) = m ((c.tc : Thread Cert.MoeDownReferenceIdeal.nD Cert.MoeDownReferenceIdeal.τ).loc Cert.MoeDownReferenceIdeal.main_arg2)
      ∧ r.2.mem ((c.tc : Thread Cert.MoeDownReferenceIdeal.nD Cert.MoeDownReferenceIdeal.τ).loc Cert.MoeDownReferenceIdeal.main_arg3) = m ((c.tc : Thread Cert.MoeDownReferenceIdeal.nD Cert.MoeDownReferenceIdeal.τ).loc Cert.MoeDownReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_MatmulNorm [hMatmulNorm : Cert.MatmulNorm.Facts] : Prop :=
  ∀ (m : (ℓ : Loc Cert.MatmulNorm.nD Cert.MatmulNorm.τ Cert.MatmulNorm.sig) → Buf (Elt Bits) ℓ) (g : Dev Cert.MatmulNorm.nD → PrngReg), Pre_MatmulNorm m →
    θ_run (Cert.MatmulNorm.defs (F := Bits)) (onTc (τ := Cert.MatmulNorm.τ) (Cert.MatmulNorm.main (F := Bits))) ⟨m, fun _ => 0, g⟩ (fun r => (∀ c : Dev Cert.MatmulNorm.nD,
      r.2.mem ((c.tc : Thread Cert.MatmulNorm.nD Cert.MatmulNorm.τ).loc Cert.MatmulNorm.main_arg0) = m ((c.tc : Thread Cert.MatmulNorm.nD Cert.MatmulNorm.τ).loc Cert.MatmulNorm.main_arg0)
      ∧ r.2.mem ((c.tc : Thread Cert.MatmulNorm.nD Cert.MatmulNorm.τ).loc Cert.MatmulNorm.main_arg1) = m ((c.tc : Thread Cert.MatmulNorm.nD Cert.MatmulNorm.τ).loc Cert.MatmulNorm.main_arg1)
      ∧ r.2.mem ((c.tc : Thread Cert.MatmulNorm.nD Cert.MatmulNorm.τ).loc Cert.MatmulNorm.main_arg2) = m ((c.tc : Thread Cert.MatmulNorm.nD Cert.MatmulNorm.τ).loc Cert.MatmulNorm.main_arg2)
      ∧ r.2.mem ((c.tc : Thread Cert.MatmulNorm.nD Cert.MatmulNorm.τ).loc Cert.MatmulNorm.main_arg3) = m ((c.tc : Thread Cert.MatmulNorm.nD Cert.MatmulNorm.τ).loc Cert.MatmulNorm.main_arg3)
      ∧ r.2.mem ((c.tc : Thread Cert.MatmulNorm.nD Cert.MatmulNorm.τ).loc Cert.MatmulNorm.main_arg4) = m ((c.tc : Thread Cert.MatmulNorm.nD Cert.MatmulNorm.τ).loc Cert.MatmulNorm.main_arg4))
      ∧ r.2.sem = fun _ => 0)

def quiescent_MatmulNormIdeal [hMatmulNormIdeal : Cert.MatmulNormIdeal.Facts] : Prop :=
  ∀ (m : (ℓ : Loc Cert.MatmulNormIdeal.nD Cert.MatmulNormIdeal.τ Cert.MatmulNormIdeal.sig) → Buf (Elt Ideal) ℓ) (g : Dev Cert.MatmulNormIdeal.nD → PrngReg), Pre_MatmulNormIdeal m →
    θ_run (Cert.MatmulNormIdeal.defs (F := Ideal)) (onTc (τ := Cert.MatmulNormIdeal.τ) (Cert.MatmulNormIdeal.main (F := Ideal))) ⟨m, fun _ => 0, g⟩ (fun r => (∀ c : Dev Cert.MatmulNormIdeal.nD,
      r.2.mem ((c.tc : Thread Cert.MatmulNormIdeal.nD Cert.MatmulNormIdeal.τ).loc Cert.MatmulNormIdeal.main_arg0) = m ((c.tc : Thread Cert.MatmulNormIdeal.nD Cert.MatmulNormIdeal.τ).loc Cert.MatmulNormIdeal.main_arg0)
      ∧ r.2.mem ((c.tc : Thread Cert.MatmulNormIdeal.nD Cert.MatmulNormIdeal.τ).loc Cert.MatmulNormIdeal.main_arg1) = m ((c.tc : Thread Cert.MatmulNormIdeal.nD Cert.MatmulNormIdeal.τ).loc Cert.MatmulNormIdeal.main_arg1)
      ∧ r.2.mem ((c.tc : Thread Cert.MatmulNormIdeal.nD Cert.MatmulNormIdeal.τ).loc Cert.MatmulNormIdeal.main_arg2) = m ((c.tc : Thread Cert.MatmulNormIdeal.nD Cert.MatmulNormIdeal.τ).loc Cert.MatmulNormIdeal.main_arg2)
      ∧ r.2.mem ((c.tc : Thread Cert.MatmulNormIdeal.nD Cert.MatmulNormIdeal.τ).loc Cert.MatmulNormIdeal.main_arg3) = m ((c.tc : Thread Cert.MatmulNormIdeal.nD Cert.MatmulNormIdeal.τ).loc Cert.MatmulNormIdeal.main_arg3)
      ∧ r.2.mem ((c.tc : Thread Cert.MatmulNormIdeal.nD Cert.MatmulNormIdeal.τ).loc Cert.MatmulNormIdeal.main_arg4) = m ((c.tc : Thread Cert.MatmulNormIdeal.nD Cert.MatmulNormIdeal.τ).loc Cert.MatmulNormIdeal.main_arg4))
      ∧ r.2.sem = fun _ => 0)

def quiescent_MatmulNormReferenceIdeal [hMatmulNormReferenceIdeal : Cert.MatmulNormReferenceIdeal.Facts] : Prop :=
  ∀ (m : (ℓ : Loc Cert.MatmulNormReferenceIdeal.nD Cert.MatmulNormReferenceIdeal.τ Cert.MatmulNormReferenceIdeal.sig) → Buf (Elt Ideal) ℓ) (g : Dev Cert.MatmulNormReferenceIdeal.nD → PrngReg), Pre_MatmulNormReferenceIdeal m →
    θ_run (Cert.MatmulNormReferenceIdeal.defs (F := Ideal)) (onTc (τ := Cert.MatmulNormReferenceIdeal.τ) (Cert.MatmulNormReferenceIdeal.main (F := Ideal))) ⟨m, fun _ => 0, g⟩ (fun r => (∀ c : Dev Cert.MatmulNormReferenceIdeal.nD,
      r.2.mem ((c.tc : Thread Cert.MatmulNormReferenceIdeal.nD Cert.MatmulNormReferenceIdeal.τ).loc Cert.MatmulNormReferenceIdeal.main_arg0) = m ((c.tc : Thread Cert.MatmulNormReferenceIdeal.nD Cert.MatmulNormReferenceIdeal.τ).loc Cert.MatmulNormReferenceIdeal.main_arg0)
      ∧ r.2.mem ((c.tc : Thread Cert.MatmulNormReferenceIdeal.nD Cert.MatmulNormReferenceIdeal.τ).loc Cert.MatmulNormReferenceIdeal.main_arg1) = m ((c.tc : Thread Cert.MatmulNormReferenceIdeal.nD Cert.MatmulNormReferenceIdeal.τ).loc Cert.MatmulNormReferenceIdeal.main_arg1)
      ∧ r.2.mem ((c.tc : Thread Cert.MatmulNormReferenceIdeal.nD Cert.MatmulNormReferenceIdeal.τ).loc Cert.MatmulNormReferenceIdeal.main_arg2) = m ((c.tc : Thread Cert.MatmulNormReferenceIdeal.nD Cert.MatmulNormReferenceIdeal.τ).loc Cert.MatmulNormReferenceIdeal.main_arg2)
      ∧ r.2.mem ((c.tc : Thread Cert.MatmulNormReferenceIdeal.nD Cert.MatmulNormReferenceIdeal.τ).loc Cert.MatmulNormReferenceIdeal.main_arg3) = m ((c.tc : Thread Cert.MatmulNormReferenceIdeal.nD Cert.MatmulNormReferenceIdeal.τ).loc Cert.MatmulNormReferenceIdeal.main_arg3)
      ∧ r.2.mem ((c.tc : Thread Cert.MatmulNormReferenceIdeal.nD Cert.MatmulNormReferenceIdeal.τ).loc Cert.MatmulNormReferenceIdeal.main_arg4) = m ((c.tc : Thread Cert.MatmulNormReferenceIdeal.nD Cert.MatmulNormReferenceIdeal.τ).loc Cert.MatmulNormReferenceIdeal.main_arg4))
      ∧ r.2.sem = fun _ => 0)

def quiescent_ProjK [hProjK : Cert.ProjK.Facts] : Prop :=
  ∀ (m : (ℓ : Loc Cert.ProjK.nD Cert.ProjK.τ Cert.ProjK.sig) → Buf (Elt Bits) ℓ) (g : Dev Cert.ProjK.nD → PrngReg), Pre_ProjK m →
    θ_run (Cert.ProjK.defs (F := Bits)) (onTc (τ := Cert.ProjK.τ) (Cert.ProjK.main (F := Bits))) ⟨m, fun _ => 0, g⟩ (fun r => (∀ c : Dev Cert.ProjK.nD,
      r.2.mem ((c.tc : Thread Cert.ProjK.nD Cert.ProjK.τ).loc Cert.ProjK.main_arg0) = m ((c.tc : Thread Cert.ProjK.nD Cert.ProjK.τ).loc Cert.ProjK.main_arg0)
      ∧ r.2.mem ((c.tc : Thread Cert.ProjK.nD Cert.ProjK.τ).loc Cert.ProjK.main_arg1) = m ((c.tc : Thread Cert.ProjK.nD Cert.ProjK.τ).loc Cert.ProjK.main_arg1))
      ∧ r.2.sem = fun _ => 0)

def quiescent_ProjKIdeal [hProjKIdeal : Cert.ProjKIdeal.Facts] : Prop :=
  ∀ (m : (ℓ : Loc Cert.ProjKIdeal.nD Cert.ProjKIdeal.τ Cert.ProjKIdeal.sig) → Buf (Elt Ideal) ℓ) (g : Dev Cert.ProjKIdeal.nD → PrngReg), Pre_ProjKIdeal m →
    θ_run (Cert.ProjKIdeal.defs (F := Ideal)) (onTc (τ := Cert.ProjKIdeal.τ) (Cert.ProjKIdeal.main (F := Ideal))) ⟨m, fun _ => 0, g⟩ (fun r => (∀ c : Dev Cert.ProjKIdeal.nD,
      r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
      ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1))
      ∧ r.2.sem = fun _ => 0)

def quiescent_ProjKReferenceIdeal [hProjKReferenceIdeal : Cert.ProjKReferenceIdeal.Facts] : Prop :=
  ∀ (m : (ℓ : Loc Cert.ProjKReferenceIdeal.nD Cert.ProjKReferenceIdeal.τ Cert.ProjKReferenceIdeal.sig) → Buf (Elt Ideal) ℓ) (g : Dev Cert.ProjKReferenceIdeal.nD → PrngReg), Pre_ProjKReferenceIdeal m →
    θ_run (Cert.ProjKReferenceIdeal.defs (F := Ideal)) (onTc (τ := Cert.ProjKReferenceIdeal.τ) (Cert.ProjKReferenceIdeal.main (F := Ideal))) ⟨m, fun _ => 0, g⟩ (fun r => (∀ c : Dev Cert.ProjKReferenceIdeal.nD,
      r.2.mem ((c.tc : Thread Cert.ProjKReferenceIdeal.nD Cert.ProjKReferenceIdeal.τ).loc Cert.ProjKReferenceIdeal.main_arg0) = m ((c.tc : Thread Cert.ProjKReferenceIdeal.nD Cert.ProjKReferenceIdeal.τ).loc Cert.ProjKReferenceIdeal.main_arg0)
      ∧ r.2.mem ((c.tc : Thread Cert.ProjKReferenceIdeal.nD Cert.ProjKReferenceIdeal.τ).loc Cert.ProjKReferenceIdeal.main_arg1) = m ((c.tc : Thread Cert.ProjKReferenceIdeal.nD Cert.ProjKReferenceIdeal.τ).loc Cert.ProjKReferenceIdeal.main_arg1))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ r.2.sem = fun _ => 0)

def quiescent_ProjVReferenceIdeal [hProjVReferenceIdeal : Cert.ProjVReferenceIdeal.Facts] : Prop :=
  ∀ (m : (ℓ : Loc Cert.ProjVReferenceIdeal.nD Cert.ProjVReferenceIdeal.τ Cert.ProjVReferenceIdeal.sig) → Buf (Elt Ideal) ℓ) (g : Dev Cert.ProjVReferenceIdeal.nD → PrngReg), Pre_ProjVReferenceIdeal m →
    θ_run (Cert.ProjVReferenceIdeal.defs (F := Ideal)) (onTc (τ := Cert.ProjVReferenceIdeal.τ) (Cert.ProjVReferenceIdeal.main (F := Ideal))) ⟨m, fun _ => 0, g⟩ (fun r => (∀ c : Dev Cert.ProjVReferenceIdeal.nD,
      r.2.mem ((c.tc : Thread Cert.ProjVReferenceIdeal.nD Cert.ProjVReferenceIdeal.τ).loc Cert.ProjVReferenceIdeal.main_arg0) = m ((c.tc : Thread Cert.ProjVReferenceIdeal.nD Cert.ProjVReferenceIdeal.τ).loc Cert.ProjVReferenceIdeal.main_arg0)
      ∧ r.2.mem ((c.tc : Thread Cert.ProjVReferenceIdeal.nD Cert.ProjVReferenceIdeal.τ).loc Cert.ProjVReferenceIdeal.main_arg1) = m ((c.tc : Thread Cert.ProjVReferenceIdeal.nD Cert.ProjVReferenceIdeal.τ).loc Cert.ProjVReferenceIdeal.main_arg1))
      ∧ r.2.sem = fun _ => 0)

def quiescent_ProjIdx [hProjIdx : Cert.ProjIdx.Facts] : Prop :=
  ∀ (m : (ℓ : Loc Cert.ProjIdx.nD Cert.ProjIdx.τ Cert.ProjIdx.sig) → Buf (Elt Bits) ℓ) (g : Dev Cert.ProjIdx.nD → PrngReg), Pre_ProjIdx m →
    θ_run (Cert.ProjIdx.defs (F := Bits)) (onTc (τ := Cert.ProjIdx.τ) (Cert.ProjIdx.main (F := Bits))) ⟨m, fun _ => 0, g⟩ (fun r => (∀ c : Dev Cert.ProjIdx.nD,
      r.2.mem ((c.tc : Thread Cert.ProjIdx.nD Cert.ProjIdx.τ).loc Cert.ProjIdx.main_arg0) = m ((c.tc : Thread Cert.ProjIdx.nD Cert.ProjIdx.τ).loc Cert.ProjIdx.main_arg0)
      ∧ r.2.mem ((c.tc : Thread Cert.ProjIdx.nD Cert.ProjIdx.τ).loc Cert.ProjIdx.main_arg1) = m ((c.tc : Thread Cert.ProjIdx.nD Cert.ProjIdx.τ).loc Cert.ProjIdx.main_arg1))
      ∧ r.2.sem = fun _ => 0)

def quiescent_ProjIdxIdeal [hProjIdxIdeal : Cert.ProjIdxIdeal.Facts] : Prop :=
  ∀ (m : (ℓ : Loc Cert.ProjIdxIdeal.nD Cert.ProjIdxIdeal.τ Cert.ProjIdxIdeal.sig) → Buf (Elt Ideal) ℓ) (g : Dev Cert.ProjIdxIdeal.nD → PrngReg), Pre_ProjIdxIdeal m →
    θ_run (Cert.ProjIdxIdeal.defs (F := Ideal)) (onTc (τ := Cert.ProjIdxIdeal.τ) (Cert.ProjIdxIdeal.main (F := Ideal))) ⟨m, fun _ => 0, g⟩ (fun r => (∀ c : Dev Cert.ProjIdxIdeal.nD,
      r.2.mem ((c.tc : Thread Cert.ProjIdxIdeal.nD Cert.ProjIdxIdeal.τ).loc Cert.ProjIdxIdeal.main_arg0) = m ((c.tc : Thread Cert.ProjIdxIdeal.nD Cert.ProjIdxIdeal.τ).loc Cert.ProjIdxIdeal.main_arg0)
      ∧ r.2.mem ((c.tc : Thread Cert.ProjIdxIdeal.nD Cert.ProjIdxIdeal.τ).loc Cert.ProjIdxIdeal.main_arg1) = m ((c.tc : Thread Cert.ProjIdxIdeal.nD Cert.ProjIdxIdeal.τ).loc Cert.ProjIdxIdeal.main_arg1))
      ∧ r.2.sem = fun _ => 0)

def quiescent_ProjIdxReferenceIdeal [hProjIdxReferenceIdeal : Cert.ProjIdxReferenceIdeal.Facts] : Prop :=
  ∀ (m : (ℓ : Loc Cert.ProjIdxReferenceIdeal.nD Cert.ProjIdxReferenceIdeal.τ Cert.ProjIdxReferenceIdeal.sig) → Buf (Elt Ideal) ℓ) (g : Dev Cert.ProjIdxReferenceIdeal.nD → PrngReg), Pre_ProjIdxReferenceIdeal m →
    θ_run (Cert.ProjIdxReferenceIdeal.defs (F := Ideal)) (onTc (τ := Cert.ProjIdxReferenceIdeal.τ) (Cert.ProjIdxReferenceIdeal.main (F := Ideal))) ⟨m, fun _ => 0, g⟩ (fun r => (∀ c : Dev Cert.ProjIdxReferenceIdeal.nD,
      r.2.mem ((c.tc : Thread Cert.ProjIdxReferenceIdeal.nD Cert.ProjIdxReferenceIdeal.τ).loc Cert.ProjIdxReferenceIdeal.main_arg0) = m ((c.tc : Thread Cert.ProjIdxReferenceIdeal.nD Cert.ProjIdxReferenceIdeal.τ).loc Cert.ProjIdxReferenceIdeal.main_arg0)
      ∧ r.2.mem ((c.tc : Thread Cert.ProjIdxReferenceIdeal.nD Cert.ProjIdxReferenceIdeal.τ).loc Cert.ProjIdxReferenceIdeal.main_arg1) = m ((c.tc : Thread Cert.ProjIdxReferenceIdeal.nD Cert.ProjIdxReferenceIdeal.τ).loc Cert.ProjIdxReferenceIdeal.main_arg1))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ r.2.sem = fun _ => 0)

def quiescent_ProjQReferenceIdeal [hProjQReferenceIdeal : Cert.ProjQReferenceIdeal.Facts] : Prop :=
  ∀ (m : (ℓ : Loc Cert.ProjQReferenceIdeal.nD Cert.ProjQReferenceIdeal.τ Cert.ProjQReferenceIdeal.sig) → Buf (Elt Ideal) ℓ) (g : Dev Cert.ProjQReferenceIdeal.nD → PrngReg), Pre_ProjQReferenceIdeal m →
    θ_run (Cert.ProjQReferenceIdeal.defs (F := Ideal)) (onTc (τ := Cert.ProjQReferenceIdeal.τ) (Cert.ProjQReferenceIdeal.main (F := Ideal))) ⟨m, fun _ => 0, g⟩ (fun r => (∀ c : Dev Cert.ProjQReferenceIdeal.nD,
      r.2.mem ((c.tc : Thread Cert.ProjQReferenceIdeal.nD Cert.ProjQReferenceIdeal.τ).loc Cert.ProjQReferenceIdeal.main_arg0) = m ((c.tc : Thread Cert.ProjQReferenceIdeal.nD Cert.ProjQReferenceIdeal.τ).loc Cert.ProjQReferenceIdeal.main_arg0)
      ∧ r.2.mem ((c.tc : Thread Cert.ProjQReferenceIdeal.nD Cert.ProjQReferenceIdeal.τ).loc Cert.ProjQReferenceIdeal.main_arg1) = m ((c.tc : Thread Cert.ProjQReferenceIdeal.nD Cert.ProjQReferenceIdeal.τ).loc Cert.ProjQReferenceIdeal.main_arg1))
      ∧ r.2.sem = fun _ => 0)

def quiescent_ProjQI [hProjQI : Cert.ProjQI.Facts] : Prop :=
  ∀ (m : (ℓ : Loc Cert.ProjQI.nD Cert.ProjQI.τ Cert.ProjQI.sig) → Buf (Elt Bits) ℓ) (g : Dev Cert.ProjQI.nD → PrngReg), Pre_ProjQI m →
    θ_run (Cert.ProjQI.defs (F := Bits)) (onTc (τ := Cert.ProjQI.τ) (Cert.ProjQI.main (F := Bits))) ⟨m, fun _ => 0, g⟩ (fun r => (∀ c : Dev Cert.ProjQI.nD,
      r.2.mem ((c.tc : Thread Cert.ProjQI.nD Cert.ProjQI.τ).loc Cert.ProjQI.main_arg0) = m ((c.tc : Thread Cert.ProjQI.nD Cert.ProjQI.τ).loc Cert.ProjQI.main_arg0)
      ∧ r.2.mem ((c.tc : Thread Cert.ProjQI.nD Cert.ProjQI.τ).loc Cert.ProjQI.main_arg1) = m ((c.tc : Thread Cert.ProjQI.nD Cert.ProjQI.τ).loc Cert.ProjQI.main_arg1))
      ∧ r.2.sem = fun _ => 0)

def quiescent_ProjQIIdeal [hProjQIIdeal : Cert.ProjQIIdeal.Facts] : Prop :=
  ∀ (m : (ℓ : Loc Cert.ProjQIIdeal.nD Cert.ProjQIIdeal.τ Cert.ProjQIIdeal.sig) → Buf (Elt Ideal) ℓ) (g : Dev Cert.ProjQIIdeal.nD → PrngReg), Pre_ProjQIIdeal m →
    θ_run (Cert.ProjQIIdeal.defs (F := Ideal)) (onTc (τ := Cert.ProjQIIdeal.τ) (Cert.ProjQIIdeal.main (F := Ideal))) ⟨m, fun _ => 0, g⟩ (fun r => (∀ c : Dev Cert.ProjQIIdeal.nD,
      r.2.mem ((c.tc : Thread Cert.ProjQIIdeal.nD Cert.ProjQIIdeal.τ).loc Cert.ProjQIIdeal.main_arg0) = m ((c.tc : Thread Cert.ProjQIIdeal.nD Cert.ProjQIIdeal.τ).loc Cert.ProjQIIdeal.main_arg0)
      ∧ r.2.mem ((c.tc : Thread Cert.ProjQIIdeal.nD Cert.ProjQIIdeal.τ).loc Cert.ProjQIIdeal.main_arg1) = m ((c.tc : Thread Cert.ProjQIIdeal.nD Cert.ProjQIIdeal.τ).loc Cert.ProjQIIdeal.main_arg1))
      ∧ r.2.sem = fun _ => 0)

def quiescent_ProjQIReferenceIdeal [hProjQIReferenceIdeal : Cert.ProjQIReferenceIdeal.Facts] : Prop :=
  ∀ (m : (ℓ : Loc Cert.ProjQIReferenceIdeal.nD Cert.ProjQIReferenceIdeal.τ Cert.ProjQIReferenceIdeal.sig) → Buf (Elt Ideal) ℓ) (g : Dev Cert.ProjQIReferenceIdeal.nD → PrngReg), Pre_ProjQIReferenceIdeal m →
    θ_run (Cert.ProjQIReferenceIdeal.defs (F := Ideal)) (onTc (τ := Cert.ProjQIReferenceIdeal.τ) (Cert.ProjQIReferenceIdeal.main (F := Ideal))) ⟨m, fun _ => 0, g⟩ (fun r => (∀ c : Dev Cert.ProjQIReferenceIdeal.nD,
      r.2.mem ((c.tc : Thread Cert.ProjQIReferenceIdeal.nD Cert.ProjQIReferenceIdeal.τ).loc Cert.ProjQIReferenceIdeal.main_arg0) = m ((c.tc : Thread Cert.ProjQIReferenceIdeal.nD Cert.ProjQIReferenceIdeal.τ).loc Cert.ProjQIReferenceIdeal.main_arg0)
      ∧ r.2.mem ((c.tc : Thread Cert.ProjQIReferenceIdeal.nD Cert.ProjQIReferenceIdeal.τ).loc Cert.ProjQIReferenceIdeal.main_arg1) = m ((c.tc : Thread Cert.ProjQIReferenceIdeal.nD Cert.ProjQIReferenceIdeal.τ).loc Cert.ProjQIReferenceIdeal.main_arg1))
      ∧ r.2.sem = fun _ => 0)

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0)
      ∧ r.2.mem ((c.tc : Thread Cert.Retention.nD Cert.Retention.τ).loc Cert.Retention.main_arg1) = m ((c.tc : Thread Cert.Retention.nD Cert.Retention.τ).loc Cert.Retention.main_arg1)
      ∧ r.2.mem ((c.tc : Thread Cert.Retention.nD Cert.Retention.τ).loc Cert.Retention.main_arg2) = m ((c.tc : Thread Cert.Retention.nD Cert.Retention.τ).loc Cert.Retention.main_arg2))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2))
      ∧ r.2.sem = fun _ => 0)

def quiescent_RetentionReferenceIdeal [hRetentionReferenceIdeal : Cert.RetentionReferenceIdeal.Facts] : Prop :=
  ∀ (m : (ℓ : Loc Cert.RetentionReferenceIdeal.nD Cert.RetentionReferenceIdeal.τ Cert.RetentionReferenceIdeal.sig) → Buf (Elt Ideal) ℓ) (g : Dev Cert.RetentionReferenceIdeal.nD → PrngReg), Pre_RetentionReferenceIdeal m →
    θ_run (Cert.RetentionReferenceIdeal.defs (F := Ideal)) (onTc (τ := Cert.RetentionReferenceIdeal.τ) (Cert.RetentionReferenceIdeal.main (F := Ideal))) ⟨m, fun _ => 0, g⟩ (fun r => (∀ c : Dev Cert.RetentionReferenceIdeal.nD,
      r.2.mem ((c.tc : Thread Cert.RetentionReferenceIdeal.nD Cert.RetentionReferenceIdeal.τ).loc Cert.RetentionReferenceIdeal.main_arg0) = m ((c.tc : Thread Cert.RetentionReferenceIdeal.nD Cert.RetentionReferenceIdeal.τ).loc Cert.RetentionReferenceIdeal.main_arg0)
      ∧ r.2.mem ((c.tc : Thread Cert.RetentionReferenceIdeal.nD Cert.RetentionReferenceIdeal.τ).loc Cert.RetentionReferenceIdeal.main_arg1) = m ((c.tc : Thread Cert.RetentionReferenceIdeal.nD Cert.RetentionReferenceIdeal.τ).loc Cert.RetentionReferenceIdeal.main_arg1)
      ∧ r.2.mem ((c.tc : Thread Cert.RetentionReferenceIdeal.nD Cert.RetentionReferenceIdeal.τ).loc Cert.RetentionReferenceIdeal.main_arg2) = m ((c.tc : Thread Cert.RetentionReferenceIdeal.nD Cert.RetentionReferenceIdeal.τ).loc Cert.RetentionReferenceIdeal.main_arg2))
      ∧ r.2.sem = fun _ => 0)

def preserves_ProjTail_ProjTailIdeal : Prop :=
  True

def algebraic_ProjTailIdeal_ProjTailReferenceIdeal [hProjTailIdeal : Cert.ProjTailIdeal.Facts] [hProjTailReferenceIdeal : Cert.ProjTailReferenceIdeal.Facts] : Prop :=
  ∀ (m : (ℓ : Loc Cert.ProjTailIdeal.nD Cert.ProjTailIdeal.τ Cert.ProjTailIdeal.sig) → Buf (Elt Ideal) ℓ) (g : Dev Cert.ProjTailIdeal.nD → PrngReg)
    (m' : (ℓ : Loc Cert.ProjTailReferenceIdeal.nD Cert.ProjTailReferenceIdeal.τ Cert.ProjTailReferenceIdeal.sig) → Buf (Elt Ideal) ℓ) (g' : Dev Cert.ProjTailReferenceIdeal.nD → PrngReg), Pre_ProjTailIdeal m →
    (∀ c : Dev Cert.ProjTailIdeal.nD,
      m' ((c.tc : Thread Cert.ProjTailReferenceIdeal.nD Cert.ProjTailReferenceIdeal.τ).loc Cert.ProjTailReferenceIdeal.main_arg0) = m ((c.tc : Thread Cert.ProjTailIdeal.nD Cert.ProjTailIdeal.τ).loc Cert.ProjTailIdeal.main_arg0)
      ∧ m' ((c.tc : Thread Cert.ProjTailReferenceIdeal.nD Cert.ProjTailReferenceIdeal.τ).loc Cert.ProjTailReferenceIdeal.main_arg1) = m ((c.tc : Thread Cert.ProjTailIdeal.nD Cert.ProjTailIdeal.τ).loc Cert.ProjTailIdeal.main_arg1)) →
    ∃ (v0 : (c : Dev Cert.ProjTailIdeal.nD) → Buf (Elt Ideal) ((c.tc : Thread Cert.ProjTailIdeal.nD Cert.ProjTailIdeal.τ).loc Cert.ProjTailIdeal.main_v1)) (v1 : (c : Dev Cert.ProjTailIdeal.nD) → Buf (Elt Ideal) ((c.tc : Thread Cert.ProjTailIdeal.nD Cert.ProjTailIdeal.τ).loc Cert.ProjTailIdeal.main_v6)) (v2 : (c : Dev Cert.ProjTailIdeal.nD) → Buf (Elt Ideal) ((c.tc : Thread Cert.ProjTailIdeal.nD Cert.ProjTailIdeal.τ).loc Cert.ProjTailIdeal.main_v9)),
      θ_run (Cert.ProjTailIdeal.defs (F := Ideal)) (onTc (τ := Cert.ProjTailIdeal.τ) (Cert.ProjTailIdeal.main (F := Ideal))) ⟨m, fun _ => 0, g⟩ (fun r => ∀ c : Dev Cert.ProjTailIdeal.nD,
          r.2.mem ((c.tc : Thread Cert.ProjTailIdeal.nD Cert.ProjTailIdeal.τ).loc Cert.ProjTailIdeal.main_v1) = v0 c
          ∧ r.2.mem ((c.tc : Thread Cert.ProjTailIdeal.nD Cert.ProjTailIdeal.τ).loc Cert.ProjTailIdeal.main_v6) = v1 c
          ∧ r.2.mem ((c.tc : Thread Cert.ProjTailIdeal.nD Cert.ProjTailIdeal.τ).loc Cert.ProjTailIdeal.main_v9) = v2 c
          ∧ r.2.mem ((c.tc : Thread Cert.ProjTailIdeal.nD Cert.ProjTailIdeal.τ).loc Cert.ProjTailIdeal.main_arg0) = m ((c.tc : Thread Cert.ProjTailIdeal.nD Cert.ProjTailIdeal.τ).loc Cert.ProjTailIdeal.main_arg0)
          ∧ r.2.mem ((c.tc : Thread Cert.ProjTailIdeal.nD Cert.ProjTailIdeal.τ).loc Cert.ProjTailIdeal.main_arg1) = m ((c.tc : Thread Cert.ProjTailIdeal.nD Cert.ProjTailIdeal.τ).loc Cert.ProjTailIdeal.main_arg1))
      ∧ θ_run (Cert.ProjTailReferenceIdeal.defs (F := Ideal)) (onTc (τ := Cert.ProjTailReferenceIdeal.τ) (Cert.ProjTailReferenceIdeal.main (F := Ideal))) ⟨m', fun _ => 0, g'⟩ (fun r => ∀ c : Dev Cert.ProjTailReferenceIdeal.nD,
          r.2.mem ((c.tc : Thread Cert.ProjTailReferenceIdeal.nD Cert.ProjTailReferenceIdeal.τ).loc Cert.ProjTailReferenceIdeal.main_v11) = v0 c
          ∧ r.2.mem ((c.tc : Thread Cert.ProjTailReferenceIdeal.nD Cert.ProjTailReferenceIdeal.τ).loc Cert.ProjTailReferenceIdeal.main_v7) = v1 c
          ∧ r.2.mem ((c.tc : Thread Cert.ProjTailReferenceIdeal.nD Cert.ProjTailReferenceIdeal.τ).loc Cert.ProjTailReferenceIdeal.main_v10) = v2 c
          ∧ r.2.mem ((c.tc : Thread Cert.ProjTailReferenceIdeal.nD Cert.ProjTailReferenceIdeal.τ).loc Cert.ProjTailReferenceIdeal.main_arg0) = m' ((c.tc : Thread Cert.ProjTailReferenceIdeal.nD Cert.ProjTailReferenceIdeal.τ).loc Cert.ProjTailReferenceIdeal.main_arg0)
          ∧ r.2.mem ((c.tc : Thread Cert.ProjTailReferenceIdeal.nD Cert.ProjTailReferenceIdeal.τ).loc Cert.ProjTailReferenceIdeal.main_arg1) = m' ((c.tc : Thread Cert.ProjTailReferenceIdeal.nD Cert.ProjTailReferenceIdeal.τ).loc Cert.ProjTailReferenceIdeal.main_arg1))

def preserves_MoeGateUp_MoeGateUpIdeal : Prop :=
  True

def algebraic_MoeGateUpIdeal_MoeGateUpReferenceIdeal [hMoeGateUpIdeal : Cert.MoeGateUpIdeal.Facts] [hMoeGateUpReferenceIdeal : Cert.MoeGateUpReferenceIdeal.Facts] [hPre_up_tables : Cert.Pre_up_tables.Facts] : Prop :=
  ∀ (m : (ℓ : Loc Cert.MoeGateUpIdeal.nD Cert.MoeGateUpIdeal.τ Cert.MoeGateUpIdeal.sig) → Buf (Elt Ideal) ℓ) (g : Dev Cert.MoeGateUpIdeal.nD → PrngReg)
    (m' : (ℓ : Loc Cert.MoeGateUpReferenceIdeal.nD Cert.MoeGateUpReferenceIdeal.τ Cert.MoeGateUpReferenceIdeal.sig) → Buf (Elt Ideal) ℓ) (g' : Dev Cert.MoeGateUpReferenceIdeal.nD → PrngReg), Pre_MoeGateUpIdeal m →
    (∀ c : Dev Cert.MoeGateUpIdeal.nD,
      m' ((c.tc : Thread Cert.MoeGateUpReferenceIdeal.nD Cert.MoeGateUpReferenceIdeal.τ).loc Cert.MoeGateUpReferenceIdeal.main_arg0) = m ((c.tc : Thread Cert.MoeGateUpIdeal.nD Cert.MoeGateUpIdeal.τ).loc Cert.MoeGateUpIdeal.main_arg0)
      ∧ m' ((c.tc : Thread Cert.MoeGateUpReferenceIdeal.nD Cert.MoeGateUpReferenceIdeal.τ).loc Cert.MoeGateUpReferenceIdeal.main_arg1) = m ((c.tc : Thread Cert.MoeGateUpIdeal.nD Cert.MoeGateUpIdeal.τ).loc Cert.MoeGateUpIdeal.main_arg1)
      ∧ m' ((c.tc : Thread Cert.MoeGateUpReferenceIdeal.nD Cert.MoeGateUpReferenceIdeal.τ).loc Cert.MoeGateUpReferenceIdeal.main_arg2) = m ((c.tc : Thread Cert.MoeGateUpIdeal.nD Cert.MoeGateUpIdeal.τ).loc Cert.MoeGateUpIdeal.main_arg2)
      ∧ m' ((c.tc : Thread Cert.MoeGateUpReferenceIdeal.nD Cert.MoeGateUpReferenceIdeal.τ).loc Cert.MoeGateUpReferenceIdeal.main_arg3) = m ((c.tc : Thread Cert.MoeGateUpIdeal.nD Cert.MoeGateUpIdeal.τ).loc Cert.MoeGateUpIdeal.main_arg3)
      ∧ m' ((c.tc : Thread Cert.MoeGateUpReferenceIdeal.nD Cert.MoeGateUpReferenceIdeal.τ).loc Cert.MoeGateUpReferenceIdeal.main_arg4) = m ((c.tc : Thread Cert.MoeGateUpIdeal.nD Cert.MoeGateUpIdeal.τ).loc Cert.MoeGateUpIdeal.main_arg4)) →
    ∃ (v0 : (c : Dev Cert.MoeGateUpIdeal.nD) → Buf (Elt Ideal) ((c.tc : Thread Cert.MoeGateUpIdeal.nD Cert.MoeGateUpIdeal.τ).loc Cert.MoeGateUpIdeal.main_v0)),
      θ_run (Cert.MoeGateUpIdeal.defs (F := Ideal)) (onTc (τ := Cert.MoeGateUpIdeal.τ) (Cert.MoeGateUpIdeal.main (F := Ideal))) ⟨m, fun _ => 0, g⟩ (fun r => ∀ c : Dev Cert.MoeGateUpIdeal.nD,
          r.2.mem ((c.tc : Thread Cert.MoeGateUpIdeal.nD Cert.MoeGateUpIdeal.τ).loc Cert.MoeGateUpIdeal.main_v0) = v0 c
          ∧ r.2.mem ((c.tc : Thread Cert.MoeGateUpIdeal.nD Cert.MoeGateUpIdeal.τ).loc Cert.MoeGateUpIdeal.main_arg0) = m ((c.tc : Thread Cert.MoeGateUpIdeal.nD Cert.MoeGateUpIdeal.τ).loc Cert.MoeGateUpIdeal.main_arg0)
          ∧ r.2.mem ((c.tc : Thread Cert.MoeGateUpIdeal.nD Cert.MoeGateUpIdeal.τ).loc Cert.MoeGateUpIdeal.main_arg1) = m ((c.tc : Thread Cert.MoeGateUpIdeal.nD Cert.MoeGateUpIdeal.τ).loc Cert.MoeGateUpIdeal.main_arg1)
          ∧ r.2.mem ((c.tc : Thread Cert.MoeGateUpIdeal.nD Cert.MoeGateUpIdeal.τ).loc Cert.MoeGateUpIdeal.main_arg2) = m ((c.tc : Thread Cert.MoeGateUpIdeal.nD Cert.MoeGateUpIdeal.τ).loc Cert.MoeGateUpIdeal.main_arg2)
          ∧ r.2.mem ((c.tc : Thread Cert.MoeGateUpIdeal.nD Cert.MoeGateUpIdeal.τ).loc Cert.MoeGateUpIdeal.main_arg3) = m ((c.tc : Thread Cert.MoeGateUpIdeal.nD Cert.MoeGateUpIdeal.τ).loc Cert.MoeGateUpIdeal.main_arg3)
          ∧ r.2.mem ((c.tc : Thread Cert.MoeGateUpIdeal.nD Cert.MoeGateUpIdeal.τ).loc Cert.MoeGateUpIdeal.main_arg4) = m ((c.tc : Thread Cert.MoeGateUpIdeal.nD Cert.MoeGateUpIdeal.τ).loc Cert.MoeGateUpIdeal.main_arg4))
      ∧ θ_run (Cert.MoeGateUpReferenceIdeal.defs (F := Ideal)) (onTc (τ := Cert.MoeGateUpReferenceIdeal.τ) (Cert.MoeGateUpReferenceIdeal.main (F := Ideal))) ⟨m', fun _ => 0, g'⟩ (fun r => ∀ c : Dev Cert.MoeGateUpReferenceIdeal.nD,
          r.2.mem ((c.tc : Thread Cert.MoeGateUpReferenceIdeal.nD Cert.MoeGateUpReferenceIdeal.τ).loc Cert.MoeGateUpReferenceIdeal.main_v28) = v0 c
          ∧ r.2.mem ((c.tc : Thread Cert.MoeGateUpReferenceIdeal.nD Cert.MoeGateUpReferenceIdeal.τ).loc Cert.MoeGateUpReferenceIdeal.main_arg0) = m' ((c.tc : Thread Cert.MoeGateUpReferenceIdeal.nD Cert.MoeGateUpReferenceIdeal.τ).loc Cert.MoeGateUpReferenceIdeal.main_arg0)
          ∧ r.2.mem ((c.tc : Thread Cert.MoeGateUpReferenceIdeal.nD Cert.MoeGateUpReferenceIdeal.τ).loc Cert.MoeGateUpReferenceIdeal.main_arg1) = m' ((c.tc : Thread Cert.MoeGateUpReferenceIdeal.nD Cert.MoeGateUpReferenceIdeal.τ).loc Cert.MoeGateUpReferenceIdeal.main_arg1)
          ∧ r.2.mem ((c.tc : Thread Cert.MoeGateUpReferenceIdeal.nD Cert.MoeGateUpReferenceIdeal.τ).loc Cert.MoeGateUpReferenceIdeal.main_arg2) = m' ((c.tc : Thread Cert.MoeGateUpReferenceIdeal.nD Cert.MoeGateUpReferenceIdeal.τ).loc Cert.MoeGateUpReferenceIdeal.main_arg2)
          ∧ r.2.mem ((c.tc : Thread Cert.MoeGateUpReferenceIdeal.nD Cert.MoeGateUpReferenceIdeal.τ).loc Cert.MoeGateUpReferenceIdeal.main_arg3) = m' ((c.tc : Thread Cert.MoeGateUpReferenceIdeal.nD Cert.MoeGateUpReferenceIdeal.τ).loc Cert.MoeGateUpReferenceIdeal.main_arg3)
          ∧ r.2.mem ((c.tc : Thread Cert.MoeGateUpReferenceIdeal.nD Cert.MoeGateUpReferenceIdeal.τ).loc Cert.MoeGateUpReferenceIdeal.main_arg4) = m' ((c.tc : Thread Cert.MoeGateUpReferenceIdeal.nD Cert.MoeGateUpReferenceIdeal.τ).loc Cert.MoeGateUpReferenceIdeal.main_arg4))

def preserves_MoeDown_MoeDownIdeal : Prop :=
  True

def algebraic_MoeDownIdeal_MoeDownReferenceIdeal [hMoeDownIdeal : Cert.MoeDownIdeal.Facts] [hMoeDownReferenceIdeal : Cert.MoeDownReferenceIdeal.Facts] [hPre_down_tables : Cert.Pre_down_tables.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownReferenceIdeal.nD Cert.MoeDownReferenceIdeal.τ Cert.MoeDownReferenceIdeal.sig) → Buf (Elt Ideal) ℓ) (g' : Dev Cert.MoeDownReferenceIdeal.nD → PrngReg), Pre_MoeDownIdeal m →
    (∀ c : Dev Cert.MoeDownIdeal.nD,
      m' ((c.tc : Thread Cert.MoeDownReferenceIdeal.nD Cert.MoeDownReferenceIdeal.τ).loc Cert.MoeDownReferenceIdeal.main_arg0) = m ((c.tc : Thread Cert.MoeDownIdeal.nD Cert.MoeDownIdeal.τ).loc Cert.MoeDownIdeal.main_arg0)
      ∧ m' ((c.tc : Thread Cert.MoeDownReferenceIdeal.nD Cert.MoeDownReferenceIdeal.τ).loc Cert.MoeDownReferenceIdeal.main_arg1) = m ((c.tc : Thread Cert.MoeDownIdeal.nD Cert.MoeDownIdeal.τ).loc Cert.MoeDownIdeal.main_arg1)
      ∧ m' ((c.tc : Thread Cert.MoeDownReferenceIdeal.nD Cert.MoeDownReferenceIdeal.τ).loc Cert.MoeDownReferenceIdeal.main_arg2) = m ((c.tc : Thread Cert.MoeDownIdeal.nD Cert.MoeDownIdeal.τ).loc Cert.MoeDownIdeal.main_arg2)
      ∧ m' ((c.tc : Thread Cert.MoeDownReferenceIdeal.nD Cert.MoeDownReferenceIdeal.τ).loc Cert.MoeDownReferenceIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownReferenceIdeal.defs (F := Ideal)) (onTc (τ := Cert.MoeDownReferenceIdeal.τ) (Cert.MoeDownReferenceIdeal.main (F := Ideal))) ⟨m', fun _ => 0, g'⟩ (fun r => ∀ c : Dev Cert.MoeDownReferenceIdeal.nD,
          r.2.mem ((c.tc : Thread Cert.MoeDownReferenceIdeal.nD Cert.MoeDownReferenceIdeal.τ).loc Cert.MoeDownReferenceIdeal.main_v22) = v0 c
          ∧ r.2.mem ((c.tc : Thread Cert.MoeDownReferenceIdeal.nD Cert.MoeDownReferenceIdeal.τ).loc Cert.MoeDownReferenceIdeal.main_arg0) = m' ((c.tc : Thread Cert.MoeDownReferenceIdeal.nD Cert.MoeDownReferenceIdeal.τ).loc Cert.MoeDownReferenceIdeal.main_arg0)
          ∧ r.2.mem ((c.tc : Thread Cert.MoeDownReferenceIdeal.nD Cert.MoeDownReferenceIdeal.τ).loc Cert.MoeDownReferenceIdeal.main_arg1) = m' ((c.tc : Thread Cert.MoeDownReferenceIdeal.nD Cert.MoeDownReferenceIdeal.τ).loc Cert.MoeDownReferenceIdeal.main_arg1)
          ∧ r.2.mem ((c.tc : Thread Cert.MoeDownReferenceIdeal.nD Cert.MoeDownReferenceIdeal.τ).loc Cert.MoeDownReferenceIdeal.main_arg2) = m' ((c.tc : Thread Cert.MoeDownReferenceIdeal.nD Cert.MoeDownReferenceIdeal.τ).loc Cert.MoeDownReferenceIdeal.main_arg2)
          ∧ r.2.mem ((c.tc : Thread Cert.MoeDownReferenceIdeal.nD Cert.MoeDownReferenceIdeal.τ).loc Cert.MoeDownReferenceIdeal.main_arg3) = m' ((c.tc : Thread Cert.MoeDownReferenceIdeal.nD Cert.MoeDownReferenceIdeal.τ).loc Cert.MoeDownReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v7) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v2) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v29) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_MatmulNorm_MatmulNormIdeal : Prop :=
  True

def algebraic_MatmulNormIdeal_MatmulNormReferenceIdeal [hMatmulNormIdeal : Cert.MatmulNormIdeal.Facts] [hMatmulNormReferenceIdeal : Cert.MatmulNormReferenceIdeal.Facts] : Prop :=
  ∀ (m : (ℓ : Loc Cert.MatmulNormIdeal.nD Cert.MatmulNormIdeal.τ Cert.MatmulNormIdeal.sig) → Buf (Elt Ideal) ℓ) (g : Dev Cert.MatmulNormIdeal.nD → PrngReg)
    (m' : (ℓ : Loc Cert.MatmulNormReferenceIdeal.nD Cert.MatmulNormReferenceIdeal.τ Cert.MatmulNormReferenceIdeal.sig) → Buf (Elt Ideal) ℓ) (g' : Dev Cert.MatmulNormReferenceIdeal.nD → PrngReg), Pre_MatmulNormIdeal m →
    (∀ c : Dev Cert.MatmulNormIdeal.nD,
      m' ((c.tc : Thread Cert.MatmulNormReferenceIdeal.nD Cert.MatmulNormReferenceIdeal.τ).loc Cert.MatmulNormReferenceIdeal.main_arg0) = m ((c.tc : Thread Cert.MatmulNormIdeal.nD Cert.MatmulNormIdeal.τ).loc Cert.MatmulNormIdeal.main_arg0)
      ∧ m' ((c.tc : Thread Cert.MatmulNormReferenceIdeal.nD Cert.MatmulNormReferenceIdeal.τ).loc Cert.MatmulNormReferenceIdeal.main_arg1) = m ((c.tc : Thread Cert.MatmulNormIdeal.nD Cert.MatmulNormIdeal.τ).loc Cert.MatmulNormIdeal.main_arg1)
      ∧ m' ((c.tc : Thread Cert.MatmulNormReferenceIdeal.nD Cert.MatmulNormReferenceIdeal.τ).loc Cert.MatmulNormReferenceIdeal.main_arg2) = m ((c.tc : Thread Cert.MatmulNormIdeal.nD Cert.MatmulNormIdeal.τ).loc Cert.MatmulNormIdeal.main_arg2)
      ∧ m' ((c.tc : Thread Cert.MatmulNormReferenceIdeal.nD Cert.MatmulNormReferenceIdeal.τ).loc Cert.MatmulNormReferenceIdeal.main_arg3) = m ((c.tc : Thread Cert.MatmulNormIdeal.nD Cert.MatmulNormIdeal.τ).loc Cert.MatmulNormIdeal.main_arg3)
      ∧ m' ((c.tc : Thread Cert.MatmulNormReferenceIdeal.nD Cert.MatmulNormReferenceIdeal.τ).loc Cert.MatmulNormReferenceIdeal.main_arg4) = m ((c.tc : Thread Cert.MatmulNormIdeal.nD Cert.MatmulNormIdeal.τ).loc Cert.MatmulNormIdeal.main_arg4)) →
    ∃ (v0 : (c : Dev Cert.MatmulNormIdeal.nD) → Buf (Elt Ideal) ((c.tc : Thread Cert.MatmulNormIdeal.nD Cert.MatmulNormIdeal.τ).loc Cert.MatmulNormIdeal.main_v6_0)) (v1 : (c : Dev Cert.MatmulNormIdeal.nD) → Buf (Elt Ideal) ((c.tc : Thread Cert.MatmulNormIdeal.nD Cert.MatmulNormIdeal.τ).loc Cert.MatmulNormIdeal.main_v6_1)),
      θ_run (Cert.MatmulNormIdeal.defs (F := Ideal)) (onTc (τ := Cert.MatmulNormIdeal.τ) (Cert.MatmulNormIdeal.main (F := Ideal))) ⟨m, fun _ => 0, g⟩ (fun r => ∀ c : Dev Cert.MatmulNormIdeal.nD,
          r.2.mem ((c.tc : Thread Cert.MatmulNormIdeal.nD Cert.MatmulNormIdeal.τ).loc Cert.MatmulNormIdeal.main_v6_0) = v0 c
          ∧ r.2.mem ((c.tc : Thread Cert.MatmulNormIdeal.nD Cert.MatmulNormIdeal.τ).loc Cert.MatmulNormIdeal.main_v6_1) = v1 c
          ∧ r.2.mem ((c.tc : Thread Cert.MatmulNormIdeal.nD Cert.MatmulNormIdeal.τ).loc Cert.MatmulNormIdeal.main_arg0) = m ((c.tc : Thread Cert.MatmulNormIdeal.nD Cert.MatmulNormIdeal.τ).loc Cert.MatmulNormIdeal.main_arg0)
          ∧ r.2.mem ((c.tc : Thread Cert.MatmulNormIdeal.nD Cert.MatmulNormIdeal.τ).loc Cert.MatmulNormIdeal.main_arg1) = m ((c.tc : Thread Cert.MatmulNormIdeal.nD Cert.MatmulNormIdeal.τ).loc Cert.MatmulNormIdeal.main_arg1)
          ∧ r.2.mem ((c.tc : Thread Cert.MatmulNormIdeal.nD Cert.MatmulNormIdeal.τ).loc Cert.MatmulNormIdeal.main_arg2) = m ((c.tc : Thread Cert.MatmulNormIdeal.nD Cert.MatmulNormIdeal.τ).loc Cert.MatmulNormIdeal.main_arg2)
          ∧ r.2.mem ((c.tc : Thread Cert.MatmulNormIdeal.nD Cert.MatmulNormIdeal.τ).loc Cert.MatmulNormIdeal.main_arg3) = m ((c.tc : Thread Cert.MatmulNormIdeal.nD Cert.MatmulNormIdeal.τ).loc Cert.MatmulNormIdeal.main_arg3)
          ∧ r.2.mem ((c.tc : Thread Cert.MatmulNormIdeal.nD Cert.MatmulNormIdeal.τ).loc Cert.MatmulNormIdeal.main_arg4) = m ((c.tc : Thread Cert.MatmulNormIdeal.nD Cert.MatmulNormIdeal.τ).loc Cert.MatmulNormIdeal.main_arg4))
      ∧ θ_run (Cert.MatmulNormReferenceIdeal.defs (F := Ideal)) (onTc (τ := Cert.MatmulNormReferenceIdeal.τ) (Cert.MatmulNormReferenceIdeal.main (F := Ideal))) ⟨m', fun _ => 0, g'⟩ (fun r => ∀ c : Dev Cert.MatmulNormReferenceIdeal.nD,
          r.2.mem ((c.tc : Thread Cert.MatmulNormReferenceIdeal.nD Cert.MatmulNormReferenceIdeal.τ).loc Cert.MatmulNormReferenceIdeal.main_v34) = v0 c
          ∧ r.2.mem ((c.tc : Thread Cert.MatmulNormReferenceIdeal.nD Cert.MatmulNormReferenceIdeal.τ).loc Cert.MatmulNormReferenceIdeal.main_v35) = v1 c
          ∧ r.2.mem ((c.tc : Thread Cert.MatmulNormReferenceIdeal.nD Cert.MatmulNormReferenceIdeal.τ).loc Cert.MatmulNormReferenceIdeal.main_arg0) = m' ((c.tc : Thread Cert.MatmulNormReferenceIdeal.nD Cert.MatmulNormReferenceIdeal.τ).loc Cert.MatmulNormReferenceIdeal.main_arg0)
          ∧ r.2.mem ((c.tc : Thread Cert.MatmulNormReferenceIdeal.nD Cert.MatmulNormReferenceIdeal.τ).loc Cert.MatmulNormReferenceIdeal.main_arg1) = m' ((c.tc : Thread Cert.MatmulNormReferenceIdeal.nD Cert.MatmulNormReferenceIdeal.τ).loc Cert.MatmulNormReferenceIdeal.main_arg1)
          ∧ r.2.mem ((c.tc : Thread Cert.MatmulNormReferenceIdeal.nD Cert.MatmulNormReferenceIdeal.τ).loc Cert.MatmulNormReferenceIdeal.main_arg2) = m' ((c.tc : Thread Cert.MatmulNormReferenceIdeal.nD Cert.MatmulNormReferenceIdeal.τ).loc Cert.MatmulNormReferenceIdeal.main_arg2)
          ∧ r.2.mem ((c.tc : Thread Cert.MatmulNormReferenceIdeal.nD Cert.MatmulNormReferenceIdeal.τ).loc Cert.MatmulNormReferenceIdeal.main_arg3) = m' ((c.tc : Thread Cert.MatmulNormReferenceIdeal.nD Cert.MatmulNormReferenceIdeal.τ).loc Cert.MatmulNormReferenceIdeal.main_arg3)
          ∧ r.2.mem ((c.tc : Thread Cert.MatmulNormReferenceIdeal.nD Cert.MatmulNormReferenceIdeal.τ).loc Cert.MatmulNormReferenceIdeal.main_arg4) = m' ((c.tc : Thread Cert.MatmulNormReferenceIdeal.nD Cert.MatmulNormReferenceIdeal.τ).loc Cert.MatmulNormReferenceIdeal.main_arg4))

def preserves_ProjK_ProjKIdeal : Prop :=
  True

def algebraic_ProjKIdeal_ProjKReferenceIdeal [hProjKIdeal : Cert.ProjKIdeal.Facts] [hProjKReferenceIdeal : Cert.ProjKReferenceIdeal.Facts] : Prop :=
  ∀ (m : (ℓ : Loc Cert.ProjKIdeal.nD Cert.ProjKIdeal.τ Cert.ProjKIdeal.sig) → Buf (Elt Ideal) ℓ) (g : Dev Cert.ProjKIdeal.nD → PrngReg)
    (m' : (ℓ : Loc Cert.ProjKReferenceIdeal.nD Cert.ProjKReferenceIdeal.τ Cert.ProjKReferenceIdeal.sig) → Buf (Elt Ideal) ℓ) (g' : Dev Cert.ProjKReferenceIdeal.nD → PrngReg), Pre_ProjKIdeal m →
    (∀ c : Dev Cert.ProjKIdeal.nD,
      m' ((c.tc : Thread Cert.ProjKReferenceIdeal.nD Cert.ProjKReferenceIdeal.τ).loc Cert.ProjKReferenceIdeal.main_arg0) = m ((c.tc : Thread Cert.ProjKIdeal.nD Cert.ProjKIdeal.τ).loc Cert.ProjKIdeal.main_arg0)
      ∧ m' ((c.tc : Thread Cert.ProjKReferenceIdeal.nD Cert.ProjKReferenceIdeal.τ).loc Cert.ProjKReferenceIdeal.main_arg1) = m ((c.tc : Thread Cert.ProjKIdeal.nD Cert.ProjKIdeal.τ).loc Cert.ProjKIdeal.main_arg1)) →
    ∃ (v0 : (c : Dev Cert.ProjKIdeal.nD) → Buf (Elt Ideal) ((c.tc : Thread Cert.ProjKIdeal.nD Cert.ProjKIdeal.τ).loc Cert.ProjKIdeal.main_v5)) (v1 : (c : Dev Cert.ProjKIdeal.nD) → Buf (Elt Ideal) ((c.tc : Thread Cert.ProjKIdeal.nD Cert.ProjKIdeal.τ).loc Cert.ProjKIdeal.main_v7)) (v2 : (c : Dev Cert.ProjKIdeal.nD) → Buf (Elt Ideal) ((c.tc : Thread Cert.ProjKIdeal.nD Cert.ProjKIdeal.τ).loc Cert.ProjKIdeal.main_v1_1)),
      θ_run (Cert.ProjKIdeal.defs (F := Ideal)) (onTc (τ := Cert.ProjKIdeal.τ) (Cert.ProjKIdeal.main (F := Ideal))) ⟨m, fun _ => 0, g⟩ (fun r => ∀ c : Dev Cert.ProjKIdeal.nD,
          r.2.mem ((c.tc : Thread Cert.ProjKIdeal.nD Cert.ProjKIdeal.τ).loc Cert.ProjKIdeal.main_v5) = v0 c
          ∧ r.2.mem ((c.tc : Thread Cert.ProjKIdeal.nD Cert.ProjKIdeal.τ).loc Cert.ProjKIdeal.main_v7) = v1 c
          ∧ r.2.mem ((c.tc : Thread Cert.ProjKIdeal.nD Cert.ProjKIdeal.τ).loc Cert.ProjKIdeal.main_v1_1) = v2 c
          ∧ r.2.mem ((c.tc : Thread Cert.ProjKIdeal.nD Cert.ProjKIdeal.τ).loc Cert.ProjKIdeal.main_arg0) = m ((c.tc : Thread Cert.ProjKIdeal.nD Cert.ProjKIdeal.τ).loc Cert.ProjKIdeal.main_arg0)
          ∧ r.2.mem ((c.tc : Thread Cert.ProjKIdeal.nD Cert.ProjKIdeal.τ).loc Cert.ProjKIdeal.main_arg1) = m ((c.tc : Thread Cert.ProjKIdeal.nD Cert.ProjKIdeal.τ).loc Cert.ProjKIdeal.main_arg1))
      ∧ θ_run (Cert.ProjKReferenceIdeal.defs (F := Ideal)) (onTc (τ := Cert.ProjKReferenceIdeal.τ) (Cert.ProjKReferenceIdeal.main (F := Ideal))) ⟨m', fun _ => 0, g'⟩ (fun r => ∀ c : Dev Cert.ProjKReferenceIdeal.nD,
          r.2.mem ((c.tc : Thread Cert.ProjKReferenceIdeal.nD Cert.ProjKReferenceIdeal.τ).loc Cert.ProjKReferenceIdeal.main_v7) = v0 c
          ∧ r.2.mem ((c.tc : Thread Cert.ProjKReferenceIdeal.nD Cert.ProjKReferenceIdeal.τ).loc Cert.ProjKReferenceIdeal.main_v9) = v1 c
          ∧ r.2.mem ((c.tc : Thread Cert.ProjKReferenceIdeal.nD Cert.ProjKReferenceIdeal.τ).loc Cert.ProjKReferenceIdeal.main_v10) = v2 c
          ∧ r.2.mem ((c.tc : Thread Cert.ProjKReferenceIdeal.nD Cert.ProjKReferenceIdeal.τ).loc Cert.ProjKReferenceIdeal.main_arg0) = m' ((c.tc : Thread Cert.ProjKReferenceIdeal.nD Cert.ProjKReferenceIdeal.τ).loc Cert.ProjKReferenceIdeal.main_arg0)
          ∧ r.2.mem ((c.tc : Thread Cert.ProjKReferenceIdeal.nD Cert.ProjKReferenceIdeal.τ).loc Cert.ProjKReferenceIdeal.main_arg1) = m' ((c.tc : Thread Cert.ProjKReferenceIdeal.nD Cert.ProjKReferenceIdeal.τ).loc Cert.ProjKReferenceIdeal.main_arg1))

def preserves_ProjV_ProjVIdeal : Prop :=
  True

def algebraic_ProjVIdeal_ProjVReferenceIdeal [hProjVIdeal : Cert.ProjVIdeal.Facts] [hProjVReferenceIdeal : Cert.ProjVReferenceIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.ProjVReferenceIdeal.nD Cert.ProjVReferenceIdeal.τ Cert.ProjVReferenceIdeal.sig) → Buf (Elt Ideal) ℓ) (g' : Dev Cert.ProjVReferenceIdeal.nD → PrngReg), Pre_ProjVIdeal m →
    (∀ c : Dev Cert.ProjVIdeal.nD,
      m' ((c.tc : Thread Cert.ProjVReferenceIdeal.nD Cert.ProjVReferenceIdeal.τ).loc Cert.ProjVReferenceIdeal.main_arg0) = m ((c.tc : Thread Cert.ProjVIdeal.nD Cert.ProjVIdeal.τ).loc Cert.ProjVIdeal.main_arg0)
      ∧ m' ((c.tc : Thread Cert.ProjVReferenceIdeal.nD Cert.ProjVReferenceIdeal.τ).loc Cert.ProjVReferenceIdeal.main_arg1) = m ((c.tc : Thread Cert.ProjVIdeal.nD Cert.ProjVIdeal.τ).loc Cert.ProjVIdeal.main_arg1)) →
    ∃ (v0 : (c : Dev Cert.ProjVIdeal.nD) → Buf (Elt Ideal) ((c.tc : Thread Cert.ProjVIdeal.nD Cert.ProjVIdeal.τ).loc Cert.ProjVIdeal.main_v5)) (v1 : (c : Dev Cert.ProjVIdeal.nD) → Buf (Elt Ideal) ((c.tc : Thread Cert.ProjVIdeal.nD Cert.ProjVIdeal.τ).loc Cert.ProjVIdeal.main_v7)) (v2 : (c : Dev Cert.ProjVIdeal.nD) → Buf (Elt Ideal) ((c.tc : Thread Cert.ProjVIdeal.nD Cert.ProjVIdeal.τ).loc Cert.ProjVIdeal.main_v1_1)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v5) = v0 c
          ∧ r.2.mem ((c.tc : Thread Cert.ProjVIdeal.nD Cert.ProjVIdeal.τ).loc Cert.ProjVIdeal.main_v7) = v1 c
          ∧ r.2.mem ((c.tc : Thread Cert.ProjVIdeal.nD Cert.ProjVIdeal.τ).loc Cert.ProjVIdeal.main_v1_1) = v2 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ θ_run (Cert.ProjVReferenceIdeal.defs (F := Ideal)) (onTc (τ := Cert.ProjVReferenceIdeal.τ) (Cert.ProjVReferenceIdeal.main (F := Ideal))) ⟨m', fun _ => 0, g'⟩ (fun r => ∀ c : Dev Cert.ProjVReferenceIdeal.nD,
          r.2.mem ((c.tc : Thread Cert.ProjVReferenceIdeal.nD Cert.ProjVReferenceIdeal.τ).loc Cert.ProjVReferenceIdeal.main_v7) = v0 c
          ∧ r.2.mem ((c.tc : Thread Cert.ProjVReferenceIdeal.nD Cert.ProjVReferenceIdeal.τ).loc Cert.ProjVReferenceIdeal.main_v9) = v1 c
          ∧ r.2.mem ((c.tc : Thread Cert.ProjVReferenceIdeal.nD Cert.ProjVReferenceIdeal.τ).loc Cert.ProjVReferenceIdeal.main_v12) = v2 c
          ∧ r.2.mem ((c.tc : Thread Cert.ProjVReferenceIdeal.nD Cert.ProjVReferenceIdeal.τ).loc Cert.ProjVReferenceIdeal.main_arg0) = m' ((c.tc : Thread Cert.ProjVReferenceIdeal.nD Cert.ProjVReferenceIdeal.τ).loc Cert.ProjVReferenceIdeal.main_arg0)
          ∧ r.2.mem ((c.tc : Thread Cert.ProjVReferenceIdeal.nD Cert.ProjVReferenceIdeal.τ).loc Cert.ProjVReferenceIdeal.main_arg1) = m' ((c.tc : Thread Cert.ProjVReferenceIdeal.nD Cert.ProjVReferenceIdeal.τ).loc Cert.ProjVReferenceIdeal.main_arg1))

def preserves_ProjIdx_ProjIdxIdeal : Prop :=
  True

def algebraic_ProjIdxIdeal_ProjIdxReferenceIdeal [hProjIdxIdeal : Cert.ProjIdxIdeal.Facts] [hProjIdxReferenceIdeal : Cert.ProjIdxReferenceIdeal.Facts] : Prop :=
  ∀ (m : (ℓ : Loc Cert.ProjIdxIdeal.nD Cert.ProjIdxIdeal.τ Cert.ProjIdxIdeal.sig) → Buf (Elt Ideal) ℓ) (g : Dev Cert.ProjIdxIdeal.nD → PrngReg)
    (m' : (ℓ : Loc Cert.ProjIdxReferenceIdeal.nD Cert.ProjIdxReferenceIdeal.τ Cert.ProjIdxReferenceIdeal.sig) → Buf (Elt Ideal) ℓ) (g' : Dev Cert.ProjIdxReferenceIdeal.nD → PrngReg), Pre_ProjIdxIdeal m →
    (∀ c : Dev Cert.ProjIdxIdeal.nD,
      m' ((c.tc : Thread Cert.ProjIdxReferenceIdeal.nD Cert.ProjIdxReferenceIdeal.τ).loc Cert.ProjIdxReferenceIdeal.main_arg0) = m ((c.tc : Thread Cert.ProjIdxIdeal.nD Cert.ProjIdxIdeal.τ).loc Cert.ProjIdxIdeal.main_arg0)
      ∧ m' ((c.tc : Thread Cert.ProjIdxReferenceIdeal.nD Cert.ProjIdxReferenceIdeal.τ).loc Cert.ProjIdxReferenceIdeal.main_arg1) = m ((c.tc : Thread Cert.ProjIdxIdeal.nD Cert.ProjIdxIdeal.τ).loc Cert.ProjIdxIdeal.main_arg1)) →
    ∃ (v0 : (c : Dev Cert.ProjIdxIdeal.nD) → Buf (Elt Ideal) ((c.tc : Thread Cert.ProjIdxIdeal.nD Cert.ProjIdxIdeal.τ).loc Cert.ProjIdxIdeal.main_v5)) (v1 : (c : Dev Cert.ProjIdxIdeal.nD) → Buf (Elt Ideal) ((c.tc : Thread Cert.ProjIdxIdeal.nD Cert.ProjIdxIdeal.τ).loc Cert.ProjIdxIdeal.main_v7)) (v2 : (c : Dev Cert.ProjIdxIdeal.nD) → Buf (Elt Ideal) ((c.tc : Thread Cert.ProjIdxIdeal.nD Cert.ProjIdxIdeal.τ).loc Cert.ProjIdxIdeal.main_v1_0)) (v3 : (c : Dev Cert.ProjIdxIdeal.nD) → Buf (Elt Ideal) ((c.tc : Thread Cert.ProjIdxIdeal.nD Cert.ProjIdxIdeal.τ).loc Cert.ProjIdxIdeal.main_v1_1)) (v4 : (c : Dev Cert.ProjIdxIdeal.nD) → Buf (Elt Ideal) ((c.tc : Thread Cert.ProjIdxIdeal.nD Cert.ProjIdxIdeal.τ).loc Cert.ProjIdxIdeal.main_v1_2)),
      θ_run (Cert.ProjIdxIdeal.defs (F := Ideal)) (onTc (τ := Cert.ProjIdxIdeal.τ) (Cert.ProjIdxIdeal.main (F := Ideal))) ⟨m, fun _ => 0, g⟩ (fun r => ∀ c : Dev Cert.ProjIdxIdeal.nD,
          r.2.mem ((c.tc : Thread Cert.ProjIdxIdeal.nD Cert.ProjIdxIdeal.τ).loc Cert.ProjIdxIdeal.main_v5) = v0 c
          ∧ r.2.mem ((c.tc : Thread Cert.ProjIdxIdeal.nD Cert.ProjIdxIdeal.τ).loc Cert.ProjIdxIdeal.main_v7) = v1 c
          ∧ r.2.mem ((c.tc : Thread Cert.ProjIdxIdeal.nD Cert.ProjIdxIdeal.τ).loc Cert.ProjIdxIdeal.main_v1_0) = v2 c
          ∧ r.2.mem ((c.tc : Thread Cert.ProjIdxIdeal.nD Cert.ProjIdxIdeal.τ).loc Cert.ProjIdxIdeal.main_v1_1) = v3 c
          ∧ r.2.mem ((c.tc : Thread Cert.ProjIdxIdeal.nD Cert.ProjIdxIdeal.τ).loc Cert.ProjIdxIdeal.main_v1_2) = v4 c
          ∧ r.2.mem ((c.tc : Thread Cert.ProjIdxIdeal.nD Cert.ProjIdxIdeal.τ).loc Cert.ProjIdxIdeal.main_arg0) = m ((c.tc : Thread Cert.ProjIdxIdeal.nD Cert.ProjIdxIdeal.τ).loc Cert.ProjIdxIdeal.main_arg0)
          ∧ r.2.mem ((c.tc : Thread Cert.ProjIdxIdeal.nD Cert.ProjIdxIdeal.τ).loc Cert.ProjIdxIdeal.main_arg1) = m ((c.tc : Thread Cert.ProjIdxIdeal.nD Cert.ProjIdxIdeal.τ).loc Cert.ProjIdxIdeal.main_arg1))
      ∧ θ_run (Cert.ProjIdxReferenceIdeal.defs (F := Ideal)) (onTc (τ := Cert.ProjIdxReferenceIdeal.τ) (Cert.ProjIdxReferenceIdeal.main (F := Ideal))) ⟨m', fun _ => 0, g'⟩ (fun r => ∀ c : Dev Cert.ProjIdxReferenceIdeal.nD,
          r.2.mem ((c.tc : Thread Cert.ProjIdxReferenceIdeal.nD Cert.ProjIdxReferenceIdeal.τ).loc Cert.ProjIdxReferenceIdeal.main_v8) = v0 c
          ∧ r.2.mem ((c.tc : Thread Cert.ProjIdxReferenceIdeal.nD Cert.ProjIdxReferenceIdeal.τ).loc Cert.ProjIdxReferenceIdeal.main_v10) = v1 c
          ∧ r.2.mem ((c.tc : Thread Cert.ProjIdxReferenceIdeal.nD Cert.ProjIdxReferenceIdeal.τ).loc Cert.ProjIdxReferenceIdeal.main_v13) = v2 c
          ∧ r.2.mem ((c.tc : Thread Cert.ProjIdxReferenceIdeal.nD Cert.ProjIdxReferenceIdeal.τ).loc Cert.ProjIdxReferenceIdeal.main_v14) = v3 c
          ∧ r.2.mem ((c.tc : Thread Cert.ProjIdxReferenceIdeal.nD Cert.ProjIdxReferenceIdeal.τ).loc Cert.ProjIdxReferenceIdeal.main_v12) = v4 c
          ∧ r.2.mem ((c.tc : Thread Cert.ProjIdxReferenceIdeal.nD Cert.ProjIdxReferenceIdeal.τ).loc Cert.ProjIdxReferenceIdeal.main_arg0) = m' ((c.tc : Thread Cert.ProjIdxReferenceIdeal.nD Cert.ProjIdxReferenceIdeal.τ).loc Cert.ProjIdxReferenceIdeal.main_arg0)
          ∧ r.2.mem ((c.tc : Thread Cert.ProjIdxReferenceIdeal.nD Cert.ProjIdxReferenceIdeal.τ).loc Cert.ProjIdxReferenceIdeal.main_arg1) = m' ((c.tc : Thread Cert.ProjIdxReferenceIdeal.nD Cert.ProjIdxReferenceIdeal.τ).loc Cert.ProjIdxReferenceIdeal.main_arg1))

def preserves_ProjQ_ProjQIdeal : Prop :=
  True

def algebraic_ProjQIdeal_ProjQReferenceIdeal [hProjQIdeal : Cert.ProjQIdeal.Facts] [hProjQReferenceIdeal : Cert.ProjQReferenceIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQReferenceIdeal.nD Cert.ProjQReferenceIdeal.τ Cert.ProjQReferenceIdeal.sig) → Buf (Elt Ideal) ℓ) (g' : Dev Cert.ProjQReferenceIdeal.nD → PrngReg), Pre_ProjQIdeal m →
    (∀ c : Dev Cert.ProjQIdeal.nD,
      m' ((c.tc : Thread Cert.ProjQReferenceIdeal.nD Cert.ProjQReferenceIdeal.τ).loc Cert.ProjQReferenceIdeal.main_arg0) = m ((c.tc : Thread Cert.ProjQIdeal.nD Cert.ProjQIdeal.τ).loc Cert.ProjQIdeal.main_arg0)
      ∧ m' ((c.tc : Thread Cert.ProjQReferenceIdeal.nD Cert.ProjQReferenceIdeal.τ).loc Cert.ProjQReferenceIdeal.main_arg1) = m ((c.tc : Thread Cert.ProjQIdeal.nD Cert.ProjQIdeal.τ).loc Cert.ProjQIdeal.main_arg1)) →
    ∃ (v0 : (c : Dev Cert.ProjQIdeal.nD) → Buf (Elt Ideal) ((c.tc : Thread Cert.ProjQIdeal.nD Cert.ProjQIdeal.τ).loc Cert.ProjQIdeal.main_v1_0)) (v1 : (c : Dev Cert.ProjQIdeal.nD) → Buf (Elt Ideal) ((c.tc : Thread Cert.ProjQIdeal.nD Cert.ProjQIdeal.τ).loc Cert.ProjQIdeal.main_v1_1)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v1_0) = v0 c
          ∧ r.2.mem ((c.tc : Thread Cert.ProjQIdeal.nD Cert.ProjQIdeal.τ).loc Cert.ProjQIdeal.main_v1_1) = v1 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ θ_run (Cert.ProjQReferenceIdeal.defs (F := Ideal)) (onTc (τ := Cert.ProjQReferenceIdeal.τ) (Cert.ProjQReferenceIdeal.main (F := Ideal))) ⟨m', fun _ => 0, g'⟩ (fun r => ∀ c : Dev Cert.ProjQReferenceIdeal.nD,
          r.2.mem ((c.tc : Thread Cert.ProjQReferenceIdeal.nD Cert.ProjQReferenceIdeal.τ).loc Cert.ProjQReferenceIdeal.main_v9) = v0 c
          ∧ r.2.mem ((c.tc : Thread Cert.ProjQReferenceIdeal.nD Cert.ProjQReferenceIdeal.τ).loc Cert.ProjQReferenceIdeal.main_v10) = v1 c
          ∧ r.2.mem ((c.tc : Thread Cert.ProjQReferenceIdeal.nD Cert.ProjQReferenceIdeal.τ).loc Cert.ProjQReferenceIdeal.main_arg0) = m' ((c.tc : Thread Cert.ProjQReferenceIdeal.nD Cert.ProjQReferenceIdeal.τ).loc Cert.ProjQReferenceIdeal.main_arg0)
          ∧ r.2.mem ((c.tc : Thread Cert.ProjQReferenceIdeal.nD Cert.ProjQReferenceIdeal.τ).loc Cert.ProjQReferenceIdeal.main_arg1) = m' ((c.tc : Thread Cert.ProjQReferenceIdeal.nD Cert.ProjQReferenceIdeal.τ).loc Cert.ProjQReferenceIdeal.main_arg1))

def preserves_ProjQI_ProjQIIdeal : Prop :=
  True

def algebraic_ProjQIIdeal_ProjQIReferenceIdeal [hProjQIIdeal : Cert.ProjQIIdeal.Facts] [hProjQIReferenceIdeal : Cert.ProjQIReferenceIdeal.Facts] : Prop :=
  ∀ (m : (ℓ : Loc Cert.ProjQIIdeal.nD Cert.ProjQIIdeal.τ Cert.ProjQIIdeal.sig) → Buf (Elt Ideal) ℓ) (g : Dev Cert.ProjQIIdeal.nD → PrngReg)
    (m' : (ℓ : Loc Cert.ProjQIReferenceIdeal.nD Cert.ProjQIReferenceIdeal.τ Cert.ProjQIReferenceIdeal.sig) → Buf (Elt Ideal) ℓ) (g' : Dev Cert.ProjQIReferenceIdeal.nD → PrngReg), Pre_ProjQIIdeal m →
    (∀ c : Dev Cert.ProjQIIdeal.nD,
      m' ((c.tc : Thread Cert.ProjQIReferenceIdeal.nD Cert.ProjQIReferenceIdeal.τ).loc Cert.ProjQIReferenceIdeal.main_arg0) = m ((c.tc : Thread Cert.ProjQIIdeal.nD Cert.ProjQIIdeal.τ).loc Cert.ProjQIIdeal.main_arg0)
      ∧ m' ((c.tc : Thread Cert.ProjQIReferenceIdeal.nD Cert.ProjQIReferenceIdeal.τ).loc Cert.ProjQIReferenceIdeal.main_arg1) = m ((c.tc : Thread Cert.ProjQIIdeal.nD Cert.ProjQIIdeal.τ).loc Cert.ProjQIIdeal.main_arg1)) →
    ∃ (v0 : (c : Dev Cert.ProjQIIdeal.nD) → Buf (Elt Ideal) ((c.tc : Thread Cert.ProjQIIdeal.nD Cert.ProjQIIdeal.τ).loc Cert.ProjQIIdeal.main_v1_0)) (v1 : (c : Dev Cert.ProjQIIdeal.nD) → Buf (Elt Ideal) ((c.tc : Thread Cert.ProjQIIdeal.nD Cert.ProjQIIdeal.τ).loc Cert.ProjQIIdeal.main_v1_1)),
      θ_run (Cert.ProjQIIdeal.defs (F := Ideal)) (onTc (τ := Cert.ProjQIIdeal.τ) (Cert.ProjQIIdeal.main (F := Ideal))) ⟨m, fun _ => 0, g⟩ (fun r => ∀ c : Dev Cert.ProjQIIdeal.nD,
          r.2.mem ((c.tc : Thread Cert.ProjQIIdeal.nD Cert.ProjQIIdeal.τ).loc Cert.ProjQIIdeal.main_v1_0) = v0 c
          ∧ r.2.mem ((c.tc : Thread Cert.ProjQIIdeal.nD Cert.ProjQIIdeal.τ).loc Cert.ProjQIIdeal.main_v1_1) = v1 c
          ∧ r.2.mem ((c.tc : Thread Cert.ProjQIIdeal.nD Cert.ProjQIIdeal.τ).loc Cert.ProjQIIdeal.main_arg0) = m ((c.tc : Thread Cert.ProjQIIdeal.nD Cert.ProjQIIdeal.τ).loc Cert.ProjQIIdeal.main_arg0)
          ∧ r.2.mem ((c.tc : Thread Cert.ProjQIIdeal.nD Cert.ProjQIIdeal.τ).loc Cert.ProjQIIdeal.main_arg1) = m ((c.tc : Thread Cert.ProjQIIdeal.nD Cert.ProjQIIdeal.τ).loc Cert.ProjQIIdeal.main_arg1))
      ∧ θ_run (Cert.ProjQIReferenceIdeal.defs (F := Ideal)) (onTc (τ := Cert.ProjQIReferenceIdeal.τ) (Cert.ProjQIReferenceIdeal.main (F := Ideal))) ⟨m', fun _ => 0, g'⟩ (fun r => ∀ c : Dev Cert.ProjQIReferenceIdeal.nD,
          r.2.mem ((c.tc : Thread Cert.ProjQIReferenceIdeal.nD Cert.ProjQIReferenceIdeal.τ).loc Cert.ProjQIReferenceIdeal.main_v7) = v0 c
          ∧ r.2.mem ((c.tc : Thread Cert.ProjQIReferenceIdeal.nD Cert.ProjQIReferenceIdeal.τ).loc Cert.ProjQIReferenceIdeal.main_v8) = v1 c
          ∧ r.2.mem ((c.tc : Thread Cert.ProjQIReferenceIdeal.nD Cert.ProjQIReferenceIdeal.τ).loc Cert.ProjQIReferenceIdeal.main_arg0) = m' ((c.tc : Thread Cert.ProjQIReferenceIdeal.nD Cert.ProjQIReferenceIdeal.τ).loc Cert.ProjQIReferenceIdeal.main_arg0)
          ∧ r.2.mem ((c.tc : Thread Cert.ProjQIReferenceIdeal.nD Cert.ProjQIReferenceIdeal.τ).loc Cert.ProjQIReferenceIdeal.main_arg1) = m' ((c.tc : Thread Cert.ProjQIReferenceIdeal.nD Cert.ProjQIReferenceIdeal.τ).loc Cert.ProjQIReferenceIdeal.main_arg1))

def preserves_Retention_RetentionIdeal : Prop :=
  True

def algebraic_RetentionIdeal_RetentionReferenceIdeal [hRetentionIdeal : Cert.RetentionIdeal.Facts] [hRetentionReferenceIdeal : Cert.RetentionReferenceIdeal.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionReferenceIdeal.nD Cert.RetentionReferenceIdeal.τ Cert.RetentionReferenceIdeal.sig) → Buf (Elt Ideal) ℓ) (g' : Dev Cert.RetentionReferenceIdeal.nD → PrngReg), Pre_RetentionIdeal m →
    (∀ c : Dev Cert.RetentionIdeal.nD,
      m' ((c.tc : Thread Cert.RetentionReferenceIdeal.nD Cert.RetentionReferenceIdeal.τ).loc Cert.RetentionReferenceIdeal.main_arg0) = m ((c.tc : Thread Cert.RetentionIdeal.nD Cert.RetentionIdeal.τ).loc Cert.RetentionIdeal.main_arg0)
      ∧ m' ((c.tc : Thread Cert.RetentionReferenceIdeal.nD Cert.RetentionReferenceIdeal.τ).loc Cert.RetentionReferenceIdeal.main_arg1) = m ((c.tc : Thread Cert.RetentionIdeal.nD Cert.RetentionIdeal.τ).loc Cert.RetentionIdeal.main_arg1)
      ∧ m' ((c.tc : Thread Cert.RetentionReferenceIdeal.nD Cert.RetentionReferenceIdeal.τ).loc Cert.RetentionReferenceIdeal.main_arg2) = m ((c.tc : Thread Cert.RetentionIdeal.nD Cert.RetentionIdeal.τ).loc Cert.RetentionIdeal.main_arg2)) →
    ∃ (v0 : (c : Dev Cert.RetentionIdeal.nD) → Buf (Elt Ideal) ((c.tc : Thread Cert.RetentionIdeal.nD Cert.RetentionIdeal.τ).loc Cert.RetentionIdeal.main_v72_0)) (v1 : (c : Dev Cert.RetentionIdeal.nD) → Buf (Elt Ideal) ((c.tc : Thread Cert.RetentionIdeal.nD Cert.RetentionIdeal.τ).loc Cert.RetentionIdeal.main_v72_1)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v72_0) = v0 c
          ∧ r.2.mem ((c.tc : Thread Cert.RetentionIdeal.nD Cert.RetentionIdeal.τ).loc Cert.RetentionIdeal.main_v72_1) = v1 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
          ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
          ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2))
      ∧ θ_run (Cert.RetentionReferenceIdeal.defs (F := Ideal)) (onTc (τ := Cert.RetentionReferenceIdeal.τ) (Cert.RetentionReferenceIdeal.main (F := Ideal))) ⟨m', fun _ => 0, g'⟩ (fun r => ∀ c : Dev Cert.RetentionReferenceIdeal.nD,
          r.2.mem ((c.tc : Thread Cert.RetentionReferenceIdeal.nD Cert.RetentionReferenceIdeal.τ).loc Cert.RetentionReferenceIdeal.main_v164) = v0 c
          ∧ r.2.mem ((c.tc : Thread Cert.RetentionReferenceIdeal.nD Cert.RetentionReferenceIdeal.τ).loc Cert.RetentionReferenceIdeal.main_v139) = v1 c
          ∧ r.2.mem ((c.tc : Thread Cert.RetentionReferenceIdeal.nD Cert.RetentionReferenceIdeal.τ).loc Cert.RetentionReferenceIdeal.main_arg0) = m' ((c.tc : Thread Cert.RetentionReferenceIdeal.nD Cert.RetentionReferenceIdeal.τ).loc Cert.RetentionReferenceIdeal.main_arg0)
          ∧ r.2.mem ((c.tc : Thread Cert.RetentionReferenceIdeal.nD Cert.RetentionReferenceIdeal.τ).loc Cert.RetentionReferenceIdeal.main_arg1) = m' ((c.tc : Thread Cert.RetentionReferenceIdeal.nD Cert.RetentionReferenceIdeal.τ).loc Cert.RetentionReferenceIdeal.main_arg1)
          ∧ r.2.mem ((c.tc : Thread Cert.RetentionReferenceIdeal.nD Cert.RetentionReferenceIdeal.τ).loc Cert.RetentionReferenceIdeal.main_arg2) = m' ((c.tc : Thread Cert.RetentionReferenceIdeal.nD Cert.RetentionReferenceIdeal.τ).loc Cert.RetentionReferenceIdeal.main_arg2))

def Claim : Prop :=
  ∃ (hProjTail : Cert.ProjTail.Facts) (hProjTailIdeal : Cert.ProjTailIdeal.Facts) (hProjTailReferenceIdeal : Cert.ProjTailReferenceIdeal.Facts) (hMoeGateUp : Cert.MoeGateUp.Facts) (hMoeGateUpIdeal : Cert.MoeGateUpIdeal.Facts) (hMoeGateUpReferenceIdeal : Cert.MoeGateUpReferenceIdeal.Facts) (hMoeDown : Cert.MoeDown.Facts) (hMoeDownIdeal : Cert.MoeDownIdeal.Facts) (hMoeDownReferenceIdeal : Cert.MoeDownReferenceIdeal.Facts) (hGateUp : Cert.GateUp.Facts) (hGateUpIdeal : Cert.GateUpIdeal.Facts) (hGateUpReferenceIdeal : Cert.GateUpReferenceIdeal.Facts) (hFfnDown : Cert.FfnDown.Facts) (hFfnDownIdeal : Cert.FfnDownIdeal.Facts) (hFfnDownReferenceIdeal : Cert.FfnDownReferenceIdeal.Facts) (hMerge : Cert.Merge.Facts) (hMergeIdeal : Cert.MergeIdeal.Facts) (hMergeReferenceIdeal : Cert.MergeReferenceIdeal.Facts) (hMatmulNorm : Cert.MatmulNorm.Facts) (hMatmulNormIdeal : Cert.MatmulNormIdeal.Facts) (hMatmulNormReferenceIdeal : Cert.MatmulNormReferenceIdeal.Facts) (hProjK : Cert.ProjK.Facts) (hProjKIdeal : Cert.ProjKIdeal.Facts) (hProjKReferenceIdeal : Cert.ProjKReferenceIdeal.Facts) (hProjV : Cert.ProjV.Facts) (hProjVIdeal : Cert.ProjVIdeal.Facts) (hProjVReferenceIdeal : Cert.ProjVReferenceIdeal.Facts) (hProjIdx : Cert.ProjIdx.Facts) (hProjIdxIdeal : Cert.ProjIdxIdeal.Facts) (hProjIdxReferenceIdeal : Cert.ProjIdxReferenceIdeal.Facts) (hProjQ : Cert.ProjQ.Facts) (hProjQIdeal : Cert.ProjQIdeal.Facts) (hProjQReferenceIdeal : Cert.ProjQReferenceIdeal.Facts) (hProjQI : Cert.ProjQI.Facts) (hProjQIIdeal : Cert.ProjQIIdeal.Facts) (hProjQIReferenceIdeal : Cert.ProjQIReferenceIdeal.Facts) (hRetention : Cert.Retention.Facts) (hRetentionIdeal : Cert.RetentionIdeal.Facts) (hRetentionReferenceIdeal : Cert.RetentionReferenceIdeal.Facts) (hPre_up_tables : Cert.Pre_up_tables.Facts) (hPre_down_tables : Cert.Pre_down_tables.Facts),
    quiescent_ProjTail (hProjTail := hProjTail)
    ∧ quiescent_ProjTailIdeal (hProjTailIdeal := hProjTailIdeal)
    ∧ quiescent_ProjTailReferenceIdeal (hProjTailReferenceIdeal := hProjTailReferenceIdeal)
    ∧ quiescent_MoeGateUp (hMoeGateUp := hMoeGateUp) (hPre_up_tables := hPre_up_tables)
    ∧ quiescent_MoeGateUpIdeal (hMoeGateUpIdeal := hMoeGateUpIdeal) (hPre_up_tables := hPre_up_tables)
    ∧ quiescent_MoeGateUpReferenceIdeal (hMoeGateUpReferenceIdeal := hMoeGateUpReferenceIdeal) (hPre_up_tables := hPre_up_tables)
    ∧ quiescent_MoeDown (hMoeDown := hMoeDown) (hPre_down_tables := hPre_down_tables)
    ∧ quiescent_MoeDownIdeal (hMoeDownIdeal := hMoeDownIdeal) (hPre_down_tables := hPre_down_tables)
    ∧ quiescent_MoeDownReferenceIdeal (hMoeDownReferenceIdeal := hMoeDownReferenceIdeal) (hPre_down_tables := hPre_down_tables)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MatmulNorm (hMatmulNorm := hMatmulNorm)
    ∧ quiescent_MatmulNormIdeal (hMatmulNormIdeal := hMatmulNormIdeal)
    ∧ quiescent_MatmulNormReferenceIdeal (hMatmulNormReferenceIdeal := hMatmulNormReferenceIdeal)
    ∧ quiescent_ProjK (hProjK := hProjK)
    ∧ quiescent_ProjKIdeal (hProjKIdeal := hProjKIdeal)
    ∧ quiescent_ProjKReferenceIdeal (hProjKReferenceIdeal := hProjKReferenceIdeal)
    ∧ quiescent_ProjV (hProjV := hProjV)
    ∧ quiescent_ProjVIdeal (hProjVIdeal := hProjVIdeal)
    ∧ quiescent_ProjVReferenceIdeal (hProjVReferenceIdeal := hProjVReferenceIdeal)
    ∧ quiescent_ProjIdx (hProjIdx := hProjIdx)
    ∧ quiescent_ProjIdxIdeal (hProjIdxIdeal := hProjIdxIdeal)
    ∧ quiescent_ProjIdxReferenceIdeal (hProjIdxReferenceIdeal := hProjIdxReferenceIdeal)
    ∧ quiescent_ProjQ (hProjQ := hProjQ)
    ∧ quiescent_ProjQIdeal (hProjQIdeal := hProjQIdeal)
    ∧ quiescent_ProjQReferenceIdeal (hProjQReferenceIdeal := hProjQReferenceIdeal)
    ∧ quiescent_ProjQI (hProjQI := hProjQI)
    ∧ quiescent_ProjQIIdeal (hProjQIIdeal := hProjQIIdeal)
    ∧ quiescent_ProjQIReferenceIdeal (hProjQIReferenceIdeal := hProjQIReferenceIdeal)
    ∧ quiescent_Retention (hRetention := hRetention)
    ∧ quiescent_RetentionIdeal (hRetentionIdeal := hRetentionIdeal)
    ∧ quiescent_RetentionReferenceIdeal (hRetentionReferenceIdeal := hRetentionReferenceIdeal)
    ∧ preserves_ProjTail_ProjTailIdeal
    ∧ algebraic_ProjTailIdeal_ProjTailReferenceIdeal (hProjTailIdeal := hProjTailIdeal) (hProjTailReferenceIdeal := hProjTailReferenceIdeal)
    ∧ preserves_MoeGateUp_MoeGateUpIdeal
    ∧ algebraic_MoeGateUpIdeal_MoeGateUpReferenceIdeal (hMoeGateUpIdeal := hMoeGateUpIdeal) (hMoeGateUpReferenceIdeal := hMoeGateUpReferenceIdeal) (hPre_up_tables := hPre_up_tables)
    ∧ preserves_MoeDown_MoeDownIdeal
    ∧ algebraic_MoeDownIdeal_MoeDownReferenceIdeal (hMoeDownIdeal := hMoeDownIdeal) (hMoeDownReferenceIdeal := hMoeDownReferenceIdeal) (hPre_down_tables := hPre_down_tables)
    ∧ preserves_GateUp_GateUpIdeal
    ∧ algebraic_GateUpIdeal_GateUpReferenceIdeal (hGateUpIdeal := hGateUpIdeal) (hGateUpReferenceIdeal := hGateUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_Merge_MergeIdeal
    ∧ algebraic_MergeIdeal_MergeReferenceIdeal (hMergeIdeal := hMergeIdeal) (hMergeReferenceIdeal := hMergeReferenceIdeal)
    ∧ preserves_MatmulNorm_MatmulNormIdeal
    ∧ algebraic_MatmulNormIdeal_MatmulNormReferenceIdeal (hMatmulNormIdeal := hMatmulNormIdeal) (hMatmulNormReferenceIdeal := hMatmulNormReferenceIdeal)
    ∧ preserves_ProjK_ProjKIdeal
    ∧ algebraic_ProjKIdeal_ProjKReferenceIdeal (hProjKIdeal := hProjKIdeal) (hProjKReferenceIdeal := hProjKReferenceIdeal)
    ∧ preserves_ProjV_ProjVIdeal
    ∧ algebraic_ProjVIdeal_ProjVReferenceIdeal (hProjVIdeal := hProjVIdeal) (hProjVReferenceIdeal := hProjVReferenceIdeal)
    ∧ preserves_ProjIdx_ProjIdxIdeal
    ∧ algebraic_ProjIdxIdeal_ProjIdxReferenceIdeal (hProjIdxIdeal := hProjIdxIdeal) (hProjIdxReferenceIdeal := hProjIdxReferenceIdeal)
    ∧ preserves_ProjQ_ProjQIdeal
    ∧ algebraic_ProjQIdeal_ProjQReferenceIdeal (hProjQIdeal := hProjQIdeal) (hProjQReferenceIdeal := hProjQReferenceIdeal)
    ∧ preserves_ProjQI_ProjQIIdeal
    ∧ algebraic_ProjQIIdeal_ProjQIReferenceIdeal (hProjQIIdeal := hProjQIIdeal) (hProjQIReferenceIdeal := hProjQIReferenceIdeal)
    ∧ preserves_Retention_RetentionIdeal
    ∧ algebraic_RetentionIdeal_RetentionReferenceIdeal (hRetentionIdeal := hRetentionIdeal) (hRetentionReferenceIdeal := hRetentionReferenceIdeal)
-- ==== Pre_down_tables.lean ====
abbrev S46 : Shape := ⟨1, ![46]⟩
abbrev S1 : Shape := ⟨1, ![1]⟩
abbrev S23552x5632 : Shape := ⟨2, ![23552, 5632]⟩
abbrev S1x8x5632x2048 : Shape := ⟨4, ![1, 8, 5632, 2048]⟩
abbrev S_ : Shape := ⟨0, ![]⟩

class Facts : Prop where
  bcast_S_S46 : S_.BroadcastsInDim S46 (![] : Fin 0 → Fin S46.rank)
  bcast_S_S1 : S_.BroadcastsInDim S1 (![] : Fin 0 → Fin S1.rank)

variable [Facts]

def fn {F : FTy → Type} [FloatOps F] (main_arg0 : IVec S46 32) (main_arg1 : IVec S1 32) (main_arg2 : FVec F S23552x5632 .bf16) (main_arg3 : FVec F S1x8x5632x2048 .f32) : IVec S46 1 × IVec S1 1 :=
  let main_c : IVec S_ 32 := constantI S_ 32 0#32
  let main_v0 : IVec S46 32 := broadcastInDim S46 ![] bcast_S_S46 main_c
  let main_v1 : IVec S46 1 := cmpi .sge main_arg0 main_v0
  let main_c_0 : IVec S_ 32 := constantI S_ 32 8#32
  let main_v2 : IVec S46 32 := broadcastInDim S46 ![] bcast_S_S46 main_c_0
  let main_v3 : IVec S46 1 := cmpi .slt main_arg0 main_v2
  let main_v4 : IVec S46 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 46#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_up_tables.lean ====
abbrev S46 : Shape := ⟨1, ![46]⟩
abbrev S1 : Shape := ⟨1, ![1]⟩
abbrev S23552x2048 : Shape := ⟨2, ![23552, 2048]⟩
abbrev S1x8x2048x5632 : Shape := ⟨4, ![1, 8, 2048, 5632]⟩
abbrev S_ : Shape := ⟨0, ![]⟩

class Facts : Prop where
  bcast_S_S46 : S_.BroadcastsInDim S46 (![] : Fin 0 → Fin S46.rank)
  bcast_S_S1 : S_.BroadcastsInDim S1 (![] : Fin 0 → Fin S1.rank)

variable [Facts]

def fn {F : FTy → Type} [FloatOps F] (main_arg0 : IVec S46 32) (main_arg1 : IVec S1 32) (main_arg2 : FVec F S23552x2048 .bf16) (main_arg3 : FVec F S1x8x2048x5632 .f32) (main_arg4 : FVec F S1x8x2048x5632 .f32) : IVec S46 1 × IVec S1 1 :=
  let main_c : IVec S_ 32 := constantI S_ 32 0#32
  let main_v0 : IVec S46 32 := broadcastInDim S46 ![] bcast_S_S46 main_c
  let main_v1 : IVec S46 1 := cmpi .sge main_arg0 main_v0
  let main_c_0 : IVec S_ 32 := constantI S_ 32 8#32
  let main_v2 : IVec S46 32 := broadcastInDim S46 ![] bcast_S_S46 main_c_0
  let main_v3 : IVec S46 1 := cmpi .slt main_arg0 main_v2
  let main_v4 : IVec S46 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 46#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== ProjTail.lean ====
abbrev S9728x2048 : Shape := ⟨2, ![9728, 2048]⟩
abbrev S2x2048x9296 : Shape := ⟨3, ![2, 2048, 9296]⟩
abbrev S2x9296x2048 : Shape := ⟨3, ![2, 9296, 2048]⟩
abbrev S9728x5120 : Shape := ⟨2, ![9728, 5120]⟩
abbrev S512x2048 : Shape := ⟨2, ![512, 2048]⟩
abbrev S1x1024x2048 : Shape := ⟨3, ![1, 1024, 2048]⟩
abbrev S512x1024 : Shape := ⟨2, ![512, 1024]⟩
abbrev S2048x1024 : Shape := ⟨2, ![2048, 1024]⟩
abbrev S1024x2048 : Shape := ⟨2, ![1024, 2048]⟩
abbrev S9728x1024 : Shape := ⟨2, ![9728, 1024]⟩
abbrev S8704x1024 : Shape := ⟨2, ![8704, 1024]⟩
abbrev S2x4352x1024 : Shape := ⟨3, ![2, 4352, 1024]⟩
abbrev S2x4112x1024 : Shape := ⟨3, ![2, 4112, 1024]⟩
abbrev S2x15x1024 : Shape := ⟨3, ![2, 15, 1024]⟩
abbrev S1024x1024 : Shape := ⟨2, ![1024, 1024]⟩
abbrev S16x64x1024 : Shape := ⟨3, ![16, 64, 1024]⟩
abbrev S16x15x1024 : Shape := ⟨3, ![16, 15, 1024]⟩

abbrev nBuf : Space → Nat
  | .hbm => 12
  | .vmem => 7
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S2x9296x2048, .f32⟩
  | .hbm, ⟨3, _⟩ => ⟨S9728x5120, .f32⟩
  | .hbm, ⟨4, _⟩ => ⟨S9728x1024, .f32⟩
  | .hbm, ⟨5, _⟩ => ⟨S8704x1024, .f32⟩
  | .hbm, ⟨6, _⟩ => ⟨S2x4352x1024, .f32⟩
  | .hbm, ⟨7, _⟩ => ⟨S2x4112x1024, .f32⟩
  | .hbm, ⟨8, _⟩ => ⟨S2x15x1024, .f32⟩
  | .hbm, ⟨9, _⟩ => ⟨S1024x1024, .f32⟩
  | .hbm, ⟨10, _⟩ => ⟨S16x64x1024, .f32⟩
  | .hbm, ⟨11, _⟩ => ⟨S16x15x1024, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S9728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 19], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  let c4176_i32 : BitVec 32 := 4176#32
  let v1 : BitVec 32 := Scalar.addi v0 c4176_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4176_i32 : BitVec 32 := 4176#32
  let v1 : BitVec 32 := Scalar.addi v0 c4176_i32
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjTailReferenceIdeal.lean ====
abbrev S9728x2048 : Shape := ⟨2, ![9728, 2048]⟩
abbrev S2x2048x9296 : Shape := ⟨3, ![2, 2048, 9296]⟩
abbrev S1x2048x9296 : Shape := ⟨3, ![1, 2048, 9296]⟩
abbrev S2048x9296 : Shape := ⟨2, ![2048, 9296]⟩
abbrev S9728x9296 : Shape := ⟨2, ![9728, 9296]⟩
abbrev S9728x1024 : Shape := ⟨2, ![9728, 1024]⟩
abbrev S8704x1024 : Shape := ⟨2, ![8704, 1024]⟩
abbrev S2x4352x1024 : Shape := ⟨3, ![2, 4352, 1024]⟩
abbrev S2x15x1024 : Shape := ⟨3, ![2, 15, 1024]⟩
abbrev S1024x1024 : Shape := ⟨2, ![1024, 1024]⟩
abbrev S16x64x1024 : Shape := ⟨3, ![16, 64, 1024]⟩
abbrev S16x15x1024 : Shape := ⟨3, ![16, 15, 1024]⟩
abbrev S9728x5120 : Shape := ⟨2, ![9728, 5120]⟩

abbrev nBuf : Space → Nat
  | .hbm => 14
  | .vmem => 0
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S9728x2048, .f32⟩
  | .hbm, ⟨3, _⟩ => ⟨S1x2048x9296, .f32⟩
  | .hbm, ⟨4, _⟩ => ⟨S2048x9296, .f32⟩
  | .hbm, ⟨5, _⟩ => ⟨S9728x9296, .f32⟩
  | .hbm, ⟨6, _⟩ => ⟨S9728x1024, .f32⟩
  | .hbm, ⟨7, _⟩ => ⟨S8704x1024, .f32⟩
  | .hbm, ⟨8, _⟩ => ⟨S2x4352x1024, .f32⟩
  | .hbm, ⟨9, _⟩ => ⟨S2x15x1024, .f32⟩
  | .hbm, ⟨10, _⟩ => ⟨S1024x1024, .f32⟩
  | .hbm, ⟨11, _⟩ => ⟨S16x64x1024, .f32⟩
  | .hbm, ⟨12, _⟩ => ⟨S16x15x1024, .f32⟩
  | .hbm, ⟨13, _⟩ => ⟨S9728x5120, .f32⟩
  | _, _ => ⟨S9728x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== MoeGateUp.lean ====
abbrev S46 : Shape := ⟨1, ![46]⟩
abbrev S1 : Shape := ⟨1, ![1]⟩
abbrev S23552x2048 : Shape := ⟨2, ![23552, 2048]⟩
abbrev S1x8x2048x5632 : Shape := ⟨4, ![1, 8, 2048, 5632]⟩
abbrev S23552x5632 : Shape := ⟨2, ![23552, 5632]⟩
abbrev S512x2048 : Shape := ⟨2, ![512, 2048]⟩
abbrev S1x1x2048x512 : Shape := ⟨4, ![1, 1, 2048, 512]⟩
abbrev S512x512 : Shape := ⟨2, ![512, 512]⟩
abbrev S2048x512 : Shape := ⟨2, ![2048, 512]⟩

abbrev nBuf : Space → Nat
  | .hbm => 4
  | .vmem => 10
  | .smem => 2
  | _ => 0

abbrev bufTy : (tb : Table) → Fin (tcTables nBuf tb) → BufTy
  | .hbm, ⟨0, _⟩ => ⟨S23552x2048, .bf16⟩
  | .hbm, ⟨1, _⟩ => ⟨S1x8x2048x5632, .f32⟩
  | .hbm, ⟨2, _⟩ => ⟨S1x8x2048x5632, .f32⟩
  | .hbm, ⟨3, _⟩ => ⟨S23552x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | .local _ .smem, ⟨0, _⟩ => ⟨S46, .i32⟩
  | .local _ .smem, ⟨1, _⟩ => ⟨S1, .i32⟩
  | _, _ => ⟨S23552x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 46], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S46) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S46) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MoeGateUpReferenceIdeal.lean ====
abbrev S46 : Shape := ⟨1, ![46]⟩
abbrev S1 : Shape := ⟨1, ![1]⟩
abbrev S23552x2048 : Shape := ⟨2, ![23552, 2048]⟩
abbrev S1x8x2048x5632 : Shape := ⟨4, ![1, 8, 2048, 5632]⟩
abbrev S8x2048x5632 : Shape := ⟨3, ![8, 2048, 5632]⟩
abbrev S8x5632x23552 : Shape := ⟨3, ![8, 5632, 23552]⟩
abbrev S8x23552x5632 : Shape := ⟨3, ![8, 23552, 5632]⟩
abbrev S_ : Shape := ⟨0, ![]⟩
abbrev S46x512 : Shape := ⟨2, ![46, 512]⟩
abbrev S23552 : Shape := ⟨1, ![23552]⟩
abbrev S1x23552 : Shape := ⟨2, ![1, 23552]⟩
abbrev S8 : Shape := ⟨1, ![8]⟩
abbrev S8x1 : Shape := ⟨2, ![8, 1]⟩
abbrev S8x23552 : Shape := ⟨2, ![8, 23552]⟩
abbrev S8x23552x1 : Shape := ⟨3, ![8, 23552, 1]⟩
abbrev S23552x5632 : Shape := ⟨2, ![23552, 5632]⟩

abbrev nBuf : Space → Nat
  | .hbm => 48
  | .vmem => 0
  | .smem => 0
  | _ => 0

abbrev bufTy : (tb : Table) → Fin (tcTables nBuf tb) → BufTy
  | .hbm, ⟨0, _⟩ => ⟨S46, .i32⟩
  | .hbm, ⟨1, _⟩ => ⟨S1, .i32⟩
  | .hbm, ⟨2, _⟩ => ⟨S23552x2048, .bf16⟩
  | .hbm, ⟨3, _⟩ => ⟨S1x8x2048x5632, .f32⟩
  | .hbm, ⟨4, _⟩ => ⟨S1x8x2048x5632, .f32⟩
  | .hbm, ⟨5, _⟩ => ⟨S23552x2048, .f32⟩
  | .hbm, ⟨6, _⟩ => ⟨S8x2048x5632, .f32⟩
  | .hbm, ⟨7, _⟩ => ⟨S8x5632x23552, .f32⟩
  | .hbm, ⟨8, _⟩ => ⟨S8x23552x5632, .f32⟩
  | .hbm, ⟨9, _⟩ => ⟨S8x2048x5632, .f32⟩
  | .hbm, ⟨10, _⟩ => ⟨S8x5632x23552, .f32⟩
  | .hbm, ⟨11, _⟩ => ⟨S8x23552x5632, .f32⟩
  | .hbm, ⟨12, _⟩ => ⟨S8x23552x5632, .f32⟩
  | .hbm, ⟨13, _⟩ => ⟨S8x23552x5632, .f32⟩
  | .hbm, ⟨14, _⟩ => ⟨S_, .f32⟩
  | .hbm, ⟨15, _⟩ => ⟨S8x23552x5632, .f32⟩
  | .hbm, ⟨16, _⟩ => ⟨S8x23552x5632, .f32⟩
  | .hbm, ⟨17, _⟩ => ⟨S_, .f32⟩
  | .hbm, ⟨18, _⟩ => ⟨S8x23552x5632, .f32⟩
  | .hbm, ⟨19, _⟩ => ⟨S8x23552x5632, .f32⟩
  | .hbm, ⟨20, _⟩ => ⟨S8x23552x5632, .f32⟩
  | .hbm, ⟨21, _⟩ => ⟨S8x23552x5632, .f32⟩
  | .hbm, ⟨22, _⟩ => ⟨S46x512, .i32⟩
  | .hbm, ⟨23, _⟩ => ⟨S23552, .i32⟩
  | .hbm, ⟨24, _⟩ => ⟨S23552, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S23552, .i32⟩
  | .hbm, ⟨29, _⟩ => ⟨S23552, .i1⟩
  | .hbm, ⟨30, _⟩ => ⟨S1x23552, .i32⟩
  | .hbm, ⟨31, _⟩ => ⟨S8, .i32⟩
  | .hbm, ⟨32, _⟩ => ⟨S8x1, .i32⟩
  | .hbm, ⟨33, _⟩ => ⟨S8x23552, .i32⟩
  | .hbm, ⟨34, _⟩ => ⟨S8x23552, .i32⟩
  | .hbm, ⟨35, _⟩ => ⟨S8x23552, .i1⟩
  | .hbm, ⟨36, _⟩ => ⟨S1x23552, .i1⟩
  | .hbm, ⟨37, _⟩ => ⟨S8x23552, .i1⟩
  | .hbm, ⟨38, _⟩ => ⟨S8x23552, .i1⟩
  | .hbm, ⟨39, _⟩ => ⟨S8x23552x1, .i1⟩
  | .hbm, ⟨40, _⟩ => ⟨S_, .f32⟩
  | .hbm, ⟨41, _⟩ => ⟨S_, .f32⟩
  | .hbm, ⟨42, _⟩ => ⟨S8x23552x5632, .i1⟩
  | .hbm, ⟨43, _⟩ => ⟨S8x23552x5632, .f32⟩
  | .hbm, ⟨44, _⟩ => ⟨S8x23552x5632, .f32⟩
  | .hbm, ⟨45, _⟩ => ⟨S_, .f32⟩
  | .hbm, ⟨46, _⟩ => ⟨S23552x5632, .f32⟩
  | .hbm, ⟨47, _⟩ => ⟨S23552x5632, .bf16⟩
  | _, _ => ⟨S46, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== MoeDown.lean ====
abbrev S46 : Shape := ⟨1, ![46]⟩
abbrev S1 : Shape := ⟨1, ![1]⟩
abbrev S23552x5632 : Shape := ⟨2, ![23552, 5632]⟩
abbrev S1x8x5632x2048 : Shape := ⟨4, ![1, 8, 5632, 2048]⟩
abbrev S23552x2048 : Shape := ⟨2, ![23552, 2048]⟩
abbrev S512x5632 : Shape := ⟨2, ![512, 5632]⟩
abbrev S1x1x5632x512 : Shape := ⟨4, ![1, 1, 5632, 512]⟩
abbrev S512x512 : Shape := ⟨2, ![512, 512]⟩
abbrev S5632x512 : Shape := ⟨2, ![5632, 512]⟩

abbrev nBuf : Space → Nat
  | .hbm => 3
  | .vmem => 7
  | .smem => 2
  | _ => 0

abbrev bufTy : (tb : Table) → Fin (tcTables nBuf tb) → BufTy
  | .hbm, ⟨0, _⟩ => ⟨S23552x5632, .bf16⟩
  | .hbm, ⟨1, _⟩ => ⟨S1x8x5632x2048, .f32⟩
  | .hbm, ⟨2, _⟩ => ⟨S23552x2048, .f32⟩
  | .local _ .vmem, ⟨0, _⟩ => ⟨S512x5632, .bf16⟩
  | .local _ .vmem, ⟨1, _⟩ => ⟨S512x5632, .bf16⟩
  | .local _ .vmem, ⟨2, _⟩ => ⟨S1x1x5632x512, .f32⟩
  | .local _ .vmem, ⟨3, _⟩ => ⟨S1x1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | .local _ .smem, ⟨0, _⟩ => ⟨S46, .i32⟩
  | .local _ .smem, ⟨1, _⟩ => ⟨S1, .i32⟩
  | _, _ => ⟨S23552x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 46], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S46) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoeDownReferenceIdeal.lean ====
abbrev S46 : Shape := ⟨1, ![46]⟩
abbrev S1 : Shape := ⟨1, ![1]⟩
abbrev S23552x5632 : Shape := ⟨2, ![23552, 5632]⟩
abbrev S1x8x5632x2048 : Shape := ⟨4, ![1, 8, 5632, 2048]⟩
abbrev S8x5632x2048 : Shape := ⟨3, ![8, 5632, 2048]⟩
abbrev S8x2048x23552 : Shape := ⟨3, ![8, 2048, 23552]⟩
abbrev S8x23552x2048 : Shape := ⟨3, ![8, 23552, 2048]⟩
abbrev S46x512 : Shape := ⟨2, ![46, 512]⟩
abbrev S23552 : Shape := ⟨1, ![23552]⟩
abbrev S_ : Shape := ⟨0, ![]⟩
abbrev S1x23552 : Shape := ⟨2, ![1, 23552]⟩
abbrev S8 : Shape := ⟨1, ![8]⟩
abbrev S8x1 : Shape := ⟨2, ![8, 1]⟩
abbrev S8x23552 : Shape := ⟨2, ![8, 23552]⟩
abbrev S8x23552x1 : Shape := ⟨3, ![8, 23552, 1]⟩
abbrev S23552x2048 : Shape := ⟨2, ![23552, 2048]⟩

abbrev nBuf : Space → Nat
  | .hbm => 33
  | .vmem => 0
  | .smem => 0
  | _ => 0

abbrev bufTy : (tb : Table) → Fin (tcTables nBuf tb) → BufTy
  | .hbm, ⟨0, _⟩ => ⟨S46, .i32⟩
  | .hbm, ⟨1, _⟩ => ⟨S1, .i32⟩
  | .hbm, ⟨2, _⟩ => ⟨S23552x5632, .bf16⟩
  | .hbm, ⟨3, _⟩ => ⟨S1x8x5632x2048, .f32⟩
  | .hbm, ⟨4, _⟩ => ⟨S23552x5632, .f32⟩
  | .hbm, ⟨5, _⟩ => ⟨S8x5632x2048, .f32⟩
  | .hbm, ⟨6, _⟩ => ⟨S8x2048x23552, .f32⟩
  | .hbm, ⟨7, _⟩ => ⟨S8x23552x2048, .f32⟩
  | .hbm, ⟨8, _⟩ => ⟨S46x512, .i32⟩
  | .hbm, ⟨9, _⟩ => ⟨S23552, .i32⟩
  | .hbm, ⟨10, _⟩ => ⟨S23552, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S23552, .i32⟩
  | .hbm, ⟨15, _⟩ => ⟨S23552, .i1⟩
  | .hbm, ⟨16, _⟩ => ⟨S1x23552, .i32⟩
  | .hbm, ⟨17, _⟩ => ⟨S8, .i32⟩
  | .hbm, ⟨18, _⟩ => ⟨S8x1, .i32⟩
  | .hbm, ⟨19, _⟩ => ⟨S8x23552, .i32⟩
  | .hbm, ⟨20, _⟩ => ⟨S8x23552, .i32⟩
  | .hbm, ⟨21, _⟩ => ⟨S8x23552, .i1⟩
  | .hbm, ⟨22, _⟩ => ⟨S1x23552, .i1⟩
  | .hbm, ⟨23, _⟩ => ⟨S8x23552, .i1⟩
  | .hbm, ⟨24, _⟩ => ⟨S8x23552, .i1⟩
  | .hbm, ⟨25, _⟩ => ⟨S8x23552x1, .i1⟩
  | .hbm, ⟨26, _⟩ => ⟨S_, .f32⟩
  | .hbm, ⟨27, _⟩ => ⟨S_, .f32⟩
  | .hbm, ⟨28, _⟩ => ⟨S8x23552x2048, .i1⟩
  | .hbm, ⟨29, _⟩ => ⟨S8x23552x2048, .f32⟩
  | .hbm, ⟨30, _⟩ => ⟨S8x23552x2048, .f32⟩
  | .hbm, ⟨31, _⟩ => ⟨S_, .f32⟩
  | .hbm, ⟨32, _⟩ => ⟨S23552x2048, .f32⟩
  | _, _ => ⟨S46, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== GateUp.lean ====
abbrev S9728x2048 : Shape := ⟨2, ![9728, 2048]⟩
abbrev S1x2048x5632 : Shape := ⟨3, ![1, 2048, 5632]⟩
abbrev S9728x5632 : Shape := ⟨2, ![9728, 5632]⟩
abbrev S512x2048 : Shape := ⟨2, ![512, 2048]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S9728x2048, .bf16⟩
  | .hbm, ⟨1, _⟩ => ⟨S1x2048x5632, .f32⟩
  | .hbm, ⟨2, _⟩ => ⟨S1x2048x5632, .f32⟩
  | .hbm, ⟨3, _⟩ => ⟨S9728x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S512x512, .bf16⟩
  | .local _ .vmem, ⟨7, _⟩ => ⟨S512x512, .bf16⟩
  | .local _ .vmem, ⟨8, _⟩ => ⟨S2048x512, .bf16⟩
  | .local _ .vmem, ⟨9, _⟩ => ⟨S2048x512, .bf16⟩
  | _, _ => ⟨S9728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpReferenceIdeal.lean ====
abbrev S9728x2048 : Shape := ⟨2, ![9728, 2048]⟩
abbrev S1x2048x5632 : Shape := ⟨3, ![1, 2048, 5632]⟩
abbrev S2048x5632 : Shape := ⟨2, ![2048, 5632]⟩
abbrev S9728x5632 : Shape := ⟨2, ![9728, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S9728x2048, .bf16⟩
  | .hbm, ⟨1, _⟩ => ⟨S1x2048x5632, .f32⟩
  | .hbm, ⟨2, _⟩ => ⟨S1x2048x5632, .f32⟩
  | .hbm, ⟨3, _⟩ => ⟨S9728x2048, .f32⟩
  | .hbm, ⟨4, _⟩ => ⟨S2048x5632, .f32⟩
  | .hbm, ⟨5, _⟩ => ⟨S9728x5632, .f32⟩
  | .hbm, ⟨6, _⟩ => ⟨S9728x5632, .f32⟩
  | .hbm, ⟨7, _⟩ => ⟨S9728x5632, .f32⟩
  | .hbm, ⟨8, _⟩ => ⟨S_, .f32⟩
  | .hbm, ⟨9, _⟩ => ⟨S9728x5632, .f32⟩
  | .hbm, ⟨10, _⟩ => ⟨S9728x5632, .f32⟩
  | .hbm, ⟨11, _⟩ => ⟨S_, .f32⟩
  | .hbm, ⟨12, _⟩ => ⟨S9728x5632, .f32⟩
  | .hbm, ⟨13, _⟩ => ⟨S9728x5632, .f32⟩
  | .hbm, ⟨14, _⟩ => ⟨S9728x5632, .f32⟩
  | .hbm, ⟨15, _⟩ => ⟨S2048x5632, .f32⟩
  | .hbm, ⟨16, _⟩ => ⟨S9728x5632, .f32⟩
  | .hbm, ⟨17, _⟩ => ⟨S9728x5632, .f32⟩
  | .hbm, ⟨18, _⟩ => ⟨S9728x5632, .bf16⟩
  | _, _ => ⟨S9728x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== FfnDown.lean ====
abbrev S9728x5632 : Shape := ⟨2, ![9728, 5632]⟩
abbrev S1x5632x2048 : Shape := ⟨3, ![1, 5632, 2048]⟩
abbrev S9728x2048 : Shape := ⟨2, ![9728, 2048]⟩
abbrev S512x5632 : Shape := ⟨2, ![512, 5632]⟩
abbrev S1x5632x512 : Shape := ⟨3, ![1, 5632, 512]⟩
abbrev S512x512 : Shape := ⟨2, ![512, 512]⟩
abbrev S5632x512 : Shape := ⟨2, ![5632, 512]⟩

abbrev nBuf : Space → Nat
  | .hbm => 3
  | .vmem => 7
  | .smem => 0
  | _ => 0

abbrev bufTy : (tb : Table) → Fin (tcTables nBuf tb) → BufTy
  | .hbm, ⟨0, _⟩ => ⟨S9728x5632, .bf16⟩
  | .hbm, ⟨1, _⟩ => ⟨S1x5632x2048, .f32⟩
  | .hbm, ⟨2, _⟩ => ⟨S9728x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S5632x512, .bf16⟩
  | _, _ => ⟨S9728x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownReferenceIdeal.lean ====
abbrev S9728x5632 : Shape := ⟨2, ![9728, 5632]⟩
abbrev S1x5632x2048 : Shape := ⟨3, ![1, 5632, 2048]⟩
abbrev S5632x2048 : Shape := ⟨2, ![5632, 2048]⟩
abbrev S9728x2048 : Shape := ⟨2, ![9728, 2048]⟩

abbrev nBuf : Space → Nat
  | .hbm => 5
  | .vmem => 0
  | .smem => 0
  | _ => 0

abbrev bufTy : (tb : Table) → Fin (tcTables nBuf tb) → BufTy
  | .hbm, ⟨0, _⟩ => ⟨S9728x5632, .bf16⟩
  | .hbm, ⟨1, _⟩ => ⟨S1x5632x2048, .f32⟩
  | .hbm, ⟨2, _⟩ => ⟨S9728x5632, .f32⟩
  | .hbm, ⟨3, _⟩ => ⟨S5632x2048, .f32⟩
  | .hbm, ⟨4, _⟩ => ⟨S9728x2048, .f32⟩
  | _, _ => ⟨S9728x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S9728x2048 : Shape := ⟨2, ![9728, 2048]⟩
abbrev S9728x1024 : Shape := ⟨2, ![9728, 1024]⟩
abbrev S2x3x1024x2048 : Shape := ⟨4, ![2, 3, 1024, 2048]⟩
abbrev S2x2048x6144 : Shape := ⟨3, ![2, 2048, 6144]⟩
abbrev S2x6144 : Shape := ⟨2, ![2, 6144]⟩
abbrev S2x1x6144 : Shape := ⟨3, ![2, 1, 6144]⟩
abbrev S512x2048 : Shape := ⟨2, ![512, 2048]⟩
abbrev S512x1024 : Shape := ⟨2, ![512, 1024]⟩
abbrev S1x2048x256 : Shape := ⟨3, ![1, 2048, 256]⟩
abbrev S1x1x1024x256 : Shape := ⟨4, ![1, 1, 1024, 256]⟩
abbrev S1x1x256 : Shape := ⟨3, ![1, 1, 256]⟩
abbrev S512x256 : Shape := ⟨2, ![512, 256]⟩
abbrev S3x2048x256 : Shape := ⟨3, ![3, 2048, 256]⟩
abbrev S3x1024x256 : Shape := ⟨3, ![3, 1024, 256]⟩
abbrev S2048x256 : Shape := ⟨2, ![2048, 256]⟩
abbrev S1024x256 : Shape := ⟨2, ![1024, 256]⟩
abbrev S1x1024x256 : Shape := ⟨3, ![1, 1024, 256]⟩
abbrev S1x256 : Shape := ⟨2, ![1, 256]⟩

abbrev nBuf : Space → Nat
  | .hbm => 11
  | .vmem => 30
  | .smem => 0
  | _ => 0

abbrev bufTy : (tb : Table) → Fin (tcTables nBuf tb) → BufTy
  | .hbm, ⟨0, _⟩ => ⟨S9728x2048, .bf16⟩
  | .hbm, ⟨1, _⟩ => ⟨S9728x1024, .bf16⟩
  | .hbm, ⟨2, _⟩ => ⟨S9728x1024, .bf16⟩
  | .hbm, ⟨3, _⟩ => ⟨S9728x1024, .bf16⟩
  | .hbm, ⟨4, _⟩ => ⟨S2x3x1024x2048, .f32⟩
  | .hbm, ⟨5, _⟩ => ⟨S2x2048x6144, .f32⟩
  | .hbm, ⟨6, _⟩ => ⟨S2x6144, .f32⟩
  | .hbm, ⟨7, _⟩ => ⟨S2x1x6144, .f32⟩
  | .hbm, ⟨8, _⟩ => ⟨S2x1x6144, .f32⟩
  | .hbm, ⟨9, _⟩ => ⟨S2x1x6144, .f32⟩
  | .hbm, ⟨10, _⟩ => ⟨S9728x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x1x1024x256, .f32⟩
  | .local _ .vmem, ⟨15, _⟩ => ⟨S1x1x1024x256, .f32⟩
  | .local _ .vmem, ⟨16, _⟩ => ⟨S1x1x1024x256, .f32⟩
  | .local _ .vmem, ⟨17, _⟩ => ⟨S1x1x1024x256, .f32⟩
  | .local _ .vmem, ⟨18, _⟩ => ⟨S1x1x1024x256, .f32⟩
  | .local _ .vmem, ⟨19, _⟩ => ⟨S1x1x1024x256, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S512x256, .bf16⟩
  | .local _ .vmem, ⟨27, _⟩ => ⟨S512x256, .bf16⟩
  | .local _ .vmem, ⟨28, _⟩ => ⟨S3x2048x256, .bf16⟩
  | .local _ .vmem, ⟨29, _⟩ => ⟨S3x1024x256, .bf16⟩
  | _, _ => ⟨S9728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 19], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg0.toNat]

def cc0_transform_8 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c1_i32 : BitVec 32 := 1#32
  let c0_i32 : BitVec 32 := 0#32
  let c0_i32_0 : BitVec 32 := 0#32
  ![c1_i32.toNat, c0_i32.toNat, v0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c1_i32 : BitVec 32 := 1#32
  let c0_i32 : BitVec 32 := 0#32
  let c0_i32_0 : BitVec 32 := 0#32
  ![c1_i32.toNat, c0_i32.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeReferenceIdeal.lean ====
abbrev S9728x2048 : Shape := ⟨2, ![9728, 2048]⟩
abbrev S9728x1024 : Shape := ⟨2, ![9728, 1024]⟩
abbrev S2x3x1024x2048 : Shape := ⟨4, ![2, 3, 1024, 2048]⟩
abbrev S2x2048x6144 : Shape := ⟨3, ![2, 2048, 6144]⟩
abbrev S2x6144 : Shape := ⟨2, ![2, 6144]⟩
abbrev S9728x1x1024 : Shape := ⟨3, ![9728, 1, 1024]⟩
abbrev S9728x3x1024 : Shape := ⟨3, ![9728, 3, 1024]⟩
abbrev S1x3x1024x2048 : Shape := ⟨4, ![1, 3, 1024, 2048]⟩
abbrev S3x1024x2048 : Shape := ⟨3, ![3, 1024, 2048]⟩
abbrev S3x2048x9728 : Shape := ⟨3, ![3, 2048, 9728]⟩
abbrev S9728x3x2048 : Shape := ⟨3, ![9728, 3, 2048]⟩
abbrev S1x2048x6144 : Shape := ⟨3, ![1, 2048, 6144]⟩
abbrev S2048x6144 : Shape := ⟨2, ![2048, 6144]⟩
abbrev S9728x6144 : Shape := ⟨2, ![9728, 6144]⟩
abbrev S1x6144 : Shape := ⟨2, ![1, 6144]⟩
abbrev S6144 : Shape := ⟨1, ![6144]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S9728x2048, .bf16⟩
  | .hbm, ⟨1, _⟩ => ⟨S9728x1024, .bf16⟩
  | .hbm, ⟨2, _⟩ => ⟨S9728x1024, .bf16⟩
  | .hbm, ⟨3, _⟩ => ⟨S9728x1024, .bf16⟩
  | .hbm, ⟨4, _⟩ => ⟨S2x3x1024x2048, .f32⟩
  | .hbm, ⟨5, _⟩ => ⟨S2x2048x6144, .f32⟩
  | .hbm, ⟨6, _⟩ => ⟨S2x6144, .f32⟩
  | .hbm, ⟨7, _⟩ => ⟨S9728x1024, .f32⟩
  | .hbm, ⟨8, _⟩ => ⟨S9728x1024, .f32⟩
  | .hbm, ⟨9, _⟩ => ⟨S9728x1024, .f32⟩
  | .hbm, ⟨10, _⟩ => ⟨S9728x1x1024, .f32⟩
  | .hbm, ⟨11, _⟩ => ⟨S9728x1x1024, .f32⟩
  | .hbm, ⟨12, _⟩ => ⟨S9728x1x1024, .f32⟩
  | .hbm, ⟨13, _⟩ => ⟨S9728x3x1024, .f32⟩
  | .hbm, ⟨14, _⟩ => ⟨S1x3x1024x2048, .f32⟩
  | .hbm, ⟨15, _⟩ => ⟨S3x1024x2048, .f32⟩
  | .hbm, ⟨16, _⟩ => ⟨S3x2048x9728, .f32⟩
  | .hbm, ⟨17, _⟩ => ⟨S9728x3x2048, .f32⟩
  | .hbm, ⟨18, _⟩ => ⟨S9728x2048, .f32⟩
  | .hbm, ⟨19, _⟩ => ⟨S1x2048x6144, .f32⟩
  | .hbm, ⟨20, _⟩ => ⟨S2048x6144, .f32⟩
  | .hbm, ⟨21, _⟩ => ⟨S9728x6144, .f32⟩
  | .hbm, ⟨22, _⟩ => ⟨S1x6144, .f32⟩
  | .hbm, ⟨23, _⟩ => ⟨S6144, .f32⟩
  | .hbm, ⟨24, _⟩ => ⟨S1x6144, .f32⟩
  | .hbm, ⟨25, _⟩ => ⟨S9728x6144, .f32⟩
  | .hbm, ⟨26, _⟩ => ⟨S9728x6144, .f32⟩
  | .hbm, ⟨27, _⟩ => ⟨S9728x3x2048, .f32⟩
  | .hbm, ⟨28, _⟩ => ⟨S9728x3x2048, .f32⟩
  | .hbm, ⟨29, _⟩ => ⟨S9728x3x2048, .f32⟩
  | .hbm, ⟨30, _⟩ => ⟨S_, .f32⟩
  | .hbm, ⟨31, _⟩ => ⟨S9728x3x2048, .f32⟩
  | .hbm, ⟨32, _⟩ => ⟨S9728x3x2048, .f32⟩
  | .hbm, ⟨33, _⟩ => ⟨S_, .f32⟩
  | .hbm, ⟨34, _⟩ => ⟨S9728x3x2048, .f32⟩
  | .hbm, ⟨35, _⟩ => ⟨S9728x3x2048, .f32⟩
  | .hbm, ⟨36, _⟩ => ⟨S9728x3x2048, .f32⟩
  | .hbm, ⟨37, _⟩ => ⟨S_, .f32⟩
  | .hbm, ⟨38, _⟩ => ⟨S9728x2048, .f32⟩
  | .hbm, ⟨39, _⟩ => ⟨S9728x2048, .bf16⟩
  | _, _ => ⟨S9728x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== MatmulNorm.lean ====
abbrev S9728x2048 : Shape := ⟨2, ![9728, 2048]⟩
abbrev S2x2048x2048 : Shape := ⟨3, ![2, 2048, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S1x2048x2048 : Shape := ⟨3, ![1, 2048, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S9728x2048, .bf16⟩
  | .hbm, ⟨1, _⟩ => ⟨S2x2048x2048, .f32⟩
  | .hbm, ⟨2, _⟩ => ⟨S9728x2048, .f32⟩
  | .hbm, ⟨3, _⟩ => ⟨S2x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S9728x2048, .f32⟩
  | .hbm, ⟨12, _⟩ => ⟨S9728x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x2048, .f32⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S2048x2048, .bf16⟩
  | _, _ => ⟨S9728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![38], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MatmulNormReferenceIdeal.lean ====
abbrev S9728x2048 : Shape := ⟨2, ![9728, 2048]⟩
abbrev S2x2048x2048 : Shape := ⟨3, ![2, 2048, 2048]⟩
abbrev S2x2048 : Shape := ⟨2, ![2, 2048]⟩
abbrev S_ : Shape := ⟨0, ![]⟩
abbrev S1x2048x2048 : Shape := ⟨3, ![1, 2048, 2048]⟩
abbrev S2048x2048 : Shape := ⟨2, ![2048, 2048]⟩
abbrev S9728 : Shape := ⟨1, ![9728]⟩
abbrev S9728x1 : Shape := ⟨2, ![9728, 1]⟩
abbrev S1x2048 : Shape := ⟨2, ![1, 2048]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S9728x2048, .bf16⟩
  | .hbm, ⟨1, _⟩ => ⟨S2x2048x2048, .f32⟩
  | .hbm, ⟨2, _⟩ => ⟨S9728x2048, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S9728x2048, .f32⟩
  | .hbm, ⟨7, _⟩ => ⟨S9728x2048, .f32⟩
  | .hbm, ⟨8, _⟩ => ⟨S9728x2048, .f32⟩
  | .hbm, ⟨9, _⟩ => ⟨S1x2048x2048, .f32⟩
  | .hbm, ⟨10, _⟩ => ⟨S2048x2048, .f32⟩
  | .hbm, ⟨11, _⟩ => ⟨S9728x2048, .f32⟩
  | .hbm, ⟨12, _⟩ => ⟨S9728x2048, .f32⟩
  | .hbm, ⟨13, _⟩ => ⟨S_, .f32⟩
  | .hbm, ⟨14, _⟩ => ⟨S9728, .f32⟩
  | .hbm, ⟨15, _⟩ => ⟨S9728x1, .f32⟩
  | .hbm, ⟨16, _⟩ => ⟨S_, .f32⟩
  | .hbm, ⟨17, _⟩ => ⟨S9728x1, .f32⟩
  | .hbm, ⟨18, _⟩ => ⟨S9728x1, .f32⟩
  | .hbm, ⟨19, _⟩ => ⟨S9728x2048, .f32⟩
  | .hbm, ⟨20, _⟩ => ⟨S9728x2048, .f32⟩
  | .hbm, ⟨21, _⟩ => ⟨S9728x2048, .f32⟩
  | .hbm, ⟨22, _⟩ => ⟨S_, .f32⟩
  | .hbm, ⟨23, _⟩ => ⟨S9728, .f32⟩
  | .hbm, ⟨24, _⟩ => ⟨S9728x1, .f32⟩
  | .hbm, ⟨25, _⟩ => ⟨S_, .f32⟩
  | .hbm, ⟨26, _⟩ => ⟨S9728x1, .f32⟩
  | .hbm, ⟨27, _⟩ => ⟨S9728x1, .f32⟩
  | .hbm, ⟨28, _⟩ => ⟨S9728x2048, .f32⟩
  | .hbm, ⟨29, _⟩ => ⟨S9728x2048, .f32⟩
  | .hbm, ⟨30, _⟩ => ⟨S_, .f32⟩
  | .hbm, ⟨31, _⟩ => ⟨S9728x1, .f32⟩
  | .hbm, ⟨32, _⟩ => ⟨S9728x1, .f32⟩
  | .hbm, ⟨33, _⟩ => ⟨S9728x1, .f32⟩
  | .hbm, ⟨34, _⟩ => ⟨S9728x2048, .f32⟩
  | .hbm, ⟨35, _⟩ => ⟨S9728x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S9728x2048, .f32⟩
  | .hbm, ⟨40, _⟩ => ⟨S9728x2048, .f32⟩
  | .hbm, ⟨41, _⟩ => ⟨S1x2048, .f32⟩
  | .hbm, ⟨42, _⟩ => ⟨S2048, .f32⟩
  | .hbm, ⟨43, _⟩ => ⟨S1x2048, .f32⟩
  | .hbm, ⟨44, _⟩ => ⟨S9728x2048, .f32⟩
  | .hbm, ⟨45, _⟩ => ⟨S9728x2048, .f32⟩
  | .hbm, ⟨46, _⟩ => ⟨S9728x2048, .bf16⟩
  | _, _ => ⟨S9728x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== ProjK.lean ====
abbrev S9728x2048 : Shape := ⟨2, ![9728, 2048]⟩
abbrev S2x2048x9296 : Shape := ⟨3, ![2, 2048, 9296]⟩
abbrev S2x9296x2048 : Shape := ⟨3, ![2, 9296, 2048]⟩
abbrev S9728x1024 : Shape := ⟨2, ![9728, 1024]⟩
abbrev S512x2048 : Shape := ⟨2, ![512, 2048]⟩
abbrev S1x1024x2048 : Shape := ⟨3, ![1, 1024, 2048]⟩
abbrev S512x1024 : Shape := ⟨2, ![512, 1024]⟩
abbrev S2048x1024 : Shape := ⟨2, ![2048, 1024]⟩
abbrev S1024x2048 : Shape := ⟨2, ![1024, 2048]⟩
abbrev S8704x1024 : Shape := ⟨2, ![8704, 1024]⟩
abbrev S2x4352x1024 : Shape := ⟨3, ![2, 4352, 1024]⟩
abbrev S2x4112x1024 : Shape := ⟨3, ![2, 4112, 1024]⟩
abbrev S2x4112x8x128 : Shape := ⟨4, ![2, 4112, 8, 128]⟩
abbrev S1024x1024 : Shape := ⟨2, ![1024, 1024]⟩
abbrev S16x64x8x128 : Shape := ⟨4, ![16, 64, 8, 128]⟩

abbrev nBuf : Space → Nat
  | .hbm => 11
  | .vmem => 8
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S2x9296x2048, .f32⟩
  | .hbm, ⟨3, _⟩ => ⟨S9728x1024, .f32⟩
  | .hbm, ⟨4, _⟩ => ⟨S9728x1024, .bf16⟩
  | .hbm, ⟨5, _⟩ => ⟨S8704x1024, .f32⟩
  | .hbm, ⟨6, _⟩ => ⟨S2x4352x1024, .f32⟩
  | .hbm, ⟨7, _⟩ => ⟨S2x4112x1024, .f32⟩
  | .hbm, ⟨8, _⟩ => ⟨S2x4112x8x128, .f32⟩
  | .hbm, ⟨9, _⟩ => ⟨S1024x1024, .f32⟩
  | .hbm, ⟨10, _⟩ => ⟨S16x64x8x128, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S2048x1024, .bf16⟩
  | _, _ => ⟨S9728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjKReferenceIdeal.lean ====
abbrev S9728x2048 : Shape := ⟨2, ![9728, 2048]⟩
abbrev S2x2048x9296 : Shape := ⟨3, ![2, 2048, 9296]⟩
abbrev S1x2048x9296 : Shape := ⟨3, ![1, 2048, 9296]⟩
abbrev S2048x9296 : Shape := ⟨2, ![2048, 9296]⟩
abbrev S9728x9296 : Shape := ⟨2, ![9728, 9296]⟩
abbrev S9728x1024 : Shape := ⟨2, ![9728, 1024]⟩
abbrev S8704x1024 : Shape := ⟨2, ![8704, 1024]⟩
abbrev S2x4352x8x128 : Shape := ⟨4, ![2, 4352, 8, 128]⟩
abbrev S2x4112x8x128 : Shape := ⟨4, ![2, 4112, 8, 128]⟩
abbrev S1024x1024 : Shape := ⟨2, ![1024, 1024]⟩
abbrev S16x64x8x128 : Shape := ⟨4, ![16, 64, 8, 128]⟩

abbrev nBuf : Space → Nat
  | .hbm => 13
  | .vmem => 0
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S9728x2048, .f32⟩
  | .hbm, ⟨3, _⟩ => ⟨S1x2048x9296, .f32⟩
  | .hbm, ⟨4, _⟩ => ⟨S2048x9296, .f32⟩
  | .hbm, ⟨5, _⟩ => ⟨S9728x9296, .f32⟩
  | .hbm, ⟨6, _⟩ => ⟨S9728x1024, .f32⟩
  | .hbm, ⟨7, _⟩ => ⟨S8704x1024, .f32⟩
  | .hbm, ⟨8, _⟩ => ⟨S2x4352x8x128, .f32⟩
  | .hbm, ⟨9, _⟩ => ⟨S2x4112x8x128, .f32⟩
  | .hbm, ⟨10, _⟩ => ⟨S1024x1024, .f32⟩
  | .hbm, ⟨11, _⟩ => ⟨S16x64x8x128, .f32⟩
  | .hbm, ⟨12, _⟩ => ⟨S9728x1024, .bf16⟩
  | _, _ => ⟨S9728x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== ProjV.lean ====
abbrev S9728x2048 : Shape := ⟨2, ![9728, 2048]⟩
abbrev S2x2048x9296 : Shape := ⟨3, ![2, 2048, 9296]⟩
abbrev S2x9296x2048 : Shape := ⟨3, ![2, 9296, 2048]⟩
abbrev S9728x1024 : Shape := ⟨2, ![9728, 1024]⟩
abbrev S76x8x128x128 : Shape := ⟨4, ![76, 8, 128, 128]⟩
abbrev S512x2048 : Shape := ⟨2, ![512, 2048]⟩
abbrev S1x1024x2048 : Shape := ⟨3, ![1, 1024, 2048]⟩
abbrev S512x1024 : Shape := ⟨2, ![512, 1024]⟩
abbrev S4x8x128x128 : Shape := ⟨4, ![4, 8, 128, 128]⟩
abbrev S2048x1024 : Shape := ⟨2, ![2048, 1024]⟩
abbrev S1024x2048 : Shape := ⟨2, ![1024, 2048]⟩
abbrev S128x128 : Shape := ⟨2, ![128, 128]⟩
abbrev S1x1x128x128 : Shape := ⟨4, ![1, 1, 128, 128]⟩
abbrev S8704x1024 : Shape := ⟨2, ![8704, 1024]⟩
abbrev S2x4352x1024 : Shape := ⟨3, ![2, 4352, 1024]⟩
abbrev S2x4112x1024 : Shape := ⟨3, ![2, 4112, 1024]⟩
abbrev S2x4112x8x128 : Shape := ⟨4, ![2, 4112, 8, 128]⟩
abbrev S1024x1024 : Shape := ⟨2, ![1024, 1024]⟩
abbrev S16x64x8x128 : Shape := ⟨4, ![16, 64, 8, 128]⟩

abbrev nBuf : Space → Nat
  | .hbm => 11
  | .vmem => 8
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S2x9296x2048, .f32⟩
  | .hbm, ⟨3, _⟩ => ⟨S9728x1024, .f32⟩
  | .hbm, ⟨4, _⟩ => ⟨S76x8x128x128, .bf16⟩
  | .hbm, ⟨5, _⟩ => ⟨S8704x1024, .f32⟩
  | .hbm, ⟨6, _⟩ => ⟨S2x4352x1024, .f32⟩
  | .hbm, ⟨7, _⟩ => ⟨S2x4112x1024, .f32⟩
  | .hbm, ⟨8, _⟩ => ⟨S2x4112x8x128, .f32⟩
  | .hbm, ⟨9, _⟩ => ⟨S1024x1024, .f32⟩
  | .hbm, ⟨10, _⟩ => ⟨S16x64x8x128, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .f32⟩
  | .local _ .vmem, ⟨3, _⟩ => ⟨S512x1024, .f32⟩
  | .local _ .vmem, ⟨4, _⟩ => ⟨S512x1024, .f32⟩
  | .local _ .vmem, ⟨5, _⟩ => ⟨S4x8x128x128, .bf16⟩
  | .local _ .vmem, ⟨6, _⟩ => ⟨S4x8x128x128, .bf16⟩
  | .local _ .vmem, ⟨7, _⟩ => ⟨S2048x1024, .bf16⟩
  | _, _ => ⟨S9728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjVReferenceIdeal.lean ====
abbrev S9728x2048 : Shape := ⟨2, ![9728, 2048]⟩
abbrev S2x2048x9296 : Shape := ⟨3, ![2, 2048, 9296]⟩
abbrev S1x2048x9296 : Shape := ⟨3, ![1, 2048, 9296]⟩
abbrev S2048x9296 : Shape := ⟨2, ![2048, 9296]⟩
abbrev S9728x9296 : Shape := ⟨2, ![9728, 9296]⟩
abbrev S9728x1024 : Shape := ⟨2, ![9728, 1024]⟩
abbrev S8704x1024 : Shape := ⟨2, ![8704, 1024]⟩
abbrev S2x4352x8x128 : Shape := ⟨4, ![2, 4352, 8, 128]⟩
abbrev S2x4112x8x128 : Shape := ⟨4, ![2, 4112, 8, 128]⟩
abbrev S1024x1024 : Shape := ⟨2, ![1024, 1024]⟩
abbrev S16x64x8x128 : Shape := ⟨4, ![16, 64, 8, 128]⟩
abbrev S76x128x8x128 : Shape := ⟨4, ![76, 128, 8, 128]⟩
abbrev S76x8x128x128 : Shape := ⟨4, ![76, 8, 128, 128]⟩

abbrev nBuf : Space → Nat
  | .hbm => 15
  | .vmem => 0
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S9728x2048, .f32⟩
  | .hbm, ⟨3, _⟩ => ⟨S1x2048x9296, .f32⟩
  | .hbm, ⟨4, _⟩ => ⟨S2048x9296, .f32⟩
  | .hbm, ⟨5, _⟩ => ⟨S9728x9296, .f32⟩
  | .hbm, ⟨6, _⟩ => ⟨S9728x1024, .f32⟩
  | .hbm, ⟨7, _⟩ => ⟨S8704x1024, .f32⟩
  | .hbm, ⟨8, _⟩ => ⟨S2x4352x8x128, .f32⟩
  | .hbm, ⟨9, _⟩ => ⟨S2x4112x8x128, .f32⟩
  | .hbm, ⟨10, _⟩ => ⟨S1024x1024, .f32⟩
  | .hbm, ⟨11, _⟩ => ⟨S16x64x8x128, .f32⟩
  | .hbm, ⟨12, _⟩ => ⟨S76x128x8x128, .f32⟩
  | .hbm, ⟨13, _⟩ => ⟨S76x8x128x128, .f32⟩
  | .hbm, ⟨14, _⟩ => ⟨S76x8x128x128, .bf16⟩
  | _, _ => ⟨S9728x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== ProjIdx.lean ====
abbrev S9728x2048 : Shape := ⟨2, ![9728, 2048]⟩
abbrev S2x2048x9296 : Shape := ⟨3, ![2, 2048, 9296]⟩
abbrev S2x9296x2048 : Shape := ⟨3, ![2, 9296, 2048]⟩
abbrev S9728x128 : Shape := ⟨2, ![9728, 128]⟩
abbrev S9728x64 : Shape := ⟨2, ![9728, 64]⟩
abbrev S76x16x128 : Shape := ⟨3, ![76, 16, 128]⟩
abbrev S512x2048 : Shape := ⟨2, ![512, 2048]⟩
abbrev S1x128x2048 : Shape := ⟨3, ![1, 128, 2048]⟩
abbrev S512x128 : Shape := ⟨2, ![512, 128]⟩
abbrev S512x64 : Shape := ⟨2, ![512, 64]⟩
abbrev S4x16x128 : Shape := ⟨3, ![4, 16, 128]⟩
abbrev S2048x128 : Shape := ⟨2, ![2048, 128]⟩
abbrev S128x2048 : Shape := ⟨2, ![128, 2048]⟩
abbrev S128x128 : Shape := ⟨2, ![128, 128]⟩
abbrev S16x128 : Shape := ⟨2, ![16, 128]⟩
abbrev S1x16x128 : Shape := ⟨3, ![1, 16, 128]⟩
abbrev S8704x64 : Shape := ⟨2, ![8704, 64]⟩
abbrev S2x4352x64 : Shape := ⟨3, ![2, 4352, 64]⟩
abbrev S2x4112x64 : Shape := ⟨3, ![2, 4112, 64]⟩
abbrev S1024x64 : Shape := ⟨2, ![1024, 64]⟩
abbrev S16x64x64 : Shape := ⟨3, ![16, 64, 64]⟩

abbrev nBuf : Space → Nat
  | .hbm => 12
  | .vmem => 10
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S2x9296x2048, .f32⟩
  | .hbm, ⟨3, _⟩ => ⟨S9728x128, .f32⟩
  | .hbm, ⟨4, _⟩ => ⟨S9728x64, .bf16⟩
  | .hbm, ⟨5, _⟩ => ⟨S76x16x128, .f32⟩
  | .hbm, ⟨6, _⟩ => ⟨S9728x64, .f32⟩
  | .hbm, ⟨7, _⟩ => ⟨S8704x64, .f32⟩
  | .hbm, ⟨8, _⟩ => ⟨S2x4352x64, .f32⟩
  | .hbm, ⟨9, _⟩ => ⟨S2x4112x64, .f32⟩
  | .hbm, ⟨10, _⟩ => ⟨S1024x64, .f32⟩
  | .hbm, ⟨11, _⟩ => ⟨S16x64x64, .f32⟩
  | .local _ .vmem, ⟨0, _⟩ => ⟨S512x2048, .bf16⟩
  | .local _ .vmem, ⟨1, _⟩ => ⟨S512x2048, .bf16⟩
  | .local _ .vmem, ⟨2, _⟩ => ⟨S1x128x2048, .f32⟩
  | .local _ .vmem, ⟨3, _⟩ => ⟨S512x128, .f32⟩
  | .local _ .vmem, ⟨4, _⟩ => ⟨S512x128, .f32⟩
  | .local _ .vmem, ⟨5, _⟩ => ⟨S512x64, .bf16⟩
  | .local _ .vmem, ⟨6, _⟩ => ⟨S512x64, .bf16⟩
  | .local _ .vmem, ⟨7, _⟩ => ⟨S4x16x128, .f32⟩
  | .local _ .vmem, ⟨8, _⟩ => ⟨S4x16x128, .f32⟩
  | .local _ .vmem, ⟨9, _⟩ => ⟨S2048x128, .bf16⟩
  | _, _ => ⟨S9728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c32_i32 : BitVec 32 := 32#32
  let c0_i32 : BitVec 32 := 0#32
  let c0_i32_0 : BitVec 32 := 0#32
  ![c1_i32.toNat, c32_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjIdxReferenceIdeal.lean ====
abbrev S9728x2048 : Shape := ⟨2, ![9728, 2048]⟩
abbrev S2x2048x9296 : Shape := ⟨3, ![2, 2048, 9296]⟩
abbrev S1x2048x9296 : Shape := ⟨3, ![1, 2048, 9296]⟩
abbrev S2048x9296 : Shape := ⟨2, ![2048, 9296]⟩
abbrev S9728x9296 : Shape := ⟨2, ![9728, 9296]⟩
abbrev S9728x64 : Shape := ⟨2, ![9728, 64]⟩
abbrev S9728x16 : Shape := ⟨2, ![9728, 16]⟩
abbrev S8704x64 : Shape := ⟨2, ![8704, 64]⟩
abbrev S2x4352x64 : Shape := ⟨3, ![2, 4352, 64]⟩
abbrev S2x4112x64 : Shape := ⟨3, ![2, 4112, 64]⟩
abbrev S1024x64 : Shape := ⟨2, ![1024, 64]⟩
abbrev S16x64x64 : Shape := ⟨3, ![16, 64, 64]⟩
abbrev S76x128x16 : Shape := ⟨3, ![76, 128, 16]⟩
abbrev S76x16x128 : Shape := ⟨3, ![76, 16, 128]⟩
abbrev S9728x128 : Shape := ⟨2, ![9728, 128]⟩

abbrev nBuf : Space → Nat
  | .hbm => 17
  | .vmem => 0
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S9728x2048, .f32⟩
  | .hbm, ⟨3, _⟩ => ⟨S1x2048x9296, .f32⟩
  | .hbm, ⟨4, _⟩ => ⟨S2048x9296, .f32⟩
  | .hbm, ⟨5, _⟩ => ⟨S9728x9296, .f32⟩
  | .hbm, ⟨6, _⟩ => ⟨S9728x64, .f32⟩
  | .hbm, ⟨7, _⟩ => ⟨S9728x16, .f32⟩
  | .hbm, ⟨8, _⟩ => ⟨S8704x64, .f32⟩
  | .hbm, ⟨9, _⟩ => ⟨S2x4352x64, .f32⟩
  | .hbm, ⟨10, _⟩ => ⟨S2x4112x64, .f32⟩
  | .hbm, ⟨11, _⟩ => ⟨S1024x64, .f32⟩
  | .hbm, ⟨12, _⟩ => ⟨S16x64x64, .f32⟩
  | .hbm, ⟨13, _⟩ => ⟨S76x128x16, .f32⟩
  | .hbm, ⟨14, _⟩ => ⟨S76x16x128, .f32⟩
  | .hbm, ⟨15, _⟩ => ⟨S9728x128, .f32⟩
  | .hbm, ⟨16, _⟩ => ⟨S9728x64, .bf16⟩
  | _, _ => ⟨S9728x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== ProjQ.lean ====
abbrev S9728x2048 : Shape := ⟨2, ![9728, 2048]⟩
abbrev S2x2048x9296 : Shape := ⟨3, ![2, 2048, 9296]⟩
abbrev S2x9296x2048 : Shape := ⟨3, ![2, 9296, 2048]⟩
abbrev S9728x1024 : Shape := ⟨2, ![9728, 1024]⟩
abbrev S76x8x128x128 : Shape := ⟨4, ![76, 8, 128, 128]⟩
abbrev S512x2048 : Shape := ⟨2, ![512, 2048]⟩
abbrev S1x1024x2048 : Shape := ⟨3, ![1, 1024, 2048]⟩
abbrev S512x1024 : Shape := ⟨2, ![512, 1024]⟩
abbrev S4x8x128x128 : Shape := ⟨4, ![4, 8, 128, 128]⟩
abbrev S2048x1024 : Shape := ⟨2, ![2048, 1024]⟩
abbrev S1024x2048 : Shape := ⟨2, ![1024, 2048]⟩
abbrev S128x128 : Shape := ⟨2, ![128, 128]⟩
abbrev S1x1x128x128 : Shape := ⟨4, ![1, 1, 128, 128]⟩

abbrev nBuf : Space → Nat
  | .hbm => 5
  | .vmem => 8
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S2x9296x2048, .f32⟩
  | .hbm, ⟨3, _⟩ => ⟨S9728x1024, .bf16⟩
  | .hbm, ⟨4, _⟩ => ⟨S76x8x128x128, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .f32⟩
  | .local _ .vmem, ⟨3, _⟩ => ⟨S512x1024, .bf16⟩
  | .local _ .vmem, ⟨4, _⟩ => ⟨S512x1024, .bf16⟩
  | .local _ .vmem, ⟨5, _⟩ => ⟨S4x8x128x128, .bf16⟩
  | .local _ .vmem, ⟨6, _⟩ => ⟨S4x8x128x128, .bf16⟩
  | .local _ .vmem, ⟨7, _⟩ => ⟨S2048x1024, .bf16⟩
  | _, _ => ⟨S9728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjQReferenceIdeal.lean ====
abbrev S9728x2048 : Shape := ⟨2, ![9728, 2048]⟩
abbrev S2x2048x9296 : Shape := ⟨3, ![2, 2048, 9296]⟩
abbrev S1x2048x9296 : Shape := ⟨3, ![1, 2048, 9296]⟩
abbrev S2048x9296 : Shape := ⟨2, ![2048, 9296]⟩
abbrev S9728x9296 : Shape := ⟨2, ![9728, 9296]⟩
abbrev S9728x1024 : Shape := ⟨2, ![9728, 1024]⟩
abbrev S_ : Shape := ⟨0, ![]⟩
abbrev S76x128x8x128 : Shape := ⟨4, ![76, 128, 8, 128]⟩
abbrev S76x8x128x128 : Shape := ⟨4, ![76, 8, 128, 128]⟩

abbrev nBuf : Space → Nat
  | .hbm => 14
  | .vmem => 0
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S9728x2048, .f32⟩
  | .hbm, ⟨3, _⟩ => ⟨S1x2048x9296, .f32⟩
  | .hbm, ⟨4, _⟩ => ⟨S2048x9296, .f32⟩
  | .hbm, ⟨5, _⟩ => ⟨S9728x9296, .f32⟩
  | .hbm, ⟨6, _⟩ => ⟨S9728x1024, .f32⟩
  | .hbm, ⟨7, _⟩ => ⟨S_, .f32⟩
  | .hbm, ⟨8, _⟩ => ⟨S9728x1024, .f32⟩
  | .hbm, ⟨9, _⟩ => ⟨S9728x1024, .f32⟩
  | .hbm, ⟨10, _⟩ => ⟨S76x128x8x128, .f32⟩
  | .hbm, ⟨11, _⟩ => ⟨S76x8x128x128, .f32⟩
  | .hbm, ⟨12, _⟩ => ⟨S9728x1024, .bf16⟩
  | .hbm, ⟨13, _⟩ => ⟨S76x8x128x128, .bf16⟩
  | _, _ => ⟨S9728x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== ProjQI.lean ====
abbrev S9728x2048 : Shape := ⟨2, ![9728, 2048]⟩
abbrev S2x2048x9296 : Shape := ⟨3, ![2, 2048, 9296]⟩
abbrev S2x9296x2048 : Shape := ⟨3, ![2, 9296, 2048]⟩
abbrev S9728x1024 : Shape := ⟨2, ![9728, 1024]⟩
abbrev S76x8x128x128 : Shape := ⟨4, ![76, 8, 128, 128]⟩
abbrev S512x2048 : Shape := ⟨2, ![512, 2048]⟩
abbrev S1x1024x2048 : Shape := ⟨3, ![1, 1024, 2048]⟩
abbrev S512x1024 : Shape := ⟨2, ![512, 1024]⟩
abbrev S4x8x128x128 : Shape := ⟨4, ![4, 8, 128, 128]⟩
abbrev S2048x1024 : Shape := ⟨2, ![2048, 1024]⟩
abbrev S1024x2048 : Shape := ⟨2, ![1024, 2048]⟩
abbrev S128x128 : Shape := ⟨2, ![128, 128]⟩
abbrev S1x1x128x128 : Shape := ⟨4, ![1, 1, 128, 128]⟩

abbrev nBuf : Space → Nat
  | .hbm => 5
  | .vmem => 8
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S2x9296x2048, .f32⟩
  | .hbm, ⟨3, _⟩ => ⟨S9728x1024, .bf16⟩
  | .hbm, ⟨4, _⟩ => ⟨S76x8x128x128, .bf16⟩
  | .local _ .vmem, ⟨0, _⟩ => ⟨S512x2048, .bf16⟩
  | .local _ .vmem, ⟨1, _⟩ => ⟨S512x2048, .bf16⟩
  | .local _ .vmem, ⟨2, _⟩ => ⟨S1x1024x2048, .f32⟩
  | .local _ .vmem, ⟨3, _⟩ => ⟨S512x1024, .bf16⟩
  | .local _ .vmem, ⟨4, _⟩ => ⟨S512x1024, .bf16⟩
  | .local _ .vmem, ⟨5, _⟩ => ⟨S4x8x128x128, .bf16⟩
  | .local _ .vmem, ⟨6, _⟩ => ⟨S4x8x128x128, .bf16⟩
  | .local _ .vmem, ⟨7, _⟩ => ⟨S2048x1024, .bf16⟩
  | _, _ => ⟨S9728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  ![c1_i32.toNat, c3_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjQIReferenceIdeal.lean ====
abbrev S9728x2048 : Shape := ⟨2, ![9728, 2048]⟩
abbrev S2x2048x9296 : Shape := ⟨3, ![2, 2048, 9296]⟩
abbrev S1x2048x9296 : Shape := ⟨3, ![1, 2048, 9296]⟩
abbrev S2048x9296 : Shape := ⟨2, ![2048, 9296]⟩
abbrev S9728x9296 : Shape := ⟨2, ![9728, 9296]⟩
abbrev S9728x1024 : Shape := ⟨2, ![9728, 1024]⟩
abbrev S76x128x8x128 : Shape := ⟨4, ![76, 128, 8, 128]⟩
abbrev S76x8x128x128 : Shape := ⟨4, ![76, 8, 128, 128]⟩

abbrev nBuf : Space → Nat
  | .hbm => 11
  | .vmem => 0
  | .smem => 0
  | _ => 0

abbrev bufTy : (tb : Table) → Fin (tcTables nBuf tb) → BufTy
  | .hbm, ⟨0, _⟩ => ⟨S9728x2048, .bf16⟩
  | .hbm, ⟨1, _⟩ => ⟨S2x2048x9296, .f32⟩
  | .hbm, ⟨2, _⟩ => ⟨S9728x2048, .f32⟩
  | .hbm, ⟨3, _⟩ => ⟨S1x2048x9296, .f32⟩
  | .hbm, ⟨4, _⟩ => ⟨S2048x9296, .f32⟩
  | .hbm, ⟨5, _⟩ => ⟨S9728x9296, .f32⟩
  | .hbm, ⟨6, _⟩ => ⟨S9728x1024, .f32⟩
  | .hbm, ⟨7, _⟩ => ⟨S76x128x8x128, .f32⟩
  | .hbm, ⟨8, _⟩ => ⟨S76x8x128x128, .f32⟩
  | .hbm, ⟨9, _⟩ => ⟨S9728x1024, .bf16⟩
  | .hbm, ⟨10, _⟩ => ⟨S76x8x128x128, .bf16⟩
  | _, _ => ⟨S9728x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Retention.lean ====
abbrev S9728x5120 : Shape := ⟨2, ![9728, 5120]⟩
abbrev S2x16x8x128x128 : Shape := ⟨5, ![2, 16, 8, 128, 128]⟩
abbrev S9728x1024 : Shape := ⟨2, ![9728, 1024]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S8 : Shape := ⟨1, ![8]⟩
abbrev S1x64x64 : Shape := ⟨3, ![1, 64, 64]⟩
abbrev S8x1x1 : Shape := ⟨3, ![8, 1, 1]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S8x64x128 : Shape := ⟨3, ![8, 64, 128]⟩
abbrev S8x1x128 : Shape := ⟨3, ![8, 1, 128]⟩
abbrev S1x16x8x128x128 : Shape := ⟨5, ![1, 16, 8, 128, 128]⟩
abbrev S16x8x128x128 : Shape := ⟨4, ![16, 8, 128, 128]⟩
abbrev S64x1024 : Shape := ⟨2, ![64, 1024]⟩
abbrev S1x8x128x128 : Shape := ⟨4, ![1, 8, 128, 128]⟩
abbrev S8x128x128 : Shape := ⟨3, ![8, 128, 128]⟩
abbrev S1x128x128 : Shape := ⟨3, ![1, 128, 128]⟩
abbrev S128x128 : Shape := ⟨2, ![128, 128]⟩
abbrev S1x64x128 : Shape := ⟨3, ![1, 64, 128]⟩
abbrev S1x1x128 : Shape := ⟨3, ![1, 1, 128]⟩
abbrev S1x128 : Shape := ⟨2, ![1, 128]⟩

abbrev nBuf : Space → Nat
  | .hbm => 92
  | .vmem => 21
  | .smem => 0
  | _ => 0

abbrev bufTy : (tb : Table) → Fin (tcTables nBuf tb) → BufTy
  | .hbm, ⟨0, _⟩ => ⟨S9728x5120, .f32⟩
  | .hbm, ⟨1, _⟩ => ⟨S2x16x8x128x128, .f32⟩
  | .hbm, ⟨2, _⟩ => ⟨S9728x1024, .bf16⟩
  | .hbm, ⟨3, _⟩ => ⟨S64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x1, .f32⟩
  | .hbm, ⟨17, _⟩ => ⟨S1x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x128, .f32⟩
  | .hbm, ⟨24, _⟩ => ⟨S64x64, .f32⟩
  | .hbm, ⟨25, _⟩ => ⟨S64x128, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S64, .f32⟩
  | .hbm, ⟨38, _⟩ => ⟨S64x1, .f32⟩
  | .hbm, ⟨39, _⟩ => ⟨S1x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S_, .f32⟩
  | .hbm, ⟨44, _⟩ => ⟨S64x64, .f32⟩
  | .hbm, ⟨45, _⟩ => ⟨S64x64, .i1⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S1x64x64, .f32⟩
  | .hbm, ⟨50, _⟩ => ⟨S8x1x1, .f32⟩
  | .hbm, ⟨51, _⟩ => ⟨S8x64x64, .f32⟩
  | .hbm, ⟨52, _⟩ => ⟨S8x64x64, .f32⟩
  | .hbm, ⟨53, _⟩ => ⟨S8x64x64, .f32⟩
  | .hbm, ⟨54, _⟩ => ⟨S8x64x64, .f32⟩
  | .hbm, ⟨55, _⟩ => ⟨S_, .f32⟩
  | .hbm, ⟨56, _⟩ => ⟨S_, .f32⟩
  | .hbm, ⟨57, _⟩ => ⟨S8x64x64, .i1⟩
  | .hbm, ⟨58, _⟩ => ⟨S8x64x64, .f32⟩
  | .hbm, ⟨59, _⟩ => ⟨S8x64x64, .f32⟩
  | .hbm, ⟨60, _⟩ => ⟨S1x64, .f32⟩
  | .hbm, ⟨61, _⟩ => ⟨S_, .f32⟩
  | .hbm, ⟨62, _⟩ => ⟨S1x64, .f32⟩
  | .hbm, ⟨63, _⟩ => ⟨S1x64, .f32⟩
  | .hbm, ⟨64, _⟩ => ⟨S8x1, .f32⟩
  | .hbm, ⟨65, _⟩ => ⟨S8x64, .f32⟩
  | .hbm, ⟨66, _⟩ => ⟨S8x64, .f32⟩
  | .hbm, ⟨67, _⟩ => ⟨S8x64, .f32⟩
  | .hbm, ⟨68, _⟩ => ⟨S8x64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S8x1, .f32⟩
  | .hbm, ⟨74, _⟩ => ⟨S8x64, .f32⟩
  | .hbm, ⟨75, _⟩ => ⟨S8x64, .f32⟩
  | .hbm, ⟨76, _⟩ => ⟨S8x64, .f32⟩
  | .hbm, ⟨77, _⟩ => ⟨S8x64, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S8x64x1, .f32⟩
  | .hbm, ⟨83, _⟩ => ⟨S8x64x128, .f32⟩
  | .hbm, ⟨84, _⟩ => ⟨S8x64x1, .f32⟩
  | .hbm, ⟨85, _⟩ => ⟨S8x64x128, .f32⟩
  | .hbm, ⟨86, _⟩ => ⟨S8x1x1, .f32⟩
  | .hbm, ⟨87, _⟩ => ⟨S8x1x128, .f32⟩
  | .hbm, ⟨88, _⟩ => ⟨S1x16x8x128x128, .f32⟩
  | .hbm, ⟨89, _⟩ => ⟨S16x8x128x128, .f32⟩
  | .hbm, ⟨90, _⟩ => ⟨S9728x1024, .bf16⟩
  | .hbm, ⟨91, _⟩ => ⟨S16x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x128, .f32⟩
  | .local _ .vmem, ⟨9, _⟩ => ⟨S64x128, .f32⟩
  | .local _ .vmem, ⟨10, _⟩ => ⟨S8x64x64, .f32⟩
  | .local _ .vmem, ⟨11, _⟩ => ⟨S8x64x128, .f32⟩
  | .local _ .vmem, ⟨12, _⟩ => ⟨S8x64x128, .f32⟩
  | .local _ .vmem, ⟨13, _⟩ => ⟨S8x1x128, .f32⟩
  | .local _ .vmem, ⟨14, _⟩ => ⟨S1x8x128x128, .f32⟩
  | .local _ .vmem, ⟨15, _⟩ => ⟨S1x8x128x128, .f32⟩
  | .local _ .vmem, ⟨16, _⟩ => ⟨S64x1024, .bf16⟩
  | .local _ .vmem, ⟨17, _⟩ => ⟨S64x1024, .bf16⟩
  | .local _ .vmem, ⟨18, _⟩ => ⟨S1x8x128x128, .f32⟩
  | .local _ .vmem, ⟨19, _⟩ => ⟨S1x8x128x128, .f32⟩
  | .local _ .vmem, ⟨20, _⟩ => ⟨S8x128x128, .f32⟩
  | _, _ => ⟨S9728x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72_0 : Ref sig .tc := ⟨.hbm, 90, rfl⟩
abbrev main_v72_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_326 : BitVec 32 := 0#32
  let v597 : BitVec 1 := Scalar.cmpi .eq arg1 c0_i32_326
  let v598 : BitVec 32 := Scalar.extui v597
  let c0_i32_327 : BitVec 32 := 0#32
  let v599 : BitVec 1 := Scalar.cmpi .ne v598 c0_i32_327
  v599

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c136_i32 : BitVec 32 := 136#32
  let v1 : BitVec 32 := Scalar.addi c136_i32 v0
  let v2 : BitVec 32 := Scalar.addi v1 arg1
  let c1_i32_0 : BitVec 32 := 1#32
  let c0_i32 : BitVec 32 := 0#32
  ![v2.toNat, c1_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c136_i32 : BitVec 32 := 136#32
  let v1 : BitVec 32 := Scalar.addi c136_i32 v0
  let v2 : BitVec 32 := Scalar.addi v1 arg1
  let c2_i32 : BitVec 32 := 2#32
  let c0_i32 : BitVec 32 := 0#32
  ![v2.toNat, c2_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c136_i32 : BitVec 32 := 136#32
  let v1 : BitVec 32 := Scalar.addi c136_i32 v0
  let v2 : BitVec 32 := Scalar.addi v1 arg1
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c136_i32 : BitVec 32 := 136#32
  let v1 : BitVec 32 := Scalar.addi c136_i32 v0
  let v2 : BitVec 32 := Scalar.addi v1 arg1
  let c4_i32 : BitVec 32 := 4#32
  let c0_i32 : BitVec 32 := 0#32
  ![v2.toNat, c4_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c136_i32 : BitVec 32 := 136#32
  let v1 : BitVec 32 := Scalar.addi c136_i32 v0
  let v2 : BitVec 32 := Scalar.addi v1 arg1
  let c0_i32 : BitVec 32 := 0#32
  let c0_i32_0 : BitVec 32 := 0#32
  ![v2.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== RetentionReferenceIdeal.lean ====
abbrev S9728x5120 : Shape := ⟨2, ![9728, 5120]⟩
abbrev S2x16x8x128x128 : Shape := ⟨5, ![2, 16, 8, 128, 128]⟩
abbrev S9728x1024 : Shape := ⟨2, ![9728, 1024]⟩
abbrev S1024x5120 : Shape := ⟨2, ![1024, 5120]⟩
abbrev S16x64x5120 : Shape := ⟨3, ![16, 64, 5120]⟩
abbrev S16x64x1024 : Shape := ⟨3, ![16, 64, 1024]⟩
abbrev S16x64x8x128 : Shape := ⟨4, ![16, 64, 8, 128]⟩
abbrev S64 : Shape := ⟨1, ![64]⟩
abbrev S_ : Shape := ⟨0, ![]⟩
abbrev S8 : Shape := ⟨1, ![8]⟩
abbrev S1x16x8x128x128 : Shape := ⟨5, ![1, 16, 8, 128, 128]⟩
abbrev S16x8x128x128 : Shape := ⟨4, ![16, 8, 128, 128]⟩
abbrev S64x1 : Shape := ⟨2, ![64, 1]⟩
abbrev S1x64 : Shape := ⟨2, ![1, 64]⟩
abbrev S64x64 : Shape := ⟨2, ![64, 64]⟩
abbrev S1x64x1x64 : Shape := ⟨4, ![1, 64, 1, 64]⟩
abbrev S16x64x8x64 : Shape := ⟨4, ![16, 64, 8, 64]⟩
abbrev S1x64x64 : Shape := ⟨3, ![1, 64, 64]⟩
abbrev S8x1x1 : Shape := ⟨3, ![8, 1, 1]⟩
abbrev S8x64x64 : Shape := ⟨3, ![8, 64, 64]⟩
abbrev S16x8x64x64 : Shape := ⟨4, ![16, 8, 64, 64]⟩
abbrev S1x8x64x64 : Shape := ⟨4, ![1, 8, 64, 64]⟩
abbrev S8x1 : Shape := ⟨2, ![8, 1]⟩
abbrev S8x64 : Shape := ⟨2, ![8, 64]⟩
abbrev S16x8x128x64 : Shape := ⟨4, ![16, 8, 128, 64]⟩
abbrev S64x8 : Shape := ⟨2, ![64, 8]⟩
abbrev S1x64x8x1 : Shape := ⟨4, ![1, 64, 8, 1]⟩
abbrev S1x8x1x1 : Shape := ⟨4, ![1, 8, 1, 1]⟩
abbrev S16x64x8 : Shape := ⟨3, ![16, 64, 8]⟩
abbrev S16x64x8x1 : Shape := ⟨4, ![16, 64, 8, 1]⟩
abbrev S1024x1024 : Shape := ⟨2, ![1024, 1024]⟩
abbrev S8704x1024 : Shape := ⟨2, ![8704, 1024]⟩

abbrev nBuf : Space → Nat
  | .hbm => 199
  | .vmem => 0
  | .smem => 0
  | _ => 0

abbrev hbmTy0_0 (i : Nat) : BufTy := match i % 128 with
  | 0 => ⟨S9728x5120, .f32⟩
  | 1 => ⟨S2x16x8x128x128, .f32⟩
  | 2 => ⟨S9728x1024, .bf16⟩
  | 3 => ⟨S1024x5120, .f32⟩
  | 4 => ⟨S16x64x5120, .f32⟩
  | 5 => ⟨S16x64x1024, .f32⟩
  | 6 => ⟨S16x64x8x128, .f32⟩
  | 7 => ⟨S16x64x1024, .f32⟩
  | 8 => ⟨S16x64x8x128, .f32⟩
  | 9 => ⟨S16x64x1024, .f32⟩
  | 10 => ⟨S16x64x8x128, .f32⟩
  | 11 => ⟨S16x64x1024, .f32⟩
  | 12 => ⟨S64, .i32⟩
  | 13 => ⟨S_, .i32⟩
  | 14 => ⟨S64, .i32⟩
  | 15 => ⟨S64, .i32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S8, .f32⟩
  | 27 => ⟨S1x16x8x128x128, .f32⟩
  | 28 => ⟨S16x8x128x128, .f32⟩
  | 29 => ⟨S64, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S64, .f32⟩
  | 38 => ⟨S64x1, .f32⟩
  | 39 => ⟨S1x64, .f32⟩
  | 40 => ⟨S64x64, .f32⟩
  | 41 => ⟨S64x64, .f32⟩
  | 42 => ⟨S64x64, .f32⟩
  | 43 => ⟨S64x64, .f32⟩
  | 44 => ⟨S1x64x1x64, .f32⟩
  | 45 => ⟨S64x64, .f32⟩
  | 46 => ⟨S1x64x1x64, .f32⟩
  | 47 => ⟨S16x64x8x64, .f32⟩
  | 48 => ⟨S16x64x8x64, .f32⟩
  | 49 => ⟨S16x64x8x64, .f32⟩
  | 50 => ⟨S16x64x8x64, .f32⟩
  | 51 => ⟨S16x64x8x64, .f32⟩
  | 52 => ⟨S16x64x8x64, .f32⟩
  | 53 => ⟨S16x64x8x64, .f32⟩
  | 54 => ⟨S16x64x8x64, .f32⟩
  | 55 => ⟨S16x64x8x64, .f32⟩
  | 56 => ⟨S16x64x8x64, .f32⟩
  | 57 => ⟨S16x64x8x64, .f32⟩
  | 58 => ⟨S16x64x8x64, .f32⟩
  | 59 => ⟨S16x64x8x128, .f32⟩
  | 60 => ⟨S64, .f32⟩
  | 61 => ⟨S64, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S64, .f32⟩
  | 69 => ⟨S64x1, .f32⟩
  | 70 => ⟨S1x64, .f32⟩
  | 71 => ⟨S64x64, .f32⟩
  | 72 => ⟨S64x64, .f32⟩
  | 73 => ⟨S64x64, .f32⟩
  | 74 => ⟨S64x64, .f32⟩
  | 75 => ⟨S1x64x1x64, .f32⟩
  | 76 => ⟨S64x64, .f32⟩
  | 77 => ⟨S1x64x1x64, .f32⟩
  | 78 => ⟨S16x64x8x64, .f32⟩
  | 79 => ⟨S16x64x8x64, .f32⟩
  | 80 => ⟨S16x64x8x64, .f32⟩
  | 81 => ⟨S16x64x8x64, .f32⟩
  | 82 => ⟨S16x64x8x64, .f32⟩
  | 83 => ⟨S16x64x8x64, .f32⟩
  | 84 => ⟨S16x64x8x64, .f32⟩
  | 85 => ⟨S16x64x8x64, .f32⟩
  | 86 => ⟨S16x64x8x64, .f32⟩
  | 87 => ⟨S16x64x8x64, .f32⟩
  | 88 => ⟨S16x64x8x64, .f32⟩
  | 89 => ⟨S16x64x8x64, .f32⟩
  | 90 => ⟨S16x64x8x128, .f32⟩
  | 91 => ⟨S_, .f32⟩
  | 92 => ⟨S16x64x8x128, .f32⟩
  | 93 => ⟨S16x64x8x128, .f32⟩
  | 94 => ⟨S64, .f32⟩
  | 95 => ⟨S64x1, .f32⟩
  | 96 => ⟨S1x64, .f32⟩
  | 97 => ⟨S64x64, .f32⟩
  | 98 => ⟨S64x64, .f32⟩
  | 99 => ⟨S64x64, .f32⟩
  | 100 => ⟨S_, .f32⟩
  | 101 => ⟨S64x64, .f32⟩
  | 102 => ⟨S64x64, .i1⟩
  | 103 => ⟨S_, .f32⟩
  | 104 => ⟨S64x64, .f32⟩
  | 105 => ⟨S64x64, .f32⟩
  | 106 => ⟨S1x64x64, .f32⟩
  | 107 => ⟨S8x1x1, .f32⟩
  | 108 => ⟨S8x64x64, .f32⟩
  | 109 => ⟨S8x64x64, .f32⟩
  | 110 => ⟨S8x64x64, .f32⟩
  | 111 => ⟨S8x64x64, .f32⟩
  | 112 => ⟨S_, .f32⟩
  | 113 => ⟨S_, .f32⟩
  | 114 => ⟨S8x64x64, .i1⟩
  | 115 => ⟨S8x64x64, .f32⟩
  | 116 => ⟨S8x64x64, .f32⟩
  | 117 => ⟨S16x8x64x64, .f32⟩
  | 118 => ⟨S1x8x64x64, .f32⟩
  | 119 => ⟨S16x8x64x64, .f32⟩
  | 120 => ⟨S16x8x64x64, .f32⟩
  | 121 => ⟨S1x64, .f32⟩
  | 122 => ⟨S_, .f32⟩
  | 123 => ⟨S1x64, .f32⟩
  | 124 => ⟨S1x64, .f32⟩
  | 125 => ⟨S8x1, .f32⟩
  | 126 => ⟨S8x64, .f32⟩
  | 127 => ⟨S8x64, .f32⟩
  | _ => ⟨S9728x5120, .f32⟩

abbrev hbmTy0_1 (i : Nat) : BufTy := match i % 128 with
  | 0 => ⟨S8x64, .f32⟩
  | 1 => ⟨S8x64, .f32⟩
  | 2 => ⟨S16x8x128x64, .f32⟩
  | 3 => ⟨S16x64x8x128, .f32⟩
  | 4 => ⟨S16x8x128x64, .f32⟩
  | 5 => ⟨S16x64x8x128, .f32⟩
  | 6 => ⟨S64x8, .f32⟩
  | 7 => ⟨S1x64x8x1, .f32⟩
  | 8 => ⟨S16x64x8x128, .f32⟩
  | 9 => ⟨S16x64x8x128, .f32⟩
  | 10 => ⟨S16x64x8x128, .f32⟩
  | 11 => ⟨S_, .f32⟩
  | 12 => ⟨S64, .f32⟩
  | 13 => ⟨S64, .f32⟩
  | 14 => ⟨S1x64, .f32⟩
  | 15 => ⟨S8x1, .f32⟩
  | 16 => ⟨S8x64, .f32⟩
  | 17 => ⟨S8x64, .f32⟩
  | 18 => ⟨S8x64, .f32⟩
  | 19 => ⟨S8x64, .f32⟩
  | 20 => ⟨S_, .f32⟩
  | 21 => ⟨S8, .f32⟩
  | 22 => ⟨S8, .f32⟩
  | 23 => ⟨S8, .f32⟩
  | 24 => ⟨S1x8x1x1, .f32⟩
  | 25 => ⟨S16x8x128x128, .f32⟩
  | 26 => ⟨S16x8x128x128, .f32⟩
  | 27 => ⟨S64x8, .f32⟩
  | 28 => ⟨S1x64x8x1, .f32⟩
  | 29 => ⟨S16x64x8x128, .f32⟩
  | 30 => ⟨S16x64x8x128, .f32⟩
  | 31 => ⟨S16x8x128x128, .f32⟩
  | 32 => ⟨S16x8x128x128, .f32⟩
  | 33 => ⟨S_, .f32⟩
  | 34 => ⟨S16x64x8, .f32⟩
  | 35 => ⟨S16x64x8x1, .f32⟩
  | 36 => ⟨S_, .f32⟩
  | 37 => ⟨S16x64x8x1, .f32⟩
  | 38 => ⟨S16x64x8x1, .f32⟩
  | 39 => ⟨S16x64x8x128, .f32⟩
  | 40 => ⟨S16x64x8x128, .f32⟩
  | 41 => ⟨S16x64x8x128, .f32⟩
  | 42 => ⟨S_, .f32⟩
  | 43 => ⟨S16x64x8, .f32⟩
  | 44 => ⟨S16x64x8x1, .f32⟩
  | 45 => ⟨S_, .f32⟩
  | 46 => ⟨S16x64x8x1, .f32⟩
  | 47 => ⟨S16x64x8x1, .f32⟩
  | 48 => ⟨S16x64x8x128, .f32⟩
  | 49 => ⟨S16x64x8x128, .f32⟩
  | 50 => ⟨S_, .f32⟩
  | 51 => ⟨S16x64x8x1, .f32⟩
  | 52 => ⟨S16x64x8x1, .f32⟩
  | 53 => ⟨S16x64x8x1, .f32⟩
  | 54 => ⟨S16x64x8x128, .f32⟩
  | 55 => ⟨S16x64x8x128, .f32⟩
  | 56 => ⟨S16x64x1024, .f32⟩
  | 57 => ⟨S16x64x1024, .f32⟩
  | 58 => ⟨S16x64x1024, .f32⟩
  | 59 => ⟨S_, .f32⟩
  | 60 => ⟨S16x64x1024, .f32⟩
  | 61 => ⟨S16x64x1024, .f32⟩
  | 62 => ⟨S_, .f32⟩
  | 63 => ⟨S16x64x1024, .f32⟩
  | 64 => ⟨S16x64x1024, .f32⟩
  | 65 => ⟨S16x64x1024, .f32⟩
  | 66 => ⟨S16x64x1024, .f32⟩
  | 67 => ⟨S1024x1024, .f32⟩
  | 68 => ⟨S8704x1024, .bf16⟩
  | 69 => ⟨S1024x1024, .bf16⟩
  | 70 => ⟨S9728x1024, .bf16⟩
  | _ => ⟨S9728x5120, .f32⟩

abbrev hbmTy (i : Nat) : BufTy := match i / 128 with
  | 0 => hbmTy0_0 i
  | 1 => hbmTy0_1 i
  | _ => ⟨S9728x5120, .f32⟩

abbrev bufTy : (tb : Table) → Fin (tcTables nBuf tb) → BufTy
  | .hbm, ⟨i, _⟩ => hbmTy i
  | _, _ => ⟨S9728x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_cst_6 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_v88 : Ref sig .tc := ⟨.hbm, 101, rfl⟩
abbrev main_v89 : Ref sig .tc := ⟨.hbm, 102, rfl⟩
abbrev main_cst_8 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_cst_9 : Ref sig .tc := ⟨.hbm, 112, rfl⟩
abbrev main_call0_v0 : Ref sig .tc := ⟨.hbm, 113, rfl⟩
abbrev main_call0_v1 : Ref sig .tc := ⟨.hbm, 114, rfl⟩
abbrev main_call0_v2 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_10 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_cst_11 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_cst_12 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_cst_13 : Ref sig .tc := ⟨.hbm, 161, rfl⟩
abbrev main_v140 : Ref sig .tc := ⟨.hbm, 162, rfl⟩
abbrev main_v141 : Ref sig .tc := ⟨.hbm, 163, rfl⟩
abbrev main_cst_14 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_cst_15 : Ref sig .tc := ⟨.hbm, 170, rfl⟩
abbrev main_v147 : Ref sig .tc := ⟨.hbm, 171, rfl⟩
abbrev main_v148 : Ref sig .tc := ⟨.hbm, 172, rfl⟩
abbrev main_cst_16 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_cst_17 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_call1_v0 : Ref sig .tc := ⟨.hbm, 185, rfl⟩
abbrev main_call1_v1 : Ref sig .tc := ⟨.hbm, 186, rfl⟩
abbrev main_call1_cst : Ref sig .tc := ⟨.hbm, 187, rfl⟩
abbrev main_call1_v2 : Ref sig .tc := ⟨.hbm, 188, rfl⟩
abbrev main_call1_v3 : Ref sig .tc := ⟨.hbm, 189, rfl⟩
abbrev main_call1_cst_0 : Ref sig .tc := ⟨.hbm, 190, rfl⟩
abbrev main_call1_v4 : Ref sig .tc := ⟨.hbm, 191, rfl⟩
abbrev main_call1_v5 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩

abbrev nD : Nat := 1
abbrev τ : Topo := Topo.v7x

variable {F : FTy → Type} [FloatOps F]
-- ==== Proof.ProjTailValue.lean ====
/- The value of the projection's tail (`ProjTailIdeal`): every grid point leaves, in its block of the result, the product of
   its rows of the activations with the column tile of the weights held in the scratch; the scratch holds the tile loaded at
   the first row tile of the column; so the whole result array is one matrix product. -/
module

public import proofs.«01_k».proof.Defs
public import proofs.«01_k».proof.Proof.Gen.ProjTailIdeal.Frame
public import proofs.«01_k».proof.Proof.Gen.ProjTailReferenceIdeal.Run
public import Idealize.ShloMosaic.Lib.Pipeline.Value
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.ProjTailIdeal.TailValue

open Cert.ProjTailIdeal Cert.ProjTailIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

/-- At the first row tile of a column the scratch is left at the transposed weight tile. -/
theorem scratch_A (c : Dev nD) (i : grid0.Coords) (a2 h2 a3 h3 a4 h4 a5 h5) (hc : cond0_0 i) (x0 : Vec F S512x2048 .bf16)
    (x1 : Vec F S1x1024x2048 .f32) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, Memref.IsWhole.read_unread, View.ld_unit_zero (S := S1x1024x2048) hz3]

/-- At the first row tile the output block is the product with the tile just stored. -/
theorem out_A (c : Dev nD) (i : grid0.Coords) (a2 h2 a3 h3 a4 h4 a5 h5) (hc : cond0_0 i) (x0 : Vec F S512x2048 .bf16)
    (x1 : Vec F S1x1024x2048 .f32) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero _ hz2]
  simp only [View.readAt_eq_ld, Memref.IsWhole.read_unread, View.ld_unit_zero (S := S512x2048) hz2, View.ld_unit_zero (S := S1x1024x2048) hz3]

/-- At every other row tile the output block is the product with what the scratch holds. -/
theorem out_B (c : Dev nD) (i : grid0.Coords) (a2 h2 a3 h3 a4 h4 a5 h5) (hc : ¬cond0_0 i) (x0 : Vec F S512x2048 .bf16)
    (x1 : Vec F S1x1024x2048 .f32) (xs : Vec F S2048x1024 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, Memref.IsWhole.read_unread, View.ld_unit_zero (S := S512x2048) hz2,
    View.ld_unit_zero (S := S2048x1024) hz2]

/-! ## The blocks the windows read -/

/-- The block indices of the three windows at a point (the weights' are the offsets of their tile). -/
theorem idx_facts : ∀ t : Fin cfg0.N, win0_0.index t (0 : Fin 2) = t.val % 19 ∧ win0_0.index t (1 : Fin 2) = 0
    ∧ win0_1.index t (0 : Fin 3) = 1
    ∧ win0_1.index t (1 : Fin 3) = 1024 * (t.val / 19) + 4176
    ∧ win0_1.index t (2 : Fin 3) = 0
    ∧ win0_2.index t (0 : Fin 2) = t.val % 19 ∧ win0_2.index t (1 : Fin 2) = t.val / 19 :=
  (by decide +kernel : ∀ t : Fin grid0.N, _)

theorem lt95 (t : Fin cfg0.N) : t.val < 95 := lt_of_lt_of_eq t.isLt N_0

/-- The activations' block at a point: its 512 rows. -/
theorem iblk_x (c : Dev nD) (t : Fin cfg0.N) (r : Fin 512) (k : Fin 2048) :
    (iblk m c 0 t : Vec F S512x2048 .bf16) (ix2 r k)
      = (m ((c : Thread nD τ).loc main_arg0) : Vec F S9728x2048 .bf16) (ix2 ⟨512 * (t.val % 19) + r.val, by omega⟩ k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * (t.val % 19) + r.val; rw [e0]; omega
  | ⟨1, _⟩ => show win0_0.index t 1 * 2048 + 1 * k.val = k.val; rw [e1]; omega

/-- The weights the region finds: the argument, its two last axes exchanged. -/
theorem V_w (c : Dev nD) : V m c main_v0
    = transpose S2x9296x2048 [0, 2, 1] (m ((c : Thread nD τ).loc main_arg1) : Vec F S2x2048x9296 .f32)
        transposes_S2x2048x9296_S2x9296x2048_0_2_1 := by
  show StableHlo.after hostOps0 (fun b => m (c, b)) (Proc.devRef .tc main_v0) = _
  after_results <;> rfl

/-- The weights' tile at a point, element by element, in the argument's own order of axes. -/
theorem iblk_w (c : Dev nD) (t : Fin cfg0.N) (j : Fin 1024) (k : Fin 2048) :
    (iblk m c 1 t : Vec F S1x1024x2048 .f32) (ix3 0 j k)
      = (m ((c : Thread nD τ).loc main_arg1) : Vec F S2x2048x9296 .f32)
          (ix3 1 k ⟨4176 + (1024 * (t.val / 19) + j.val), by have := lt95 t; omega⟩) := by
  obtain ⟨-, -, e0, e1, e2, -⟩ := idx_facts t
  unfold iblk
  rw [View.read_apply]
  show V m c main_v0 _ = m (c.tc.loc main_arg1) _
  rw [V_w]
  refine transpose_apply _ _ _ _ _ fun a => ?_
  match a with
  | ⟨0, _⟩ => show 1 = win0_1.index t 0 + 1 * 0; rw [e0]
  | ⟨1, _⟩ => show 4176 + (1024 * (t.val / 19) + j.val) = win0_1.index t 1 + 1 * j.val; rw [e1]; omega
  | ⟨2, _⟩ => show k.val = win0_1.index t 2 + 1 * k.val; rw [e2]; omega

/-- Within one column of tiles the weights' block does not move. -/
theorem iblk_w_eq (c : Dev nD) (t s : Fin cfg0.N) (h : t.val / 19 = s.val / 19) :
    (iblk m c 1 t : Vec F S1x1024x2048 .f32) = iblk m c 1 s := by
  funext y
  idx_vars y
  obtain rfl : y0 = 0 := Subsingleton.elim _ _
  rw [iblk_w, iblk_w]
  simp only [h]

/-! ## The scratch and the output after every point -/

/-- The scratch after a point: the transposed weight tile of the point's column. -/
theorem scratch_eq (c : Dev nD) : ∀ (n : ℕ) (t : Fin cfg0.N), t.val = n →
    (outsAt0 m c t.val t.isLt).2 = k0_pay1 (iblk m c 1 t) := by
  intro n
  induction n with
  | zero =>
    intro t ht
    rw [outsAt0_A m c t (by omega)]
    dsimp only
    rw [scratch_A]
  | succ n ih =>
    intro t ht
    by_cases h0 : t.val % 19 = 0
    · rw [outsAt0_A m c t h0]
      dsimp only
      rw [scratch_A]
    · rw [outsAt0_B m c t h0]
      dsimp only [sout0_B_0]
      rw [ih ⟨t.val - 1, by omega⟩ (by dsimp only; omega), iblk_w_eq m c ⟨t.val - 1, by omega⟩ t (by dsimp only; omega)]

/-- The output block after a point: its rows times the point's weight tile. -/
theorem out_eq (c : Dev nD) (t : Fin cfg0.N) :
    (outsAt0 m c t.val t.isLt).1 = k0_pay2 (iblk m c 0 t) (k0_pay1 (iblk m c 1 t)) := by
  by_cases h0 : t.val % 19 = 0
  · rw [outsAt0_A m c t h0]
    dsimp only
    rw [out_A]
  · rw [outsAt0_B m c t h0]
    dsimp only
    rw [out_B, scratch_eq m c _ ⟨t.val - 1, by omega⟩ rfl, iblk_w_eq m c ⟨t.val - 1, by omega⟩ t (by dsimp only; omega)]

/-! ## The result array -/

/-- The product of the activations with the second layer's weights from column 4176 on. -/
def prod (x : Vec Ideal S9728x2048 .bf16) (w : Vec Ideal S2x2048x9296 .f32) : Vec Ideal S9728x5120 .f32 := fun i =>
  ∑ k : Fin 2048, x (ix2 (i 0) k) * w (ix3 1 k ⟨4176 + (i 1).val, Nat.add_lt_add_left (i 1).isLt 4176⟩)

/-- What the result array ends holding. -/
def G (m : (ℓ : Loc nD τ sig) → Buf (Elt Ideal) ℓ) (c : Dev nD) : Vec Ideal S9728x5120 .f32 :=
  prod (m ((c : Thread nD τ).loc main_arg0)) (m ((c : Thread nD τ).loc main_arg1))

/-- The product of a block of rows with a transposed tile, read at an index. -/
theorem pay_apply (x : Vec Ideal S512x2048 .bf16) (w : Vec Ideal S1x1024x2048 .f32) (r : Fin 512) (j : Fin 1024) :
    k0_pay2 x (k0_pay1 w) (ix2 r j) = ∑ k : Fin 2048, x (ix2 r k) * w (ix3 0 j k) := by
  unfold_payloads
  pointwise

/-- Every point writes back its block of `G`. -/
theorem flushed_eq (m : (ℓ : Loc nD τ sig) → Buf (Elt Ideal) ℓ) (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2, out_eq]
  obtain ⟨-, -, -, -, -, e0, e1⟩ := idx_facts t
  funext y
  have hy0 : (y 0).val < 512 := (y 0).isLt
  have hy1 : (y 1).val < 1024 := (y 1).isLt
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  show k0_pay2 (iblk m c 0 t) (k0_pay1 (iblk m c 1 t)) ((cfg0.win 2).xinj (grid0.coords t) y)
    = G m c (((cfg0.win 2).blk t).view.emb y)
  have hl : (cfg0.win 2).xinj (grid0.coords t) y = ix2 (⟨(y 0).val, hy0⟩ : Fin 512) (⟨(y 1).val, hy1⟩ : Fin 1024) := by
    funext a
    match a with
    | ⟨0, _⟩ => rfl
    | ⟨1, _⟩ => rfl
  rw [hl, pay_apply]
  unfold G prod
  refine Finset.sum_congr rfl fun k _ => ?_
  rw [iblk_x, iblk_w]
  congr 2
  · congr 1
    apply Fin.ext
    show _ = (((cfg0.win 2).blk t).view.emb y 0).val
    rw [hb0, e0]
    dsimp only
    omega
  · congr 1
    apply Fin.ext
    show _ = 4176 + (((cfg0.win 2).blk t).view.emb y 1).val
    rw [hb1, e1]
    dsimp only
    omega

/-- An index of the array is in a point's block iff each coordinate is in the block's range. -/
theorem mem_blk (t : Fin cfg0.N) (i : S9728x5120.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- The result array after the run. -/
theorem final (m : (ℓ : Loc nD τ sig) → Buf (Elt Ideal) ℓ) (c : Dev nD) : (dats m 0 c).arrAt 2 cfg0.N = G m c :=
  (dats m 0 c).arrAt_eq_of_cover 2 _ (fun t _ => flushed_eq m c t) fun i => by
    have h0 : (i 0).val < 9728 := (i 0).isLt
    have h1 : (i 1).val < 5120 := (i 1).isLt
    have hN : (i 0).val / 512 + 19 * ((i 1).val / 1024) < cfg0.N := lt_of_lt_of_eq (by omega) N_0.symm
    refine ⟨⟨_, hN⟩, flush0_2 _, ?_⟩
    obtain ⟨-, -, -, -, -, e0, e1⟩ := idx_facts ⟨_, hN⟩
    dsimp only at e0 e1
    rw [mem_blk]
    intro a
    match a with
    | ⟨0, _⟩ =>
      show win0_2.index _ (0 : Fin 2) * 512 ≤ (i 0).val ∧ (i 0).val < win0_2.index _ (0 : Fin 2) * 512 + 512
      rw [e0]; omega
    | ⟨1, _⟩ =>
      show win0_2.index _ (1 : Fin 2) * 1024 ≤ (i 1).val ∧ (i 1).val < win0_2.index _ (1 : Fin 2) * 1024 + 1024
      rw [e1]; omega

/-! ## The host code after the region -/

/-- The last 15 of the prompts' rows of an array's first 1024 columns. -/
def promptPart (P : Vec Ideal S9728x5120 .f32) : Vec Ideal S2x15x1024 .f32 :=
  extractStridedSlice S2x15x1024 ![0, 4097, 0] (extractStridedSlice S2x4112x1024 ![0, 240, 0] (shapeCast S2x4352x1024 (extractStridedSlice S8704x1024 ![0, 0] (extractStridedSlice S9728x1024 ![0, 0] P slices_S9728x5120_S9728x1024_0_0) slices_S9728x1024_S8704x1024_0_0) shapeCasts_S8704x1024_S2x4352x1024) slices_S2x4352x1024_S2x4112x1024_0_240_0) slices_S2x4112x1024_S2x15x1024_0_4097_0

/-- The last 15 of the samples' rows of an array's first 1024 columns. -/
def samplePart (P : Vec Ideal S9728x5120 .f32) : Vec Ideal S16x15x1024 .f32 :=
  extractStridedSlice S16x15x1024 ![0, 49, 0] (shapeCast S16x64x1024 (extractStridedSlice S1024x1024 ![8704, 0] (extractStridedSlice S9728x1024 ![0, 0] P slices_S9728x5120_S9728x1024_0_0) slices_S9728x1024_S1024x1024_8704_0) shapeCasts_S1024x1024_S16x64x1024) slices_S16x64x1024_S16x15x1024_0_49_0

theorem arr_inj : Function.Injective (Pipeline.arrRef spec0) := by
  intro a b h
  revert a b
  decide

/-- What the first result array holds when the host code after the region starts. -/
theorem tail_arr (m : (ℓ : Loc nD τ sig) → Buf (Elt Ideal) ℓ) (c : Dev nD) :
    Pipeline.withArrays spec0 c (V0 m c) (fun w => (dats m 0 c).arrAt w cfg0.N) (Proc.devRef .tc main_v1) = G m c :=
  (Pipeline.withArrays_arr spec0 arr_inj c (V0 m c) (fun w => (dats m 0 c).arrAt w cfg0.N) 2).trans (final m c)

/-- The prompts' rows after the host code. -/
theorem tail_prompt (m : (ℓ : Loc nD τ sig) → Buf (Elt Ideal) ℓ) (c : Dev nD) :
    Pipeline.afterTail₀ cfgs (dats m) 0 (V0 m) [hostOps1] c main_v6 = promptPart (G m c) := by
  unfold promptPart
  rw [← tail_arr m c]
  show StableHlo.after hostOps1 (Pipeline.withArrays spec0 c (V0 m c) fun w => (dats m 0 c).arrAt w cfg0.N) (Proc.devRef .tc main_v6) = _
  generalize Pipeline.withArrays spec0 c (V0 m c) (fun w => (dats m 0 c).arrAt w cfg0.N) = W
  after_results <;> rfl

/-- The samples' rows after the host code. -/
theorem tail_sample (m : (ℓ : Loc nD τ sig) → Buf (Elt Ideal) ℓ) (c : Dev nD) :
    Pipeline.afterTail₀ cfgs (dats m) 0 (V0 m) [hostOps1] c main_v9 = samplePart (G m c) := by
  unfold samplePart
  rw [← tail_arr m c]
  show StableHlo.after hostOps1 (Pipeline.withArrays spec0 c (V0 m c) fun w => (dats m 0 c).arrAt w cfg0.N) (Proc.devRef .tc main_v9) = _
  generalize Pipeline.withArrays spec0 c (V0 m c) (fun w => (dats m 0 c).arrAt w cfg0.N) = W
  after_results <;> rfl

/-- The run: the results are the product and the rows cut from it, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = G m c
      ∧ r.2.mem ((c : Thread nD τ).loc main_v6) = promptPart (G m c)
      ∧ r.2.mem ((c : Thread nD τ).loc main_v9) = samplePart (G m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).2 main_v6 (Pipeline.mem_restRefs_of main_v6 (by decide) (by decide))).trans (tail_prompt m c),
      ((h c).2 main_v9 (Pipeline.mem_restRefs_of main_v9 (by decide) (by decide))).trans (tail_sample m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.ProjTailIdeal.TailValue

namespace Cert.ProjTailReferenceIdeal.Read

open Cert.ProjTailReferenceIdeal Cert.ProjTailReferenceIdeal.Gen Idealize.ShloMosaic

/-- The reference's product of the activations with the second layer's weights. -/
def full (x : Vec Ideal S9728x2048 .bf16) (w : Vec Ideal S2x2048x9296 .f32) : FVec Ideal S9728x9296 .f32 :=
  (Host.dotGeneral dot_S9728x2048_S2048x9296_S9728x9296_1_0_0_1_n_n none (extf .f32 x bitsLt_bf16_f32) (shapeCast S2048x9296 (extractStridedSlice S1x2048x9296 ![1, 0, 0] w slices_S2x2048x9296_S1x2048x9296_1_0_0) shapeCasts_S1x2048x9296_S2048x9296 : FVec Ideal S2048x9296 .f32))

/-- The reference's product, cut to the columns from 4176 on. -/
def vals (x : Vec Ideal S9728x2048 .bf16) (w : Vec Ideal S2x2048x9296 .f32) : FVec Ideal S9728x5120 .f32 :=
  extractStridedSlice S9728x5120 ![0, 4176] (full x w) slices_S9728x9296_S9728x5120_0_4176

theorem vals_apply (x : Vec Ideal S9728x2048 .bf16) (w : Vec Ideal S2x2048x9296 .f32) (r : Fin 9728) (j : Fin 5120) :
    vals x w (ix2 r j) = Cert.ProjTailIdeal.TailValue.prod x w (ix2 r j) := by
  unfold vals full Cert.ProjTailIdeal.TailValue.prod
  pointwise

/-- The prompts' last rows, cut before or after the padding's rows are. -/
theorem prompt_apply (D : FVec Ideal S9728x9296 .f32) :
    extractStridedSlice S2x15x1024 ![0, 4337, 0] (shapeCast S2x4352x1024 (extractStridedSlice S8704x1024 ![0, 0] (extractStridedSlice S9728x1024 ![0, 4176] D slices_S9728x9296_S9728x1024_0_4176) slices_S9728x1024_S8704x1024_0_0) shapeCasts_S8704x1024_S2x4352x1024 : FVec Ideal S2x4352x1024 .f32) slices_S2x4352x1024_S2x15x1024_0_4337_0
      = Cert.ProjTailIdeal.TailValue.promptPart (extractStridedSlice S9728x5120 ![0, 4176] D slices_S9728x9296_S9728x5120_0_4176) := by
  unfold Cert.ProjTailIdeal.TailValue.promptPart
  funext j
  idx_vars j
  pointwise
  exact congrArg D (congrArg₂ ix2 (Fin.ext (by dsimp only; omega)) rfl)

/-- The samples' last rows. -/
theorem sample_apply (D : FVec Ideal S9728x9296 .f32) :
    extractStridedSlice S16x15x1024 ![0, 49, 0] (shapeCast S16x64x1024 (extractStridedSlice S1024x1024 ![8704, 0] (extractStridedSlice S9728x1024 ![0, 4176] D slices_S9728x9296_S9728x1024_0_4176) slices_S9728x1024_S1024x1024_8704_0) shapeCasts_S1024x1024_S16x64x1024 : FVec Ideal S16x64x1024 .f32) slices_S16x64x1024_S16x15x1024_0_49_0
      = Cert.ProjTailIdeal.TailValue.samplePart (extractStridedSlice S9728x5120 ![0, 4176] D slices_S9728x9296_S9728x5120_0_4176) := by
  unfold Cert.ProjTailIdeal.TailValue.samplePart
  funext j
  idx_vars j
  pointwise

end Cert.ProjTailReferenceIdeal.Read

namespace Cert.Proof

open Idealize.ShloMosaic Idealize.SL.Sem

theorem quiescent_ProjTailReferenceIdeal : quiescent_ProjTailReferenceIdeal := fun m ρ _ =>
  (θ_run Cert.ProjTailReferenceIdeal.defs _ _).mono
    (fun r h => ⟨fun c => (h c).2.2.2, sem_eq_zero_of_no_sems (by decide) r.2⟩)
    (Cert.ProjTailReferenceIdeal.Value.run (F := Ideal) m ρ)

theorem algebraic_ProjTailIdeal_ProjTailReferenceIdeal : algebraic_ProjTailIdeal_ProjTailReferenceIdeal := by
  intro m ρ m' ρ' _ hagree
  refine ⟨_, _, _, Cert.ProjTailIdeal.TailValue.run m ρ, ?_⟩
  refine (θ_run Cert.ProjTailReferenceIdeal.defs _ _).mono (fun _ h c => ⟨?_, ?_, ?_, (h c).2.2.2⟩)
    (Cert.ProjTailReferenceIdeal.Value.run (F := Ideal) m' ρ')
  all_goals
    have hG : Cert.ProjTailReferenceIdeal.Read.vals (m' (c.tc.loc Cert.ProjTailReferenceIdeal.main_arg0)) (m' (c.tc.loc Cert.ProjTailReferenceIdeal.main_arg1))
        = Cert.ProjTailIdeal.TailValue.G m c := by
      rw [(hagree c).1, (hagree c).2]
      funext j
      idx_vars j
      exact Cert.ProjTailReferenceIdeal.Read.vals_apply _ _ _ _
  · rw [(h c).1, ← hG]
    rfl
  · rw [(h c).2.1, ← hG]
    exact Cert.ProjTailReferenceIdeal.Read.prompt_apply _
  · rw [(h c).2.2.1, ← hG]
    exact Cert.ProjTailReferenceIdeal.Read.sample_apply _

end Cert.Proof

end
-- ==== Proof.MoeGateUpRun.lean ====
/- The run of the expert gate-up call (`MoeGateUpIdeal`), by hand: which expert and which row tile a point reads from the two tables,
   what every window holds after each point (a block of a row tile in use is its payload, every other block is zero), the
   body of a point, and from these the frame. The weight tiles are copied to scratch only when the expert or the column
   tile changes, so the scratch is carried from point to point. -/
module

public import proofs.«01_k».proof.Proof.Gen.MoeGateUpIdeal.Launch
public import proofs.«01_k».proof.Proof.Gen.MoeGateUpIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import Idealize.ShloMosaic.Lib.Claim
public import Idealize.ShloMosaic.Lib.Pointwise

@[expose] public section

set_option maxRecDepth 16384

noncomputable section

namespace Cert.MoeGateUpIdeal.Hand

open Cert.MoeGateUpIdeal Cert.MoeGateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tables as the body holds them -/

/-- The table of the row tiles' experts, and the table of the number of row tiles in use. -/
abbrev tabE : Memref sig .tc .smem S46 .i32 := Memref.whole main_arg0
abbrev tabN : Memref sig .tc .smem S1 .i32 := Memref.whole main_arg1

/-- Half of a table's buffer on core `c`, at contents `f`: enough to read it. -/
abbrev TabBuf (c : Dev nD) {S : Shape} {e : EltTy} (M : Memref sig .tc .smem S e) : Type := Buf (Elt F) (M.view.loc (c : Thread nD τ))
abbrev half (c : Dev nD) {S : Shape} {e : EltTy} (M : Memref sig .tc .smem S e) (f : TabBuf (F := F) c M) : sProp 𝕄 :=
  M.view.loc (c : Thread nD τ) ↦{fullShare.right} f

/-- The expert of the point's row tile, as the body loads it, -/
abbrev wordE (c : Dev nD) (i : grid0.Coords) (te : TabBuf (F := F) c tabE) : BitVec 32 :=
  View.readAt (Elt F) tabE.view (Rect.unit (s := S46) (k0_off1 i) S1.size (k0_off1_inb i)).toLoadRect te (Shape.Idx.first (numel1_S1.symm ▸ Nat.one_pos))
/-- the expert of the row tile before it (of the tile itself at the first), -/
abbrev wordP (c : Dev nD) (i : grid0.Coords) (te : TabBuf (F := F) c tabE) : BitVec 32 :=
  View.readAt (Elt F) tabE.view (Rect.unit (s := S46) (k0_off2 i) S1.size (k0_off2_inb i)).toLoadRect te (Shape.Idx.first (numel1_S1.symm ▸ Nat.one_pos))
/-- and the number of row tiles in use. -/
abbrev wordN (c : Dev nD) (nu : TabBuf (F := F) c tabN) : BitVec 32 :=
  View.readAt (Elt F) tabN.view (Rect.unit (s := S1) ![0] S1.size inb_S1_S1_0).toLoadRect nu (Shape.Idx.first (numel1_S1.symm ▸ Nat.one_pos))

/-- The point starts a new expert's rows: the body converts that expert's weights. -/
abbrev starts (c : Dev nD) (i : grid0.Coords) (te : TabBuf (F := F) c tabE) : Prop :=
  (Scalar.cmpi .ne (Scalar.extui (Scalar.ori (Scalar.cmpi .eq (BitVec.ofNat 32 (i 1).val) 0#32) (Scalar.cmpi .ne (wordE c i te) (wordP c i te)))) 0#32) = 1#1

/-- The body's last two conditions exclude one another and exhaust the cases. -/
theorem cond3_iff (i : grid0.Coords) (v : BitVec 32) : k0_cond3 i v = 1#1 ↔ ¬ k0_cond2 i v = 1#1 := by
  unfold k0_cond2 k0_cond3
  generalize BitVec.ofNat 32 (i 1).val = a
  have e : a.slt v = !(v.sle a) := by
    rw [BitVec.slt, BitVec.sle, ← decide_not]
    exact decide_eq_decide.mpr (by omega)
  simp only [Scalar.cmpi, Scalar.extui, IntOp.cmpi, e]
  cases h : v.sle a <;> simp

theorem hz2 : (![0, 0] : Fin 2 → Nat) = fun _ => 0 := funext fun a => by fin_cases a <;> rfl
theorem hz4 : (![0, 0, 0, 0] : Fin 4 → Nat) = fun _ => 0 := funext fun a => by fin_cases a <;> rfl

/-- One store over a whole buffer leaves its payload. -/
theorem read_store {S : Shape} {e : EltTy} {sp : Space} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-! ## The body at one point -/

open Classical in
set_option maxHeartbeats 16000000 in
/-- The body on any whole buffers: the weights' two converted copies are renewed where a new expert's rows start and
    kept elsewhere; the output block is the gated product with them at a row tile in use and zero at any other. -/
theorem body_run (c : Dev nD) (i : grid0.Coords) (arg4 : Memref sig .tc .vmem S512x2048 .bf16) (harg4 : arg4.IsWhole)
    (arg5 : Memref sig .tc .vmem S1x1x2048x512 .f32) (harg5 : arg5.IsWhole) (arg6 : Memref sig .tc .vmem S1x1x2048x512 .f32) (harg6 : arg6.IsWhole)
    (arg7 : Memref sig .tc .vmem S512x512 .bf16) (harg7 : arg7.IsWhole) (arg8 : Memref sig .tc .vmem S2048x512 .bf16) (harg8 : arg8.IsWhole)
    (arg9 : Memref sig .tc .vmem S2048x512 .bf16) (harg9 : arg9.IsWhole)
    (x0 : Vec F S512x2048 .bf16) (x1 : Vec F S1x1x2048x512 .f32) (x2 : Vec F S1x1x2048x512 .f32) (s0 s1 t0 t1 : Vec F S2048x512 .bf16)
    (te : TabBuf (F := F) c tabE) (nu : TabBuf (F := F) c tabN)
    (ht0 : t0 = if starts c i te then k0_pay1 x1 else s0) (ht1 : t1 = if starts c i te then k0_pay2 x2 else s1)
    (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ owns (c : Thread nD τ) arg8 fullShare s0 ∗ owns (c : Thread nD τ) arg9 fullShare s1
        ∗ half c tabE te ∗ half c tabN nu
        ∗ (iprop(owns (c : Thread nD τ) arg4 fullShare x0 ∗ owns (c : Thread nD τ) arg5 fullShare x1 ∗ owns (c : Thread nD τ) arg6 fullShare x2
            ∗ owns (c : Thread nD τ) arg7 fullShare (if k0_cond2 i (wordN c nu) = 1#1 then k0_pay3 x0 t0 t1 else k0_pay4)
            ∗ owns (c : Thread nD τ) arg8 fullShare t0 ∗ owns (c : Thread nD τ) arg9 fullShare t1
            ∗ half c tabE te ∗ half c tabN nu) -∗ K ⟨⟩))
      ⊢ wp frame (wpE (defs₀ (F := F)) Variants.none c none) E (cc0_moe_gate_up i tabE (Memref.isWhole_whole _) tabN (Memref.isWhole_whole _) arg4 harg4 arg5 harg5 arg6 harg6 arg7 harg7 arg8 harg8 arg9 harg9) K := by
  simp only [cc0_moe_gate_up_eq_skeleton]; unfold cc0_moe_gate_up_skel
  by_cases hc0 : starts c i te <;> by_cases h2 : k0_cond2 i (wordN c nu) = 1#1
  all_goals
    first | rw [if_pos hc0] at ht0 ht1 | rw [if_neg hc0] at ht0 ht1
    subst ht0 ht1
    first | rw [if_pos h2] | rw [if_neg h2]
    have h3 := cond3_iff i (wordN c nu)
    first | replace h3 : ¬ k0_cond3 i (wordN c nu) = 1#1 := fun e => (h3.mp e) h2 | replace h3 : k0_cond3 i (wordN c nu) = 1#1 := h3.mpr h2
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, Hk⟩
    obtain rfl := harg4.eq_unread hf0; obtain rfl := harg5.eq_unread hf1; obtain rfl := harg6.eq_unread hf2
    obtain rfl := harg8.eq_unread hfs0; obtain rfl := harg9.eq_unread hfs1
    sl_exec (disch := first
      | (guard_target = Scalar.cmpi = _; exact hc0) | (guard_target = ¬(Scalar.cmpi = _); exact hc0)
      | (guard_target = k0_cond2 _ _ = _; exact h2) | (guard_target = ¬(k0_cond2 _ _ = _); exact h2)
      | (guard_target = k0_cond3 _ _ = _; exact h3) | (guard_target = ¬(k0_cond3 _ _ = _); exact h3))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap; · iexact H3
      ipureintro
      sl_unfold_words
      rw [read_store _ _ hz2]
      try simp only [View.readCov_unit_zero (S := S2048x512) _ hz2, View.readAt_eq_ld, Memref.IsWhole.read_unread, View.ld_unit_zero (S := S512x2048) hz2,
        View.ld_unit_zero (S := S1x1x2048x512) hz4, View.ld_unit_zero (S := S2048x512) hz2]
    isplitl [HS0]
    · iexists _; isplitr; swap; · iexact HS0
      ipureintro
      sl_unfold_words
      first
      | (rw [read_store _ _ hz2]
         simp only [View.readAt_eq_ld, Memref.IsWhole.read_unread, View.ld_unit_zero (S := S1x1x2048x512) hz4]; done)
      | exact harg8.read_unread _
    isplitl [HS1]
    · iexists _; isplitr; swap; · iexact HS1
      ipureintro
      sl_unfold_words
      first
      | (rw [read_store _ _ hz2]
         simp only [View.readAt_eq_ld, Memref.IsWhole.read_unread, View.ld_unit_zero (S := S1x1x2048x512) hz4]; done)
      | exact harg9.read_unread _
    isplitl [HT0]; · iexact HT0
    iexact HT1

/-! ## The launch: the arrays, the tables, the windows' blocks -/

/-- Core `c`'s buffers when the call is entered: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents at the launch. -/
def tbl : pre0.Contents (Elt F) := fun j => V m (0 : Dev nD) (pre0.ref j)

theorem tbl_on (c : Dev nD) (j : Fin 2) : V m c (pre0.ref j) = tbl m j := by
  obtain rfl : c = 0 := Subsingleton.elim _ _
  rfl

/-- Every block the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(half c tabE (tbl m 0) ∗ half c tabN (tbl m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem held_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The tables' words and the grid's coordinates in closed form -/

/-- The expert of row tile `r`, and the number of row tiles in use. -/
def expert (r : Fin 46) : BitVec 32 := (m ((0 : Dev nD).tc.loc main_arg0) : IVec S46 32) (ix1 r)
def tilesUsed : BitVec 32 := (m ((0 : Dev nD).tc.loc main_arg1) : IVec S1 32) (ix1 0)

theorem tile_mod (i : grid0.Coords) : (BitVec.ofNat 32 (i 1).val).toNat = (i 1).val := by
  have h : (i 1).val < 46 := (i 1).isLt
  rw [BitVec.toNat_ofNat]; omega

theorem wordE_eq (c : Dev nD) (i : grid0.Coords) : wordE c i (tbl m 0) = expert m (i 1) := by
  show m ((0 : Dev nD).tc.loc main_arg0) _ = m ((0 : Dev nD).tc.loc main_arg0) _
  congr 1
  funext a
  match a with
  | ⟨0, _⟩ => exact Fin.ext (show (BitVec.ofNat 32 (i 1).val).toNat + 1 * 0 = (i 1).val by rw [tile_mod]; omega)

theorem prev_mod (i : grid0.Coords) (h0 : (i 1).val ≠ 0) :
    (Scalar.maxsi (Scalar.subi (BitVec.ofNat 32 (i 1).val) 1#32) 0#32).toNat = (i 1).val - 1 := by
  have h : (i 1).val < 46 := (i 1).isLt
  have e : Scalar.subi (BitVec.ofNat 32 (i 1).val) 1#32 = BitVec.ofNat 32 ((i 1).val - 1) := by
    apply BitVec.eq_of_toNat_eq
    show (BitVec.ofNat 32 (i 1).val - 1#32).toNat = _
    rw [BitVec.toNat_sub, BitVec.toNat_ofNat, BitVec.toNat_ofNat, BitVec.toNat_ofNat]
    omega
  rw [e]
  show (if BitVec.slt 0#32 (BitVec.ofNat 32 ((i 1).val - 1)) then BitVec.ofNat 32 ((i 1).val - 1) else 0#32).toNat = _
  split
  · rw [BitVec.toNat_ofNat]; omega
  · rename_i hs
    have : (i 1).val - 1 = 0 := by
      by_contra hne
      apply hs
      rw [BitVec.slt, decide_eq_true_iff, WordCmp.toInt_ofNat_of_lt (w := 32) (a := (i 1).val - 1) (by omega)]
      show (0 : Int) < _
      omega
    rw [this]; rfl

theorem wordP_eq (c : Dev nD) (i : grid0.Coords) (h0 : (i 1).val ≠ 0) :
    wordP c i (tbl m 0) = expert m ⟨(i 1).val - 1, by have : (i 1).val < 46 := (i 1).isLt; omega⟩ := by
  show m ((0 : Dev nD).tc.loc main_arg0) _ = m ((0 : Dev nD).tc.loc main_arg0) _
  congr 1
  funext a
  match a with
  | ⟨0, _⟩ => exact Fin.ext (show (Scalar.maxsi (Scalar.subi (BitVec.ofNat 32 (i 1).val) 1#32) 0#32).toNat + 1 * 0 = (i 1).val - 1 by rw [prev_mod i h0]; omega)

theorem wordN_eq (c : Dev nD) : wordN c (tbl m 1) = tilesUsed m := by
  show m ((0 : Dev nD).tc.loc main_arg1) _ = m ((0 : Dev nD).tc.loc main_arg1) _
  congr 1
  funext a
  match a with
  | ⟨0, _⟩ => rfl

/-- Where no new expert starts, the tile before is of the same expert. -/
theorem same_expert (c : Dev nD) (i : grid0.Coords) (h : ¬ starts c i (tbl m 0)) :
    ∃ h0 : (i 1).val ≠ 0, expert m (i 1) = expert m ⟨(i 1).val - 1, by have : (i 1).val < 46 := (i 1).isLt; omega⟩ := by
  have h46 : (i 1).val < 46 := (i 1).isLt
  unfold starts at h
  rw [wordE_eq] at h
  by_cases h0 : (i 1).val = 0
  · refine absurd ?_ h
    rw [h0]
    show (Scalar.cmpi .ne (Scalar.extui (Scalar.ori (Scalar.cmpi .eq (BitVec.ofNat 32 0) 0#32) (Scalar.cmpi .ne (expert m (i 1)) (wordP c i (tbl m 0))))) 0#32) = 1#1
    generalize Scalar.cmpi .ne (expert m (i 1)) (wordP c i (tbl m 0)) = b
    revert b; decide
  · refine ⟨h0, ?_⟩
    rw [wordP_eq m c i h0] at h
    by_contra hne
    apply h
    have e : Scalar.cmpi .ne (expert m (i 1)) (expert m ⟨(i 1).val - 1, by omega⟩) = 1#1 := by
      show IntOp.cmpi .ne _ _ = _
      simp only [IntOp.cmpi]
      rw [bne_iff_ne .. |>.mpr hne]
      rfl
    rw [e]
    generalize Scalar.cmpi .eq (BitVec.ofNat 32 (i 1).val) 0#32 = b
    revert b; decide

/-- The column tile and the row tile of a point. -/
theorem coord0 (t : Fin grid0.N) : (grid0.coords t 0).val = t.val / 46 % 11 := Pipeline.Grid.coords_val t 0 (by decide) rfl
theorem coord1 (t : Fin grid0.N) : (grid0.coords t 1).val = t.val % 46 := (Pipeline.Grid.coords_val t 1 (S := 1) (by decide) rfl).trans (by rw [Nat.div_one]; rfl)

theorem expert_lt (hO : Ok m) (i : grid0.Coords) : (expert m (i 1)).toNat < 8 := by
  obtain ⟨h, -⟩ := hO.2.1 i
  have h1 := h 1
  have e : cc0_transform_1 k0_off1_inb numel1_S1 (tbl m) i 1 = (expert m (i 1)).toNat := congrArg BitVec.toNat (wordE_eq m 0 i)
  rw [e] at h1
  have h2 : ((expert m (i 1)).toNat + 1) * 1 ≤ 8 := h1
  omega

/-- The `b`-th column tile of expert `e`'s weights. -/
def tileOf (w : Vec F S1x8x2048x5632 .f32) (e b : ℕ) : Vec F S1x1x2048x512 .f32 := fun j =>
  w (ix4 0 ⟨e % 8, Nat.mod_lt _ (by decide)⟩ (j 2) ⟨(512 * b + (j 3).val) % 5632, Nat.mod_lt _ (by decide)⟩)

theorem index_w (hO : Ok m) (t : Fin (cfgM m hO).N) : ((cfgM m hO).win 1).index t (0 : Fin 4) = 0 ∧ ((cfgM m hO).win 1).index t (1 : Fin 4) = (expert m (grid0.coords t 1)).toNat
    ∧ ((cfgM m hO).win 1).index t (2 : Fin 4) = 0 ∧ ((cfgM m hO).win 1).index t (3 : Fin 4) = (grid0.coords t 0).val := by
  refine ⟨rfl, congrArg BitVec.toNat (wordE_eq m 0 (grid0.coords t)), rfl, ?_⟩
  show (BitVec.ofNat 32 (grid0.coords t 0).val).toNat = _
  have h : (grid0.coords t 0).val < 11 := (grid0.coords t 0).isLt
  rw [BitVec.toNat_ofNat]; omega

theorem iblk_1 (hO : Ok m) (c : Dev nD) (t : Fin (cfgM m hO).N) :
    (iblk m hO c 1 t : Vec F S1x1x2048x512 .f32) = tileOf (m ((c : Thread nD τ).loc main_arg3)) (expert m (grid0.coords t 1)).toNat (grid0.coords t 0).val := by
  have h0 : (grid0.coords t 0).val < 11 := (grid0.coords t 0).isLt
  have he := expert_lt m hO (grid0.coords t)
  obtain ⟨e0, e1, e2, e3⟩ := index_w m hO t
  funext j
  unfold iblk
  rw [View.read_apply]
  change S1x1x2048x512.Idx at j
  have hj0 : (j 0).val < 1 := (j 0).isLt
  have hj1 : (j 1).val < 1 := (j 1).isLt
  have hj3 : (j 3).val < 512 := (j 3).isLt
  show m (c.tc.loc main_arg3) _ = m (c.tc.loc main_arg3) _
  congr 1
  funext a
  apply Fin.ext
  match a with
  | ⟨0, _⟩ => show ((cfgM m hO).win 1).index t (0 : Fin 4) * 1 + 1 * (j 0).val = 0; rw [e0]; omega
  | ⟨1, _⟩ => show ((cfgM m hO).win 1).index t (1 : Fin 4) * 1 + 1 * (j 1).val = (expert m (grid0.coords t 1)).toNat % 8; rw [e1]; omega
  | ⟨2, _⟩ => show ((cfgM m hO).win 1).index t (2 : Fin 4) * 2048 + 1 * (j 2).val = (j 2).val; rw [e2]; omega
  | ⟨3, _⟩ => show ((cfgM m hO).win 1).index t (3 : Fin 4) * 512 + 1 * (j 3).val = (512 * (grid0.coords t 0).val + (j 3).val) % 5632; rw [e3]; omega
theorem iblk_2 (hO : Ok m) (c : Dev nD) (t : Fin (cfgM m hO).N) :
    (iblk m hO c 2 t : Vec F S1x1x2048x512 .f32) = tileOf (m ((c : Thread nD τ).loc main_arg4)) (expert m (grid0.coords t 1)).toNat (grid0.coords t 0).val := by
  have h0 : (grid0.coords t 0).val < 11 := (grid0.coords t 0).isLt
  have he := expert_lt m hO (grid0.coords t)
  obtain ⟨e0, e1, e2, e3⟩ := index_w m hO t
  funext j
  unfold iblk
  rw [View.read_apply]
  change S1x1x2048x512.Idx at j
  have hj0 : (j 0).val < 1 := (j 0).isLt
  have hj1 : (j 1).val < 1 := (j 1).isLt
  have hj3 : (j 3).val < 512 := (j 3).isLt
  show m (c.tc.loc main_arg4) _ = m (c.tc.loc main_arg4) _
  congr 1
  funext a
  apply Fin.ext
  match a with
  | ⟨0, _⟩ => show ((cfgM m hO).win 1).index t (0 : Fin 4) * 1 + 1 * (j 0).val = 0; rw [e0]; omega
  | ⟨1, _⟩ => show ((cfgM m hO).win 1).index t (1 : Fin 4) * 1 + 1 * (j 1).val = (expert m (grid0.coords t 1)).toNat % 8; rw [e1]; omega
  | ⟨2, _⟩ => show ((cfgM m hO).win 1).index t (2 : Fin 4) * 2048 + 1 * (j 2).val = (j 2).val; rw [e2]; omega
  | ⟨3, _⟩ => show ((cfgM m hO).win 1).index t (3 : Fin 4) * 512 + 1 * (j 3).val = (512 * (grid0.coords t 0).val + (j 3).val) % 5632; rw [e3]; omega

/-- Where no new expert starts, the weights' tile is the one of the point before. -/
theorem kept (hO : Ok m) (c : Dev nD) (t s : Fin (cfgM m hO).N) (hs : s.val = t.val - 1) (h : ¬ starts c (grid0.coords t) (tbl m 0)) :
    t.val ≠ 0 ∧ (iblk m hO c 1 s : Vec F S1x1x2048x512 .f32) = iblk m hO c 1 t ∧ (iblk m hO c 2 s : Vec F S1x1x2048x512 .f32) = iblk m hO c 2 t := by
  obtain ⟨h0, he⟩ := same_expert m c (grid0.coords t) h
  have ht := coord1 t
  have hs1 := coord1 s
  have ht0 := coord0 t
  have hs0 := coord0 s
  have e1 : grid0.coords s 1 = ⟨(grid0.coords t 1).val - 1, by have : (grid0.coords t 1).val < 46 := (grid0.coords t 1).isLt; omega⟩ := Fin.ext (by dsimp only; omega)
  have e0 : (grid0.coords s 0).val = (grid0.coords t 0).val := by omega
  refine ⟨by omega, ?_, ?_⟩
  · rw [iblk_1, iblk_1, he, e1, e0]; rfl
  · rw [iblk_2, iblk_2, he, e1, e0]; rfl

/-! ## What every point leaves -/

/-- Each window's staging buffer at a point, and that it is whole. -/
abbrev st_0 (hO : Ok m) (t : Fin (cfgM m hO).N) : Memref sig .tc .vmem S512x2048 .bf16 := spec0_0.stage ((cfgM m hO).slots t 0)
abbrev st_1 (hO : Ok m) (t : Fin (cfgM m hO).N) : Memref sig .tc .vmem S1x1x2048x512 .f32 := spec0_1.stage ((cfgM m hO).slots t 1)
abbrev st_2 (hO : Ok m) (t : Fin (cfgM m hO).N) : Memref sig .tc .vmem S1x1x2048x512 .f32 := spec0_2.stage ((cfgM m hO).slots t 2)
abbrev st_3 (hO : Ok m) (t : Fin (cfgM m hO).N) : Memref sig .tc .vmem S512x512 .bf16 := spec0_3.stage ((cfgM m hO).slots t 3)
/-- The two weight copies the kernel keeps from point to point. -/
abbrev copy_0 : Memref sig .tc .vmem S2048x512 .bf16 := Memref.whole cc0_scratch0
abbrev copy_1 : Memref sig .tc .vmem S2048x512 .bf16 := Memref.whole cc0_scratch1

theorem PhiA_eq (c : Dev nD) : (Pipeline.ΦA spec0 c : sProp 𝕄)
    = iprop(iprop((∃ d, owns (c : Thread nD τ) copy_0 fullShare d) ∗ (∃ d, owns (c : Thread nD τ) copy_1 fullShare d)) ∗ (∃ r, prngReg c r)) := by
  unfold Pipeline.ΦA; rw [scopedRest0_eq]; simp only [copy_0, copy_1, owns_whole]; rfl

/-- The output block a point leaves: the gated product of its rows with its expert's tiles, or zero past the tiles in use. -/
def outBlock (hO : Ok m) (c : Dev nD) (t : Fin (cfgM m hO).N) : Vec F S512x512 .bf16 :=
  if k0_cond2 (grid0.coords t) (tilesUsed m) = 1#1 then k0_pay3 (iblk m hO c 0 t) (k0_pay1 (iblk m hO c 1 t)) (k0_pay2 (iblk m hO c 2 t)) else k0_pay4

/-- What is held between points: the two copies at the point before's tiles (anything before the first), the generator's
    register and the tables. -/
def Between (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) copy_0 fullShare (k0_pay1 (iblk m hO c 1 ⟨n, hn⟩)) ∗ owns (c : Thread nD τ) copy_1 fullShare (k0_pay2 (iblk m hO c 2 ⟨n, hn⟩)))
      ∗ (∃ r, prngReg c r)) ∗ Pipeline.ΦT pre0 (tbl m) c)

theorem Between_zero (hO : Ok m) (c : Dev nD) (n : ℕ) (h : n ≤ (cfgM m hO).N) (hz : n = 0) :
    Between m hO c n h = iprop(Pipeline.ΦA spec0 c ∗ Pipeline.ΦT pre0 (tbl m) c) := by
  subst hz; rfl

theorem Between_pos (hO : Ok m) (c : Dev nD) (n : ℕ) (h : n ≤ (cfgM m hO).N) (hz : n ≠ 0) :
    Between m hO c n h = iprop(iprop(iprop(owns (c : Thread nD τ) copy_0 fullShare (k0_pay1 (iblk m hO c 1 ⟨n - 1, by omega⟩)) ∗ owns (c : Thread nD τ) copy_1 fullShare (k0_pay2 (iblk m hO c 2 ⟨n - 1, by omega⟩)))
      ∗ (∃ r, prngReg c r)) ∗ Pipeline.ΦT pre0 (tbl m) c) := by
  cases n with
  | zero => exact absurd rfl hz
  | succ n => rfl

theorem Between_after (hO : Ok m) (c : Dev nD) (t : Fin (cfgM m hO).N) :
    Between m hO c (t.val + 1) t.isLt = iprop(iprop(iprop(owns (c : Thread nD τ) copy_0 fullShare (k0_pay1 (iblk m hO c 1 t)) ∗ owns (c : Thread nD τ) copy_1 fullShare (k0_pay2 (iblk m hO c 2 t)))
      ∗ (∃ r, prngReg c r)) ∗ Pipeline.ΦT pre0 (tbl m) c) := rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outBlock m hO c t
  Φ t := Between m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem Phi_before (hO : Ok m) (c : Dev nD) (t : Fin (cfgM m hO).N) : (dats m hO 0 c).Φ t.castSucc = Between m hO c t.val (Nat.le_of_lt t.isLt) := by
  dsimp only [dats]; exact Pipeline.Dat.Φ_castSucc (Between m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = outBlock m hO c t := by dsimp only [dats]; try rfl

theorem before_0 (hO : Ok m) (c : Dev nD) (t : Fin (cfgM m hO).N) (d) : (dats m hO 0 c).before 0 t d = iblk m hO c 0 t :=
  held_0 m hO (dats m hO 0 c) (A_eq m hO c 0) (after_0 m hO c) t d
theorem before_1 (hO : Ok m) (c : Dev nD) (t : Fin (cfgM m hO).N) (d) : (dats m hO 0 c).before 1 t d = iblk m hO c 1 t :=
  held_1 m hO (dats m hO 0 c) (A_eq m hO c 1) (after_1 m hO c) t d
theorem before_2 (hO : Ok m) (c : Dev nD) (t : Fin (cfgM m hO).N) (d) : (dats m hO 0 c).before 2 t d = iblk m hO c 2 t :=
  held_2 m hO (dats m hO 0 c) (A_eq m hO c 2) (after_2 m hO c) t d

/-! ## The body at a point of the grid -/

abbrev bodyAt (hO : Ok m) (t : Fin (cfgM m hO).N) : Prog (TpuEff nD τ sig (Elt F) Λ₀ .tc) PUnit :=
  cc0_moe_gate_up (grid0.coords t) tabE (Memref.isWhole_whole _) tabN (Memref.isWhole_whole _) (st_0 m hO t) (hstage0_0 (((cfgM m hO).slots t 0).cast nbuf0_0)) (st_1 m hO t) (hstage0_1 (((cfgM m hO).slots t 1).cast nbuf0_1)) (st_2 m hO t) (hstage0_2 (((cfgM m hO).slots t 2).cast nbuf0_2)) (st_3 m hO t) (hstage0_3 (((cfgM m hO).slots t 3).cast nbuf0_3)) copy_0 (Memref.isWhole_whole _) copy_1 (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d))
    ∗ (∃ d, owns (c : Thread nD τ) (st_3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t)
    ∗ owns (c : Thread nD τ) (st_3 m hO t) fullShare ((dats m hO 0 c).after 3 t))

open Classical in
set_option maxHeartbeats 1600000 in
/-- The run of the body with the two copies at `s0`, `s1` where those, if kept, are already the point's tiles. -/
theorem body_at (hO : Ok m) (c : Dev nD) (t : Fin (cfgM m hO).N) (s0 s1 : Vec F S2048x512 .bf16)
    (hk : ¬ starts c (grid0.coords t) (tbl m 0) → s0 = k0_pay1 (iblk m hO c 1 t) ∧ s1 = k0_pay2 (iblk m hO c 2 t)) (K : PUnit → sProp 𝕄) :
    iprop(owns (c : Thread nD τ) (st_0 m hO t) fullShare (iblk m hO c 0 t) ∗ owns (c : Thread nD τ) (st_1 m hO t) fullShare (iblk m hO c 1 t)
        ∗ owns (c : Thread nD τ) (st_2 m hO t) fullShare (iblk m hO c 2 t) ∗ (∃ d, owns (c : Thread nD τ) (st_3 m hO t) fullShare d)
        ∗ owns (c : Thread nD τ) copy_0 fullShare s0 ∗ owns (c : Thread nD τ) copy_1 fullShare s1 ∗ half c tabE (tbl m 0) ∗ half c tabN (tbl m 1)
        ∗ (iprop(owns (c : Thread nD τ) (st_0 m hO t) fullShare (iblk m hO c 0 t) ∗ owns (c : Thread nD τ) (st_1 m hO t) fullShare (iblk m hO c 1 t)
            ∗ owns (c : Thread nD τ) (st_2 m hO t) fullShare (iblk m hO c 2 t) ∗ owns (c : Thread nD τ) (st_3 m hO t) fullShare (outBlock m hO c t)
            ∗ owns (c : Thread nD τ) copy_0 fullShare (k0_pay1 (iblk m hO c 1 t)) ∗ owns (c : Thread nD τ) copy_1 fullShare (k0_pay2 (iblk m hO c 2 t))
            ∗ half c tabE (tbl m 0) ∗ half c tabN (tbl m 1)) -∗ K ⟨⟩))
      ⊢ wp frame (wpE (defs₀ (F := F)) Variants.none c none) Set.univ (bodyAt m hO t) K := by
  have h0 : k0_pay1 (iblk m hO c 1 t) = if starts c (grid0.coords t) (tbl m 0) then k0_pay1 (iblk m hO c 1 t) else s0 := by
    split
    · rfl
    · rename_i h; exact (hk h).1.symm
  have h1 : k0_pay2 (iblk m hO c 2 t) = if starts c (grid0.coords t) (tbl m 0) then k0_pay2 (iblk m hO c 2 t) else s1 := by
    split
    · rfl
    · rename_i h; exact (hk h).2.symm
  have e := body_run c (grid0.coords t) (st_0 m hO t) (hstage0_0 (((cfgM m hO).slots t 0).cast nbuf0_0)) (st_1 m hO t) (hstage0_1 (((cfgM m hO).slots t 1).cast nbuf0_1))
    (st_2 m hO t) (hstage0_2 (((cfgM m hO).slots t 2).cast nbuf0_2)) (st_3 m hO t) (hstage0_3 (((cfgM m hO).slots t 3).cast nbuf0_3))
    copy_0 (Memref.isWhole_whole _) copy_1 (Memref.isWhole_whole _) (iblk m hO c 0 t) (iblk m hO c 1 t) (iblk m hO c 2 t) s0 s1 _ _ (tbl m 0) (tbl m 1) h0 h1 Set.univ K
  rw [wordN_eq] at e
  exact e

set_option maxHeartbeats 1600000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2]
  rw [show (dats m hO 0 c).owesAt () t.succ = (dats m hO 0 c).owesAt () t.castSucc from rfl, after_0, after_1, after_2, after_3]
  rw [show (dats m hO 0 c).Φ t.succ = Between m hO c (t.val + 1) t.isLt from rfl, Between_after]
  rw [Phi_before]
  by_cases hz : t.val = 0
  · rw [Between_zero m hO c _ _ hz, PhiA_eq, tables_eq]
    iintro ⟨⟨⟨⟨⟨%s0, HS0⟩, ⟨%s1, HS1⟩⟩, Hg⟩, ⟨HT0, HT1⟩⟩, Ho, ⟨%d0, H0⟩, ⟨%d1, H1⟩, ⟨%d2, H2⟩, ⟨%d3, H3⟩⟩
    iapply (body_at m hO c t s0 s1 (fun h => absurd hz (kept m hO c t t (by omega) h).1) _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, H3, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    iexact H3
  · rw [Between_pos m hO c _ _ hz, tables_eq]
    iintro ⟨⟨⟨⟨HS0, HS1⟩, Hg⟩, ⟨HT0, HT1⟩⟩, Ho, ⟨%d0, H0⟩, ⟨%d1, H1⟩, ⟨%d2, H2⟩, ⟨%d3, H3⟩⟩
    iapply (body_at m hO c t _ _ (fun h => by
      obtain ⟨-, e1, e2⟩ := kept m hO c t ⟨t.val - 1, by omega⟩ rfl h
      exact ⟨congrArg k0_pay1 e1, congrArg k0_pay2 e2⟩) _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, H3, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    iexact H3

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output's block is stored at every point. -/
theorem never_idle (hO : Ok m) (t : Fin (cfgM m hO).N) : (cfgM m hO).idle 3 (grid0.coords t) = false := by
  show (!(k0_cond2 (grid0.coords t) ((tbl m).atD 1 ![0]) == 1#1) && !(k0_cond3 (grid0.coords t) ((tbl m).atD 1 ![0]) == 1#1)) = false
  generalize (tbl m).atD 1 ![0] = v
  have h := cond3_iff (grid0.coords t) v
  by_cases h2 : k0_cond2 (grid0.coords t) v = 1#1
  · simp [h2]
  · simp [h.mpr h2]

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hi : idle0 (tbl m) 3 ((pcfg0.gridAt (tbl m)).coords t) = false := never_idle m hO t
  unfold bodyPost
  simp only [hi]
  exact Idealize.SL.BI.Entails.refl _

theorem hin (hO : Ok m) (c : Dev nD) : iprop(Pipeline.ΦA spec0 c ∗ Pipeline.ΦT pre0 (tbl m) c) ⊢ (dats m hO 0 c).Φ 0 := by
  rw [show (dats m hO 0 c).Φ 0 = Between m hO c 0 (Nat.zero_le _) from rfl, Between_zero m hO c 0 _ rfl]

theorem hout (hO : Ok m) (c : Dev nD) : (dats m hO 0 c).Φ (Fin.last (cfgM m hO).N) ⊢ Pipeline.ΦA spec0 c := by
  rw [show (dats m hO 0 c).Φ (Fin.last (cfgM m hO).N) = Between m hO c (cfgM m hO).N le_rfl from rfl,
    Between_pos m hO c _ _ (by have : (cfgM m hO).N = 506 := N_0; omega), PhiA_eq]
  iintro ⟨⟨⟨HS0, HS1⟩, Hg⟩, HT⟩
  isplitl [HS0 HS1]
  · isplitl [HS0]
    · iexists _; iexact HS0
    iexists _; iexact HS1
  iexact Hg

/-! ## The run -/

set_option backward.isDefEq.respectTransparency.types false in
/-- From any memory whose tables choose blocks inside the arrays the call runs to the end, its arrays at what the points
    left and every counter at zero. -/
theorem run_call (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := tbl_on m) (hin := hin m hO) (hout := hout m hO)

/-- The same, read at the arrays: the result at what the points wrote back, the arguments as they were. -/
theorem run_arrays (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 3,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_call m ρ hO)

/-- The arguments end as they were. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_arrays m ρ hO)

/-! ## The tables a caller may pass -/

/-- Window 0's row tile: the point's own, or the last one in use. -/
def rowTile (i : grid0.Coords) : ℕ := (Scalar.minsi (BitVec.ofNat 32 (i 1).val) (Scalar.subi (tilesUsed m) 1#32)).toNat

theorem rowTile_eq (h1 : 1 ≤ (tilesUsed m).toNat) (h2 : (tilesUsed m).toNat ≤ 46) (i : grid0.Coords) :
    rowTile m i = min (i 1).val ((tilesUsed m).toNat - 1) := by
  have h : (i 1).val < 46 := (i 1).isLt
  unfold rowTile
  generalize tilesUsed m = n at h1 h2
  have e : Scalar.subi n 1#32 = BitVec.ofNat 32 (n.toNat - 1) := by
    apply BitVec.eq_of_toNat_eq
    show (n - 1#32).toNat = _
    rw [BitVec.toNat_sub, BitVec.toNat_ofNat, BitVec.toNat_ofNat]
    omega
  rw [e]
  show (if BitVec.slt (BitVec.ofNat 32 (i 1).val) (BitVec.ofNat 32 (n.toNat - 1)) then BitVec.ofNat 32 (i 1).val else BitVec.ofNat 32 (n.toNat - 1)).toNat = _
  rw [BitVec.slt, WordCmp.toInt_ofNat_of_lt (w := 32) (a := (i 1).val) (by omega), WordCmp.toInt_ofNat_of_lt (w := 32) (a := n.toNat - 1) (by omega)]
  split
  · rename_i hs; rw [decide_eq_true_iff] at hs; rw [BitVec.toNat_ofNat]; omega
  · rename_i hs; rw [decide_eq_true_iff] at hs; rw [BitVec.toNat_ofNat]; omega

/-- With experts below eight and between one and all of the row tiles in use, every block lies inside its array. -/
theorem ok_of (he : ∀ r, (expert m r).toNat < 8) (h1 : 1 ≤ (tilesUsed m).toNat) (h2 : (tilesUsed m).toNat ≤ 46) : Ok m := by
  have hw : ∀ (i : grid0.Coords) a, (cc0_transform_1 k0_off1_inb numel1_S1 (tbl m) i a + 1) * S1x1x2048x512.size a ≤ S1x8x2048x5632.size a := by
    intro i a
    have h0 : (i 0).val < 11 := (i 0).isLt
    have e : cc0_transform_1 k0_off1_inb numel1_S1 (tbl m) i 1 = (expert m (i 1)).toNat := congrArg BitVec.toNat (wordE_eq m 0 i)
    match a with
    | ⟨0, _⟩ => show (0 + 1) * 1 ≤ 1; omega
    | ⟨1, _⟩ => show (cc0_transform_1 k0_off1_inb numel1_S1 (tbl m) i 1 + 1) * 1 ≤ 8; rw [e]; have := he (i 1); omega
    | ⟨2, _⟩ => show (0 + 1) * 2048 ≤ 2048; omega
    | ⟨3, _⟩ => show ((BitVec.ofNat 32 (i 0).val).toNat + 1) * 512 ≤ 5632; rw [BitVec.toNat_ofNat]; omega
  refine ⟨fun i => ⟨?_, .inr (Affine.block_words_dvd (of_decide_eq_true rfl) (by decide))⟩, fun i => ⟨hw i, .inl rfl⟩, fun i => ⟨hw i, .inl rfl⟩⟩
  intro a
  have h : (i 1).val < 46 := (i 1).isLt
  have e : cc0_transform_0 inb_S1_S1_0 numel1_S1 (tbl m) i 0 = rowTile m i :=
    congrArg (fun v : BitVec 32 => (Scalar.minsi (BitVec.ofNat 32 (i 1).val) (Scalar.subi v 1#32)).toNat) (wordN_eq m 0)
  rw [rowTile_eq m h1 h2] at e
  match a with
  | ⟨0, _⟩ => show (cc0_transform_0 inb_S1_S1_0 numel1_S1 (tbl m) i 0 + 1) * 512 ≤ 23552; rw [e]; omega
  | ⟨1, _⟩ => show (0 + 1) * 2048 ≤ 2048; omega

end Cert.MoeGateUpIdeal.Hand

end
-- ==== Proof.MoeGateUpFrame.lean ====
/- The expert gate-up call's frames (`MoeGateUp`, `MoeGateUpIdeal`): the tables the precondition admits choose blocks inside
   the arrays; the word program has the text of the idealized one, so one run serves both. -/
module

public import proofs.«01_k».proof.Defs
public import proofs.«01_k».proof.Proof.MoeGateUpRun
public import proofs.«01_k».proof.Proof.Gen.MoeGateUp.Launch
public import proofs.«01_k».proof.Proof.Gen.Pre_up_tables

@[expose] public section

set_option maxRecDepth 16384

noncomputable section

namespace Cert.MoeGateUpIdeal.Hand

open Cert.MoeGateUpIdeal Cert.MoeGateUpIdeal.Gen Idealize.ShloMosaic Idealize.ShloMosaic.TcCoe Idealize.SL.Sem

variable {F : FTy → Type} [FloatOps F] (m : (ℓ : Loc nD τ sig) → Buf (Elt F) ℓ)

/-- The range of the tables: what the precondition says of them. -/
def InRange : Prop := (∀ r, (expert m r).toNat < 8) ∧ 1 ≤ (tilesUsed m).toNat ∧ (tilesUsed m).toNat ≤ 46

theorem word_lt {v : BitVec 32} {k : ℕ} (hk : k < 2 ^ 31) (h0 : (0 : Int) ≤ v.toInt) (h1 : v.toInt < k) : v.toNat < k := by
  rw [BitVec.toInt_eq_toNat_cond] at h0 h1
  split at h0 <;> omega

theorem inRange_of (h : (Cert.Pre_up_tables.fn (F := F) (m ((0 : Dev nD).tc.loc main_arg0)) (m ((0 : Dev nD).tc.loc main_arg1)) (m ((0 : Dev nD).tc.loc main_arg2))
      (m ((0 : Dev nD).tc.loc main_arg3)) (m ((0 : Dev nD).tc.loc main_arg4))).1 = (fun _ => 1#1)
    ∧ (Cert.Pre_up_tables.fn (F := F) (m ((0 : Dev nD).tc.loc main_arg0)) (m ((0 : Dev nD).tc.loc main_arg1)) (m ((0 : Dev nD).tc.loc main_arg2))
      (m ((0 : Dev nD).tc.loc main_arg3)) (m ((0 : Dev nD).tc.loc main_arg4))).2 = (fun _ => 1#1)) : InRange m := by
  have and1 : ∀ a b : BitVec 1, IntOp.andi a b = 1#1 → a = 1#1 ∧ b = 1#1 := by decide
  obtain ⟨ha, hb⟩ := h
  refine ⟨fun r => ?_, ?_⟩
  · have e := congrFun ha (ix1 r)
    obtain ⟨e0, e1⟩ := and1 _ _ e
    have e0' : IntOp.cmpi .sge (expert m r) 0#32 = 1#1 := e0
    have e1' : IntOp.cmpi .slt (expert m r) 8#32 = 1#1 := e1
    simp only [IntOp.cmpi, WordCmp.ofBool_eq_one_iff, BitVec.sle, BitVec.slt, decide_eq_true_iff] at e0' e1'
    exact word_lt (by omega) e0' e1'
  · have e := congrFun hb (ix1 0)
    obtain ⟨e0, e1⟩ := and1 _ _ e
    have e0' : IntOp.cmpi .sge (tilesUsed m) 1#32 = 1#1 := e0
    have e1' : IntOp.cmpi .sle (tilesUsed m) 46#32 = 1#1 := e1
    simp only [IntOp.cmpi, WordCmp.ofBool_eq_one_iff, BitVec.sle, BitVec.slt, decide_eq_true_iff] at e0' e1'
    have a0 : (1 : Int) ≤ (tilesUsed m).toInt := e0'
    have a1 : (tilesUsed m).toInt ≤ 46 := e1'
    have := word_lt (v := tilesUsed m) (k := 47) (by omega) (by omega) (by omega)
    refine ⟨?_, by omega⟩
    rw [BitVec.toInt_eq_toNat_cond] at a0
    split at a0 <;> omega

theorem InRange.ok {m : (ℓ : Loc nD τ sig) → Buf (Elt F) ℓ} (h : InRange m) : Ok m := ok_of m h.1 h.2.1 h.2.2

end Cert.MoeGateUpIdeal.Hand

namespace Cert.MoeGateUp.Hand

open Cert.MoeGateUp Cert.MoeGateUp.Gen Idealize.ShloMosaic Idealize.ShloMosaic.TcCoe Idealize.SL.Sem

variable {F : FTy → Type} [FloatOps F]

/-- The word program's body table is the idealized program's, -/
theorem bodies_eq : Cert.MoeGateUp.defs₀ (F := F) = Cert.MoeGateUpIdeal.defs₀ (F := F) := by
  unfold Cert.MoeGateUp.defs₀ Cert.MoeGateUpIdeal.defs₀
  refine congrArg (Defs.onTc (nD := nD) (τ := τ) (sig := sig) (Val := Elt F) (Λ := Λ₀)) ?_
  funext l x
  match l, x with
  | 0, (t, s) => rfl
  | ⟨_ + 1, h⟩, _ => exact absurd h (Nat.not_lt.2 (Nat.le_add_left _ _))

/-- and so is the whole program. -/
theorem defs_eq : Cert.MoeGateUp.defs (F := F) = Cert.MoeGateUpIdeal.defs (F := F) :=
  congrArg (Pipeline.defs (Cert.MoeGateUpIdeal.pcfgs (F := F))) bodies_eq

theorem frame (m : (ℓ : Loc nD τ sig) → Buf (Elt F) ℓ) (ρ : Dev nD → PrngReg) (hO : Cert.MoeGateUpIdeal.Hand.Ok (F := F) m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  have h := Cert.MoeGateUpIdeal.Hand.frame (F := F) m ρ hO
  rw [← defs_eq] at h
  exact h

end Cert.MoeGateUp.Hand

namespace Cert.Proof

open Idealize.ShloMosaic Idealize.SL.Sem

theorem quiescent_MoeGateUpIdeal : quiescent_MoeGateUpIdeal := fun m ρ h =>
  Cert.MoeGateUpIdeal.Hand.frame m ρ (Cert.MoeGateUpIdeal.Hand.inRange_of m (h 0)).ok

theorem quiescent_MoeGateUp : quiescent_MoeGateUp := fun m ρ h =>
  Cert.MoeGateUp.Hand.frame m ρ (Cert.MoeGateUpIdeal.Hand.inRange_of (F := Bits) m (h 0)).ok

end Cert.Proof

end
-- ==== Proof.MoeGateUpValue.lean ====
/- The value of the expert gate-up call (`MoeGateUpIdeal`): the block of a row tile in use is the gated product of its rows with
   the column tile of its own expert's two matrices; every other block is zero; so the result array is one function of the
   arguments, and the reference, which computes every expert for every row and keeps the row's own, computes the same. -/
module

public import proofs.«01_k».proof.Defs
public import proofs.«01_k».proof.Proof.MoeGateUpFrame
public import proofs.«01_k».proof.Proof.Gen.MoeGateUpReferenceIdeal
public import proofs.«01_k».proof.Proof.Gen.MoeGateUpReferenceIdeal.Run
public import Idealize.ShloMosaic.Lib.Quiescent
public import Idealize.ShloMosaic.Adequacy

@[expose] public section

set_option maxRecDepth 16384

noncomputable section

namespace Cert.MoeGateUpIdeal.Hand

open Cert.MoeGateUpIdeal Cert.MoeGateUpIdeal.Gen Idealize.ShloMosaic Idealize.ShloMosaic.TcCoe Idealize.SL.Sem
open Idealize.ShloMosaic.Pipeline (Dat)

/-! ## The blocks a point reads and the blocks it writes -/

section
variable {F : FTy → Type} [FloatOps F] (m : (ℓ : Loc nD τ sig) → Buf (Elt F) ℓ)

/-- A point computes iff its row tile is in use. -/
theorem active_iff (h : InRange m) (i : grid0.Coords) : k0_cond2 i (tilesUsed m) = 1#1 ↔ (i 1).val < (tilesUsed m).toNat := by
  have hi : (i 1).val < 46 := (i 1).isLt
  have h2 := h.2.2
  generalize tilesUsed m = n at h2
  have e : k0_cond2 i n = 1#1 ↔ IntOp.cmpi .slt (BitVec.ofNat 32 (i 1).val) n = 1#1 := by
    unfold k0_cond2
    simp only [Scalar.cmpi, Scalar.extui, IntOp.cmpi]
    cases BitVec.slt (BitVec.ofNat 32 (i 1).val) n <;> decide
  rw [e]
  simp only [IntOp.cmpi, WordCmp.ofBool_eq_one_iff, BitVec.slt, decide_eq_true_iff]
  rw [WordCmp.toInt_ofNat_of_lt (w := 32) (a := (i 1).val) (by omega), BitVec.toInt_eq_toNat_cond]
  split <;> omega

/-- A point's rows. -/
def rowsAt (hO : Ok m) (c : Dev nD) (t : Fin (cfgM m hO).N) : Vec F S512x2048 .bf16 := iblk m hO c 0 t

theorem outBlock_eq (hO : Ok m) (c : Dev nD) (t : Fin (cfgM m hO).N) : outBlock m hO c t
    = if k0_cond2 (grid0.coords t) (tilesUsed m) = 1#1 then
        k0_pay3 (rowsAt m hO c t) (k0_pay1 (tileOf (m ((c : Thread nD τ).loc main_arg3)) (expert m (grid0.coords t 1)).toNat (grid0.coords t 0).val))
          (k0_pay2 (tileOf (m ((c : Thread nD τ).loc main_arg4)) (expert m (grid0.coords t 1)).toNat (grid0.coords t 0).val))
      else k0_pay4 := by
  unfold outBlock
  rw [iblk_1, iblk_2]
  rfl

/-- The `b`-th row tile of the gathered tokens. -/
def rowsOf (x : Vec F S23552x2048 .bf16) (b : ℕ) : Vec F S512x2048 .bf16 := fun j =>
  x (ix2 ⟨(512 * b + (j 0).val) % 23552, Nat.mod_lt _ (by decide)⟩ (j 1))

/-- The rows of a point in use: its own row tile of the gathered tokens. -/
theorem iblk_0 (h : InRange m) (c : Dev nD) (t : Fin (cfgM m h.ok).N) (ht : t.val % 46 < (tilesUsed m).toNat) (r : Fin 512) (k : Fin 2048) :
    rowsAt m h.ok c t (ix2 r k)
      = (m ((c : Thread nD τ).loc main_arg2) : Vec F S23552x2048 .bf16) (ix2 ⟨512 * (t.val % 46) + r.val, by omega⟩ k) := by
  have hc := coord1 t
  have e0 : ((cfgM m h.ok).win 0).index t (0 : Fin 2) = t.val % 46 := by
    refine (congrArg (fun v : BitVec 32 => (Scalar.minsi (BitVec.ofNat 32 (grid0.coords t 1).val) (Scalar.subi v 1#32)).toNat) (wordN_eq m 0)).trans ?_
    refine (rowTile_eq m h.2.1 h.2.2 (grid0.coords t)).trans ?_
    rw [hc]; omega
  have e1 : ((cfgM m h.ok).win 0).index t (1 : Fin 2) = 0 := rfl
  suffices e : (iblk m h.ok c 0 t : Vec F S512x2048 .bf16) = rowsOf (m ((c : Thread nD τ).loc main_arg2)) (t.val % 46) by
    refine (congrFun e (ix2 r k)).trans (congrArg (fun q => (m ((c : Thread nD τ).loc main_arg2) : Vec F S23552x2048 .bf16) (ix2 q k)) (Fin.ext ?_))
    show (512 * (t.val % 46) + r.val) % 23552 = _
    dsimp only; omega
  funext j
  unfold iblk
  rw [View.read_apply]
  change S512x2048.Idx at j
  have hj0 : (j 0).val < 512 := (j 0).isLt
  show m (c.tc.loc main_arg2) _ = m (c.tc.loc main_arg2) _
  congr 1
  funext a
  apply Fin.ext
  match a with
  | ⟨0, _⟩ => show ((cfgM m h.ok).win 0).index t (0 : Fin 2) * 512 + 1 * (j 0).val = (512 * (t.val % 46) + (j 0).val) % 23552; rw [e0]; omega
  | ⟨1, _⟩ => show ((cfgM m h.ok).win 0).index t (1 : Fin 2) * 2048 + 1 * (j 1).val = (j 1).val; rw [e1]; omega

theorem index_out (hO : Ok m) (t : Fin (cfgM m hO).N) :
    ((cfgM m hO).win 3).index t (0 : Fin 2) = t.val % 46 ∧ ((cfgM m hO).win 3).index t (1 : Fin 2) = t.val / 46 % 11 := by
  have h0 := coord0 t
  have h1 := coord1 t
  constructor
  · show (BitVec.ofNat 32 (grid0.coords t 1).val).toNat = _
    rw [BitVec.toNat_ofNat]; omega
  · show (BitVec.ofNat 32 (grid0.coords t 0).val).toNat = _
    rw [BitVec.toNat_ofNat]; omega

theorem flush_3 (hO : Ok m) : ∀ t : Fin (cfgM m hO).N, ((cfgM m hO).win 3).flush t = true :=
  fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _)

/-- An index of the result is in a point's block iff each coordinate is in the block's range. -/
theorem mem_blk (hO : Ok m) (t : Fin (cfgM m hO).N) (i : S23552x5632.Idx) :
    i ∈ (((cfgM m hO).win 3).blk t).view.set ↔ ∀ a : Fin 2, ((cfgM m hO).win 3).index t a * S512x512.size a ≤ (i a).val
      ∧ (i a).val < ((cfgM m hO).win 3).index t a * S512x512.size a + S512x512.size a := by
  have e : (((cfgM m hO).win 3).blk t).view.set = (((cfgM m hO).win 3).rect t).set := View.set_slice_whole main_v0 _
  rw [e]
  exact Rect.mem_set_unit

end

/-! ## The result array -/

/-- The gate's activation times the other product. -/
def gated (g u : Ideal .f32) : Ideal .f32 := FloatOps.mulf (FloatOps.mulf g (FloatOps.logistic g)) u

/-- A row of the gathered tokens times a column of an expert's matrix. -/
def rowDot (x : Vec Ideal S23552x2048 .bf16) (w : Vec Ideal S1x8x2048x5632 .f32) (e : Fin 8) (r : Fin 23552) (j : Fin 5632) : EReal :=
  ∑ k : Fin 2048, x (ix2 r k) * w (ix4 0 e k j)

/-- The expert of a row: its row tile's. -/
def ownExpert (m : (ℓ : Loc nD τ sig) → Buf (Elt Ideal) ℓ) (r : Fin 23552) : Fin 8 :=
  ⟨(expert m ⟨r.val / 512, by omega⟩).toNat % 8, Nat.mod_lt _ (by decide)⟩

/-- What the result array ends holding: rows of a tile in use hold their own expert's value, the others zero. -/
def G (m : (ℓ : Loc nD τ sig) → Buf (Elt Ideal) ℓ) (c : Dev nD) : Vec Ideal S23552x5632 .bf16 := fun i =>
  if (i 0).val < 512 * (tilesUsed m).toNat then
    gated (rowDot (m ((c : Thread nD τ).loc main_arg2)) (m ((c : Thread nD τ).loc main_arg3)) (ownExpert m (i 0)) (i 0) (i 1))
      (rowDot (m ((c : Thread nD τ).loc main_arg2)) (m ((c : Thread nD τ).loc main_arg4)) (ownExpert m (i 0)) (i 0) (i 1))
  else (0 : EReal)

theorem pay_apply (x : Vec Ideal S512x2048 .bf16) (wg wu : Vec Ideal S1x1x2048x512 .f32) (r j : Fin 512) :
    k0_pay3 x (k0_pay1 wg) (k0_pay2 wu) (ix2 r j)
      = gated (∑ k : Fin 2048, x (ix2 r k) * wg (ix4 0 0 k j)) (∑ k : Fin 2048, x (ix2 r k) * wu (ix4 0 0 k j)) := by
  unfold gated
  unfold_payloads
  pointwise

theorem zero_apply (r j : Fin 512) : (k0_pay4 (F := Ideal)) (ix2 r j) = (0 : EReal) := by
  unfold_payloads
  pointwise

/-- The block a point leaves, read at an index: `G` at that index of the array. -/
theorem out_apply (m : (ℓ : Loc nD τ sig) → Buf (Elt Ideal) ℓ) (h : InRange m) (c : Dev nD) (t : Fin (cfgM m h.ok).N) (r j : Fin 512)
    (z : S23552x5632.Idx) (hz0 : (z 0).val = 512 * (t.val % 46) + r.val) (hz1 : (z 1).val = 512 * (t.val / 46 % 11) + j.val) :
    outBlock m h.ok c t (ix2 r j) = G m c z := by
  have hc0 := coord0 t
  have hc1 := coord1 t
  have hr : ownExpert m (z 0) = ⟨(expert m (grid0.coords t 1)).toNat % 8, Nat.mod_lt _ (by decide)⟩ :=
    Fin.ext (congrArg (fun r => (expert m r).toNat % 8) (Fin.ext (by dsimp only; rw [hz0, hc1]; omega)))
  have key : ∀ w : Vec Ideal S1x8x2048x5632 .f32, t.val % 46 < (tilesUsed m).toNat →
      (∑ k : Fin 2048, rowsAt m h.ok c t (ix2 r k)
          * tileOf w (expert m (grid0.coords t 1)).toNat (grid0.coords t 0).val (ix4 0 0 k j))
        = rowDot (m ((c : Thread nD τ).loc main_arg2)) w (ownExpert m (z 0)) (z 0) (z 1) := by
    intro w hu
    rw [hr]
    unfold rowDot
    refine Finset.sum_congr rfl fun k _ => ?_
    rw [iblk_0 m h c t hu]
    unfold tileOf
    congr 2
    · congr 1
      exact Fin.ext hz0.symm
    · congr 1
      apply Fin.ext
      show (512 * (grid0.coords t 0).val + j.val) % 5632 = (z 1).val
      rw [hz1, hc0]; omega
  rw [outBlock_eq]
  unfold G
  by_cases hu : t.val % 46 < (tilesUsed m).toNat
  · rw [if_pos ((active_iff m h _).mpr (by rw [hc1]; exact hu)), if_pos (by rw [hz0]; omega), pay_apply, key _ hu, key _ hu]
  · rw [if_neg (fun h' => hu (by rw [← hc1]; exact (active_iff m h _).mp h')), if_neg (by rw [hz0]; omega), zero_apply]

/-- Every point writes back its block of `G`. -/
theorem flushed_eq (m : (ℓ : Loc nD τ sig) → Buf (Elt Ideal) ℓ) (h : InRange m) (c : Dev nD) (t : Fin (cfgM m h.ok).N) :
    (dats m h.ok 0 c).flushed 3 t = (((cfgM m h.ok).win 3).blk t).view.read (Elt Ideal) (G m c) := by
  show ((cfgM m h.ok).win 3).cut (grid0.coords t) ((dats m h.ok 0 c).after 3 t) = _
  rw [after_3]
  obtain ⟨e0, e1⟩ := index_out m h.ok t
  funext y
  have hy0 : (y (0 : Fin 2)).val < 512 := (y (0 : Fin 2)).isLt
  have hy1 : (y (1 : Fin 2)).val < 512 := (y (1 : Fin 2)).isLt
  have hb0 : ((((cfgM m h.ok).win 3).blk t).view.emb y (0 : Fin 2)).val = ((cfgM m h.ok).win 3).index t (0 : Fin 2) * 512 + 1 * (y (0 : Fin 2)).val := rfl
  have hb1 : ((((cfgM m h.ok).win 3).blk t).view.emb y (1 : Fin 2)).val = ((cfgM m h.ok).win 3).index t (1 : Fin 2) * 512 + 1 * (y (1 : Fin 2)).val := rfl
  show outBlock m h.ok c t (((cfgM m h.ok).win 3).xinj (grid0.coords t) y) = G m c ((((cfgM m h.ok).win 3).blk t).view.emb y)
  have hl : ((cfgM m h.ok).win 3).xinj (grid0.coords t) y = ix2 (⟨(y (0 : Fin 2)).val, hy0⟩ : Fin 512) (⟨(y (1 : Fin 2)).val, hy1⟩ : Fin 512) := by
    funext a
    match a with
    | ⟨0, _⟩ => rfl
    | ⟨1, _⟩ => rfl
  rw [hl]
  exact out_apply m h c t _ _ _ (by rw [hb0, e0]; dsimp only; omega) (by rw [hb1, e1]; dsimp only; omega)

/-- The result array after the run. -/
theorem final (m : (ℓ : Loc nD τ sig) → Buf (Elt Ideal) ℓ) (h : InRange m) (c : Dev nD) : (dats m h.ok 0 c).arrAt 3 (cfgM m h.ok).N = G m c :=
  (dats m h.ok 0 c).arrAt_eq_of_cover 3 _ (fun t _ => flushed_eq m h c t) fun i => by
    have h0 : (i (0 : Fin 2)).val < 23552 := (i (0 : Fin 2)).isLt
    have h1 : (i (1 : Fin 2)).val < 5632 := (i (1 : Fin 2)).isLt
    have hN : (i (0 : Fin 2)).val / 512 + 46 * ((i (1 : Fin 2)).val / 512) < (cfgM m h.ok).N := lt_of_lt_of_eq (by omega) N_0.symm
    refine ⟨⟨_, hN⟩, flush_3 m h.ok _, ?_⟩
    obtain ⟨e0, e1⟩ := index_out m h.ok ⟨_, hN⟩
    dsimp only at e0 e1
    refine (mem_blk m h.ok _ i).mpr fun a => ?_
    match a with
    | ⟨0, _⟩ =>
      show ((cfgM m h.ok).win 3).index _ (0 : Fin 2) * 512 ≤ (i (0 : Fin 2)).val ∧ (i (0 : Fin 2)).val < ((cfgM m h.ok).win 3).index _ (0 : Fin 2) * 512 + 512
      rw [e0]; omega
    | ⟨1, _⟩ =>
      show ((cfgM m h.ok).win 3).index _ (1 : Fin 2) * 512 ≤ (i (1 : Fin 2)).val ∧ (i (1 : Fin 2)).val < ((cfgM m h.ok).win 3).index _ (1 : Fin 2) * 512 + 512
      rw [e1]; omega

/-- The run: the result array is `G`, the arguments end as they were. -/
theorem run (m : (ℓ : Loc nD τ sig) → Buf (Elt Ideal) ℓ) (ρ : Dev nD → PrngReg) (h : InRange m) :
    θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ hr c => ⟨((hr.1 c).1).trans (final m h c), (hr.1 c).2⟩) (run_arrays m ρ h.ok)

end Cert.MoeGateUpIdeal.Hand

namespace Cert.MoeGateUpReferenceIdeal.Read

open Cert.MoeGateUpReferenceIdeal Cert.MoeGateUpReferenceIdeal.Gen Idealize.ShloMosaic

/-! ## The reference's arrays read at an index -/

/-- A row's entry of the experts' table. -/
theorem rowExpert_apply (te : IVec S46 32) (r : Fin 23552) :
    shapeCast S23552 (broadcastInDim S46x512 ![0] bcast_S46_S46x512_0 te) shapeCasts_S46x512_S23552 (ix1 r) = te (ix1 ⟨r.val / 512, by omega⟩) := by
  pointwise

/-- The mask: the row's expert is this one, and the row is in use. -/
theorem mask_apply (a : IVec S23552 32) (b : IVec S8 32) (d : IVec S23552 1) (e : Fin 8) (r : Fin 23552) (j : Fin 5632) :
    broadcastInDim S8x23552x5632 ![0, 1, 2] bcast_S8x23552x1_S8x23552x5632_0_1_2 (broadcastInDim S8x23552x1 ![0, 1] bcast_S8x23552_S8x23552x1_0_1 (andi (cmpi .eq (broadcastInDim S8x23552 ![0, 1] bcast_S1x23552_S8x23552_0_1 (broadcastInDim S1x23552 ![1] bcast_S23552_S1x23552_1 a)) (broadcastInDim S8x23552 ![0, 1] bcast_S8x1_S8x23552_0_1 (broadcastInDim S8x1 ![0] bcast_S8_S8x1_0 b))) (broadcastInDim S8x23552 ![0, 1] bcast_S1x23552_S8x23552_0_1 (broadcastInDim S1x23552 ![1] bcast_S23552_S1x23552_1 d)))) (ix3 e r j)
      = IntOp.andi (IntOp.cmpi .eq (a (ix1 r)) (b (ix1 e))) (d (ix1 r)) := by
  pointwise

/-- A row is in use iff its number is below 512 times the number of tiles in use. -/
theorem used_apply (nu : IVec S1 32) (r : Fin 23552) : cmpi .slt (iotaInDim S23552 32 0) (broadcastInDim S23552 ![] bcast_S_S23552 (muli (shapeCast S_ nu shapeCasts_S1_S_) (constantI S_ 32 512#32))) (ix1 r)
    = IntOp.cmpi .slt (BitVec.ofNat 32 r.val) (IntOp.muli (nu (ix1 0)) 512#32) := by
  pointwise

/-- Every expert's product, at an expert, a row and a column. -/
theorem product_apply (x : Vec Ideal S23552x2048 .bf16) (w : Vec Ideal S1x8x2048x5632 .f32) (e : Fin 8) (r : Fin 23552) (j : Fin 5632) :
    transpose S8x23552x5632 [0, 2, 1] (Host.dotGeneral dot_S8x2048x5632_S23552x2048_S8x5632x23552_1_1_02_0_n_n none (shapeCast S8x2048x5632 w shapeCasts_S1x8x2048x5632_S8x2048x5632 : FVec Ideal S8x2048x5632 .f32) (extf .f32 x bitsLt_bf16_f32) : FVec Ideal S8x5632x23552 .f32) transposes_S8x5632x23552_S8x23552x5632_0_2_1 (ix3 e r j)
      = ∑ k : Fin 2048, x (ix2 r k) * w (ix4 0 e k j) := by
  pointwise
  exact Finset.sum_congr rfl fun k _ => mul_comm _ _

/-- The gate's activation times the other product, as the reference writes it. -/
theorem gated_apply (P Q : FVec Ideal S8x23552x5632 .f32) (e : Fin 8) (r : Fin 23552) (j : Fin 5632) :
    mulf (mulf P (Host.divf (broadcastInDim S8x23552x5632 ![] bcast_S_S8x23552x5632 (constant S_ .f32 0x3F800000#32)) (addf (broadcastInDim S8x23552x5632 ![] bcast_S_S8x23552x5632 (constant S_ .f32 0x3F800000#32)) (Host.exp (Host.negf P))))) Q (ix3 e r j)
      = Cert.MoeGateUpIdeal.Hand.gated (P (ix3 e r j)) (Q (ix3 e r j)) := by
  unfold Cert.MoeGateUpIdeal.Hand.gated
  pointwise
  rfl

/-- The sum over the experts of the kept values. -/
theorem kept_sum_apply (M : IVec S8x23552x5632 1) (A : FVec Ideal S8x23552x5632 .f32) (r : Fin 23552) (j : Fin 5632) :
    Host.reduceAdd (select M A (broadcastInDim S8x23552x5632 ![] bcast_S_S8x23552x5632 (id (constant S_ .f32 0x00000000#32)))) (constant S_ .f32 0x00000000#32) reducesTo_S8x23552x5632_S23552x5632_d0 h_S_ (ix2 r j)
      = ∑ e : Fin 8, if M (ix3 e r j) = 1#1 then A (ix3 e r j) else (0 : EReal) := by
  show Host.reduceAdd (select M A (broadcastInDim S8x23552x5632 ![] bcast_S_S8x23552x5632 (constant S_ .f32 0x00000000#32))) (constant S_ .f32 0x00000000#32) reducesTo_S8x23552x5632_S23552x5632_d0 h_S_ (ix2 r j) = _
  pointwise
  rfl

/-- Where the tables are in range, one expert's mask is set in a row in use, its own, and none in the others. -/
theorem mask_iff {te nu : BitVec 32} (he : te.toNat < 8) (h1 : nu.toNat ≤ 46) (e : Fin 8) (r : ℕ) (hr : r < 23552) :
    IntOp.andi (IntOp.cmpi .eq te (BitVec.ofNat 32 e.val)) (IntOp.cmpi .slt (BitVec.ofNat 32 r) (IntOp.muli nu 512#32)) = 1#1
      ↔ e.val = te.toNat % 8 ∧ r < 512 * nu.toNat := by
  have hm : IntOp.muli nu 512#32 = BitVec.ofNat 32 (512 * nu.toNat) := by
    apply BitVec.eq_of_toNat_eq
    show (nu * 512#32).toNat = _
    rw [BitVec.toNat_mul, BitVec.toNat_ofNat, BitVec.toNat_ofNat]; omega
  have and1 : ∀ a b : BitVec 1, IntOp.andi a b = 1#1 ↔ a = 1#1 ∧ b = 1#1 := by decide
  rw [and1, hm]
  simp only [IntOp.cmpi, WordCmp.ofBool_eq_one_iff, BitVec.slt, decide_eq_true_iff, beq_iff_eq]
  rw [WordCmp.toInt_ofNat_of_lt (w := 32) (a := r) (by omega), WordCmp.toInt_ofNat_of_lt (w := 32) (a := 512 * nu.toNat) (by omega)]
  refine and_congr ⟨fun h => ?_, fun h => ?_⟩ (by omega)
  · rw [h, BitVec.toNat_ofNat]; omega
  · apply BitVec.eq_of_toNat_eq; rw [BitVec.toNat_ofNat]; omega

/-- The sum over the experts is the row's own expert's value, or zero. -/
theorem own_sum {p : Prop} [Decidable p] (o : Fin 8) (M : Fin 8 → BitVec 1) (A : Fin 8 → EReal) (h : ∀ e, M e = 1#1 ↔ e = o ∧ p) :
    (∑ e : Fin 8, if M e = 1#1 then A e else (0 : EReal)) = if p then A o else 0 := by
  by_cases hp : p
  · rw [if_pos hp, Finset.sum_eq_single o (fun e _ ne => if_neg fun h' => ne ((h e).mp h').1) (fun ho => absurd (Finset.mem_univ _) ho)]
    exact if_pos ((h o).mpr ⟨rfl, hp⟩)
  · rw [if_neg hp]
    exact Finset.sum_eq_zero fun e _ => if_neg fun h' => hp ((h e).mp h').2

end Cert.MoeGateUpReferenceIdeal.Read

namespace Cert.Proof

open Idealize.ShloMosaic Idealize.SL.Sem

theorem quiescent_MoeGateUpReferenceIdeal : quiescent_MoeGateUpReferenceIdeal := fun m ρ _ =>
  (θ_run Cert.MoeGateUpReferenceIdeal.defs _ _).mono
    (fun r h => ⟨fun c => (h c).2, sem_eq_zero_of_no_sems (by decide) r.2⟩)
    (Cert.MoeGateUpReferenceIdeal.Value.run (F := Ideal) m ρ)

theorem algebraic_MoeGateUpIdeal_MoeGateUpReferenceIdeal : algebraic_MoeGateUpIdeal_MoeGateUpReferenceIdeal := by
  intro m ρ m' ρ' hpre hagree
  have hin := Cert.MoeGateUpIdeal.Hand.inRange_of m (hpre 0)
  refine ⟨_, Cert.MoeGateUpIdeal.Hand.run m ρ hin, ?_⟩
  refine (θ_run Cert.MoeGateUpReferenceIdeal.defs _ _).mono (fun _ h c => ⟨?_, (h c).2⟩)
    (Cert.MoeGateUpReferenceIdeal.Value.run (F := Ideal) m' ρ')
  rw [(h c).1]
  simp only [hagree c]
  funext j
  idx_vars j
  have hexp : ∀ r : Fin 46, (m ((c.tc : Thread Cert.MoeGateUpIdeal.nD Cert.MoeGateUpIdeal.τ).loc Cert.MoeGateUpIdeal.main_arg0) : IVec _ 32) (ix1 r)
      = Cert.MoeGateUpIdeal.Hand.expert m r := fun r => congrFun (Cert.MoeGateUpIdeal.Hand.tbl_on m c 0) (ix1 r)
  have hused : (m ((c.tc : Thread Cert.MoeGateUpIdeal.nD Cert.MoeGateUpIdeal.τ).loc Cert.MoeGateUpIdeal.main_arg1) : IVec _ 32) (ix1 0)
      = Cert.MoeGateUpIdeal.Hand.tilesUsed m := congrFun (Cert.MoeGateUpIdeal.Hand.tbl_on m c 1) (ix1 0)
  refine (Cert.MoeGateUpReferenceIdeal.Read.kept_sum_apply _ _ j0 j1).trans ?_
  refine (Cert.MoeGateUpReferenceIdeal.Read.own_sum (p := j0.val < 512 * (Cert.MoeGateUpIdeal.Hand.tilesUsed m).toNat) (Cert.MoeGateUpIdeal.Hand.ownExpert m j0) _ _ fun e => ?_).trans ?_
  · rw [Cert.MoeGateUpReferenceIdeal.Read.mask_apply, Cert.MoeGateUpReferenceIdeal.Read.rowExpert_apply, Cert.MoeGateUpReferenceIdeal.Read.used_apply, hexp, hused]
    refine (Cert.MoeGateUpReferenceIdeal.Read.mask_iff (hin.1 _) hin.2.2 e j0.val j0.isLt).trans (and_congr ?_ Iff.rfl)
    exact ⟨fun h => Fin.ext h, fun h => congrArg Fin.val h⟩
  · unfold Cert.MoeGateUpIdeal.Hand.G
    refine if_congr Iff.rfl ?_ rfl
    refine (Cert.MoeGateUpReferenceIdeal.Read.gated_apply _ _ _ _ _).trans ?_
    rw [Cert.MoeGateUpReferenceIdeal.Read.product_apply, Cert.MoeGateUpReferenceIdeal.Read.product_apply]
    rfl

end Cert.Proof

end
-- ==== Proof.MoeDownRun.lean ====
/- The run of the expert down call (`MoeDownIdeal`), by hand: which expert and which row tile a point reads from the two tables,
   what every window holds after each point (a block of a row tile in use is its payload, every other block is zero), the
   body of a point, and from these the frame. The weight tiles are copied to scratch only when the expert or the column
   tile changes, so the scratch is carried from point to point. -/
module

public import proofs.«01_k».proof.Proof.Gen.MoeDownIdeal.Launch
public import proofs.«01_k».proof.Proof.Gen.MoeDownIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value
public import Idealize.ShloMosaic.Lib.Claim
public import Idealize.ShloMosaic.Lib.Pointwise

@[expose] public section

set_option maxRecDepth 16384

noncomputable section

namespace Cert.MoeDownIdeal.Hand

open Cert.MoeDownIdeal Cert.MoeDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tables as the body holds them -/

/-- The table of the row tiles' experts, and the table of the number of row tiles in use. -/
abbrev tabE : Memref sig .tc .smem S46 .i32 := Memref.whole main_arg0
abbrev tabN : Memref sig .tc .smem S1 .i32 := Memref.whole main_arg1

/-- Half of a table's buffer on core `c`, at contents `f`: enough to read it. -/
abbrev TabBuf (c : Dev nD) {S : Shape} {e : EltTy} (M : Memref sig .tc .smem S e) : Type := Buf (Elt F) (M.view.loc (c : Thread nD τ))
abbrev half (c : Dev nD) {S : Shape} {e : EltTy} (M : Memref sig .tc .smem S e) (f : TabBuf (F := F) c M) : sProp 𝕄 :=
  M.view.loc (c : Thread nD τ) ↦{fullShare.right} f

/-- The expert of the point's row tile, as the body loads it, -/
abbrev wordE (c : Dev nD) (i : grid0.Coords) (te : TabBuf (F := F) c tabE) : BitVec 32 :=
  View.readAt (Elt F) tabE.view (Rect.unit (s := S46) (k0_off1 i) S1.size (k0_off1_inb i)).toLoadRect te (Shape.Idx.first (numel1_S1.symm ▸ Nat.one_pos))
/-- the expert of the row tile before it (of the tile itself at the first), -/
abbrev wordP (c : Dev nD) (i : grid0.Coords) (te : TabBuf (F := F) c tabE) : BitVec 32 :=
  View.readAt (Elt F) tabE.view (Rect.unit (s := S46) (k0_off2 i) S1.size (k0_off2_inb i)).toLoadRect te (Shape.Idx.first (numel1_S1.symm ▸ Nat.one_pos))
/-- and the number of row tiles in use. -/
abbrev wordN (c : Dev nD) (nu : TabBuf (F := F) c tabN) : BitVec 32 :=
  View.readAt (Elt F) tabN.view (Rect.unit (s := S1) ![0] S1.size inb_S1_S1_0).toLoadRect nu (Shape.Idx.first (numel1_S1.symm ▸ Nat.one_pos))

/-- The point starts a new expert's rows: the body converts that expert's weights. -/
abbrev starts (c : Dev nD) (i : grid0.Coords) (te : TabBuf (F := F) c tabE) : Prop :=
  (Scalar.cmpi .ne (Scalar.extui (Scalar.ori (Scalar.cmpi .eq (BitVec.ofNat 32 (i 1).val) 0#32) (Scalar.cmpi .ne (wordE c i te) (wordP c i te)))) 0#32) = 1#1

/-- The body's last two conditions exclude one another and exhaust the cases. -/
theorem cond3_iff (i : grid0.Coords) (v : BitVec 32) : k0_cond3 i v = 1#1 ↔ ¬ k0_cond2 i v = 1#1 := by
  unfold k0_cond2 k0_cond3
  generalize BitVec.ofNat 32 (i 1).val = a
  have e : a.slt v = !(v.sle a) := by
    rw [BitVec.slt, BitVec.sle, ← decide_not]
    exact decide_eq_decide.mpr (by omega)
  simp only [Scalar.cmpi, Scalar.extui, IntOp.cmpi, e]
  cases h : v.sle a <;> simp

theorem hz2 : (![0, 0] : Fin 2 → Nat) = fun _ => 0 := funext fun a => by fin_cases a <;> rfl
theorem hz4 : (![0, 0, 0, 0] : Fin 4 → Nat) = fun _ => 0 := funext fun a => by fin_cases a <;> rfl

/-- One store over a whole buffer leaves its payload. -/
theorem read_store {S : Shape} {e : EltTy} {sp : Space} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h]

/-! ## The body at one point -/

open Classical in
set_option maxHeartbeats 16000000 in
/-- The body on any whole buffers: the weights' converted copy is renewed where a new expert's rows start and
    kept elsewhere; the output block is the product with it at a row tile in use and zero at any other. -/
theorem body_run (c : Dev nD) (i : grid0.Coords) (arg4 : Memref sig .tc .vmem S512x5632 .bf16) (harg4 : arg4.IsWhole)
    (arg5 : Memref sig .tc .vmem S1x1x5632x512 .f32) (harg5 : arg5.IsWhole) (arg6 : Memref sig .tc .vmem S512x512 .f32) (harg6 : arg6.IsWhole)
    (arg7 : Memref sig .tc .vmem S5632x512 .bf16) (harg7 : arg7.IsWhole)
    (x0 : Vec F S512x5632 .bf16) (x1 : Vec F S1x1x5632x512 .f32) (s0 t0 : Vec F S5632x512 .bf16)
    (te : TabBuf (F := F) c tabE) (nu : TabBuf (F := F) c tabN)
    (ht0 : t0 = if starts c i te then k0_pay1 x1 else s0)
    (E : Set ℕ) (K : PUnit → sProp 𝕄) :
    iprop(owns (c : Thread nD τ) arg4 fullShare x0 ∗ owns (c : Thread nD τ) arg5 fullShare x1
        ∗ (∃ d, owns (c : Thread nD τ) arg6 fullShare d) ∗ owns (c : Thread nD τ) arg7 fullShare s0
        ∗ half c tabE te ∗ half c tabN nu
        ∗ (iprop(owns (c : Thread nD τ) arg4 fullShare x0 ∗ owns (c : Thread nD τ) arg5 fullShare x1
            ∗ owns (c : Thread nD τ) arg6 fullShare (if k0_cond2 i (wordN c nu) = 1#1 then k0_pay2 x0 t0 else k0_pay3)
            ∗ owns (c : Thread nD τ) arg7 fullShare t0
            ∗ half c tabE te ∗ half c tabN nu) -∗ K ⟨⟩))
      ⊢ wp frame (wpE (defs₀ (F := F)) Variants.none c none) E (cc0_moe_down i tabE (Memref.isWhole_whole _) tabN (Memref.isWhole_whole _) arg4 harg4 arg5 harg5 arg6 harg6 arg7 harg7) K := by
  simp only [cc0_moe_down_eq_skeleton]; unfold cc0_moe_down_skel
  by_cases hc0 : starts c i te <;> by_cases h2 : k0_cond2 i (wordN c nu) = 1#1
  all_goals
    first | rw [if_pos hc0] at ht0 | rw [if_neg hc0] at ht0
    subst ht0
    first | rw [if_pos h2] | rw [if_neg h2]
    have h3 := cond3_iff i (wordN c nu)
    first | replace h3 : ¬ k0_cond3 i (wordN c nu) = 1#1 := fun e => (h3.mp e) h2 | replace h3 : k0_cond3 i (wordN c nu) = 1#1 := h3.mpr h2
    unfold owns
    iintro ⟨⟨%f0, %hf0, H0⟩, ⟨%f1, %hf1, H1⟩, ⟨%d3, %f3, -, H3⟩, ⟨%fs0, %hfs0, HS0⟩, HT0, HT1, Hk⟩
    obtain rfl := harg4.eq_unread hf0; obtain rfl := harg5.eq_unread hf1
    obtain rfl := harg7.eq_unread hfs0
    sl_exec (disch := first
      | (guard_target = Scalar.cmpi = _; exact hc0) | (guard_target = ¬(Scalar.cmpi = _); exact hc0)
      | (guard_target = k0_cond2 _ _ = _; exact h2) | (guard_target = ¬(k0_cond2 _ _ = _); exact h2)
      | (guard_target = k0_cond3 _ _ = _; exact h3) | (guard_target = ¬(k0_cond3 _ _ = _); exact h3))
    sl_step
    iapply Hk
    isplitl [H0]
    · iexists _; isplitr; · ipureintro; exact harg4.read_unread _
      iexact H0
    isplitl [H1]
    · iexists _; isplitr; · ipureintro; exact harg5.read_unread _
      iexact H1
    isplitl [H3]
    · iexists _; isplitr; swap; · iexact H3
      ipureintro
      sl_unfold_words
      rw [read_store _ _ hz2]
      try simp only [View.readCov_unit_zero (S := S5632x512) _ hz2, View.readAt_eq_ld, Memref.IsWhole.read_unread, View.ld_unit_zero (S := S512x5632) hz2,
        View.ld_unit_zero (S := S1x1x5632x512) hz4, View.ld_unit_zero (S := S5632x512) hz2]
    isplitl [HS0]
    · iexists _; isplitr; swap; · iexact HS0
      ipureintro
      sl_unfold_words
      first
      | (rw [read_store _ _ hz2]
         simp only [View.readAt_eq_ld, Memref.IsWhole.read_unread, View.ld_unit_zero (S := S1x1x5632x512) hz4]; done)
      | exact harg7.read_unread _
    isplitl [HT0]; · iexact HT0
    iexact HT1

/-! ## The launch: the arrays, the tables, the windows' blocks -/

/-- Core `c`'s buffers when the call is entered: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents at the launch. -/
def tbl : pre0.Contents (Elt F) := fun j => V m (0 : Dev nD) (pre0.ref j)

theorem tbl_on (c : Dev nD) (j : Fin 2) : V m c (pre0.ref j) = tbl m j := by
  obtain rfl : c = 0 := Subsingleton.elim _ _
  rfl

/-- Every block the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(half c tabE (tbl m 0) ∗ half c tabN (tbl m 1)) := by
  unfold Pipeline.ΦT Pipeline.prefHeld
  rw [show (Finset.univ : Finset (Fin 2)) = insert (0 : Fin 2) {(1 : Fin 2)} from by decide, bigSep_insert (by decide), bigSep_singleton]
  rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem held_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The tables' words and the grid's coordinates in closed form -/

/-- The expert of row tile `r`, and the number of row tiles in use. -/
def expert (r : Fin 46) : BitVec 32 := (m ((0 : Dev nD).tc.loc main_arg0) : IVec S46 32) (ix1 r)
def tilesUsed : BitVec 32 := (m ((0 : Dev nD).tc.loc main_arg1) : IVec S1 32) (ix1 0)

theorem tile_mod (i : grid0.Coords) : (BitVec.ofNat 32 (i 1).val).toNat = (i 1).val := by
  have h : (i 1).val < 46 := (i 1).isLt
  rw [BitVec.toNat_ofNat]; omega

theorem wordE_eq (c : Dev nD) (i : grid0.Coords) : wordE c i (tbl m 0) = expert m (i 1) := by
  show m ((0 : Dev nD).tc.loc main_arg0) _ = m ((0 : Dev nD).tc.loc main_arg0) _
  congr 1
  funext a
  match a with
  | ⟨0, _⟩ => exact Fin.ext (show (BitVec.ofNat 32 (i 1).val).toNat + 1 * 0 = (i 1).val by rw [tile_mod]; omega)

theorem prev_mod (i : grid0.Coords) (h0 : (i 1).val ≠ 0) :
    (Scalar.maxsi (Scalar.subi (BitVec.ofNat 32 (i 1).val) 1#32) 0#32).toNat = (i 1).val - 1 := by
  have h : (i 1).val < 46 := (i 1).isLt
  have e : Scalar.subi (BitVec.ofNat 32 (i 1).val) 1#32 = BitVec.ofNat 32 ((i 1).val - 1) := by
    apply BitVec.eq_of_toNat_eq
    show (BitVec.ofNat 32 (i 1).val - 1#32).toNat = _
    rw [BitVec.toNat_sub, BitVec.toNat_ofNat, BitVec.toNat_ofNat, BitVec.toNat_ofNat]
    omega
  rw [e]
  show (if BitVec.slt 0#32 (BitVec.ofNat 32 ((i 1).val - 1)) then BitVec.ofNat 32 ((i 1).val - 1) else 0#32).toNat = _
  split
  · rw [BitVec.toNat_ofNat]; omega
  · rename_i hs
    have : (i 1).val - 1 = 0 := by
      by_contra hne
      apply hs
      rw [BitVec.slt, decide_eq_true_iff, WordCmp.toInt_ofNat_of_lt (w := 32) (a := (i 1).val - 1) (by omega)]
      show (0 : Int) < _
      omega
    rw [this]; rfl

theorem wordP_eq (c : Dev nD) (i : grid0.Coords) (h0 : (i 1).val ≠ 0) :
    wordP c i (tbl m 0) = expert m ⟨(i 1).val - 1, by have : (i 1).val < 46 := (i 1).isLt; omega⟩ := by
  show m ((0 : Dev nD).tc.loc main_arg0) _ = m ((0 : Dev nD).tc.loc main_arg0) _
  congr 1
  funext a
  match a with
  | ⟨0, _⟩ => exact Fin.ext (show (Scalar.maxsi (Scalar.subi (BitVec.ofNat 32 (i 1).val) 1#32) 0#32).toNat + 1 * 0 = (i 1).val - 1 by rw [prev_mod i h0]; omega)

theorem wordN_eq (c : Dev nD) : wordN c (tbl m 1) = tilesUsed m := by
  show m ((0 : Dev nD).tc.loc main_arg1) _ = m ((0 : Dev nD).tc.loc main_arg1) _
  congr 1
  funext a
  match a with
  | ⟨0, _⟩ => rfl

/-- Where no new expert starts, the tile before is of the same expert. -/
theorem same_expert (c : Dev nD) (i : grid0.Coords) (h : ¬ starts c i (tbl m 0)) :
    ∃ h0 : (i 1).val ≠ 0, expert m (i 1) = expert m ⟨(i 1).val - 1, by have : (i 1).val < 46 := (i 1).isLt; omega⟩ := by
  have h46 : (i 1).val < 46 := (i 1).isLt
  unfold starts at h
  rw [wordE_eq] at h
  by_cases h0 : (i 1).val = 0
  · refine absurd ?_ h
    rw [h0]
    show (Scalar.cmpi .ne (Scalar.extui (Scalar.ori (Scalar.cmpi .eq (BitVec.ofNat 32 0) 0#32) (Scalar.cmpi .ne (expert m (i 1)) (wordP c i (tbl m 0))))) 0#32) = 1#1
    generalize Scalar.cmpi .ne (expert m (i 1)) (wordP c i (tbl m 0)) = b
    revert b; decide
  · refine ⟨h0, ?_⟩
    rw [wordP_eq m c i h0] at h
    by_contra hne
    apply h
    have e : Scalar.cmpi .ne (expert m (i 1)) (expert m ⟨(i 1).val - 1, by omega⟩) = 1#1 := by
      show IntOp.cmpi .ne _ _ = _
      simp only [IntOp.cmpi]
      rw [bne_iff_ne .. |>.mpr hne]
      rfl
    rw [e]
    generalize Scalar.cmpi .eq (BitVec.ofNat 32 (i 1).val) 0#32 = b
    revert b; decide

/-- The column tile and the row tile of a point. -/
theorem coord0 (t : Fin grid0.N) : (grid0.coords t 0).val = t.val / 46 % 4 := Pipeline.Grid.coords_val t 0 (by decide) rfl
theorem coord1 (t : Fin grid0.N) : (grid0.coords t 1).val = t.val % 46 := (Pipeline.Grid.coords_val t 1 (S := 1) (by decide) rfl).trans (by rw [Nat.div_one]; rfl)

theorem expert_lt (hO : Ok m) (i : grid0.Coords) : (expert m (i 1)).toNat < 8 := by
  obtain ⟨h, -⟩ := hO.2 i
  have h1 := h 1
  have e : cc0_transform_1 k0_off1_inb numel1_S1 (tbl m) i 1 = (expert m (i 1)).toNat := congrArg BitVec.toNat (wordE_eq m 0 i)
  rw [e] at h1
  have h2 : ((expert m (i 1)).toNat + 1) * 1 ≤ 8 := h1
  omega

/-- The `b`-th column tile of expert `e`'s weights. -/
def tileOf (w : Vec F S1x8x5632x2048 .f32) (e b : ℕ) : Vec F S1x1x5632x512 .f32 := fun j =>
  w (ix4 0 ⟨e % 8, Nat.mod_lt _ (by decide)⟩ (j 2) ⟨(512 * b + (j 3).val) % 2048, Nat.mod_lt _ (by decide)⟩)

theorem index_w (hO : Ok m) (t : Fin (cfgM m hO).N) : ((cfgM m hO).win 1).index t (0 : Fin 4) = 0 ∧ ((cfgM m hO).win 1).index t (1 : Fin 4) = (expert m (grid0.coords t 1)).toNat
    ∧ ((cfgM m hO).win 1).index t (2 : Fin 4) = 0 ∧ ((cfgM m hO).win 1).index t (3 : Fin 4) = (grid0.coords t 0).val := by
  refine ⟨rfl, congrArg BitVec.toNat (wordE_eq m 0 (grid0.coords t)), rfl, ?_⟩
  show (BitVec.ofNat 32 (grid0.coords t 0).val).toNat = _
  have h : (grid0.coords t 0).val < 4 := (grid0.coords t 0).isLt
  rw [BitVec.toNat_ofNat]; omega

theorem iblk_1 (hO : Ok m) (c : Dev nD) (t : Fin (cfgM m hO).N) :
    (iblk m hO c 1 t : Vec F S1x1x5632x512 .f32) = tileOf (m ((c : Thread nD τ).loc main_arg3)) (expert m (grid0.coords t 1)).toNat (grid0.coords t 0).val := by
  have h0 : (grid0.coords t 0).val < 4 := (grid0.coords t 0).isLt
  have he := expert_lt m hO (grid0.coords t)
  obtain ⟨e0, e1, e2, e3⟩ := index_w m hO t
  funext j
  unfold iblk
  rw [View.read_apply]
  change S1x1x5632x512.Idx at j
  have hj0 : (j 0).val < 1 := (j 0).isLt
  have hj1 : (j 1).val < 1 := (j 1).isLt
  have hj3 : (j 3).val < 512 := (j 3).isLt
  show m (c.tc.loc main_arg3) _ = m (c.tc.loc main_arg3) _
  congr 1
  funext a
  apply Fin.ext
  match a with
  | ⟨0, _⟩ => show ((cfgM m hO).win 1).index t (0 : Fin 4) * 1 + 1 * (j 0).val = 0; rw [e0]; omega
  | ⟨1, _⟩ => show ((cfgM m hO).win 1).index t (1 : Fin 4) * 1 + 1 * (j 1).val = (expert m (grid0.coords t 1)).toNat % 8; rw [e1]; omega
  | ⟨2, _⟩ => show ((cfgM m hO).win 1).index t (2 : Fin 4) * 5632 + 1 * (j 2).val = (j 2).val; rw [e2]; omega
  | ⟨3, _⟩ => show ((cfgM m hO).win 1).index t (3 : Fin 4) * 512 + 1 * (j 3).val = (512 * (grid0.coords t 0).val + (j 3).val) % 2048; rw [e3]; omega

/-- Where no new expert starts, the weights' tile is the one of the point before. -/
theorem kept (hO : Ok m) (c : Dev nD) (t s : Fin (cfgM m hO).N) (hs : s.val = t.val - 1) (h : ¬ starts c (grid0.coords t) (tbl m 0)) :
    t.val ≠ 0 ∧ (iblk m hO c 1 s : Vec F S1x1x5632x512 .f32) = iblk m hO c 1 t := by
  obtain ⟨h0, he⟩ := same_expert m c (grid0.coords t) h
  have ht := coord1 t
  have hs1 := coord1 s
  have ht0 := coord0 t
  have hs0 := coord0 s
  have e1 : grid0.coords s 1 = ⟨(grid0.coords t 1).val - 1, by have : (grid0.coords t 1).val < 46 := (grid0.coords t 1).isLt; omega⟩ := Fin.ext (by dsimp only; omega)
  have e0 : (grid0.coords s 0).val = (grid0.coords t 0).val := by omega
  refine ⟨by omega, ?_⟩
  rw [iblk_1, iblk_1, he, e1, e0]; rfl

/-! ## What every point leaves -/

/-- Each window's staging buffer at a point, and that it is whole. -/
abbrev st_0 (hO : Ok m) (t : Fin (cfgM m hO).N) : Memref sig .tc .vmem S512x5632 .bf16 := spec0_0.stage ((cfgM m hO).slots t 0)
abbrev st_1 (hO : Ok m) (t : Fin (cfgM m hO).N) : Memref sig .tc .vmem S1x1x5632x512 .f32 := spec0_1.stage ((cfgM m hO).slots t 1)
abbrev st_2 (hO : Ok m) (t : Fin (cfgM m hO).N) : Memref sig .tc .vmem S512x512 .f32 := spec0_2.stage ((cfgM m hO).slots t 2)
/-- The weight copy the kernel keeps from point to point. -/
abbrev copy_0 : Memref sig .tc .vmem S5632x512 .bf16 := Memref.whole cc0_scratch0

theorem PhiA_eq (c : Dev nD) : (Pipeline.ΦA spec0 c : sProp 𝕄)
    = iprop(iprop(∃ d, owns (c : Thread nD τ) copy_0 fullShare d) ∗ (∃ r, prngReg c r)) := by
  unfold Pipeline.ΦA; rw [scopedRest0_eq]; simp only [copy_0, owns_whole]; rfl

/-- The output block a point leaves: the product of its rows with its expert's tile, or zero past the tiles in use. -/
def outBlock (hO : Ok m) (c : Dev nD) (t : Fin (cfgM m hO).N) : Vec F S512x512 .f32 :=
  if k0_cond2 (grid0.coords t) (tilesUsed m) = 1#1 then k0_pay2 (iblk m hO c 0 t) (k0_pay1 (iblk m hO c 1 t)) else k0_pay3

/-- What is held between points: the copy at the point before's tile (anything before the first), the generator's
    register and the tables. -/
def Between (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) copy_0 fullShare (k0_pay1 (iblk m hO c 1 ⟨n, hn⟩))
      ∗ (∃ r, prngReg c r)) ∗ Pipeline.ΦT pre0 (tbl m) c)

theorem Between_zero (hO : Ok m) (c : Dev nD) (n : ℕ) (h : n ≤ (cfgM m hO).N) (hz : n = 0) :
    Between m hO c n h = iprop(Pipeline.ΦA spec0 c ∗ Pipeline.ΦT pre0 (tbl m) c) := by
  subst hz; rfl

theorem Between_pos (hO : Ok m) (c : Dev nD) (n : ℕ) (h : n ≤ (cfgM m hO).N) (hz : n ≠ 0) :
    Between m hO c n h = iprop(iprop(owns (c : Thread nD τ) copy_0 fullShare (k0_pay1 (iblk m hO c 1 ⟨n - 1, by omega⟩))
      ∗ (∃ r, prngReg c r)) ∗ Pipeline.ΦT pre0 (tbl m) c) := by
  cases n with
  | zero => exact absurd rfl hz
  | succ n => rfl

theorem Between_after (hO : Ok m) (c : Dev nD) (t : Fin (cfgM m hO).N) :
    Between m hO c (t.val + 1) t.isLt = iprop(iprop(owns (c : Thread nD τ) copy_0 fullShare (k0_pay1 (iblk m hO c 1 t))
      ∗ (∃ r, prngReg c r)) ∗ Pipeline.ΦT pre0 (tbl m) c) := rfl

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outBlock m hO c t
  Φ t := Between m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem Phi_before (hO : Ok m) (c : Dev nD) (t : Fin (cfgM m hO).N) : (dats m hO 0 c).Φ t.castSucc = Between m hO c t.val (Nat.le_of_lt t.isLt) := by
  dsimp only [dats]; exact Pipeline.Dat.Φ_castSucc (Between m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = outBlock m hO c t := by dsimp only [dats]; try rfl

theorem before_0 (hO : Ok m) (c : Dev nD) (t : Fin (cfgM m hO).N) (d) : (dats m hO 0 c).before 0 t d = iblk m hO c 0 t :=
  held_0 m hO (dats m hO 0 c) (A_eq m hO c 0) (after_0 m hO c) t d
theorem before_1 (hO : Ok m) (c : Dev nD) (t : Fin (cfgM m hO).N) (d) : (dats m hO 0 c).before 1 t d = iblk m hO c 1 t :=
  held_1 m hO (dats m hO 0 c) (A_eq m hO c 1) (after_1 m hO c) t d

/-! ## The body at a point of the grid -/

abbrev bodyAt (hO : Ok m) (t : Fin (cfgM m hO).N) : Prog (TpuEff nD τ sig (Elt F) Λ₀ .tc) PUnit :=
  cc0_moe_down (grid0.coords t) tabE (Memref.isWhole_whole _) tabN (Memref.isWhole_whole _) (st_0 m hO t) (hstage0_0 (((cfgM m hO).slots t 0).cast nbuf0_0)) (st_1 m hO t) (hstage0_1 (((cfgM m hO).slots t 1).cast nbuf0_1)) (st_2 m hO t) (hstage0_2 (((cfgM m hO).slots t 2).cast nbuf0_2)) copy_0 (Memref.isWhole_whole _)

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t))

open Classical in
set_option maxHeartbeats 1600000 in
/-- The run of the body with the copy at `s0` where that, if kept, is already the point's tile. -/
theorem body_at (hO : Ok m) (c : Dev nD) (t : Fin (cfgM m hO).N) (s0 : Vec F S5632x512 .bf16)
    (hk : ¬ starts c (grid0.coords t) (tbl m 0) → s0 = k0_pay1 (iblk m hO c 1 t)) (K : PUnit → sProp 𝕄) :
    iprop(owns (c : Thread nD τ) (st_0 m hO t) fullShare (iblk m hO c 0 t) ∗ owns (c : Thread nD τ) (st_1 m hO t) fullShare (iblk m hO c 1 t)
        ∗ (∃ d, owns (c : Thread nD τ) (st_2 m hO t) fullShare d)
        ∗ owns (c : Thread nD τ) copy_0 fullShare s0 ∗ half c tabE (tbl m 0) ∗ half c tabN (tbl m 1)
        ∗ (iprop(owns (c : Thread nD τ) (st_0 m hO t) fullShare (iblk m hO c 0 t) ∗ owns (c : Thread nD τ) (st_1 m hO t) fullShare (iblk m hO c 1 t)
            ∗ owns (c : Thread nD τ) (st_2 m hO t) fullShare (outBlock m hO c t)
            ∗ owns (c : Thread nD τ) copy_0 fullShare (k0_pay1 (iblk m hO c 1 t))
            ∗ half c tabE (tbl m 0) ∗ half c tabN (tbl m 1)) -∗ K ⟨⟩))
      ⊢ wp frame (wpE (defs₀ (F := F)) Variants.none c none) Set.univ (bodyAt m hO t) K := by
  have h0 : k0_pay1 (iblk m hO c 1 t) = if starts c (grid0.coords t) (tbl m 0) then k0_pay1 (iblk m hO c 1 t) else s0 := by
    split
    · rfl
    · rename_i h; exact (hk h).symm
  have e := body_run c (grid0.coords t) (st_0 m hO t) (hstage0_0 (((cfgM m hO).slots t 0).cast nbuf0_0)) (st_1 m hO t) (hstage0_1 (((cfgM m hO).slots t 1).cast nbuf0_1))
    (st_2 m hO t) (hstage0_2 (((cfgM m hO).slots t 2).cast nbuf0_2))
    copy_0 (Memref.isWhole_whole _) (iblk m hO c 0 t) (iblk m hO c 1 t) s0 _ (tbl m 0) (tbl m 1) h0 Set.univ K
  rw [wordN_eq] at e
  exact e

set_option maxHeartbeats 1600000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1]
  rw [show (dats m hO 0 c).owesAt () t.succ = (dats m hO 0 c).owesAt () t.castSucc from rfl, after_0, after_1, after_2]
  rw [show (dats m hO 0 c).Φ t.succ = Between m hO c (t.val + 1) t.isLt from rfl, Between_after]
  rw [Phi_before]
  by_cases hz : t.val = 0
  · rw [Between_zero m hO c _ _ hz, PhiA_eq, tables_eq]
    iintro ⟨⟨⟨⟨%s0, HS0⟩, Hg⟩, ⟨HT0, HT1⟩⟩, Ho, ⟨%d0, H0⟩, ⟨%d1, H1⟩, ⟨%d3, H3⟩⟩
    iapply (body_at m hO c t s0 (fun h => absurd hz (kept m hO c t t (by omega) h).1) _)
    isplitl [H0]; · iexact H0
    isplitl [H1]; · iexact H1
    isplitl [H3]; · iexists _; iexact H3
    isplitl [HS0]; · iexact HS0
    isplitl [HT0]; · iexact HT0
    isplitl [HT1]; · iexact HT1
    iintro ⟨H0, H1, H3, HS0, HT0, HT1⟩
    isplitl [HS0 Hg HT0 HT1]
    · isplitl [HS0 Hg]
      · isplitl [HS0]; · iexact HS0
        iexact Hg
      isplitl [HT0]; · iexact HT0
      iexact HT1
    isplitl [Ho]; · iexact Ho
    isplitl [H0]; · iexact H0
    isplitl [H1]; · iexact H1
    iexact H3
  · rw [Between_pos m hO c _ _ hz, tables_eq]
    iintro ⟨⟨⟨HS0, Hg⟩, ⟨HT0, HT1⟩⟩, Ho, ⟨%d0, H0⟩, ⟨%d1, H1⟩, ⟨%d3, H3⟩⟩
    iapply (body_at m hO c t _ (fun h => congrArg k0_pay1 (kept m hO c t ⟨t.val - 1, by omega⟩ rfl h).2) _)
    isplitl [H0]; · iexact H0
    isplitl [H1]; · iexact H1
    isplitl [H3]; · iexists _; iexact H3
    isplitl [HS0]; · iexact HS0
    isplitl [HT0]; · iexact HT0
    isplitl [HT1]; · iexact HT1
    iintro ⟨H0, H1, H3, HS0, HT0, HT1⟩
    isplitl [HS0 Hg HT0 HT1]
    · isplitl [HS0 Hg]
      · isplitl [HS0]; · iexact HS0
        iexact Hg
      isplitl [HT0]; · iexact HT0
      iexact HT1
    isplitl [Ho]; · iexact Ho
    isplitl [H0]; · iexact H0
    isplitl [H1]; · iexact H1
    iexact H3

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output's block is stored at every point. -/
theorem never_idle (hO : Ok m) (t : Fin (cfgM m hO).N) : (cfgM m hO).idle 2 (grid0.coords t) = false := by
  show (!(k0_cond2 (grid0.coords t) ((tbl m).atD 1 ![0]) == 1#1) && !(k0_cond3 (grid0.coords t) ((tbl m).atD 1 ![0]) == 1#1)) = false
  generalize (tbl m).atD 1 ![0] = v
  have h := cond3_iff (grid0.coords t) v
  by_cases h2 : k0_cond2 (grid0.coords t) v = 1#1
  · simp [h2]
  · simp [h.mpr h2]

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  have hi : idle0 (tbl m) 2 ((pcfg0.gridAt (tbl m)).coords t) = false := never_idle m hO t
  unfold bodyPost
  simp only [hi]
  exact Idealize.SL.BI.Entails.refl _

theorem hin (hO : Ok m) (c : Dev nD) : iprop(Pipeline.ΦA spec0 c ∗ Pipeline.ΦT pre0 (tbl m) c) ⊢ (dats m hO 0 c).Φ 0 := by
  rw [show (dats m hO 0 c).Φ 0 = Between m hO c 0 (Nat.zero_le _) from rfl, Between_zero m hO c 0 _ rfl]

theorem hout (hO : Ok m) (c : Dev nD) : (dats m hO 0 c).Φ (Fin.last (cfgM m hO).N) ⊢ Pipeline.ΦA spec0 c := by
  rw [show (dats m hO 0 c).Φ (Fin.last (cfgM m hO).N) = Between m hO c (cfgM m hO).N le_rfl from rfl,
    Between_pos m hO c _ _ (by have : (cfgM m hO).N = 184 := N_0; omega), PhiA_eq]
  iintro ⟨⟨HS0, Hg⟩, HT⟩
  isplitl [HS0]
  · iexists _; iexact HS0
  iexact Hg

/-! ## The run -/

set_option backward.isDefEq.respectTransparency.types false in
/-- From any memory whose tables choose blocks inside the arrays the call runs to the end, its arrays at what the points
    left and every counter at zero. -/
theorem run_call (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := tbl_on m) (hin := hin m hO) (hout := hout m hO)

/-- The same, read at the arrays: the result at what the points wrote back, the arguments as they were. -/
theorem run_arrays (hO : Ok m) : θ_run defs (onTc (τ := τ) (main (F := F))) ⟨m, fun _ => 0, ρ⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 2,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1))⟩, h.2⟩) (run_call m ρ hO)

/-- The arguments end as they were. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run_arrays m ρ hO)

/-! ## The tables a caller may pass -/

/-- Window 0's row tile: the point's own, or the last one in use. -/
def rowTile (i : grid0.Coords) : ℕ := (Scalar.minsi (BitVec.ofNat 32 (i 1).val) (Scalar.subi (tilesUsed m) 1#32)).toNat

theorem rowTile_eq (h1 : 1 ≤ (tilesUsed m).toNat) (h2 : (tilesUsed m).toNat ≤ 46) (i : grid0.Coords) :
    rowTile m i = min (i 1).val ((tilesUsed m).toNat - 1) := by
  have h : (i 1).val < 46 := (i 1).isLt
  unfold rowTile
  generalize tilesUsed m = n at h1 h2
  have e : Scalar.subi n 1#32 = BitVec.ofNat 32 (n.toNat - 1) := by
    apply BitVec.eq_of_toNat_eq
    show (n - 1#32).toNat = _
    rw [BitVec.toNat_sub, BitVec.toNat_ofNat, BitVec.toNat_ofNat]
    omega
  rw [e]
  show (if BitVec.slt (BitVec.ofNat 32 (i 1).val) (BitVec.ofNat 32 (n.toNat - 1)) then BitVec.ofNat 32 (i 1).val else BitVec.ofNat 32 (n.toNat - 1)).toNat = _
  rw [BitVec.slt, WordCmp.toInt_ofNat_of_lt (w := 32) (a := (i 1).val) (by omega), WordCmp.toInt_ofNat_of_lt (w := 32) (a := n.toNat - 1) (by omega)]
  split
  · rename_i hs; rw [decide_eq_true_iff] at hs; rw [BitVec.toNat_ofNat]; omega
  · rename_i hs; rw [decide_eq_true_iff] at hs; rw [BitVec.toNat_ofNat]; omega

/-- With experts below eight and between one and all of the row tiles in use, every block lies inside its array. -/
theorem ok_of (he : ∀ r, (expert m r).toNat < 8) (h1 : 1 ≤ (tilesUsed m).toNat) (h2 : (tilesUsed m).toNat ≤ 46) : Ok m := by
  have hw : ∀ (i : grid0.Coords) a, (cc0_transform_1 k0_off1_inb numel1_S1 (tbl m) i a + 1) * S1x1x5632x512.size a ≤ S1x8x5632x2048.size a := by
    intro i a
    have h0 : (i 0).val < 4 := (i 0).isLt
    have e : cc0_transform_1 k0_off1_inb numel1_S1 (tbl m) i 1 = (expert m (i 1)).toNat := congrArg BitVec.toNat (wordE_eq m 0 i)
    match a with
    | ⟨0, _⟩ => show (0 + 1) * 1 ≤ 1; omega
    | ⟨1, _⟩ => show (cc0_transform_1 k0_off1_inb numel1_S1 (tbl m) i 1 + 1) * 1 ≤ 8; rw [e]; have := he (i 1); omega
    | ⟨2, _⟩ => show (0 + 1) * 5632 ≤ 5632; omega
    | ⟨3, _⟩ => show ((BitVec.ofNat 32 (i 0).val).toNat + 1) * 512 ≤ 2048; rw [BitVec.toNat_ofNat]; omega
  refine ⟨fun i => ⟨?_, .inr (Affine.block_words_dvd (of_decide_eq_true rfl) (by decide))⟩, fun i => ⟨hw i, .inl rfl⟩⟩
  intro a
  have h : (i 1).val < 46 := (i 1).isLt
  have e : cc0_transform_0 inb_S1_S1_0 numel1_S1 (tbl m) i 0 = rowTile m i :=
    congrArg (fun v : BitVec 32 => (Scalar.minsi (BitVec.ofNat 32 (i 1).val) (Scalar.subi v 1#32)).toNat) (wordN_eq m 0)
  rw [rowTile_eq m h1 h2] at e
  match a with
  | ⟨0, _⟩ => show (cc0_transform_0 inb_S1_S1_0 numel1_S1 (tbl m) i 0 + 1) * 512 ≤ 23552; rw [e]; omega
  | ⟨1, _⟩ => show (0 + 1) * 5632 ≤ 5632; omega

end Cert.MoeDownIdeal.Hand

end
-- ==== Proof.MoeDownFrame.lean ====
/- The expert down call's frames (`MoeDown`, `MoeDownIdeal`): the tables the precondition admits choose blocks inside
   the arrays; the word program has the text of the idealized one, so one run serves both. -/
module

public import proofs.«01_k».proof.Defs
public import proofs.«01_k».proof.Proof.MoeDownRun
public import proofs.«01_k».proof.Proof.Gen.MoeDown.Launch
public import proofs.«01_k».proof.Proof.Gen.Pre_down_tables

@[expose] public section

set_option maxRecDepth 16384

noncomputable section

namespace Cert.MoeDownIdeal.Hand

open Cert.MoeDownIdeal Cert.MoeDownIdeal.Gen Idealize.ShloMosaic Idealize.ShloMosaic.TcCoe Idealize.SL.Sem

variable {F : FTy → Type} [FloatOps F] (m : (ℓ : Loc nD τ sig) → Buf (Elt F) ℓ)

/-- The range of the tables: what the precondition says of them. -/
def InRange : Prop := (∀ r, (expert m r).toNat < 8) ∧ 1 ≤ (tilesUsed m).toNat ∧ (tilesUsed m).toNat ≤ 46

theorem word_lt {v : BitVec 32} {k : ℕ} (hk : k < 2 ^ 31) (h0 : (0 : Int) ≤ v.toInt) (h1 : v.toInt < k) : v.toNat < k := by
  rw [BitVec.toInt_eq_toNat_cond] at h0 h1
  split at h0 <;> omega

theorem inRange_of (h : (Cert.Pre_down_tables.fn (F := F) (m ((0 : Dev nD).tc.loc main_arg0)) (m ((0 : Dev nD).tc.loc main_arg1)) (m ((0 : Dev nD).tc.loc main_arg2))
      (m ((0 : Dev nD).tc.loc main_arg3))).1 = (fun _ => 1#1)
    ∧ (Cert.Pre_down_tables.fn (F := F) (m ((0 : Dev nD).tc.loc main_arg0)) (m ((0 : Dev nD).tc.loc main_arg1)) (m ((0 : Dev nD).tc.loc main_arg2))
      (m ((0 : Dev nD).tc.loc main_arg3))).2 = (fun _ => 1#1)) : InRange m := by
  have and1 : ∀ a b : BitVec 1, IntOp.andi a b = 1#1 → a = 1#1 ∧ b = 1#1 := by decide
  obtain ⟨ha, hb⟩ := h
  refine ⟨fun r => ?_, ?_⟩
  · have e := congrFun ha (ix1 r)
    obtain ⟨e0, e1⟩ := and1 _ _ e
    have e0' : IntOp.cmpi .sge (expert m r) 0#32 = 1#1 := e0
    have e1' : IntOp.cmpi .slt (expert m r) 8#32 = 1#1 := e1
    simp only [IntOp.cmpi, WordCmp.ofBool_eq_one_iff, BitVec.sle, BitVec.slt, decide_eq_true_iff] at e0' e1'
    exact word_lt (by omega) e0' e1'
  · have e := congrFun hb (ix1 0)
    obtain ⟨e0, e1⟩ := and1 _ _ e
    have e0' : IntOp.cmpi .sge (tilesUsed m) 1#32 = 1#1 := e0
    have e1' : IntOp.cmpi .sle (tilesUsed m) 46#32 = 1#1 := e1
    simp only [IntOp.cmpi, WordCmp.ofBool_eq_one_iff, BitVec.sle, BitVec.slt, decide_eq_true_iff] at e0' e1'
    have a0 : (1 : Int) ≤ (tilesUsed m).toInt := e0'
    have a1 : (tilesUsed m).toInt ≤ 46 := e1'
    have := word_lt (v := tilesUsed m) (k := 47) (by omega) (by omega) (by omega)
    refine ⟨?_, by omega⟩
    rw [BitVec.toInt_eq_toNat_cond] at a0
    split at a0 <;> omega

theorem InRange.ok {m : (ℓ : Loc nD τ sig) → Buf (Elt F) ℓ} (h : InRange m) : Ok m := ok_of m h.1 h.2.1 h.2.2

end Cert.MoeDownIdeal.Hand

namespace Cert.MoeDown.Hand

open Cert.MoeDown Cert.MoeDown.Gen Idealize.ShloMosaic Idealize.ShloMosaic.TcCoe Idealize.SL.Sem

variable {F : FTy → Type} [FloatOps F]

/-- The word program's body table is the idealized program's, -/
theorem bodies_eq : Cert.MoeDown.defs₀ (F := F) = Cert.MoeDownIdeal.defs₀ (F := F) := by
  unfold Cert.MoeDown.defs₀ Cert.MoeDownIdeal.defs₀
  refine congrArg (Defs.onTc (nD := nD) (τ := τ) (sig := sig) (Val := Elt F) (Λ := Λ₀)) ?_
  funext l x
  match l, x with
  | 0, (t, s) => rfl
  | ⟨_ + 1, h⟩, _ => exact absurd h (Nat.not_lt.2 (Nat.le_add_left _ _))

/-- and so is the whole program. -/
theorem defs_eq : Cert.MoeDown.defs (F := F) = Cert.MoeDownIdeal.defs (F := F) :=
  congrArg (Pipeline.defs (Cert.MoeDownIdeal.pcfgs (F := F))) bodies_eq

theorem frame (m : (ℓ : Loc nD τ sig) → Buf (Elt F) ℓ) (ρ : Dev nD → PrngReg) (hO : Cert.MoeDownIdeal.Hand.Ok (F := F) m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  have h := Cert.MoeDownIdeal.Hand.frame (F := F) m ρ hO
  rw [← defs_eq] at h
  exact h

end Cert.MoeDown.Hand

namespace Cert.Proof

open Idealize.ShloMosaic Idealize.SL.Sem

theorem quiescent_MoeDownIdeal : quiescent_MoeDownIdeal := fun m ρ h =>
  Cert.MoeDownIdeal.Hand.frame m ρ (Cert.MoeDownIdeal.Hand.inRange_of m (h 0)).ok

theorem quiescent_MoeDown : quiescent_MoeDown := fun m ρ h =>
  Cert.MoeDown.Hand.frame m ρ (Cert.MoeDownIdeal.Hand.inRange_of (F := Bits) m (h 0)).ok

end Cert.Proof

end
-- ==== Proof.MoeDownValue.lean ====
/- The value of the expert down call (`MoeDownIdeal`): the block of a row tile in use is the product of its rows with the
   column tile of its own expert's matrix; every other block is zero; so the result array is one function of the arguments,
   and the reference, which computes every expert for every row and keeps the row's own, computes the same. -/
module

public import proofs.«01_k».proof.Defs
public import proofs.«01_k».proof.Proof.MoeDownFrame
public import proofs.«01_k».proof.Proof.MoeGateUpValue
public import proofs.«01_k».proof.Proof.Gen.MoeDownReferenceIdeal
public import proofs.«01_k».proof.Proof.Gen.MoeDownReferenceIdeal.Run
public import Idealize.ShloMosaic.Lib.Quiescent
public import Idealize.ShloMosaic.Adequacy

@[expose] public section

set_option maxRecDepth 16384

noncomputable section

namespace Cert.MoeDownIdeal.Hand

open Cert.MoeDownIdeal Cert.MoeDownIdeal.Gen Idealize.ShloMosaic Idealize.ShloMosaic.TcCoe Idealize.SL.Sem
open Idealize.ShloMosaic.Pipeline (Dat)

/-! ## The blocks a point reads and the blocks it writes -/

section
variable {F : FTy → Type} [FloatOps F] (m : (ℓ : Loc nD τ sig) → Buf (Elt F) ℓ)

/-- A point computes iff its row tile is in use. -/
theorem active_iff (h : InRange m) (i : grid0.Coords) : k0_cond2 i (tilesUsed m) = 1#1 ↔ (i 1).val < (tilesUsed m).toNat := by
  have hi : (i 1).val < 46 := (i 1).isLt
  have h2 := h.2.2
  generalize tilesUsed m = n at h2
  have e : k0_cond2 i n = 1#1 ↔ IntOp.cmpi .slt (BitVec.ofNat 32 (i 1).val) n = 1#1 := by
    unfold k0_cond2
    simp only [Scalar.cmpi, Scalar.extui, IntOp.cmpi]
    cases BitVec.slt (BitVec.ofNat 32 (i 1).val) n <;> decide
  rw [e]
  simp only [IntOp.cmpi, WordCmp.ofBool_eq_one_iff, BitVec.slt, decide_eq_true_iff]
  rw [WordCmp.toInt_ofNat_of_lt (w := 32) (a := (i 1).val) (by omega), BitVec.toInt_eq_toNat_cond]
  split <;> omega

/-- A point's rows. -/
def rowsAt (hO : Ok m) (c : Dev nD) (t : Fin (cfgM m hO).N) : Vec F S512x5632 .bf16 := iblk m hO c 0 t

theorem outBlock_eq (hO : Ok m) (c : Dev nD) (t : Fin (cfgM m hO).N) : outBlock m hO c t
    = if k0_cond2 (grid0.coords t) (tilesUsed m) = 1#1 then
        k0_pay2 (rowsAt m hO c t) (k0_pay1 (tileOf (m ((c : Thread nD τ).loc main_arg3)) (expert m (grid0.coords t 1)).toNat (grid0.coords t 0).val))
      else k0_pay3 := by
  unfold outBlock
  rw [iblk_1]
  rfl

/-- The `b`-th row tile of the hidden values. -/
def rowsOf (x : Vec F S23552x5632 .bf16) (b : ℕ) : Vec F S512x5632 .bf16 := fun j =>
  x (ix2 ⟨(512 * b + (j 0).val) % 23552, Nat.mod_lt _ (by decide)⟩ (j 1))

/-- The rows of a point in use: its own row tile of the hidden values. -/
theorem iblk_0 (h : InRange m) (c : Dev nD) (t : Fin (cfgM m h.ok).N) (ht : t.val % 46 < (tilesUsed m).toNat) (r : Fin 512) (k : Fin 5632) :
    rowsAt m h.ok c t (ix2 r k)
      = (m ((c : Thread nD τ).loc main_arg2) : Vec F S23552x5632 .bf16) (ix2 ⟨512 * (t.val % 46) + r.val, by omega⟩ k) := by
  have hc := coord1 t
  have e0 : ((cfgM m h.ok).win 0).index t (0 : Fin 2) = t.val % 46 := by
    refine (congrArg (fun v : BitVec 32 => (Scalar.minsi (BitVec.ofNat 32 (grid0.coords t 1).val) (Scalar.subi v 1#32)).toNat) (wordN_eq m 0)).trans ?_
    refine (rowTile_eq m h.2.1 h.2.2 (grid0.coords t)).trans ?_
    rw [hc]; omega
  have e1 : ((cfgM m h.ok).win 0).index t (1 : Fin 2) = 0 := rfl
  suffices e : (iblk m h.ok c 0 t : Vec F S512x5632 .bf16) = rowsOf (m ((c : Thread nD τ).loc main_arg2)) (t.val % 46) by
    refine (congrFun e (ix2 r k)).trans (congrArg (fun q => (m ((c : Thread nD τ).loc main_arg2) : Vec F S23552x5632 .bf16) (ix2 q k)) (Fin.ext ?_))
    show (512 * (t.val % 46) + r.val) % 23552 = _
    dsimp only; omega
  funext j
  unfold iblk
  rw [View.read_apply]
  change S512x5632.Idx at j
  have hj0 : (j 0).val < 512 := (j 0).isLt
  show m (c.tc.loc main_arg2) _ = m (c.tc.loc main_arg2) _
  congr 1
  funext a
  apply Fin.ext
  match a with
  | ⟨0, _⟩ => show ((cfgM m h.ok).win 0).index t (0 : Fin 2) * 512 + 1 * (j 0).val = (512 * (t.val % 46) + (j 0).val) % 23552; rw [e0]; omega
  | ⟨1, _⟩ => show ((cfgM m h.ok).win 0).index t (1 : Fin 2) * 5632 + 1 * (j 1).val = (j 1).val; rw [e1]; omega

theorem index_out (hO : Ok m) (t : Fin (cfgM m hO).N) :
    ((cfgM m hO).win 2).index t (0 : Fin 2) = t.val % 46 ∧ ((cfgM m hO).win 2).index t (1 : Fin 2) = t.val / 46 % 4 := by
  have h0 := coord0 t
  have h1 := coord1 t
  constructor
  · show (BitVec.ofNat 32 (grid0.coords t 1).val).toNat = _
    rw [BitVec.toNat_ofNat]; omega
  · show (BitVec.ofNat 32 (grid0.coords t 0).val).toNat = _
    rw [BitVec.toNat_ofNat]; omega

theorem flush_2 (hO : Ok m) : ∀ t : Fin (cfgM m hO).N, ((cfgM m hO).win 2).flush t = true :=
  fun t => (Pipeline.Window.flushOf_reads cc0_transform_2 reads0_2 hreads0_2 1 (by decide) (by decide) (Pipeline.Window.sep_of_coord cc0_transform_2 1 0 (fun _ => rfl) (by decide)) (P := 1) (m := 0) (by decide) rfl t).mpr (Nat.mod_one _)

/-- An index of the result is in a point's block iff each coordinate is in the block's range. -/
theorem mem_blk (hO : Ok m) (t : Fin (cfgM m hO).N) (i : S23552x2048.Idx) :
    i ∈ (((cfgM m hO).win 2).blk t).view.set ↔ ∀ a : Fin 2, ((cfgM m hO).win 2).index t a * S512x512.size a ≤ (i a).val
      ∧ (i a).val < ((cfgM m hO).win 2).index t a * S512x512.size a + S512x512.size a := by
  have e : (((cfgM m hO).win 2).blk t).view.set = (((cfgM m hO).win 2).rect t).set := View.set_slice_whole main_v0 _
  rw [e]
  exact Rect.mem_set_unit

end

/-! ## The result array -/

/-- A row of the hidden values times a column of an expert's matrix. -/
def rowDot (x : Vec Ideal S23552x5632 .bf16) (w : Vec Ideal S1x8x5632x2048 .f32) (e : Fin 8) (r : Fin 23552) (j : Fin 2048) : EReal :=
  ∑ k : Fin 5632, x (ix2 r k) * w (ix4 0 e k j)

/-- The expert of a row: its row tile's. -/
def ownExpert (m : (ℓ : Loc nD τ sig) → Buf (Elt Ideal) ℓ) (r : Fin 23552) : Fin 8 :=
  ⟨(expert m ⟨r.val / 512, by omega⟩).toNat % 8, Nat.mod_lt _ (by decide)⟩

/-- What the result array ends holding: rows of a tile in use hold their own expert's value, the others zero. -/
def G (m : (ℓ : Loc nD τ sig) → Buf (Elt Ideal) ℓ) (c : Dev nD) : Vec Ideal S23552x2048 .f32 := fun i =>
  if (i 0).val < 512 * (tilesUsed m).toNat then
    rowDot (m ((c : Thread nD τ).loc main_arg2)) (m ((c : Thread nD τ).loc main_arg3)) (ownExpert m (i 0)) (i 0) (i 1)
  else (0 : EReal)

theorem pay_apply (x : Vec Ideal S512x5632 .bf16) (w : Vec Ideal S1x1x5632x512 .f32) (r j : Fin 512) :
    k0_pay2 x (k0_pay1 w) (ix2 r j) = ∑ k : Fin 5632, x (ix2 r k) * w (ix4 0 0 k j) := by
  unfold_payloads
  pointwise

theorem zero_apply (r j : Fin 512) : (k0_pay3 (F := Ideal)) (ix2 r j) = (0 : EReal) := by
  unfold_payloads
  pointwise

/-- The block a point leaves, read at an index: `G` at that index of the array. -/
theorem out_apply (m : (ℓ : Loc nD τ sig) → Buf (Elt Ideal) ℓ) (h : InRange m) (c : Dev nD) (t : Fin (cfgM m h.ok).N) (r j : Fin 512)
    (z : S23552x2048.Idx) (hz0 : (z 0).val = 512 * (t.val % 46) + r.val) (hz1 : (z 1).val = 512 * (t.val / 46 % 4) + j.val) :
    outBlock m h.ok c t (ix2 r j) = G m c z := by
  have hc0 := coord0 t
  have hc1 := coord1 t
  have hr : ownExpert m (z 0) = ⟨(expert m (grid0.coords t 1)).toNat % 8, Nat.mod_lt _ (by decide)⟩ :=
    Fin.ext (congrArg (fun r => (expert m r).toNat % 8) (Fin.ext (by dsimp only; rw [hz0, hc1]; omega)))
  have key : ∀ w : Vec Ideal S1x8x5632x2048 .f32, t.val % 46 < (tilesUsed m).toNat →
      (∑ k : Fin 5632, rowsAt m h.ok c t (ix2 r k)
          * tileOf w (expert m (grid0.coords t 1)).toNat (grid0.coords t 0).val (ix4 0 0 k j))
        = rowDot (m ((c : Thread nD τ).loc main_arg2)) w (ownExpert m (z 0)) (z 0) (z 1) := by
    intro w hu
    rw [hr]
    unfold rowDot
    refine Finset.sum_congr rfl fun k _ => ?_
    rw [iblk_0 m h c t hu]
    unfold tileOf
    congr 2
    · congr 1
      exact Fin.ext hz0.symm
    · congr 1
      apply Fin.ext
      show (512 * (grid0.coords t 0).val + j.val) % 2048 = (z 1).val
      rw [hz1, hc0]; omega
  rw [outBlock_eq]
  unfold G
  by_cases hu : t.val % 46 < (tilesUsed m).toNat
  · rw [if_pos ((active_iff m h _).mpr (by rw [hc1]; exact hu)), if_pos (by rw [hz0]; omega), pay_apply, key _ hu]
  · rw [if_neg (fun h' => hu (by rw [← hc1]; exact (active_iff m h _).mp h')), if_neg (by rw [hz0]; omega), zero_apply]

/-- Every point writes back its block of `G`. -/
theorem flushed_eq (m : (ℓ : Loc nD τ sig) → Buf (Elt Ideal) ℓ) (h : InRange m) (c : Dev nD) (t : Fin (cfgM m h.ok).N) :
    (dats m h.ok 0 c).flushed 2 t = (((cfgM m h.ok).win 2).blk t).view.read (Elt Ideal) (G m c) := by
  show ((cfgM m h.ok).win 2).cut (grid0.coords t) ((dats m h.ok 0 c).after 2 t) = _
  rw [after_2]
  obtain ⟨e0, e1⟩ := index_out m h.ok t
  funext y
  have hy0 : (y (0 : Fin 2)).val < 512 := (y (0 : Fin 2)).isLt
  have hy1 : (y (1 : Fin 2)).val < 512 := (y (1 : Fin 2)).isLt
  have hb0 : ((((cfgM m h.ok).win 2).blk t).view.emb y (0 : Fin 2)).val = ((cfgM m h.ok).win 2).index t (0 : Fin 2) * 512 + 1 * (y (0 : Fin 2)).val := rfl
  have hb1 : ((((cfgM m h.ok).win 2).blk t).view.emb y (1 : Fin 2)).val = ((cfgM m h.ok).win 2).index t (1 : Fin 2) * 512 + 1 * (y (1 : Fin 2)).val := rfl
  show outBlock m h.ok c t (((cfgM m h.ok).win 2).xinj (grid0.coords t) y) = G m c ((((cfgM m h.ok).win 2).blk t).view.emb y)
  have hl : ((cfgM m h.ok).win 2).xinj (grid0.coords t) y = ix2 (⟨(y (0 : Fin 2)).val, hy0⟩ : Fin 512) (⟨(y (1 : Fin 2)).val, hy1⟩ : Fin 512) := by
    funext a
    match a with
    | ⟨0, _⟩ => rfl
    | ⟨1, _⟩ => rfl
  rw [hl]
  exact out_apply m h c t _ _ _ (by rw [hb0, e0]; dsimp only; omega) (by rw [hb1, e1]; dsimp only; omega)

/-- The result array after the run. -/
theorem final (m : (ℓ : Loc nD τ sig) → Buf (Elt Ideal) ℓ) (h : InRange m) (c : Dev nD) : (dats m h.ok 0 c).arrAt 2 (cfgM m h.ok).N = G m c :=
  (dats m h.ok 0 c).arrAt_eq_of_cover 2 _ (fun t _ => flushed_eq m h c t) fun i => by
    have h0 : (i (0 : Fin 2)).val < 23552 := (i (0 : Fin 2)).isLt
    have h1 : (i (1 : Fin 2)).val < 2048 := (i (1 : Fin 2)).isLt
    have hN : (i (0 : Fin 2)).val / 512 + 46 * ((i (1 : Fin 2)).val / 512) < (cfgM m h.ok).N := lt_of_lt_of_eq (by omega) N_0.symm
    refine ⟨⟨_, hN⟩, flush_2 m h.ok _, ?_⟩
    obtain ⟨e0, e1⟩ := index_out m h.ok ⟨_, hN⟩
    dsimp only at e0 e1
    refine (mem_blk m h.ok _ i).mpr fun a => ?_
    match a with
    | ⟨0, _⟩ =>
      show ((cfgM m h.ok).win 2).index _ (0 : Fin 2) * 512 ≤ (i (0 : Fin 2)).val ∧ (i (0 : Fin 2)).val < ((cfgM m h.ok).win 2).index _ (0 : Fin 2) * 512 + 512
      rw [e0]; omega
    | ⟨1, _⟩ =>
      show ((cfgM m h.ok).win 2).index _ (1 : Fin 2) * 512 ≤ (i (1 : Fin 2)).val ∧ (i (1 : Fin 2)).val < ((cfgM m h.ok).win 2).index _ (1 : Fin 2) * 512 + 512
      rw [e1]; omega

/-- The run: the result array is `G`, the arguments end as they were. -/
theorem run (m : (ℓ : Loc nD τ sig) → Buf (Elt Ideal) ℓ) (ρ : Dev nD → PrngReg) (h : InRange m) :
    θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ hr c => ⟨((hr.1 c).1).trans (final m h c), (hr.1 c).2⟩) (run_arrays m ρ h.ok)

end Cert.MoeDownIdeal.Hand

namespace Cert.MoeDownReferenceIdeal.Read

open Cert.MoeDownReferenceIdeal Cert.MoeDownReferenceIdeal.Gen Idealize.ShloMosaic

/-! ## The reference's arrays read at an index -/

/-- A row's entry of the experts' table. -/
theorem rowExpert_apply (te : IVec S46 32) (r : Fin 23552) :
    shapeCast S23552 (broadcastInDim S46x512 ![0] bcast_S46_S46x512_0 te) shapeCasts_S46x512_S23552 (ix1 r) = te (ix1 ⟨r.val / 512, by omega⟩) := by
  pointwise

/-- The mask: the row's expert is this one, and the row is in use. -/
theorem mask_apply (a : IVec S23552 32) (b : IVec S8 32) (d : IVec S23552 1) (e : Fin 8) (r : Fin 23552) (j : Fin 2048) :
    broadcastInDim S8x23552x2048 ![0, 1, 2] bcast_S8x23552x1_S8x23552x2048_0_1_2 (broadcastInDim S8x23552x1 ![0, 1] bcast_S8x23552_S8x23552x1_0_1 (andi (cmpi .eq (broadcastInDim S8x23552 ![0, 1] bcast_S1x23552_S8x23552_0_1 (broadcastInDim S1x23552 ![1] bcast_S23552_S1x23552_1 a)) (broadcastInDim S8x23552 ![0, 1] bcast_S8x1_S8x23552_0_1 (broadcastInDim S8x1 ![0] bcast_S8_S8x1_0 b))) (broadcastInDim S8x23552 ![0, 1] bcast_S1x23552_S8x23552_0_1 (broadcastInDim S1x23552 ![1] bcast_S23552_S1x23552_1 d)))) (ix3 e r j)
      = IntOp.andi (IntOp.cmpi .eq (a (ix1 r)) (b (ix1 e))) (d (ix1 r)) := by
  pointwise

/-- A row is in use iff its number is below 512 times the number of tiles in use. -/
theorem used_apply (nu : IVec S1 32) (r : Fin 23552) : cmpi .slt (iotaInDim S23552 32 0) (broadcastInDim S23552 ![] bcast_S_S23552 (muli (shapeCast S_ nu shapeCasts_S1_S_) (constantI S_ 32 512#32))) (ix1 r)
    = IntOp.cmpi .slt (BitVec.ofNat 32 r.val) (IntOp.muli (nu (ix1 0)) 512#32) := by
  pointwise

/-- Every expert's product, at an expert, a row and a column. -/
theorem product_apply (x : Vec Ideal S23552x5632 .bf16) (w : Vec Ideal S1x8x5632x2048 .f32) (e : Fin 8) (r : Fin 23552) (j : Fin 2048) :
    transpose S8x23552x2048 [0, 2, 1] (Host.dotGeneral dot_S8x5632x2048_S23552x5632_S8x2048x23552_1_1_02_0_n_n none (shapeCast S8x5632x2048 w shapeCasts_S1x8x5632x2048_S8x5632x2048 : FVec Ideal S8x5632x2048 .f32) (extf .f32 x bitsLt_bf16_f32) : FVec Ideal S8x2048x23552 .f32) transposes_S8x2048x23552_S8x23552x2048_0_2_1 (ix3 e r j)
      = ∑ k : Fin 5632, x (ix2 r k) * w (ix4 0 e k j) := by
  pointwise
  exact Finset.sum_congr rfl fun k _ => mul_comm _ _

/-- The sum over the experts of the kept values. -/
theorem kept_sum_apply (M : IVec S8x23552x2048 1) (A : FVec Ideal S8x23552x2048 .f32) (r : Fin 23552) (j : Fin 2048) :
    Host.reduceAdd (select M A (broadcastInDim S8x23552x2048 ![] bcast_S_S8x23552x2048 (id (constant S_ .f32 0x00000000#32)))) (constant S_ .f32 0x00000000#32) reducesTo_S8x23552x2048_S23552x2048_d0 h_S_ (ix2 r j)
      = ∑ e : Fin 8, if M (ix3 e r j) = 1#1 then A (ix3 e r j) else (0 : EReal) := by
  show Host.reduceAdd (select M A (broadcastInDim S8x23552x2048 ![] bcast_S_S8x23552x2048 (constant S_ .f32 0x00000000#32))) (constant S_ .f32 0x00000000#32) reducesTo_S8x23552x2048_S23552x2048_d0 h_S_ (ix2 r j) = _
  pointwise
  rfl

end Cert.MoeDownReferenceIdeal.Read

namespace Cert.Proof

open Idealize.ShloMosaic Idealize.SL.Sem

theorem quiescent_MoeDownReferenceIdeal : quiescent_MoeDownReferenceIdeal := fun m ρ _ =>
  (θ_run Cert.MoeDownReferenceIdeal.defs _ _).mono
    (fun r h => ⟨fun c => (h c).2, sem_eq_zero_of_no_sems (by decide) r.2⟩)
    (Cert.MoeDownReferenceIdeal.Value.run (F := Ideal) m ρ)

theorem algebraic_MoeDownIdeal_MoeDownReferenceIdeal : algebraic_MoeDownIdeal_MoeDownReferenceIdeal := by
  intro m ρ m' ρ' hpre hagree
  have hin := Cert.MoeDownIdeal.Hand.inRange_of m (hpre 0)
  refine ⟨_, Cert.MoeDownIdeal.Hand.run m ρ hin, ?_⟩
  refine (θ_run Cert.MoeDownReferenceIdeal.defs _ _).mono (fun _ h c => ⟨?_, (h c).2⟩)
    (Cert.MoeDownReferenceIdeal.Value.run (F := Ideal) m' ρ')
  rw [(h c).1]
  simp only [hagree c]
  funext j
  idx_vars j
  have hexp : ∀ r : Fin 46, (m ((c.tc : Thread Cert.MoeDownIdeal.nD Cert.MoeDownIdeal.τ).loc Cert.MoeDownIdeal.main_arg0) : IVec _ 32) (ix1 r)
      = Cert.MoeDownIdeal.Hand.expert m r := fun r => congrFun (Cert.MoeDownIdeal.Hand.tbl_on m c 0) (ix1 r)
  have hused : (m ((c.tc : Thread Cert.MoeDownIdeal.nD Cert.MoeDownIdeal.τ).loc Cert.MoeDownIdeal.main_arg1) : IVec _ 32) (ix1 0)
      = Cert.MoeDownIdeal.Hand.tilesUsed m := congrFun (Cert.MoeDownIdeal.Hand.tbl_on m c 1) (ix1 0)
  refine (Cert.MoeDownReferenceIdeal.Read.kept_sum_apply _ _ j0 j1).trans ?_
  refine (Cert.MoeGateUpReferenceIdeal.Read.own_sum (p := j0.val < 512 * (Cert.MoeDownIdeal.Hand.tilesUsed m).toNat) (Cert.MoeDownIdeal.Hand.ownExpert m j0) _ _ fun e => ?_).trans ?_
  · rw [Cert.MoeDownReferenceIdeal.Read.mask_apply, Cert.MoeDownReferenceIdeal.Read.rowExpert_apply, Cert.MoeDownReferenceIdeal.Read.used_apply, hexp, hused]
    refine (Cert.MoeGateUpReferenceIdeal.Read.mask_iff (hin.1 _) hin.2.2 e j0.val j0.isLt).trans (and_congr ?_ Iff.rfl)
    exact ⟨fun h => Fin.ext h, fun h => congrArg Fin.val h⟩
  · unfold Cert.MoeDownIdeal.Hand.G
    refine if_congr Iff.rfl ?_ rfl
    exact Cert.MoeDownReferenceIdeal.Read.product_apply _ _ _ _ _

end Cert.Proof

end
-- ==== Proof.GateUpValue.lean ====
/- The value of the dense feed-forward's gated hidden values (`GateUpIdeal`): every grid point leaves, in its block of the
   result, the gated product of its rows with the two column tiles of the weights held in the two scratches, which were loaded
   at the first row tile of the column; so the result array is one function of the arguments. -/
module

public import proofs.«01_k».proof.Defs
public import proofs.«01_k».proof.Proof.Gen.GateUpIdeal.Frame
public import proofs.«01_k».proof.Proof.Gen.GateUpReferenceIdeal.Run
public import Idealize.ShloMosaic.Lib.Pipeline.Value
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.GateUpIdeal.GateValue

open Cert.GateUpIdeal Cert.GateUpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

/-- At the first row tile of a column scratch 0 is left at its weight tile. -/
theorem scratch0_A (c : Dev nD) (i : grid0.Coords) (a2 h2 a3 h3 a4 h4 a5 h5 a6 h6 a7 h7) (hc : cond0_0 i) (x0 : Vec F S512x2048 .bf16)
    (x1 x2 : Vec F S1x2048x512 .f32) : sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero hz2]
  simp only [View.readAt_eq_ld, Memref.IsWhole.read_unread, View.ld_unit_zero (S := S1x2048x512) hz3]

/-- At the first row tile of a column scratch 1 is left at its weight tile. -/
theorem scratch1_A (c : Dev nD) (i : grid0.Coords) (a2 h2 a3 h3 a4 h4 a5 h5 a6 h6 a7 h7) (hc : cond0_0 i) (x0 : Vec F S512x2048 .bf16)
    (x1 x2 : Vec F S1x2048x512 .f32) : sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero hz2]
  simp only [View.readAt_eq_ld, Memref.IsWhole.read_unread, View.ld_unit_zero (S := S1x2048x512) hz3]

/-- At the first row tile the output block is computed from the tiles just stored. -/
theorem out_A (c : Dev nD) (i : grid0.Coords) (a2 h2 a3 h3 a4 h4 a5 h5 a6 h6 a7 h7) (hc : cond0_0 i) (x0 : Vec F S512x2048 .bf16)
    (x1 x2 : Vec F S1x2048x512 .f32) : out0_A_3 c i a2 h2 a3 h3 a4 h4 a5 h5 a6 h6 a7 h7 hc x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz2, View.readCov_unit_zero _ hz2, View.readCov_unit_zero _ hz2]
  simp only [View.readAt_eq_ld, Memref.IsWhole.read_unread, View.ld_unit_zero (S := S512x2048) hz2, View.ld_unit_zero (S := S1x2048x512) hz3]

/-- At every other row tile the output block is computed from what the scratches hold. -/
theorem out_B (c : Dev nD) (i : grid0.Coords) (a2 h2 a3 h3 a4 h4 a5 h5 a6 h6 a7 h7) (hc : ¬cond0_0 i) (x0 : Vec F S512x2048 .bf16)
    (x1 x2 : Vec F S1x2048x512 .f32) (xs xs' : Vec F S2048x512 .bf16) :
    out0_B_3 c i a2 h2 a3 h3 a4 h4 a5 h5 a6 h6 a7 h7 hc x0 x1 x2 xs xs' = k0_pay3 x0 xs xs' := by
  unfold out0_B_3
  rw [View.read_writes_eq_canon _ _ _ (cover0_B_3 c i a2 h2 a3 h3 a4 h4 a5 h5 a6 h6 a7 h7 hc x0 x1 x2 xs xs')]
  unfold kernelRun0_B
  dsimp only
  sl_unfold_words
  rw [View.canon_unit_zero hz2]
  simp only [View.readAt_eq_ld, Memref.IsWhole.read_unread, View.ld_unit_zero (S := S512x2048) hz2,
    View.ld_unit_zero (S := S2048x512) hz2]

/-! ## The blocks the windows read -/

/-- The block indices of the three windows at a point . -/
theorem idx_facts : ∀ t : Fin cfg0.N, win0_0.index t (0 : Fin 2) = t.val % 19 ∧ win0_0.index t (1 : Fin 2) = 0
    ∧ win0_1.index t (0 : Fin 3) = 0
    ∧ win0_1.index t (1 : Fin 3) = 0
    ∧ win0_1.index t (2 : Fin 3) = t.val / 19
    ∧ win0_2.index t (0 : Fin 3) = 0
    ∧ win0_2.index t (1 : Fin 3) = 0
    ∧ win0_2.index t (2 : Fin 3) = t.val / 19
    ∧ win0_3.index t (0 : Fin 2) = t.val % 19 ∧ win0_3.index t (1 : Fin 2) = t.val / 19 :=
  (by decide +kernel : ∀ t : Fin grid0.N, _)

theorem lt209 (t : Fin cfg0.N) : t.val < 209 := lt_of_lt_of_eq t.isLt N_0

/-- The activations' block at a point: its 512 rows. -/
theorem iblk_x (c : Dev nD) (t : Fin cfg0.N) (r : Fin 512) (k : Fin 2048) :
    (iblk m c 0 t : Vec F S512x2048 .bf16) (ix2 r k)
      = (m ((c : Thread nD τ).loc main_arg0) : Vec F S9728x2048 .bf16) (ix2 ⟨512 * (t.val % 19) + r.val, by omega⟩ k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * (t.val % 19) + r.val; rw [e0]; omega
  | ⟨1, _⟩ => show win0_0.index t 1 * 2048 + 1 * k.val = k.val; rw [e1]; omega

/-- The weights' tile at a point: its 512 columns. -/
theorem iblk_w (c : Dev nD) (t : Fin cfg0.N) (k : Fin 2048) (j : Fin 512) :
    (iblk m c 1 t : Vec F S1x2048x512 .f32) (ix3 0 k j)
      = (m ((c : Thread nD τ).loc main_arg1) : Vec F S1x2048x5632 .f32)
          (ix3 0 k ⟨512 * (t.val / 19) + j.val, by have := lt209 t; omega⟩) := by
  obtain ⟨-, -, e0, e1, e2, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega
  | ⟨2, _⟩ => show win0_1.index t 2 * 512 + 1 * j.val = 512 * (t.val / 19) + j.val; rw [e2]; omega

/-- The other weights' tile at a point: its 512 columns. -/
theorem iblk_u (c : Dev nD) (t : Fin cfg0.N) (k : Fin 2048) (j : Fin 512) :
    (iblk m c 2 t : Vec F S1x2048x512 .f32) (ix3 0 k j)
      = (m ((c : Thread nD τ).loc main_arg2) : Vec F S1x2048x5632 .f32)
          (ix3 0 k ⟨512 * (t.val / 19) + j.val, by have := lt209 t; omega⟩) := by
  obtain ⟨-, -, -, -, -, e0, e1, e2, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 1 + 1 * 0 = 0; rw [e0]
  | ⟨1, _⟩ => show win0_2.index t 1 * 2048 + 1 * k.val = k.val; rw [e1]; omega
  | ⟨2, _⟩ => show win0_2.index t 2 * 512 + 1 * j.val = 512 * (t.val / 19) + j.val; rw [e2]; omega

/-- Within one column of tiles the weights' block does not move. -/
theorem iblk_w_eq (c : Dev nD) (t s : Fin cfg0.N) (h : t.val / 19 = s.val / 19) :
    (iblk m c 1 t : Vec F S1x2048x512 .f32) = iblk m c 1 s := by
  funext y
  idx_vars y
  obtain rfl : y0 = 0 := Subsingleton.elim _ _
  rw [iblk_w, iblk_w]
  simp only [h]

/-- Within one column of tiles the other weights' block does not move. -/
theorem iblk_u_eq (c : Dev nD) (t s : Fin cfg0.N) (h : t.val / 19 = s.val / 19) :
    (iblk m c 2 t : Vec F S1x2048x512 .f32) = iblk m c 2 s := by
  funext y
  idx_vars y
  obtain rfl : y0 = 0 := Subsingleton.elim _ _
  rw [iblk_u, iblk_u]
  simp only [h]

/-! ## The scratches and the output after every point -/

/-- The scratches after a point: the weight tiles of the point's column. -/
theorem scratch_eq (c : Dev nD) : ∀ (n : ℕ) (t : Fin cfg0.N), t.val = n →
    (outsAt0 m c t.val t.isLt).2 = (k0_pay1 (iblk m c 1 t), k0_pay2 (iblk m c 2 t)) := by
  intro n
  induction n with
  | zero =>
    intro t ht
    rw [outsAt0_A m c t (by omega)]
    dsimp only
    rw [scratch0_A, scratch1_A]
  | succ n ih =>
    intro t ht
    by_cases h0 : t.val % 19 = 0
    · rw [outsAt0_A m c t h0]
      dsimp only
      rw [scratch0_A, scratch1_A]
    · rw [outsAt0_B m c t h0]
      dsimp only [sout0_B_0, sout0_B_1]
      rw [ih ⟨t.val - 1, by omega⟩ (by dsimp only; omega), iblk_w_eq m c ⟨t.val - 1, by omega⟩ t (by dsimp only; omega),
        iblk_u_eq m c ⟨t.val - 1, by omega⟩ t (by dsimp only; omega)]

/-- The output block after a point: its rows with the point's weight tiles. -/
theorem out_eq (c : Dev nD) (t : Fin cfg0.N) :
    (outsAt0 m c t.val t.isLt).1 = k0_pay3 (iblk m c 0 t) (k0_pay1 (iblk m c 1 t)) (k0_pay2 (iblk m c 2 t)) := by
  by_cases h0 : t.val % 19 = 0
  · rw [outsAt0_A m c t h0]
    dsimp only
    rw [out_A]
  · rw [outsAt0_B m c t h0]
    dsimp only
    rw [out_B, scratch_eq m c _ ⟨t.val - 1, by omega⟩ rfl, iblk_w_eq m c ⟨t.val - 1, by omega⟩ t (by dsimp only; omega),
      iblk_u_eq m c ⟨t.val - 1, by omega⟩ t (by dsimp only; omega)]

/-! ## The result array -/

/-- A row times a column of the weights. -/
def rowDot (x : Vec Ideal S9728x2048 .bf16) (w : Vec Ideal S1x2048x5632 .f32) (i : S9728x5632.Idx) : EReal :=
  ∑ k : Fin 2048, x (ix2 (i 0) k) * w (ix3 0 k (i 1))

/-- The gate's activation times the other product. -/
def gated (a b : Ideal .f32) : Ideal .f32 := FloatOps.mulf (FloatOps.mulf a (FloatOps.logistic a)) b

/-- What the result array ends holding. -/
def G (m : (ℓ : Loc nD τ sig) → Buf (Elt Ideal) ℓ) (c : Dev nD) : Vec Ideal S9728x5632 .bf16 := fun i =>
  gated (rowDot (m ((c : Thread nD τ).loc main_arg0)) (m ((c : Thread nD τ).loc main_arg1)) i)
    (rowDot (m ((c : Thread nD τ).loc main_arg0)) (m ((c : Thread nD τ).loc main_arg2)) i)

/-- The block computed from a block of rows and the two tiles, element by element. -/
theorem pay_apply (x : Vec Ideal S512x2048 .bf16) (wg wu : Vec Ideal S1x2048x512 .f32) (r j : Fin 512) :
    k0_pay3 x (k0_pay1 wg) (k0_pay2 wu) (ix2 r j)
      = gated (∑ k : Fin 2048, x (ix2 r k) * wg (ix3 0 k j)) (∑ k : Fin 2048, x (ix2 r k) * wu (ix3 0 k j)) := by
  unfold gated
  unfold_payloads
  pointwise
/-- Every point writes back its block of `G`. -/
theorem flushed_eq (m : (ℓ : Loc nD τ sig) → Buf (Elt Ideal) ℓ) (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3, out_eq]
  obtain ⟨-, -, -, -, -, -, -, -, e0, e1⟩ := idx_facts t
  funext y
  have hy0 : (y 0).val < 512 := (y 0).isLt
  have hy1 : (y 1).val < 512 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 512 + 1 * (y 1).val := rfl
  show k0_pay3 (iblk m c 0 t) (k0_pay1 (iblk m c 1 t)) (k0_pay2 (iblk m c 2 t)) ((cfg0.win 3).xinj (grid0.coords t) y)
    = G m c (((cfg0.win 3).blk t).view.emb y)
  have hl : (cfg0.win 3).xinj (grid0.coords t) y = ix2 (⟨(y 0).val, hy0⟩ : Fin 512) (⟨(y 1).val, hy1⟩ : Fin 512) := by
    funext a
    match a with
    | ⟨0, _⟩ => rfl
    | ⟨1, _⟩ => rfl
  rw [hl, pay_apply]
  unfold G
  have key : ∀ (x : Vec Ideal S512x2048 .bf16) (hx : ∀ (r : Fin 512) (k : Fin 2048), x (ix2 r k) = (m ((c : Thread nD τ).loc main_arg0) : Vec Ideal S9728x2048 .bf16) (ix2 ⟨512 * (t.val % 19) + r.val, by have := lt209 t; omega⟩ k)) (w : Vec Ideal S1x2048x5632 .f32) (b : Vec Ideal S1x2048x512 .f32)
      (hb : ∀ (k : Fin 2048) (j : Fin 512), b (ix3 0 k j) = w (ix3 0 k ⟨512 * (t.val / 19) + j.val, by have := lt209 t; omega⟩)),
      (∑ k : Fin 2048, x (ix2 ⟨(y 0).val, hy0⟩ k) * b (ix3 0 k ⟨(y 1).val, hy1⟩))
        = rowDot (m ((c : Thread nD τ).loc main_arg0)) w (((cfg0.win 3).blk t).view.emb y) := by
    intro x hx w b hb
    unfold rowDot
    refine Finset.sum_congr rfl fun k _ => ?_
    rw [hx, hb]
    congr 2
    · congr 1
      apply Fin.ext
      show _ = (((cfg0.win 3).blk t).view.emb y 0).val
      rw [hb0, e0]
      dsimp only
      omega
    · congr 1
      apply Fin.ext
      show _ = (((cfg0.win 3).blk t).view.emb y 1).val
      rw [hb1, e1]
      dsimp only
      omega
  rw [key _ (iblk_x m c t) _ _ (iblk_w m c t), key _ (iblk_x m c t) _ _ (iblk_u m c t)]

/-- An index of the array is in a point's block iff each coordinate is in the block's range. -/
theorem mem_blk (t : Fin cfg0.N) (i : S9728x5632.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v0).slice (win0_3.rect t)).set ↔ _
  rw [View.set_slice_whole, Rect.mem_set_unit]
  exact Iff.rfl

/-- The result array after the run. -/
theorem final (m : (ℓ : Loc nD τ sig) → Buf (Elt Ideal) ℓ) (c : Dev nD) : (dats m 0 c).arrAt 3 cfg0.N = G m c :=
  (dats m 0 c).arrAt_eq_of_cover 3 _ (fun t _ => flushed_eq m c t) fun i => by
    have h0 : (i 0).val < 9728 := (i 0).isLt
    have h1 : (i 1).val < 5632 := (i 1).isLt
    have hN : (i 0).val / 512 + 19 * ((i 1).val / 512) < cfg0.N := lt_of_lt_of_eq (by omega) N_0.symm
    refine ⟨⟨_, hN⟩, flush0_3 _, ?_⟩
    obtain ⟨-, -, -, -, -, -, -, -, e0, e1⟩ := idx_facts ⟨_, hN⟩
    dsimp only at e0 e1
    rw [mem_blk]
    intro a
    match a with
    | ⟨0, _⟩ =>
      show win0_3.index _ (0 : Fin 2) * 512 ≤ (i 0).val ∧ (i 0).val < win0_3.index _ (0 : Fin 2) * 512 + 512
      rw [e0]; omega
    | ⟨1, _⟩ =>
      show win0_3.index _ (1 : Fin 2) * 512 ≤ (i 1).val ∧ (i 1).val < win0_3.index _ (1 : Fin 2) * 512 + 512
      rw [e1]; omega

/-- The run: the result array is the product, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.GateUpIdeal.GateValue

namespace Cert.GateUpReferenceIdeal.Read

open Cert.GateUpReferenceIdeal Cert.GateUpReferenceIdeal.Gen Idealize.ShloMosaic

/-- A product of the reference at an index. -/
theorem product_apply (x : Vec Ideal S9728x2048 .bf16) (w : Vec Ideal S1x2048x5632 .f32) (r : Fin 9728) (j : Fin 5632) :
    Host.dotGeneral dot_S9728x2048_S2048x5632_S9728x5632_1_0_0_1_n_n none (extf .f32 x bitsLt_bf16_f32) (shapeCast S2048x5632 w shapeCasts_S1x2048x5632_S2048x5632 : FVec Ideal S2048x5632 .f32) (ix2 r j)
      = Cert.GateUpIdeal.GateValue.rowDot x w (ix2 r j) := by
  unfold Cert.GateUpIdeal.GateValue.rowDot
  pointwise

/-- The gate's activation times the other product, as the reference writes it. -/
theorem gated_apply (P Q : FVec Ideal S9728x5632 .f32) (r : Fin 9728) (j : Fin 5632) :
    truncf .bf16 (mulf (mulf P (Host.divf (broadcastInDim S9728x5632 ![] bcast_S_S9728x5632 (constant S_ .f32 0x3F800000#32)) (addf (broadcastInDim S9728x5632 ![] bcast_S_S9728x5632 (constant S_ .f32 0x3F800000#32)) (Host.exp (Host.negf P))))) Q) bitsLt_bf16_f32 (ix2 r j)
      = Cert.GateUpIdeal.GateValue.gated (P (ix2 r j)) (Q (ix2 r j)) := by
  unfold Cert.GateUpIdeal.GateValue.gated
  pointwise
  rfl

end Cert.GateUpReferenceIdeal.Read

namespace Cert.Proof

open Idealize.ShloMosaic Idealize.SL.Sem

theorem quiescent_GateUpReferenceIdeal : quiescent_GateUpReferenceIdeal := fun m ρ _ =>
  (θ_run Cert.GateUpReferenceIdeal.defs _ _).mono
    (fun r h => ⟨fun c => (h c).2, sem_eq_zero_of_no_sems (by decide) r.2⟩)
    (Cert.GateUpReferenceIdeal.Value.run (F := Ideal) m ρ)

theorem algebraic_GateUpIdeal_GateUpReferenceIdeal : algebraic_GateUpIdeal_GateUpReferenceIdeal := by
  intro m ρ m' ρ' _ hagree
  refine ⟨_, Cert.GateUpIdeal.GateValue.run m ρ, ?_⟩
  refine (θ_run Cert.GateUpReferenceIdeal.defs _ _).mono (fun _ h c => ⟨?_, (h c).2⟩)
    (Cert.GateUpReferenceIdeal.Value.run (F := Ideal) m' ρ')
  rw [(h c).1]
  simp only [hagree c]
  funext j
  idx_vars j
  refine (Cert.GateUpReferenceIdeal.Read.gated_apply _ _ _ _).trans ?_
  rw [Cert.GateUpReferenceIdeal.Read.product_apply, Cert.GateUpReferenceIdeal.Read.product_apply]
  rfl

end Cert.Proof

end
-- ==== Proof.FfnDownValue.lean ====
/- The value of the dense feed-forward's second product (`FfnDownIdeal`): every grid point leaves, in its block of the result,
   the product of its rows with the column tile of the weights held in the scratch, which was loaded at the first row tile of
   the column; so the whole result array is one matrix product. -/
module

public import proofs.«01_k».proof.Defs
public import proofs.«01_k».proof.Proof.Gen.FfnDownIdeal.Frame
public import proofs.«01_k».proof.Proof.Gen.FfnDownReferenceIdeal.Run
public import Idealize.ShloMosaic.Lib.Pipeline.Value
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.FfnDownIdeal.DownValue

open Cert.FfnDownIdeal Cert.FfnDownIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

/-- At the first row tile of a column the scratch is left at the weight tile. -/
theorem scratch_A (c : Dev nD) (i : grid0.Coords) (a2 h2 a3 h3 a4 h4 a5 h5) (hc : cond0_0 i) (x0 : Vec F S512x5632 .bf16)
    (x1 : Vec F S1x5632x512 .f32) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, Memref.IsWhole.read_unread, View.ld_unit_zero (S := S1x5632x512) hz3]

/-- At the first row tile the output block is the product with the tile just stored. -/
theorem out_A (c : Dev nD) (i : grid0.Coords) (a2 h2 a3 h3 a4 h4 a5 h5) (hc : cond0_0 i) (x0 : Vec F S512x5632 .bf16)
    (x1 : Vec F S1x5632x512 .f32) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero _ hz2]
  simp only [View.readAt_eq_ld, Memref.IsWhole.read_unread, View.ld_unit_zero (S := S512x5632) hz2, View.ld_unit_zero (S := S1x5632x512) hz3]

/-- At every other row tile the output block is the product with what the scratch holds. -/
theorem out_B (c : Dev nD) (i : grid0.Coords) (a2 h2 a3 h3 a4 h4 a5 h5) (hc : ¬cond0_0 i) (x0 : Vec F S512x5632 .bf16)
    (x1 : Vec F S1x5632x512 .f32) (xs : Vec F S5632x512 .bf16) :
    out0_B_2 c i a2 h2 a3 h3 a4 h4 a5 h5 hc x0 x1 xs = k0_pay2 x0 xs := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz2]
  simp only [View.readAt_eq_ld, Memref.IsWhole.read_unread, View.ld_unit_zero (S := S512x5632) hz2,
    View.ld_unit_zero (S := S5632x512) hz2]

/-! ## The blocks the windows read -/

/-- The block indices of the three windows at a point . -/
theorem idx_facts : ∀ t : Fin cfg0.N, win0_0.index t (0 : Fin 2) = t.val % 19 ∧ win0_0.index t (1 : Fin 2) = 0
    ∧ win0_1.index t (0 : Fin 3) = 0
    ∧ win0_1.index t (1 : Fin 3) = 0
    ∧ win0_1.index t (2 : Fin 3) = t.val / 19
    ∧ win0_2.index t (0 : Fin 2) = t.val % 19 ∧ win0_2.index t (1 : Fin 2) = t.val / 19 :=
  (by decide +kernel : ∀ t : Fin grid0.N, _)

theorem lt76 (t : Fin cfg0.N) : t.val < 76 := lt_of_lt_of_eq t.isLt N_0

/-- The activations' block at a point: its 512 rows. -/
theorem iblk_x (c : Dev nD) (t : Fin cfg0.N) (r : Fin 512) (k : Fin 5632) :
    (iblk m c 0 t : Vec F S512x5632 .bf16) (ix2 r k)
      = (m ((c : Thread nD τ).loc main_arg0) : Vec F S9728x5632 .bf16) (ix2 ⟨512 * (t.val % 19) + r.val, by omega⟩ k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * (t.val % 19) + r.val; rw [e0]; omega
  | ⟨1, _⟩ => show win0_0.index t 1 * 5632 + 1 * k.val = k.val; rw [e1]; omega

/-- The weights' tile at a point: its 512 columns. -/
theorem iblk_w (c : Dev nD) (t : Fin cfg0.N) (k : Fin 5632) (j : Fin 512) :
    (iblk m c 1 t : Vec F S1x5632x512 .f32) (ix3 0 k j)
      = (m ((c : Thread nD τ).loc main_arg1) : Vec F S1x5632x2048 .f32)
          (ix3 0 k ⟨512 * (t.val / 19) + j.val, by have := lt76 t; omega⟩) := by
  obtain ⟨-, -, e0, e1, e2, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = 0; rw [e0]
  | ⟨1, _⟩ => show win0_1.index t 1 * 5632 + 1 * k.val = k.val; rw [e1]; omega
  | ⟨2, _⟩ => show win0_1.index t 2 * 512 + 1 * j.val = 512 * (t.val / 19) + j.val; rw [e2]; omega

/-- Within one column of tiles the weights' block does not move. -/
theorem iblk_w_eq (c : Dev nD) (t s : Fin cfg0.N) (h : t.val / 19 = s.val / 19) :
    (iblk m c 1 t : Vec F S1x5632x512 .f32) = iblk m c 1 s := by
  funext y
  idx_vars y
  obtain rfl : y0 = 0 := Subsingleton.elim _ _
  rw [iblk_w, iblk_w]
  simp only [h]

/-! ## The scratch and the output after every point -/

/-- The scratch after a point: the weight tile of the point's column. -/
theorem scratch_eq (c : Dev nD) : ∀ (n : ℕ) (t : Fin cfg0.N), t.val = n →
    (outsAt0 m c t.val t.isLt).2 = k0_pay1 (iblk m c 1 t) := by
  intro n
  induction n with
  | zero =>
    intro t ht
    rw [outsAt0_A m c t (by omega)]
    dsimp only
    rw [scratch_A]
  | succ n ih =>
    intro t ht
    by_cases h0 : t.val % 19 = 0
    · rw [outsAt0_A m c t h0]
      dsimp only
      rw [scratch_A]
    · rw [outsAt0_B m c t h0]
      dsimp only [sout0_B_0]
      rw [ih ⟨t.val - 1, by omega⟩ (by dsimp only; omega), iblk_w_eq m c ⟨t.val - 1, by omega⟩ t (by dsimp only; omega)]

/-- The output block after a point: its rows times the point's weight tile. -/
theorem out_eq (c : Dev nD) (t : Fin cfg0.N) :
    (outsAt0 m c t.val t.isLt).1 = k0_pay2 (iblk m c 0 t) (k0_pay1 (iblk m c 1 t)) := by
  by_cases h0 : t.val % 19 = 0
  · rw [outsAt0_A m c t h0]
    dsimp only
    rw [out_A]
  · rw [outsAt0_B m c t h0]
    dsimp only
    rw [out_B, scratch_eq m c _ ⟨t.val - 1, by omega⟩ rfl, iblk_w_eq m c ⟨t.val - 1, by omega⟩ t (by dsimp only; omega)]

/-! ## The result array -/

/-- The product of the hidden values with the weights. -/
def prod (x : Vec Ideal S9728x5632 .bf16) (w : Vec Ideal S1x5632x2048 .f32) : Vec Ideal S9728x2048 .f32 := fun i =>
  ∑ k : Fin 5632, x (ix2 (i 0) k) * w (ix3 0 k (i 1))

/-- What the result array ends holding. -/
def G (m : (ℓ : Loc nD τ sig) → Buf (Elt Ideal) ℓ) (c : Dev nD) : Vec Ideal S9728x2048 .f32 :=
  prod (m ((c : Thread nD τ).loc main_arg0)) (m ((c : Thread nD τ).loc main_arg1))

/-- The product of a block of rows with a tile, read at an index. -/
theorem pay_apply (x : Vec Ideal S512x5632 .bf16) (w : Vec Ideal S1x5632x512 .f32) (r : Fin 512) (j : Fin 512) :
    k0_pay2 x (k0_pay1 w) (ix2 r j) = ∑ k : Fin 5632, x (ix2 r k) * w (ix3 0 k j) := by
  unfold_payloads
  pointwise

/-- Every point writes back its block of `G`. -/
theorem flushed_eq (m : (ℓ : Loc nD τ sig) → Buf (Elt Ideal) ℓ) (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2, out_eq]
  obtain ⟨-, -, -, -, -, e0, e1⟩ := idx_facts t
  funext y
  have hy0 : (y 0).val < 512 := (y 0).isLt
  have hy1 : (y 1).val < 512 := (y 1).isLt
  have hb0 : (((cfg0.win 2).blk t).view.emb y 0).val = win0_2.index t (0 : Fin 2) * 512 + 1 * (y 0).val := rfl
  have hb1 : (((cfg0.win 2).blk t).view.emb y 1).val = win0_2.index t (1 : Fin 2) * 512 + 1 * (y 1).val := rfl
  show k0_pay2 (iblk m c 0 t) (k0_pay1 (iblk m c 1 t)) ((cfg0.win 2).xinj (grid0.coords t) y)
    = G m c (((cfg0.win 2).blk t).view.emb y)
  have hl : (cfg0.win 2).xinj (grid0.coords t) y = ix2 (⟨(y 0).val, hy0⟩ : Fin 512) (⟨(y 1).val, hy1⟩ : Fin 512) := by
    funext a
    match a with
    | ⟨0, _⟩ => rfl
    | ⟨1, _⟩ => rfl
  rw [hl, pay_apply]
  unfold G prod
  refine Finset.sum_congr rfl fun k _ => ?_
  rw [iblk_x, iblk_w]
  congr 2
  · congr 1
    apply Fin.ext
    show _ = (((cfg0.win 2).blk t).view.emb y 0).val
    rw [hb0, e0]
    dsimp only
    omega
  · congr 1
    apply Fin.ext
    show _ = (((cfg0.win 2).blk t).view.emb y 1).val
    rw [hb1, e1]
    dsimp only
    omega

/-- An index of the array is in a point's block iff each coordinate is in the block's range. -/
theorem mem_blk (t : Fin cfg0.N) (i : S9728x2048.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v0).slice (win0_2.rect t)).set ↔ _
  rw [View.set_slice_whole, Rect.mem_set_unit]
  exact Iff.rfl

/-- The result array after the run. -/
theorem final (m : (ℓ : Loc nD τ sig) → Buf (Elt Ideal) ℓ) (c : Dev nD) : (dats m 0 c).arrAt 2 cfg0.N = G m c :=
  (dats m 0 c).arrAt_eq_of_cover 2 _ (fun t _ => flushed_eq m c t) fun i => by
    have h0 : (i 0).val < 9728 := (i 0).isLt
    have h1 : (i 1).val < 2048 := (i 1).isLt
    have hN : (i 0).val / 512 + 19 * ((i 1).val / 512) < cfg0.N := lt_of_lt_of_eq (by omega) N_0.symm
    refine ⟨⟨_, hN⟩, flush0_2 _, ?_⟩
    obtain ⟨-, -, -, -, -, e0, e1⟩ := idx_facts ⟨_, hN⟩
    dsimp only at e0 e1
    rw [mem_blk]
    intro a
    match a with
    | ⟨0, _⟩ =>
      show win0_2.index _ (0 : Fin 2) * 512 ≤ (i 0).val ∧ (i 0).val < win0_2.index _ (0 : Fin 2) * 512 + 512
      rw [e0]; omega
    | ⟨1, _⟩ =>
      show win0_2.index _ (1 : Fin 2) * 512 ≤ (i 1).val ∧ (i 1).val < win0_2.index _ (1 : Fin 2) * 512 + 512
      rw [e1]; omega

/-- The run: the result array is the product, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.FfnDownIdeal.DownValue

namespace Cert.FfnDownReferenceIdeal.Read

open Cert.FfnDownReferenceIdeal Cert.FfnDownReferenceIdeal.Gen Idealize.ShloMosaic

/-- The reference's product at an index. -/
theorem product_apply (x : Vec Ideal S9728x5632 .bf16) (w : Vec Ideal S1x5632x2048 .f32) (r : Fin 9728) (j : Fin 2048) :
    Host.dotGeneral dot_S9728x5632_S5632x2048_S9728x2048_1_0_0_1_n_n none (extf .f32 x bitsLt_bf16_f32) (shapeCast S5632x2048 w shapeCasts_S1x5632x2048_S5632x2048 : FVec Ideal S5632x2048 .f32) (ix2 r j)
      = ∑ k : Fin 5632, x (ix2 r k) * w (ix3 0 k j) := by
  pointwise

end Cert.FfnDownReferenceIdeal.Read

namespace Cert.Proof

open Idealize.ShloMosaic Idealize.SL.Sem

theorem quiescent_FfnDownReferenceIdeal : quiescent_FfnDownReferenceIdeal := fun m ρ _ =>
  (θ_run Cert.FfnDownReferenceIdeal.defs _ _).mono
    (fun r h => ⟨fun c => (h c).2, sem_eq_zero_of_no_sems (by decide) r.2⟩)
    (Cert.FfnDownReferenceIdeal.Value.run (F := Ideal) m ρ)

theorem algebraic_FfnDownIdeal_FfnDownReferenceIdeal : algebraic_FfnDownIdeal_FfnDownReferenceIdeal := by
  intro m ρ m' ρ' _ hagree
  refine ⟨_, Cert.FfnDownIdeal.DownValue.run m ρ, ?_⟩
  refine (θ_run Cert.FfnDownReferenceIdeal.defs _ _).mono (fun _ h c => ⟨?_, (h c).2⟩)
    (Cert.FfnDownReferenceIdeal.Value.run (F := Ideal) m' ρ')
  rw [(h c).1]
  simp only [hagree c]
  funext j
  idx_vars j
  refine (Cert.FfnDownReferenceIdeal.Read.product_apply _ _ _ _).trans ?_
  rfl

end Cert.Proof

end
-- ==== Proof.MergeValue.lean ====
/- The value of the branch merge (`MergeIdeal`): every grid point leaves, in its block of the result, the sum over the three
   branches of a gate, from its rows of the activations, times its rows of the branch's output with the branch's column tile of
   weights. The six tiles of a column are loaded into the two scratches at the column's first row tile, so the whole result
   array is one function of the arguments. -/
module

public import proofs.«01_k».proof.Defs
public import proofs.«01_k».proof.Proof.Gen.MergeIdeal.Frame
public import proofs.«01_k».proof.Proof.Gen.MergeReferenceIdeal.Run
public import Idealize.ShloMosaic.Lib.Pipeline.Value
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.MergeIdeal.MergeValue

open Cert.MergeIdeal Cert.MergeIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem hz4 : (![0, 0, 0, 0] : Fin 4 → Nat) = fun _ => 0 := funext fun a => by fin_cases a <;> rfl

/-! ## What one grid point leaves -/

/-- A load that misses the last store reads what the earlier stores left. -/
theorem ld_skip {S : Shape} {e : EltTy} (r r' : Rect S) (w : r.shape.Idx → Elt F e) (L : List (View.Piece (Elt F) S e)) (x : r'.shape.Idx)
    (h : r'.emb x ∉ r.set) : View.ld (View.canon (Val := Elt F) (⟨r, w⟩ :: L)) r' x = View.ld (View.canon (Val := Elt F) L) r' x :=
  View.canon_cons_of_not_mem _ _ h

/-- A load at the last store's place reads what was stored. -/
theorem ld_hit {S : Shape} {e : EltTy} (r : Rect S) (w : r.shape.Idx → Elt F e) (L : List (View.Piece (Elt F) S e)) (x : r.shape.Idx) :
    View.ld (View.canon (Val := Elt F) (⟨r, w⟩ :: L)) r x = w x :=
  View.canon_cons_emb _ _ _ x

/-- What the first row tile of a column leaves in scratch 0: the three branches' tiles, one on top of the other. -/
def slab0 (x4 x5 x6 : Vec F S1x2048x256 .f32) : Vec F S3x2048x256 .bf16 :=
  View.canon (Val := Elt F) [⟨Rect.unit ![2, 0, 0] ![1, 2048, 256] inb_S3x2048x256_S1x2048x256_2_0_0, k0_pay7 (k0_pay6 x6)⟩,
    ⟨Rect.unit ![1, 0, 0] ![1, 2048, 256] inb_S3x2048x256_S1x2048x256_1_0_0, k0_pay4 x5⟩,
    ⟨Rect.unit ![0, 0, 0] ![1, 2048, 256] inb_S3x2048x256_S1x2048x256_0_0_0, k0_pay2 x4⟩]

/-- Branch 0's tile read back from scratch 0. -/
theorem slab0_0 (x4 x5 x6 : Vec F S1x2048x256 .f32) :
    View.ld (slab0 x4 x5 x6) (Rect.unit ![0, 0, 0] ![1, 2048, 256] inb_S3x2048x256_S1x2048x256_0_0_0) = k0_pay2 x4 := by
  funext j
  unfold slab0
  rw [ld_skip _ _ _ _ _ fun h => by
    have h0 : 2 ≤ 0 + 1 * (j 0).val := (Rect.mem_set_unit.mp h (0 : Fin 3)).1
    have h1 : (j 0).val < 1 := (j 0).isLt
    omega]
  rw [ld_skip _ _ _ _ _ fun h => by
    have h0 : 1 ≤ 0 + 1 * (j 0).val := (Rect.mem_set_unit.mp h (0 : Fin 3)).1
    have h1 : (j 0).val < 1 := (j 0).isLt
    omega]
  rw [ld_hit]

/-- Branch 1's tile read back from scratch 0. -/
theorem slab0_1 (x4 x5 x6 : Vec F S1x2048x256 .f32) :
    View.ld (slab0 x4 x5 x6) (Rect.unit ![1, 0, 0] ![1, 2048, 256] inb_S3x2048x256_S1x2048x256_1_0_0) = k0_pay4 x5 := by
  funext j
  unfold slab0
  rw [ld_skip _ _ _ _ _ fun h => by
    have h0 : 2 ≤ 1 + 1 * (j 0).val := (Rect.mem_set_unit.mp h (0 : Fin 3)).1
    have h1 : (j 0).val < 1 := (j 0).isLt
    omega]
  rw [ld_hit]

/-- Branch 2's tile read back from scratch 0. -/
theorem slab0_2 (x4 x5 x6 : Vec F S1x2048x256 .f32) :
    View.ld (slab0 x4 x5 x6) (Rect.unit ![2, 0, 0] ![1, 2048, 256] inb_S3x2048x256_S1x2048x256_2_0_0) = k0_pay7 (k0_pay6 x6) := by
  funext j
  unfold slab0
  rw [ld_hit]

/-- What the first row tile of a column leaves in scratch 1: the three branches' tiles, one on top of the other. -/
def slab1 (x7 x8 x9 : Vec F S1x1x1024x256 .f32) : Vec F S3x1024x256 .bf16 :=
  View.canon (Val := Elt F) [⟨Rect.unit ![2, 0, 0] ![1, 1024, 256] inb_S3x1024x256_S1x1024x256_2_0_0, k0_pay8 x9⟩,
    ⟨Rect.unit ![1, 0, 0] ![1, 1024, 256] inb_S3x1024x256_S1x1024x256_1_0_0, k0_pay5 x8⟩,
    ⟨Rect.unit ![0, 0, 0] ![1, 1024, 256] inb_S3x1024x256_S1x1024x256_0_0_0, k0_pay3 x7⟩]

/-- Branch 0's tile read back from scratch 1. -/
theorem slab1_0 (x7 x8 x9 : Vec F S1x1x1024x256 .f32) :
    View.ld (slab1 x7 x8 x9) (Rect.unit ![0, 0, 0] ![1, 1024, 256] inb_S3x1024x256_S1x1024x256_0_0_0) = k0_pay3 x7 := by
  funext j
  unfold slab1
  rw [ld_skip _ _ _ _ _ fun h => by
    have h0 : 2 ≤ 0 + 1 * (j 0).val := (Rect.mem_set_unit.mp h (0 : Fin 3)).1
    have h1 : (j 0).val < 1 := (j 0).isLt
    omega]
  rw [ld_skip _ _ _ _ _ fun h => by
    have h0 : 1 ≤ 0 + 1 * (j 0).val := (Rect.mem_set_unit.mp h (0 : Fin 3)).1
    have h1 : (j 0).val < 1 := (j 0).isLt
    omega]
  rw [ld_hit]

/-- Branch 1's tile read back from scratch 1. -/
theorem slab1_1 (x7 x8 x9 : Vec F S1x1x1024x256 .f32) :
    View.ld (slab1 x7 x8 x9) (Rect.unit ![1, 0, 0] ![1, 1024, 256] inb_S3x1024x256_S1x1024x256_1_0_0) = k0_pay5 x8 := by
  funext j
  unfold slab1
  rw [ld_skip _ _ _ _ _ fun h => by
    have h0 : 2 ≤ 1 + 1 * (j 0).val := (Rect.mem_set_unit.mp h (0 : Fin 3)).1
    have h1 : (j 0).val < 1 := (j 0).isLt
    omega]
  rw [ld_hit]

/-- Branch 2's tile read back from scratch 1. -/
theorem slab1_2 (x7 x8 x9 : Vec F S1x1x1024x256 .f32) :
    View.ld (slab1 x7 x8 x9) (Rect.unit ![2, 0, 0] ![1, 1024, 256] inb_S3x1024x256_S1x1024x256_2_0_0) = k0_pay8 x9 := by
  funext j
  unfold slab1
  rw [ld_hit]

/-- A point's block of the result, from its blocks of the inputs and what the scratches hold. -/
def block (x0 : Vec F S512x2048 .bf16) (x1 x2 x3 : Vec F S512x1024 .bf16) (x10 x11 x12 : Vec F S1x1x256 .f32)
    (s0 : Vec F S3x2048x256 .bf16) (s1 : Vec F S3x1024x256 .bf16) : FVec F S512x256 .bf16 :=
  k0_pay1 x0 (k0_pay9 x0 (View.ld s0 (Rect.unit ![0, 0, 0] ![1, 2048, 256] inb_S3x2048x256_S1x2048x256_0_0_0)) x10 x1 (View.ld s1 (Rect.unit ![0, 0, 0] ![1, 1024, 256] inb_S3x1024x256_S1x1024x256_0_0_0)))
    (k0_pay10 x0 (View.ld s0 (Rect.unit ![1, 0, 0] ![1, 2048, 256] inb_S3x2048x256_S1x2048x256_1_0_0)) x11) x2
    (k0_pay11 (View.ld s1 (Rect.unit ![1, 0, 0] ![1, 1024, 256] inb_S3x1024x256_S1x1024x256_1_0_0)))
    (View.ld s0 (Rect.unit ![2, 0, 0] ![1, 2048, 256] inb_S3x2048x256_S1x2048x256_2_0_0)) x12 x3
    (View.ld s1 (Rect.unit ![2, 0, 0] ![1, 1024, 256] inb_S3x1024x256_S1x1024x256_2_0_0))

/-- At the first row tile of a column scratch 0 is left at the branches' tiles. -/
theorem scratch0_A (c : Dev nD) (i : grid0.Coords) (a2 h2 a3 h3 a4 h4 a5 h5 a6 h6 a7 h7 a8 h8 a9 h9 a10 h10 a11 h11 a12 h12 a13 h13 a14 h14 a15 h15 a16 h16 a17 h17) (hc : cond0_0 i) (x0 : Vec F S512x2048 .bf16)
    (x1 x2 x3 : Vec F S512x1024 .bf16) (x4 x5 x6 : Vec F S1x2048x256 .f32) (x7 x8 x9 : Vec F S1x1x1024x256 .f32) (x10 x11 x12 : Vec F S1x1x256 .f32) :
    sout0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = slab0 x4 x5 x6 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [View.readAt_eq_ld, Memref.IsWhole.read_unread, View.readCov_eq_canon', View.ld_unit_zero (S := S512x2048) hz2,
    View.ld_unit_zero (S := S512x1024) hz2, View.ld_unit_zero (S := S1x2048x256) hz3, View.ld_unit_zero (S := S1x1x256) hz3,
    View.ld_unit_zero (S := S1x1x1024x256) hz4]
  rfl

/-- At the first row tile of a column scratch 1 is left at the branches' tiles. -/
theorem scratch1_A (c : Dev nD) (i : grid0.Coords) (a2 h2 a3 h3 a4 h4 a5 h5 a6 h6 a7 h7 a8 h8 a9 h9 a10 h10 a11 h11 a12 h12 a13 h13 a14 h14 a15 h15 a16 h16 a17 h17) (hc : cond0_0 i) (x0 : Vec F S512x2048 .bf16)
    (x1 x2 x3 : Vec F S512x1024 .bf16) (x4 x5 x6 : Vec F S1x2048x256 .f32) (x7 x8 x9 : Vec F S1x1x1024x256 .f32) (x10 x11 x12 : Vec F S1x1x256 .f32) :
    sout0_A_1 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = slab1 x7 x8 x9 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  simp only [View.readAt_eq_ld, Memref.IsWhole.read_unread, View.readCov_eq_canon', View.ld_unit_zero (S := S512x2048) hz2,
    View.ld_unit_zero (S := S512x1024) hz2, View.ld_unit_zero (S := S1x2048x256) hz3, View.ld_unit_zero (S := S1x1x256) hz3,
    View.ld_unit_zero (S := S1x1x1024x256) hz4]
  rfl

/-- At the first row tile the output block is computed from the tiles just stored. -/
theorem out_A (c : Dev nD) (i : grid0.Coords) (a2 h2 a3 h3 a4 h4 a5 h5 a6 h6 a7 h7 a8 h8 a9 h9 a10 h10 a11 h11 a12 h12 a13 h13 a14 h14 a15 h15 a16 h16 a17 h17) (hc : cond0_0 i) (x0 : Vec F S512x2048 .bf16)
    (x1 x2 x3 : Vec F S512x1024 .bf16) (x4 x5 x6 : Vec F S1x2048x256 .f32) (x7 x8 x9 : Vec F S1x1x1024x256 .f32) (x10 x11 x12 : Vec F S1x1x256 .f32) :
    out0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 = block x0 x1 x2 x3 x10 x11 x12 (slab0 x4 x5 x6) (slab1 x7 x8 x9) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12)]
  unfold kernelRun0_A
  dsimp only
  sl_unfold_words
  rw [View.canon_unit_zero hz2]
  simp only [View.readAt_eq_ld, Memref.IsWhole.read_unread, View.readCov_eq_canon', View.ld_unit_zero (S := S512x2048) hz2,
    View.ld_unit_zero (S := S512x1024) hz2, View.ld_unit_zero (S := S1x2048x256) hz3, View.ld_unit_zero (S := S1x1x256) hz3,
    View.ld_unit_zero (S := S1x1x1024x256) hz4]
  rfl

/-- At every other row tile the output block is computed from what the scratches hold. -/
theorem out_B (c : Dev nD) (i : grid0.Coords) (a2 h2 a3 h3 a4 h4 a5 h5 a6 h6 a7 h7 a8 h8 a9 h9 a10 h10 a11 h11 a12 h12 a13 h13 a14 h14 a15 h15 a16 h16 a17 h17) (hc : ¬cond0_0 i) (x0 : Vec F S512x2048 .bf16)
    (x1 x2 x3 : Vec F S512x1024 .bf16) (x4 x5 x6 : Vec F S1x2048x256 .f32) (x7 x8 x9 : Vec F S1x1x1024x256 .f32) (x10 x11 x12 : Vec F S1x1x256 .f32)
    (s0 : Vec F S3x2048x256 .bf16) (s1 : Vec F S3x1024x256 .bf16) :
    out0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 s0 s1 = block x0 x1 x2 x3 x10 x11 x12 s0 s1 := by
  unfold out0_B_13
  rw [View.read_writes_eq_canon _ _ _ (cover0_B_13 c i a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 s0 s1)]
  unfold kernelRun0_B
  dsimp only
  sl_unfold_words
  rw [View.canon_unit_zero hz2]
  simp only [View.readAt_eq_ld, Memref.IsWhole.read_unread, View.ld_unit_zero (S := S512x2048) hz2,
    View.ld_unit_zero (S := S512x1024) hz2, View.ld_unit_zero (S := S1x2048x256) hz3, View.ld_unit_zero (S := S1x1x256) hz3,
    View.ld_unit_zero (S := S1x1x1024x256) hz4]
  rfl

/-! ## The blocks the windows read -/

/-- The block indices of window 0 at a point. -/
theorem idx_0 : ∀ t : Fin cfg0.N, win0_0.index t (0 : Fin 2) = t.val % 19 ∧ win0_0.index t (1 : Fin 2) = 0 :=
  (by decide +kernel : ∀ t : Fin grid0.N, _)

/-- The block indices of window 1 at a point. -/
theorem idx_1 : ∀ t : Fin cfg0.N, win0_1.index t (0 : Fin 2) = t.val % 19 ∧ win0_1.index t (1 : Fin 2) = 0 :=
  (by decide +kernel : ∀ t : Fin grid0.N, _)

/-- The block indices of window 2 at a point. -/
theorem idx_2 : ∀ t : Fin cfg0.N, win0_2.index t (0 : Fin 2) = t.val % 19 ∧ win0_2.index t (1 : Fin 2) = 0 :=
  (by decide +kernel : ∀ t : Fin grid0.N, _)

/-- The block indices of window 3 at a point. -/
theorem idx_3 : ∀ t : Fin cfg0.N, win0_3.index t (0 : Fin 2) = t.val % 19 ∧ win0_3.index t (1 : Fin 2) = 0 :=
  (by decide +kernel : ∀ t : Fin grid0.N, _)

/-- The block indices of window 4 at a point. -/
theorem idx_4 : ∀ t : Fin cfg0.N, win0_4.index t (0 : Fin 3) = 1 ∧ win0_4.index t (1 : Fin 3) = 0 ∧ win0_4.index t (2 : Fin 3) = t.val / 19 :=
  (by decide +kernel : ∀ t : Fin grid0.N, _)

/-- The block indices of window 5 at a point. -/
theorem idx_5 : ∀ t : Fin cfg0.N, win0_5.index t (0 : Fin 3) = 1 ∧ win0_5.index t (1 : Fin 3) = 0 ∧ win0_5.index t (2 : Fin 3) = t.val / 19 + 8 :=
  (by decide +kernel : ∀ t : Fin grid0.N, _)

/-- The block indices of window 6 at a point. -/
theorem idx_6 : ∀ t : Fin cfg0.N, win0_6.index t (0 : Fin 3) = 1 ∧ win0_6.index t (1 : Fin 3) = 0 ∧ win0_6.index t (2 : Fin 3) = t.val / 19 + 16 :=
  (by decide +kernel : ∀ t : Fin grid0.N, _)

/-- The block indices of window 7 at a point. -/
theorem idx_7 : ∀ t : Fin cfg0.N, win0_7.index t (0 : Fin 4) = 1 ∧ win0_7.index t (1 : Fin 4) = 0 ∧ win0_7.index t (2 : Fin 4) = 0 ∧ win0_7.index t (3 : Fin 4) = t.val / 19 :=
  (by decide +kernel : ∀ t : Fin grid0.N, _)

/-- The block indices of window 8 at a point. -/
theorem idx_8 : ∀ t : Fin cfg0.N, win0_8.index t (0 : Fin 4) = 1 ∧ win0_8.index t (1 : Fin 4) = 1 ∧ win0_8.index t (2 : Fin 4) = 0 ∧ win0_8.index t (3 : Fin 4) = t.val / 19 :=
  (by decide +kernel : ∀ t : Fin grid0.N, _)

/-- The block indices of window 9 at a point. -/
theorem idx_9 : ∀ t : Fin cfg0.N, win0_9.index t (0 : Fin 4) = 1 ∧ win0_9.index t (1 : Fin 4) = 2 ∧ win0_9.index t (2 : Fin 4) = 0 ∧ win0_9.index t (3 : Fin 4) = t.val / 19 :=
  (by decide +kernel : ∀ t : Fin grid0.N, _)

/-- The block indices of window 10 at a point. -/
theorem idx_10 : ∀ t : Fin cfg0.N, win0_10.index t (0 : Fin 3) = 1 ∧ win0_10.index t (1 : Fin 3) = 0 ∧ win0_10.index t (2 : Fin 3) = t.val / 19 :=
  (by decide +kernel : ∀ t : Fin grid0.N, _)

/-- The block indices of window 11 at a point. -/
theorem idx_11 : ∀ t : Fin cfg0.N, win0_11.index t (0 : Fin 3) = 1 ∧ win0_11.index t (1 : Fin 3) = 0 ∧ win0_11.index t (2 : Fin 3) = t.val / 19 + 8 :=
  (by decide +kernel : ∀ t : Fin grid0.N, _)

/-- The block indices of window 12 at a point. -/
theorem idx_12 : ∀ t : Fin cfg0.N, win0_12.index t (0 : Fin 3) = 1 ∧ win0_12.index t (1 : Fin 3) = 0 ∧ win0_12.index t (2 : Fin 3) = t.val / 19 + 16 :=
  (by decide +kernel : ∀ t : Fin grid0.N, _)

/-- The block indices of window 13 at a point. -/
theorem idx_13 : ∀ t : Fin cfg0.N, win0_13.index t (0 : Fin 2) = t.val % 19 ∧ win0_13.index t (1 : Fin 2) = t.val / 19 :=
  (by decide +kernel : ∀ t : Fin grid0.N, _)

theorem lt152 (t : Fin cfg0.N) : t.val < 152 := lt_of_lt_of_eq t.isLt N_0

/-- Window 0's block at a point: its 512 rows. -/
theorem iblk_0 (c : Dev nD) (t : Fin cfg0.N) (r : Fin 512) (k : Fin 2048) :
    (iblk m c 0 t : Vec F S512x2048 .bf16) (ix2 r k)
      = (m ((c : Thread nD τ).loc main_arg0) : Vec F S9728x2048 .bf16) (ix2 ⟨512 * (t.val % 19) + r.val, by omega⟩ k) := by
  obtain ⟨e0, e1⟩ := idx_0 t
  have := lt152 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * (t.val % 19) + r.val; rw [e0]; omega
  | ⟨1, _⟩ => show win0_0.index t 1 * 2048 + 1 * k.val = k.val; rw [e1]; omega

/-- Window 1's block at a point: its 512 rows. -/
theorem iblk_1 (c : Dev nD) (t : Fin cfg0.N) (r : Fin 512) (k : Fin 1024) :
    (iblk m c 1 t : Vec F S512x1024 .bf16) (ix2 r k)
      = (m ((c : Thread nD τ).loc main_arg1) : Vec F S9728x1024 .bf16) (ix2 ⟨512 * (t.val % 19) + r.val, by omega⟩ k) := by
  obtain ⟨e0, e1⟩ := idx_1 t
  have := lt152 t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = 512 * (t.val % 19) + r.val; rw [e0]; omega
  | ⟨1, _⟩ => show win0_1.index t 1 * 1024 + 1 * k.val = k.val; rw [e1]; omega

/-- Window 2's block at a point: its 512 rows. -/
theorem iblk_2 (c : Dev nD) (t : Fin cfg0.N) (r : Fin 512) (k : Fin 1024) :
    (iblk m c 2 t : Vec F S512x1024 .bf16) (ix2 r k)
      = (m ((c : Thread nD τ).loc main_arg2) : Vec F S9728x1024 .bf16) (ix2 ⟨512 * (t.val % 19) + r.val, by omega⟩ k) := by
  obtain ⟨e0, e1⟩ := idx_2 t
  have := lt152 t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = 512 * (t.val % 19) + r.val; rw [e0]; omega
  | ⟨1, _⟩ => show win0_2.index t 1 * 1024 + 1 * k.val = k.val; rw [e1]; omega

/-- Window 3's block at a point: its 512 rows. -/
theorem iblk_3 (c : Dev nD) (t : Fin cfg0.N) (r : Fin 512) (k : Fin 1024) :
    (iblk m c 3 t : Vec F S512x1024 .bf16) (ix2 r k)
      = (m ((c : Thread nD τ).loc main_arg3) : Vec F S9728x1024 .bf16) (ix2 ⟨512 * (t.val % 19) + r.val, by omega⟩ k) := by
  obtain ⟨e0, e1⟩ := idx_3 t
  have := lt152 t
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * r.val = 512 * (t.val % 19) + r.val; rw [e0]; omega
  | ⟨1, _⟩ => show win0_3.index t 1 * 1024 + 1 * k.val = k.val; rw [e1]; omega

/-- Branch 0's tile of the gate's weights. -/
theorem iblk_4 (c : Dev nD) (t : Fin cfg0.N) (k : Fin 2048) (j : Fin 256) :
    (iblk m c 4 t : Vec F S1x2048x256 .f32) (ix3 0 k j)
      = (m ((c : Thread nD τ).loc main_arg5) : Vec F S2x2048x6144 .f32) (ix3 1 k ⟨0 + (256 * (t.val / 19) + j.val), by have := lt152 t; omega⟩) := by
  obtain ⟨e0, e1, e2⟩ := idx_4 t
  have := lt152 t
  unfold iblk
  rw [View.read_apply]
  show V m c main_arg5 _ = m (c.tc.loc main_arg5) _
  rw [V_main_arg5]
  congr 1
  funext a
  apply Fin.ext
  match a with
  | ⟨0, _⟩ => show win0_4.index t 0 * 1 + 1 * 0 = 1; rw [e0]
  | ⟨1, _⟩ => show win0_4.index t 1 * 2048 + 1 * k.val = k.val; rw [e1]; omega
  | ⟨2, _⟩ => show win0_4.index t 2 * 256 + 1 * j.val = 0 + (256 * (t.val / 19) + j.val); rw [e2]; omega

/-- Branch 1's tile of the gate's weights. -/
theorem iblk_5 (c : Dev nD) (t : Fin cfg0.N) (k : Fin 2048) (j : Fin 256) :
    (iblk m c 5 t : Vec F S1x2048x256 .f32) (ix3 0 k j)
      = (m ((c : Thread nD τ).loc main_arg5) : Vec F S2x2048x6144 .f32) (ix3 1 k ⟨2048 + (256 * (t.val / 19) + j.val), by have := lt152 t; omega⟩) := by
  obtain ⟨e0, e1, e2⟩ := idx_5 t
  have := lt152 t
  unfold iblk
  rw [View.read_apply]
  show V m c main_arg5 _ = m (c.tc.loc main_arg5) _
  rw [V_main_arg5]
  congr 1
  funext a
  apply Fin.ext
  match a with
  | ⟨0, _⟩ => show win0_5.index t 0 * 1 + 1 * 0 = 1; rw [e0]
  | ⟨1, _⟩ => show win0_5.index t 1 * 2048 + 1 * k.val = k.val; rw [e1]; omega
  | ⟨2, _⟩ => show win0_5.index t 2 * 256 + 1 * j.val = 2048 + (256 * (t.val / 19) + j.val); rw [e2]; omega

/-- Branch 2's tile of the gate's weights. -/
theorem iblk_6 (c : Dev nD) (t : Fin cfg0.N) (k : Fin 2048) (j : Fin 256) :
    (iblk m c 6 t : Vec F S1x2048x256 .f32) (ix3 0 k j)
      = (m ((c : Thread nD τ).loc main_arg5) : Vec F S2x2048x6144 .f32) (ix3 1 k ⟨4096 + (256 * (t.val / 19) + j.val), by have := lt152 t; omega⟩) := by
  obtain ⟨e0, e1, e2⟩ := idx_6 t
  have := lt152 t
  unfold iblk
  rw [View.read_apply]
  show V m c main_arg5 _ = m (c.tc.loc main_arg5) _
  rw [V_main_arg5]
  congr 1
  funext a
  apply Fin.ext
  match a with
  | ⟨0, _⟩ => show win0_6.index t 0 * 1 + 1 * 0 = 1; rw [e0]
  | ⟨1, _⟩ => show win0_6.index t 1 * 2048 + 1 * k.val = k.val; rw [e1]; omega
  | ⟨2, _⟩ => show win0_6.index t 2 * 256 + 1 * j.val = 4096 + (256 * (t.val / 19) + j.val); rw [e2]; omega

/-- Branch 0's tile of the branch weights. -/
theorem iblk_7 (c : Dev nD) (t : Fin cfg0.N) (k : Fin 1024) (j : Fin 256) :
    (iblk m c 7 t : Vec F S1x1x1024x256 .f32) (ix4 0 0 k j)
      = (m ((c : Thread nD τ).loc main_arg4) : Vec F S2x3x1024x2048 .f32) (ix4 1 0 k ⟨256 * (t.val / 19) + j.val, by have := lt152 t; omega⟩) := by
  obtain ⟨e0, e1, e2, e3⟩ := idx_7 t
  have := lt152 t
  unfold iblk
  rw [View.read_apply]
  show V m c main_arg4 _ = m (c.tc.loc main_arg4) _
  rw [V_main_arg4]
  congr 1
  funext a
  apply Fin.ext
  match a with
  | ⟨0, _⟩ => show win0_7.index t 0 * 1 + 1 * 0 = 1; rw [e0]
  | ⟨1, _⟩ => show win0_7.index t 1 * 1 + 1 * 0 = 0; rw [e1]
  | ⟨2, _⟩ => show win0_7.index t 2 * 1024 + 1 * k.val = k.val; rw [e2]; omega
  | ⟨3, _⟩ => show win0_7.index t 3 * 256 + 1 * j.val = 256 * (t.val / 19) + j.val; rw [e3]; omega

/-- Branch 1's tile of the branch weights. -/
theorem iblk_8 (c : Dev nD) (t : Fin cfg0.N) (k : Fin 1024) (j : Fin 256) :
    (iblk m c 8 t : Vec F S1x1x1024x256 .f32) (ix4 0 0 k j)
      = (m ((c : Thread nD τ).loc main_arg4) : Vec F S2x3x1024x2048 .f32) (ix4 1 1 k ⟨256 * (t.val / 19) + j.val, by have := lt152 t; omega⟩) := by
  obtain ⟨e0, e1, e2, e3⟩ := idx_8 t
  have := lt152 t
  unfold iblk
  rw [View.read_apply]
  show V m c main_arg4 _ = m (c.tc.loc main_arg4) _
  rw [V_main_arg4]
  congr 1
  funext a
  apply Fin.ext
  match a with
  | ⟨0, _⟩ => show win0_8.index t 0 * 1 + 1 * 0 = 1; rw [e0]
  | ⟨1, _⟩ => show win0_8.index t 1 * 1 + 1 * 0 = 1; rw [e1]
  | ⟨2, _⟩ => show win0_8.index t 2 * 1024 + 1 * k.val = k.val; rw [e2]; omega
  | ⟨3, _⟩ => show win0_8.index t 3 * 256 + 1 * j.val = 256 * (t.val / 19) + j.val; rw [e3]; omega

/-- Branch 2's tile of the branch weights. -/
theorem iblk_9 (c : Dev nD) (t : Fin cfg0.N) (k : Fin 1024) (j : Fin 256) :
    (iblk m c 9 t : Vec F S1x1x1024x256 .f32) (ix4 0 0 k j)
      = (m ((c : Thread nD τ).loc main_arg4) : Vec F S2x3x1024x2048 .f32) (ix4 1 2 k ⟨256 * (t.val / 19) + j.val, by have := lt152 t; omega⟩) := by
  obtain ⟨e0, e1, e2, e3⟩ := idx_9 t
  have := lt152 t
  unfold iblk
  rw [View.read_apply]
  show V m c main_arg4 _ = m (c.tc.loc main_arg4) _
  rw [V_main_arg4]
  congr 1
  funext a
  apply Fin.ext
  match a with
  | ⟨0, _⟩ => show win0_9.index t 0 * 1 + 1 * 0 = 1; rw [e0]
  | ⟨1, _⟩ => show win0_9.index t 1 * 1 + 1 * 0 = 2; rw [e1]
  | ⟨2, _⟩ => show win0_9.index t 2 * 1024 + 1 * k.val = k.val; rw [e2]; omega
  | ⟨3, _⟩ => show win0_9.index t 3 * 256 + 1 * j.val = 256 * (t.val / 19) + j.val; rw [e3]; omega

/-- The biases the region finds for branch 0: the argument with an axis of length one put in. -/
theorem V_bias0 (c : Dev nD) : V m c main_v0
    = shapeCast S2x1x6144 (m ((c : Thread nD τ).loc main_arg6) : Vec F S2x6144 .f32) shapeCasts_S2x6144_S2x1x6144 := by
  unfold V
  after_results <;> rfl

/-- Branch 0's tile of the biases. -/
theorem iblk_10 (c : Dev nD) (t : Fin cfg0.N) (j : Fin 256) :
    (iblk m c 10 t : Vec F S1x1x256 .f32) (ix3 0 0 j)
      = (m ((c : Thread nD τ).loc main_arg6) : Vec F S2x6144 .f32) (ix2 1 ⟨0 + (256 * (t.val / 19) + j.val), by have := lt152 t; omega⟩) := by
  obtain ⟨e0, e1, e2⟩ := idx_10 t
  have := lt152 t
  unfold iblk
  rw [View.read_apply]
  show V m c main_v0 _ = m (c.tc.loc main_arg6) _
  rw [V_bias0]
  have h : ∀ v : Vec F S2x6144 .f32, shapeCast S2x1x6144 v shapeCasts_S2x6144_S2x1x6144 (ix3 1 0 ⟨0 + (256 * (t.val / 19) + j.val), by have := lt152 t; omega⟩) = v (ix2 1 ⟨0 + (256 * (t.val / 19) + j.val), by have := lt152 t; omega⟩) := by
    intro v
    pointwise
  refine Eq.trans ?_ (h _)
  congr 1
  funext a
  apply Fin.ext
  match a with
  | ⟨0, _⟩ => show win0_10.index t 0 * 1 + 1 * 0 = 1; rw [e0]
  | ⟨1, _⟩ => show win0_10.index t 1 * 1 + 1 * 0 = 0; rw [e1]
  | ⟨2, _⟩ => show win0_10.index t 2 * 256 + 1 * j.val = 0 + (256 * (t.val / 19) + j.val); rw [e2]; omega

/-- The biases the region finds for branch 1: the argument with an axis of length one put in. -/
theorem V_bias1 (c : Dev nD) : V m c main_v1
    = shapeCast S2x1x6144 (m ((c : Thread nD τ).loc main_arg6) : Vec F S2x6144 .f32) shapeCasts_S2x6144_S2x1x6144 := by
  unfold V
  after_results <;> rfl

/-- Branch 1's tile of the biases. -/
theorem iblk_11 (c : Dev nD) (t : Fin cfg0.N) (j : Fin 256) :
    (iblk m c 11 t : Vec F S1x1x256 .f32) (ix3 0 0 j)
      = (m ((c : Thread nD τ).loc main_arg6) : Vec F S2x6144 .f32) (ix2 1 ⟨2048 + (256 * (t.val / 19) + j.val), by have := lt152 t; omega⟩) := by
  obtain ⟨e0, e1, e2⟩ := idx_11 t
  have := lt152 t
  unfold iblk
  rw [View.read_apply]
  show V m c main_v1 _ = m (c.tc.loc main_arg6) _
  rw [V_bias1]
  have h : ∀ v : Vec F S2x6144 .f32, shapeCast S2x1x6144 v shapeCasts_S2x6144_S2x1x6144 (ix3 1 0 ⟨2048 + (256 * (t.val / 19) + j.val), by have := lt152 t; omega⟩) = v (ix2 1 ⟨2048 + (256 * (t.val / 19) + j.val), by have := lt152 t; omega⟩) := by
    intro v
    pointwise
  refine Eq.trans ?_ (h _)
  congr 1
  funext a
  apply Fin.ext
  match a with
  | ⟨0, _⟩ => show win0_11.index t 0 * 1 + 1 * 0 = 1; rw [e0]
  | ⟨1, _⟩ => show win0_11.index t 1 * 1 + 1 * 0 = 0; rw [e1]
  | ⟨2, _⟩ => show win0_11.index t 2 * 256 + 1 * j.val = 2048 + (256 * (t.val / 19) + j.val); rw [e2]; omega

/-- The biases the region finds for branch 2: the argument with an axis of length one put in. -/
theorem V_bias2 (c : Dev nD) : V m c main_v2
    = shapeCast S2x1x6144 (m ((c : Thread nD τ).loc main_arg6) : Vec F S2x6144 .f32) shapeCasts_S2x6144_S2x1x6144 := by
  unfold V
  after_results <;> rfl

/-- Branch 2's tile of the biases. -/
theorem iblk_12 (c : Dev nD) (t : Fin cfg0.N) (j : Fin 256) :
    (iblk m c 12 t : Vec F S1x1x256 .f32) (ix3 0 0 j)
      = (m ((c : Thread nD τ).loc main_arg6) : Vec F S2x6144 .f32) (ix2 1 ⟨4096 + (256 * (t.val / 19) + j.val), by have := lt152 t; omega⟩) := by
  obtain ⟨e0, e1, e2⟩ := idx_12 t
  have := lt152 t
  unfold iblk
  rw [View.read_apply]
  show V m c main_v2 _ = m (c.tc.loc main_arg6) _
  rw [V_bias2]
  have h : ∀ v : Vec F S2x6144 .f32, shapeCast S2x1x6144 v shapeCasts_S2x6144_S2x1x6144 (ix3 1 0 ⟨4096 + (256 * (t.val / 19) + j.val), by have := lt152 t; omega⟩) = v (ix2 1 ⟨4096 + (256 * (t.val / 19) + j.val), by have := lt152 t; omega⟩) := by
    intro v
    pointwise
  refine Eq.trans ?_ (h _)
  congr 1
  funext a
  apply Fin.ext
  match a with
  | ⟨0, _⟩ => show win0_12.index t 0 * 1 + 1 * 0 = 1; rw [e0]
  | ⟨1, _⟩ => show win0_12.index t 1 * 1 + 1 * 0 = 0; rw [e1]
  | ⟨2, _⟩ => show win0_12.index t 2 * 256 + 1 * j.val = 4096 + (256 * (t.val / 19) + j.val); rw [e2]; omega

/-- Within one column of tiles window 4's block does not move. -/
theorem iblk_4_eq (c : Dev nD) (t s : Fin cfg0.N) (h : t.val / 19 = s.val / 19) :
    (iblk m c 4 t : Vec F S1x2048x256 .f32) = iblk m c 4 s := by
  funext y
  idx_vars y
  obtain rfl : y0 = 0 := Subsingleton.elim _ _
  rw [iblk_4, iblk_4]
  simp only [h]

/-- Within one column of tiles window 5's block does not move. -/
theorem iblk_5_eq (c : Dev nD) (t s : Fin cfg0.N) (h : t.val / 19 = s.val / 19) :
    (iblk m c 5 t : Vec F S1x2048x256 .f32) = iblk m c 5 s := by
  funext y
  idx_vars y
  obtain rfl : y0 = 0 := Subsingleton.elim _ _
  rw [iblk_5, iblk_5]
  simp only [h]

/-- Within one column of tiles window 6's block does not move. -/
theorem iblk_6_eq (c : Dev nD) (t s : Fin cfg0.N) (h : t.val / 19 = s.val / 19) :
    (iblk m c 6 t : Vec F S1x2048x256 .f32) = iblk m c 6 s := by
  funext y
  idx_vars y
  obtain rfl : y0 = 0 := Subsingleton.elim _ _
  rw [iblk_6, iblk_6]
  simp only [h]

/-- Within one column of tiles window 7's block does not move. -/
theorem iblk_7_eq (c : Dev nD) (t s : Fin cfg0.N) (h : t.val / 19 = s.val / 19) :
    (iblk m c 7 t : Vec F S1x1x1024x256 .f32) = iblk m c 7 s := by
  funext y
  idx_vars y
  obtain rfl : y0 = 0 := Subsingleton.elim _ _
  obtain rfl : y1 = 0 := Subsingleton.elim _ _
  rw [iblk_7, iblk_7]
  simp only [h]

/-- Within one column of tiles window 8's block does not move. -/
theorem iblk_8_eq (c : Dev nD) (t s : Fin cfg0.N) (h : t.val / 19 = s.val / 19) :
    (iblk m c 8 t : Vec F S1x1x1024x256 .f32) = iblk m c 8 s := by
  funext y
  idx_vars y
  obtain rfl : y0 = 0 := Subsingleton.elim _ _
  obtain rfl : y1 = 0 := Subsingleton.elim _ _
  rw [iblk_8, iblk_8]
  simp only [h]

/-- Within one column of tiles window 9's block does not move. -/
theorem iblk_9_eq (c : Dev nD) (t s : Fin cfg0.N) (h : t.val / 19 = s.val / 19) :
    (iblk m c 9 t : Vec F S1x1x1024x256 .f32) = iblk m c 9 s := by
  funext y
  idx_vars y
  obtain rfl : y0 = 0 := Subsingleton.elim _ _
  obtain rfl : y1 = 0 := Subsingleton.elim _ _
  rw [iblk_9, iblk_9]
  simp only [h]

/-! ## The scratches and the output after every point -/

/-- The scratches after a point: the branches' tiles of the point's column. -/
theorem scratch_eq (c : Dev nD) : ∀ (n : ℕ) (t : Fin cfg0.N), t.val = n →
    (outsAt0 m c t.val t.isLt).2 = (slab0 (iblk m c 4 t) (iblk m c 5 t) (iblk m c 6 t), slab1 (iblk m c 7 t) (iblk m c 8 t) (iblk m c 9 t)) := by
  intro n
  induction n with
  | zero =>
    intro t ht
    rw [outsAt0_A m c t (by omega)]
    dsimp only
    rw [scratch0_A, scratch1_A]
  | succ n ih =>
    intro t ht
    by_cases h0 : t.val % 19 = 0
    · rw [outsAt0_A m c t h0]
      dsimp only
      rw [scratch0_A, scratch1_A]
    · rw [outsAt0_B m c t h0]
      dsimp only [sout0_B_0, sout0_B_1]
      rw [ih ⟨t.val - 1, by omega⟩ (by dsimp only; omega), iblk_4_eq m c ⟨t.val - 1, by omega⟩ t (by dsimp only; omega), iblk_5_eq m c ⟨t.val - 1, by omega⟩ t (by dsimp only; omega), iblk_6_eq m c ⟨t.val - 1, by omega⟩ t (by dsimp only; omega), iblk_7_eq m c ⟨t.val - 1, by omega⟩ t (by dsimp only; omega), iblk_8_eq m c ⟨t.val - 1, by omega⟩ t (by dsimp only; omega), iblk_9_eq m c ⟨t.val - 1, by omega⟩ t (by dsimp only; omega)]

/-- The output block after a point. -/
theorem out_eq (c : Dev nD) (t : Fin cfg0.N) :
    (outsAt0 m c t.val t.isLt).1 = block (iblk m c 0 t) (iblk m c 1 t) (iblk m c 2 t) (iblk m c 3 t) (iblk m c 10 t) (iblk m c 11 t) (iblk m c 12 t) (slab0 (iblk m c 4 t) (iblk m c 5 t) (iblk m c 6 t))
      (slab1 (iblk m c 7 t) (iblk m c 8 t) (iblk m c 9 t)) := by
  by_cases h0 : t.val % 19 = 0
  · rw [outsAt0_A m c t h0]
    dsimp only
    rw [out_A]
  · rw [outsAt0_B m c t h0]
    dsimp only
    rw [out_B, scratch_eq m c _ ⟨t.val - 1, by omega⟩ rfl, iblk_4_eq m c ⟨t.val - 1, by omega⟩ t (by dsimp only; omega), iblk_5_eq m c ⟨t.val - 1, by omega⟩ t (by dsimp only; omega), iblk_6_eq m c ⟨t.val - 1, by omega⟩ t (by dsimp only; omega), iblk_7_eq m c ⟨t.val - 1, by omega⟩ t (by dsimp only; omega), iblk_8_eq m c ⟨t.val - 1, by omega⟩ t (by dsimp only; omega), iblk_9_eq m c ⟨t.val - 1, by omega⟩ t (by dsimp only; omega)]

/-! ## The result array -/

/-- A branch's part of an element: the gate times the branch's product. -/
def part (g b u : EReal) : EReal := Ideal.logistic (g + b) * u

/-- The product the gate of a column is made from. -/
def gateDot (x : Vec Ideal S9728x2048 .bf16) (w : Vec Ideal S2x2048x6144 .f32) (r : Fin 9728) (j : Fin 6144) : EReal :=
  ∑ k : Fin 2048, x (ix2 r k) * w (ix3 1 k j)

/-- A branch's product. -/
def branchDot (x : Vec Ideal S9728x1024 .bf16) (w : Vec Ideal S2x3x1024x2048 .f32) (b : Fin 3) (r : Fin 9728) (j : Fin 2048) : EReal :=
  ∑ k : Fin 1024, x (ix2 r k) * w (ix4 1 b k j)

/-- The merged value at a row and a column. -/
def merged (x : Vec Ideal S9728x2048 .bf16) (oa ob oc : Vec Ideal S9728x1024 .bf16) (wb : Vec Ideal S2x3x1024x2048 .f32)
    (wg : Vec Ideal S2x2048x6144 .f32) (bg : Vec Ideal S2x6144 .f32) (r : Fin 9728) (j : Fin 2048) : EReal :=
  part (gateDot x wg r ⟨0 + j.val, by omega⟩) (bg (ix2 1 ⟨0 + j.val, by omega⟩)) (branchDot oa wb 0 r j)
  + part (gateDot x wg r ⟨2048 + j.val, by omega⟩) (bg (ix2 1 ⟨2048 + j.val, by omega⟩)) (branchDot ob wb 1 r j)
  + part (gateDot x wg r ⟨4096 + j.val, by omega⟩) (bg (ix2 1 ⟨4096 + j.val, by omega⟩)) (branchDot oc wb 2 r j)

/-- What the result array ends holding. -/
def G (m : (ℓ : Loc nD τ sig) → Buf (Elt Ideal) ℓ) (c : Dev nD) : Vec Ideal S9728x2048 .bf16 := fun i =>
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- The block computed from the input blocks and the branches' tiles, element by element. -/
theorem pay_apply (x0 : Vec Ideal S512x2048 .bf16) (x1 x2 x3 : Vec Ideal S512x1024 .bf16) (x4 x5 x6 : Vec Ideal S1x2048x256 .f32)
    (x7 x8 x9 : Vec Ideal S1x1x1024x256 .f32) (x10 x11 x12 : Vec Ideal S1x1x256 .f32) (r : Fin 512) (j : Fin 256) :
    block x0 x1 x2 x3 x10 x11 x12 (slab0 x4 x5 x6) (slab1 x7 x8 x9) (ix2 r j)
      = part (∑ k : Fin 2048, x0 (ix2 r k) * x4 (ix3 0 k j)) (x10 (ix3 0 0 j)) (∑ k : Fin 1024, x1 (ix2 r k) * x7 (ix4 0 0 k j))
      + part (∑ k : Fin 2048, x0 (ix2 r k) * x5 (ix3 0 k j)) (x11 (ix3 0 0 j)) (∑ k : Fin 1024, x2 (ix2 r k) * x8 (ix4 0 0 k j))
      + part (∑ k : Fin 2048, x0 (ix2 r k) * x6 (ix3 0 k j)) (x12 (ix3 0 0 j)) (∑ k : Fin 1024, x3 (ix2 r k) * x9 (ix4 0 0 k j)) := by
  unfold block part
  rw [slab0_0, slab0_1, slab0_2, slab1_0, slab1_1, slab1_2]
  unfold_payloads
  pointwise

/-- Parts of equal ingredients are equal. -/
theorem part_congr {g g' b b' u u' : EReal} (hg : g = g') (hb : b = b') (hu : u = u') : part g b u = part g' b' u' := by
  rw [hg, hb, hu]

/-- An element of a block of rounded values. -/
def blkB {T : Shape} (v : Vec Ideal T .bf16) (i : T.Idx) : EReal := v i

/-- An element of a block of values not rounded. -/
def blkF {T : Shape} (v : Vec Ideal T .f32) (i : T.Idx) : EReal := v i

/-- Every point writes back its block of `G`. -/
theorem flushed_eq (m : (ℓ : Loc nD τ sig) → Buf (Elt Ideal) ℓ) (c : Dev nD) (t : Fin cfg0.N) :
    (dats m 0 c).flushed 13 t = ((cfg0.win 13).blk t).view.read (Elt Ideal) (G m c) := by
  show (cfg0.win 13).cut (grid0.coords t) ((dats m 0 c).after 13 t) = _
  rw [after0_13, out_eq]
  obtain ⟨e0, e1⟩ := idx_13 t
  funext y
  have hy0 : (y 0).val < 512 := (y 0).isLt
  have hy1 : (y 1).val < 256 := (y 1).isLt
  have hb0 : (((cfg0.win 13).blk t).view.emb y 0).val = win0_13.index t (0 : Fin 2) * 512 + 1 * (y 0).val := rfl
  have hb1 : (((cfg0.win 13).blk t).view.emb y 1).val = win0_13.index t (1 : Fin 2) * 256 + 1 * (y 1).val := rfl
  show block (iblk m c 0 t) (iblk m c 1 t) (iblk m c 2 t) (iblk m c 3 t) (iblk m c 10 t) (iblk m c 11 t) (iblk m c 12 t) (slab0 (iblk m c 4 t) (iblk m c 5 t) (iblk m c 6 t))
      (slab1 (iblk m c 7 t) (iblk m c 8 t) (iblk m c 9 t)) ((cfg0.win 13).xinj (grid0.coords t) y)
    = G m c (((cfg0.win 13).blk t).view.emb y)
  have hl : (cfg0.win 13).xinj (grid0.coords t) y = ix2 (⟨(y 0).val, hy0⟩ : Fin 512) (⟨(y 1).val, hy1⟩ : Fin 256) := by
    funext a
    match a with
    | ⟨0, _⟩ => rfl
    | ⟨1, _⟩ => rfl
  rw [hl, pay_apply]
  have hr : (⟨512 * (t.val % 19) + (y 0).val, by omega⟩ : Fin 9728) = ((cfg0.win 13).blk t).view.emb y 0 := by
    apply Fin.ext
    show _ = (((cfg0.win 13).blk t).view.emb y 0).val
    rw [hb0, e0]
    dsimp only
    omega
  have hj : (((cfg0.win 13).blk t).view.emb y 1).val = 256 * (t.val / 19) + (y 1).val := by
    rw [hb1, e1]
    omega
  have hlt := lt152 t
  have hj' : (⟨256 * (t.val / 19) + (y 1).val, by omega⟩ : Fin 2048) = ((cfg0.win 13).blk t).view.emb y 1 := Fin.ext hj.symm
  have hg0 : (∑ k : Fin 2048, blkB (T := S512x2048) (iblk m c 0 t) (ix2 ⟨(y 0).val, hy0⟩ k) * blkF (T := S1x2048x256) (iblk m c 4 t) (ix3 0 k ⟨(y 1).val, hy1⟩))
      = gateDot (m ((c : Thread nD τ).loc main_arg0)) (m ((c : Thread nD τ).loc main_arg5)) (((cfg0.win 13).blk t).view.emb y 0) ⟨0 + (((cfg0.win 13).blk t).view.emb y 1).val, by omega⟩ := by
    unfold gateDot
    refine Finset.sum_congr rfl fun k _ => ?_
    rw [blkB, blkF, iblk_0, iblk_4]
    simp only [hr, hj]
  have hu0 : (∑ k : Fin 1024, blkB (T := S512x1024) (iblk m c 1 t) (ix2 ⟨(y 0).val, hy0⟩ k) * blkF (T := S1x1x1024x256) (iblk m c 7 t) (ix4 0 0 k ⟨(y 1).val, hy1⟩))
      = branchDot (m ((c : Thread nD τ).loc main_arg1)) (m ((c : Thread nD τ).loc main_arg4)) 0 (((cfg0.win 13).blk t).view.emb y 0) (((cfg0.win 13).blk t).view.emb y 1) := by
    unfold branchDot
    refine Finset.sum_congr rfl fun k _ => ?_
    rw [blkB, blkF, iblk_1, iblk_7]
    simp only [hr, hj']
  have hb0' : blkF (T := S1x1x256) (iblk m c 10 t) (ix3 0 0 ⟨(y 1).val, hy1⟩)
      = ((m ((c : Thread nD τ).loc main_arg6)) : Vec Ideal S2x6144 .f32) (ix2 1 ⟨0 + (((cfg0.win 13).blk t).view.emb y 1).val, by omega⟩) := by
    rw [blkF, iblk_10]
    simp only [hj]
  have hg1 : (∑ k : Fin 2048, blkB (T := S512x2048) (iblk m c 0 t) (ix2 ⟨(y 0).val, hy0⟩ k) * blkF (T := S1x2048x256) (iblk m c 5 t) (ix3 0 k ⟨(y 1).val, hy1⟩))
      = gateDot (m ((c : Thread nD τ).loc main_arg0)) (m ((c : Thread nD τ).loc main_arg5)) (((cfg0.win 13).blk t).view.emb y 0) ⟨2048 + (((cfg0.win 13).blk t).view.emb y 1).val, by omega⟩ := by
    unfold gateDot
    refine Finset.sum_congr rfl fun k _ => ?_
    rw [blkB, blkF, iblk_0, iblk_5]
    simp only [hr, hj]
  have hu1 : (∑ k : Fin 1024, blkB (T := S512x1024) (iblk m c 2 t) (ix2 ⟨(y 0).val, hy0⟩ k) * blkF (T := S1x1x1024x256) (iblk m c 8 t) (ix4 0 0 k ⟨(y 1).val, hy1⟩))
      = branchDot (m ((c : Thread nD τ).loc main_arg2)) (m ((c : Thread nD τ).loc main_arg4)) 1 (((cfg0.win 13).blk t).view.emb y 0) (((cfg0.win 13).blk t).view.emb y 1) := by
    unfold branchDot
    refine Finset.sum_congr rfl fun k _ => ?_
    rw [blkB, blkF, iblk_2, iblk_8]
    simp only [hr, hj']
  have hb1' : blkF (T := S1x1x256) (iblk m c 11 t) (ix3 0 0 ⟨(y 1).val, hy1⟩)
      = ((m ((c : Thread nD τ).loc main_arg6)) : Vec Ideal S2x6144 .f32) (ix2 1 ⟨2048 + (((cfg0.win 13).blk t).view.emb y 1).val, by omega⟩) := by
    rw [blkF, iblk_11]
    simp only [hj]
  have hg2 : (∑ k : Fin 2048, blkB (T := S512x2048) (iblk m c 0 t) (ix2 ⟨(y 0).val, hy0⟩ k) * blkF (T := S1x2048x256) (iblk m c 6 t) (ix3 0 k ⟨(y 1).val, hy1⟩))
      = gateDot (m ((c : Thread nD τ).loc main_arg0)) (m ((c : Thread nD τ).loc main_arg5)) (((cfg0.win 13).blk t).view.emb y 0) ⟨4096 + (((cfg0.win 13).blk t).view.emb y 1).val, by omega⟩ := by
    unfold gateDot
    refine Finset.sum_congr rfl fun k _ => ?_
    rw [blkB, blkF, iblk_0, iblk_6]
    simp only [hr, hj]
  have hu2 : (∑ k : Fin 1024, blkB (T := S512x1024) (iblk m c 3 t) (ix2 ⟨(y 0).val, hy0⟩ k) * blkF (T := S1x1x1024x256) (iblk m c 9 t) (ix4 0 0 k ⟨(y 1).val, hy1⟩))
      = branchDot (m ((c : Thread nD τ).loc main_arg3)) (m ((c : Thread nD τ).loc main_arg4)) 2 (((cfg0.win 13).blk t).view.emb y 0) (((cfg0.win 13).blk t).view.emb y 1) := by
    unfold branchDot
    refine Finset.sum_congr rfl fun k _ => ?_
    rw [blkB, blkF, iblk_3, iblk_9]
    simp only [hr, hj']
  have hb2' : blkF (T := S1x1x256) (iblk m c 12 t) (ix3 0 0 ⟨(y 1).val, hy1⟩)
      = ((m ((c : Thread nD τ).loc main_arg6)) : Vec Ideal S2x6144 .f32) (ix2 1 ⟨4096 + (((cfg0.win 13).blk t).view.emb y 1).val, by omega⟩) := by
    rw [blkF, iblk_12]
    simp only [hj]
  unfold G merged
  refine congrArg₂ (· + ·) (congrArg₂ (· + ·) ?_ ?_) ?_
  · exact part_congr hg0 hb0' hu0
  · exact part_congr hg1 hb1' hu1
  · exact part_congr hg2 hb2' hu2

/-- An index of the array is in a point's block iff each coordinate is in the block's range. -/
theorem mem_blk (t : Fin cfg0.N) (i : S9728x2048.Idx) :
    i ∈ ((cfg0.win 13).blk t).view.set ↔ ∀ a : Fin 2, win0_13.index t a * S512x256.size a ≤ (i a).val
      ∧ (i a).val < win0_13.index t a * S512x256.size a + S512x256.size a := by
  show i ∈ ((View.whole main_v3).slice (win0_13.rect t)).set ↔ _
  rw [View.set_slice_whole, Rect.mem_set_unit]
  exact Iff.rfl

/-- The result array after the run. -/
theorem final (m : (ℓ : Loc nD τ sig) → Buf (Elt Ideal) ℓ) (c : Dev nD) : (dats m 0 c).arrAt 13 cfg0.N = G m c :=
  (dats m 0 c).arrAt_eq_of_cover 13 _ (fun t _ => flushed_eq m c t) fun i => by
    have h0 : (i 0).val < 9728 := (i 0).isLt
    have h1 : (i 1).val < 2048 := (i 1).isLt
    have hN : (i 0).val / 512 + 19 * ((i 1).val / 256) < cfg0.N := lt_of_lt_of_eq (by omega) N_0.symm
    refine ⟨⟨_, hN⟩, flush0_13 _, ?_⟩
    obtain ⟨e0, e1⟩ := idx_13 ⟨_, hN⟩
    dsimp only at e0 e1
    rw [mem_blk]
    intro a
    match a with
    | ⟨0, _⟩ =>
      show win0_13.index _ (0 : Fin 2) * 512 ≤ (i 0).val ∧ (i 0).val < win0_13.index _ (0 : Fin 2) * 512 + 512
      rw [e0]; omega
    | ⟨1, _⟩ =>
      show win0_13.index _ (1 : Fin 2) * 256 ≤ (i 1).val ∧ (i 1).val < win0_13.index _ (1 : Fin 2) * 256 + 256
      rw [e1]; omega

/-- The run: the result array is the merged branches, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1 13).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 9).trans (((dats m 0 c).arrAt_in 9 rfl _).trans ((A_eq m c 9).trans (V_main_arg4 m c))),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c)⟩)
    (run_main m ρ)

end Cert.MergeIdeal.MergeValue

namespace Cert.MergeReferenceIdeal.Read

open Cert.MergeReferenceIdeal Cert.MergeReferenceIdeal.Gen Idealize.ShloMosaic

/-- The reference's gate products, at a row and a column. -/
theorem gate_apply (x : Vec Ideal S9728x2048 .bf16) (w : Vec Ideal S2x2048x6144 .f32) (r : Fin 9728) (j : Fin 6144) :
    Host.dotGeneral dot_S9728x2048_S2048x6144_S9728x6144_1_0_0_1_n_n none (extf .f32 x bitsLt_bf16_f32) (shapeCast S2048x6144 (extractStridedSlice S1x2048x6144 ![1, 0, 0] w slices_S2x2048x6144_S1x2048x6144_1_0_0) shapeCasts_S1x2048x6144_S2048x6144 : FVec Ideal S2048x6144 .f32) (ix2 r j)
      = Cert.MergeIdeal.MergeValue.gateDot x w r j := by
  unfold Cert.MergeIdeal.MergeValue.gateDot
  pointwise

/-- The reference's biases, at a row and a column. -/
theorem bias_apply (bg : Vec Ideal S2x6144 .f32) (r : Fin 9728) (j : Fin 6144) :
    broadcastInDim S9728x6144 ![0, 1] bcast_S1x6144_S9728x6144_0_1 (broadcastInDim S1x6144 ![1] bcast_S6144_S1x6144_1 (shapeCast S6144 (extractStridedSlice S1x6144 ![1, 0] bg slices_S2x6144_S1x6144_1_0) shapeCasts_S1x6144_S6144 : FVec Ideal S6144 .f32) : FVec Ideal S1x6144 .f32) (ix2 r j)
      = bg (ix2 1 j) := by
  pointwise

/-- The gates' columns, split by branch. -/
theorem split_apply (P : FVec Ideal S9728x6144 .f32) (r : Fin 9728) (j : Fin 2048) :
    (shapeCast S9728x3x2048 P shapeCasts_S9728x6144_S9728x3x2048 (ix3 r 0 j) = P (ix2 r ⟨0 + j.val, by omega⟩))
    ∧ (shapeCast S9728x3x2048 P shapeCasts_S9728x6144_S9728x3x2048 (ix3 r 1 j) = P (ix2 r ⟨2048 + j.val, by omega⟩))
    ∧ (shapeCast S9728x3x2048 P shapeCasts_S9728x6144_S9728x3x2048 (ix3 r 2 j) = P (ix2 r ⟨4096 + j.val, by omega⟩)) := by
  refine ⟨?_, ?_, ?_⟩ <;> pointwise

/-- The three branches' outputs on one axis. -/
def stacked (oa ob oc : Vec Ideal S9728x1024 .bf16) : FVec Ideal S9728x3x1024 .f32 :=
  concatenate S9728x3x1024 1 [⟨S9728x1x1024, (broadcastInDim S9728x1x1024 ![0, 2] bcast_S9728x1024_S9728x1x1024_0_2 (extf .f32 oa bitsLt_bf16_f32) : FVec Ideal S9728x1x1024 .f32)⟩, ⟨S9728x1x1024, (broadcastInDim S9728x1x1024 ![0, 2] bcast_S9728x1024_S9728x1x1024_0_2 (extf .f32 ob bitsLt_bf16_f32) : FVec Ideal S9728x1x1024 .f32)⟩, ⟨S9728x1x1024, (broadcastInDim S9728x1x1024 ![0, 2] bcast_S9728x1024_S9728x1x1024_0_2 (extf .f32 oc bitsLt_bf16_f32) : FVec Ideal S9728x1x1024 .f32)⟩] concatenates_S9728x1x1024_S9728x1x1024_S9728x1x1024_S9728x3x1024_d1

theorem stacked_apply (oa ob oc : Vec Ideal S9728x1024 .bf16) (r : Fin 9728) (k : Fin 1024) :
    stacked oa ob oc (ix3 r 0 k) = oa (ix2 r k) ∧ stacked oa ob oc (ix3 r 1 k) = ob (ix2 r k) ∧ stacked oa ob oc (ix3 r 2 k) = oc (ix2 r k) := by
  unfold stacked
  refine ⟨?_, ?_, ?_⟩ <;> pointwise

/-- The reference's branch products over the stacked outputs. -/
theorem branch_apply (s : FVec Ideal S9728x3x1024 .f32) (w : Vec Ideal S2x3x1024x2048 .f32) (b : Fin 3) (r : Fin 9728) (j : Fin 2048) :
    transpose S9728x3x2048 [2, 0, 1] (Host.dotGeneral dot_S3x1024x2048_S9728x3x1024_S3x2048x9728_1_2_2_0_0_1 none (shapeCast S3x1024x2048 (extractStridedSlice S1x3x1024x2048 ![1, 0, 0, 0] w slices_S2x3x1024x2048_S1x3x1024x2048_1_0_0_0) shapeCasts_S1x3x1024x2048_S3x1024x2048 : FVec Ideal S3x1024x2048 .f32) s : FVec Ideal S3x2048x9728 .f32) transposes_S3x2048x9728_S9728x3x2048_2_0_1 (ix3 r b j)
      = ∑ k : Fin 1024, s (ix3 r b k) * w (ix4 1 b k j) := by
  pointwise
  exact Finset.sum_congr rfl fun k _ => mul_comm _ _

/-- The gated sum over the branches, as the reference writes it. -/
theorem sum_apply (P U : FVec Ideal S9728x3x2048 .f32) (r : Fin 9728) (j : Fin 2048) :
    truncf .bf16 (Host.reduceAdd (mulf (Host.divf (broadcastInDim S9728x3x2048 ![] bcast_S_S9728x3x2048 (constant S_ .f32 0x3F800000#32)) (addf (broadcastInDim S9728x3x2048 ![] bcast_S_S9728x3x2048 (constant S_ .f32 0x3F800000#32)) (Host.exp (Host.negf P)))) U) (constant S_ .f32 0x00000000#32) reducesTo_S9728x3x2048_S9728x2048_d1 h_S_ : FVec Ideal S9728x2048 .f32) bitsLt_bf16_f32 (ix2 r j)
      = ∑ b : Fin 3, Ideal.logistic (P (ix3 r b j)) * U (ix3 r b j) := by
  pointwise
  rfl

end Cert.MergeReferenceIdeal.Read

namespace Cert.Proof

open Idealize.ShloMosaic Idealize.SL.Sem

theorem quiescent_MergeReferenceIdeal : quiescent_MergeReferenceIdeal := fun m ρ _ =>
  (θ_run Cert.MergeReferenceIdeal.defs _ _).mono
    (fun r h => ⟨fun c => (h c).2, sem_eq_zero_of_no_sems (by decide) r.2⟩)
    (Cert.MergeReferenceIdeal.Value.run (F := Ideal) m ρ)

theorem algebraic_MergeIdeal_MergeReferenceIdeal : algebraic_MergeIdeal_MergeReferenceIdeal := by
  intro m ρ m' ρ' _ hagree
  refine ⟨_, Cert.MergeIdeal.MergeValue.run m ρ, ?_⟩
  refine (θ_run Cert.MergeReferenceIdeal.defs _ _).mono (fun _ h c => ⟨?_, (h c).2⟩)
    (Cert.MergeReferenceIdeal.Value.run (F := Ideal) m' ρ')
  rw [(h c).1]
  simp only [hagree c]
  funext j
  idx_vars j
  refine (Cert.MergeReferenceIdeal.Read.sum_apply _ _ _ _).trans ?_
  rw [Fin.sum_univ_three]
  unfold Cert.MergeIdeal.MergeValue.G Cert.MergeIdeal.MergeValue.merged Cert.MergeIdeal.MergeValue.part
  refine congrArg₂ (· + ·) (congrArg₂ (· + ·) ?_ ?_) ?_
  · refine congrArg₂ (· * ·) (congrArg Ideal.logistic ?_) ?_
    · refine (Cert.MergeReferenceIdeal.Read.split_apply _ _ _).1.trans ?_
      exact congrArg₂ (· + ·) (Cert.MergeReferenceIdeal.Read.gate_apply _ _ _ _) (Cert.MergeReferenceIdeal.Read.bias_apply _ _ _)
    · refine (Cert.MergeReferenceIdeal.Read.branch_apply (Cert.MergeReferenceIdeal.Read.stacked _ _ _) _ _ _ _).trans ?_
      unfold Cert.MergeIdeal.MergeValue.branchDot
      refine Finset.sum_congr rfl fun k _ => ?_
      rw [(Cert.MergeReferenceIdeal.Read.stacked_apply _ _ _ _ _).1, (hagree c).2.1]
      rfl
  · refine congrArg₂ (· * ·) (congrArg Ideal.logistic ?_) ?_
    · refine (Cert.MergeReferenceIdeal.Read.split_apply _ _ _).2.1.trans ?_
      exact congrArg₂ (· + ·) (Cert.MergeReferenceIdeal.Read.gate_apply _ _ _ _) (Cert.MergeReferenceIdeal.Read.bias_apply _ _ _)
    · refine (Cert.MergeReferenceIdeal.Read.branch_apply (Cert.MergeReferenceIdeal.Read.stacked _ _ _) _ _ _ _).trans ?_
      unfold Cert.MergeIdeal.MergeValue.branchDot
      refine Finset.sum_congr rfl fun k _ => ?_
      rw [(Cert.MergeReferenceIdeal.Read.stacked_apply _ _ _ _ _).2.1, (hagree c).2.2.1]
      rfl
  · refine congrArg₂ (· * ·) (congrArg Ideal.logistic ?_) ?_
    · refine (Cert.MergeReferenceIdeal.Read.split_apply _ _ _).2.2.trans ?_
      exact congrArg₂ (· + ·) (Cert.MergeReferenceIdeal.Read.gate_apply _ _ _ _) (Cert.MergeReferenceIdeal.Read.bias_apply _ _ _)
    · refine (Cert.MergeReferenceIdeal.Read.branch_apply (Cert.MergeReferenceIdeal.Read.stacked _ _ _) _ _ _ _).trans ?_
      unfold Cert.MergeIdeal.MergeValue.branchDot
      refine Finset.sum_congr rfl fun k _ => ?_
      rw [(Cert.MergeReferenceIdeal.Read.stacked_apply _ _ _ _ _).2.2, (hagree c).2.2.2.1]
      rfl

end Cert.Proof

end
-- ==== Proof.MatmulNormValue.lean ====
/- The value of the merge's output product with its norm (`MatmulNormIdeal`): every grid point leaves, in its blocks of the two
   results, its rows of the product with the weights held in the scratch, added to the scaled residual and normed row by row. The
   weights are loaded at the first point, so the two result arrays are one function of the arguments. -/
module

public import proofs.«01_k».proof.Defs
public import proofs.«01_k».proof.Proof.Gen.MatmulNormIdeal.Frame
public import proofs.«01_k».proof.Proof.Gen.MatmulNormReferenceIdeal.Run
public import Idealize.ShloMosaic.Lib.Pipeline.Value
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.MatmulNormIdeal.NormValue

open Cert.MatmulNormIdeal Cert.MatmulNormIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

/-- At the first point the scratch is left at the weights. -/
theorem scratch_A (c : Dev nD) (i : grid0.Coords) (a1 h1 a2 h2 a3 h3 a4 h4 a5 h5 a6 h6 a7 h7 a8 h8) (hc : cond0_0 i) (x0 : Vec F S256x2048 .bf16)
    (x1 : Vec F S1x2048x2048 .f32) (x2 : Vec F S256x2048 .f32) (x3 x4 : Vec F S1x2048 .f32) :
    sout0_A_0 c i a1 h1 a2 h2 a3 h3 a4 h4 a5 h5 a6 h6 a7 h7 a8 h8 hc x0 x1 x2 x3 x4 = k0_pay1 x1 := by
  unfold sout0_A_0
  rw [View.read_writes_eq_canon _ _ _ (scover0_A_0 c i a1 h1 a2 h2 a3 h3 a4 h4 a5 h5 a6 h6 a7 h7 a8 h8 hc x0 x1 x2 x3 x4)]
  unfold kernelRun0_A
  dsimp only
  sl_unfold_words
  rw [View.canon_unit_zero hz2]
  simp only [View.readAt_eq_ld, Memref.IsWhole.read_unread, View.ld_unit_zero (S := S256x2048) hz2, View.ld_unit_zero (S := S1x2048) hz2,
    View.ld_unit_zero (S := S2048x2048) hz2, View.ld_unit_zero (S := S1x2048x2048) hz3]

/-- What the first point leaves in its block of result 0. -/
theorem out5_A (c : Dev nD) (i : grid0.Coords) (a1 h1 a2 h2 a3 h3 a4 h4 a5 h5 a6 h6 a7 h7 a8 h8) (hc : cond0_0 i) (x0 : Vec F S256x2048 .bf16)
    (x1 : Vec F S1x2048x2048 .f32) (x2 : Vec F S256x2048 .f32) (x3 x4 : Vec F S1x2048 .f32) :
    out0_A_5 c i a1 h1 a2 h2 a3 h3 a4 h4 a5 h5 a6 h6 a7 h7 a8 h8 hc x0 x1 x2 x3 x4 = k0_pay2 x2 x0 (k0_pay1 x1) x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz2, View.readCov_unit_zero _ hz2]
  simp only [View.readAt_eq_ld, Memref.IsWhole.read_unread, View.ld_unit_zero (S := S256x2048) hz2, View.ld_unit_zero (S := S1x2048) hz2,
    View.ld_unit_zero (S := S2048x2048) hz2, View.ld_unit_zero (S := S1x2048x2048) hz3]

/-- What every other point leaves in its block of result 0, over what the scratch holds. -/
theorem out5_B (c : Dev nD) (i : grid0.Coords) (a1 h1 a2 h2 a3 h3 a4 h4 a5 h5 a6 h6 a7 h7 a8 h8) (hc : ¬cond0_0 i) (x0 : Vec F S256x2048 .bf16)
    (x1 : Vec F S1x2048x2048 .f32) (x2 : Vec F S256x2048 .f32) (x3 x4 : Vec F S1x2048 .f32)
    (xs : Vec F S2048x2048 .bf16) : out0_B_5 c i a1 h1 a2 h2 a3 h3 a4 h4 a5 h5 a6 h6 a7 h7 a8 h8 hc x0 x1 x2 x3 x4 xs = k0_pay2 x2 x0 xs x3 x4 := by
  unfold out0_B_5
  rw [View.read_writes_eq_canon _ _ _ (cover0_B_5 c i a1 h1 a2 h2 a3 h3 a4 h4 a5 h5 a6 h6 a7 h7 a8 h8 hc x0 x1 x2 x3 x4 xs)]
  unfold kernelRun0_B
  dsimp only
  sl_unfold_words
  rw [View.canon_unit_zero hz2]
  simp only [View.readAt_eq_ld, Memref.IsWhole.read_unread, View.ld_unit_zero (S := S256x2048) hz2, View.ld_unit_zero (S := S1x2048) hz2,
    View.ld_unit_zero (S := S2048x2048) hz2, View.ld_unit_zero (S := S1x2048x2048) hz3]

/-- What the first point leaves in its block of result 1. -/
theorem out6_A (c : Dev nD) (i : grid0.Coords) (a1 h1 a2 h2 a3 h3 a4 h4 a5 h5 a6 h6 a7 h7 a8 h8) (hc : cond0_0 i) (x0 : Vec F S256x2048 .bf16)
    (x1 : Vec F S1x2048x2048 .f32) (x2 : Vec F S256x2048 .f32) (x3 x4 : Vec F S1x2048 .f32) :
    out0_A_6 c i a1 h1 a2 h2 a3 h3 a4 h4 a5 h5 a6 h6 a7 h7 a8 h8 hc x0 x1 x2 x3 x4 = k0_pay3 x2 x0 (k0_pay1 x1) x3 x4 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero hz2, View.readCov_unit_zero _ hz2]
  simp only [View.readAt_eq_ld, Memref.IsWhole.read_unread, View.ld_unit_zero (S := S256x2048) hz2, View.ld_unit_zero (S := S1x2048) hz2,
    View.ld_unit_zero (S := S2048x2048) hz2, View.ld_unit_zero (S := S1x2048x2048) hz3]

/-- What every other point leaves in its block of result 1, over what the scratch holds. -/
theorem out6_B (c : Dev nD) (i : grid0.Coords) (a1 h1 a2 h2 a3 h3 a4 h4 a5 h5 a6 h6 a7 h7 a8 h8) (hc : ¬cond0_0 i) (x0 : Vec F S256x2048 .bf16)
    (x1 : Vec F S1x2048x2048 .f32) (x2 : Vec F S256x2048 .f32) (x3 x4 : Vec F S1x2048 .f32)
    (xs : Vec F S2048x2048 .bf16) : out0_B_6 c i a1 h1 a2 h2 a3 h3 a4 h4 a5 h5 a6 h6 a7 h7 a8 h8 hc x0 x1 x2 x3 x4 xs = k0_pay3 x2 x0 xs x3 x4 := by
  unfold out0_B_6
  rw [View.read_writes_eq_canon _ _ _ (cover0_B_6 c i a1 h1 a2 h2 a3 h3 a4 h4 a5 h5 a6 h6 a7 h7 a8 h8 hc x0 x1 x2 x3 x4 xs)]
  unfold kernelRun0_B
  dsimp only
  sl_unfold_words
  rw [View.canon_unit_zero hz2]
  simp only [View.readAt_eq_ld, Memref.IsWhole.read_unread, View.ld_unit_zero (S := S256x2048) hz2, View.ld_unit_zero (S := S1x2048) hz2,
    View.ld_unit_zero (S := S2048x2048) hz2, View.ld_unit_zero (S := S1x2048x2048) hz3]

/-! ## The blocks the windows read -/

/-- The block indices of the windows at a point. -/
theorem idx_facts : ∀ t : Fin cfg0.N, win0_0.index t (0 : Fin 2) = t.val ∧ win0_0.index t (1 : Fin 2) = 0
    ∧ win0_1.index t (0 : Fin 3) = 1 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem lt38 (t : Fin cfg0.N) : t.val < 38 := lt_of_lt_of_eq t.isLt N_0

/-- The merged values' block at a point: its 256 rows. -/
theorem iblk_a (c : Dev nD) (t : Fin cfg0.N) (r : Fin 256) (k : Fin 2048) :
    (iblk m c 0 t : Vec F S256x2048 .bf16) (ix2 r k)
      = (m ((c : Thread nD τ).loc main_arg0) : Vec F S9728x2048 .bf16) (ix2 ⟨256 * t.val + r.val, by have := lt38 t; omega⟩ k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = 256 * t.val + r.val; rw [e0]; omega
  | ⟨1, _⟩ => show win0_0.index t 1 * 2048 + 1 * k.val = k.val; rw [e1]; omega

/-- The residual's block at a point: its 256 rows. -/
theorem iblk_x (c : Dev nD) (t : Fin cfg0.N) (r : Fin 256) (k : Fin 2048) :
    (iblk m c 2 t : Vec F S256x2048 .f32) (ix2 r k)
      = (m ((c : Thread nD τ).loc main_arg2) : Vec F S9728x2048 .f32) (ix2 ⟨256 * t.val + r.val, by have := lt38 t; omega⟩ k) := by
  obtain ⟨-, -, -, -, -, e0, e1, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * r.val = 256 * t.val + r.val; rw [e0]; omega
  | ⟨1, _⟩ => show win0_2.index t 1 * 2048 + 1 * k.val = k.val; rw [e1]; omega

/-- The weights' block at a point: the second layer's. -/
theorem iblk_w (c : Dev nD) (t : Fin cfg0.N) (k j : Fin 2048) :
    (iblk m c 1 t : Vec F S1x2048x2048 .f32) (ix3 0 k j)
      = (m ((c : Thread nD τ).loc main_arg1) : Vec F S2x2048x2048 .f32) (ix3 1 k j) := by
  obtain ⟨-, -, e0, e1, e2, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = 1; rw [e0]
  | ⟨1, _⟩ => show win0_1.index t 1 * 2048 + 1 * k.val = k.val; rw [e1]; omega
  | ⟨2, _⟩ => show win0_1.index t 2 * 2048 + 1 * j.val = j.val; rw [e2]; omega

/-- The weights' block does not move. -/
theorem iblk_w_eq (c : Dev nD) (t s : Fin cfg0.N) : (iblk m c 1 t : Vec F S1x2048x2048 .f32) = iblk m c 1 s := by
  funext y
  idx_vars y
  obtain rfl : y0 = 0 := Subsingleton.elim _ _
  rw [iblk_w, iblk_w]

/-- The norm's scales as the region finds them: the second layer's row of the argument. -/
theorem V_g (c : Dev nD) : V m c main_v4
    = shapeCast S1x2048 (shapeCast S2048 (extractStridedSlice S1x2048 ![1, 0] (m ((c : Thread nD τ).loc main_arg3) : Vec F S2x2048 .f32) slices_S2x2048_S1x2048_1_0) shapeCasts_S1x2048_S2048) shapeCasts_S2048_S1x2048 := by
  unfold V
  after_results <;> rfl

/-- The norm's scales at a point. -/
theorem iblk_g (c : Dev nD) (t : Fin cfg0.N) (j : Fin 2048) :
    (iblk m c 3 t : Vec F S1x2048 .f32) (ix2 0 j)
      = (m ((c : Thread nD τ).loc main_arg3) : Vec F S2x2048 .f32) (ix2 1 j) := by
  obtain ⟨-, -, -, -, -, -, -, e0, e1, -⟩ := idx_facts t
  unfold iblk
  rw [View.read_apply]
  show V m c main_v4 _ = m (c.tc.loc main_arg3) _
  rw [V_g]
  have h : ∀ v : Vec F S2x2048 .f32, shapeCast S1x2048 (shapeCast S2048 (extractStridedSlice S1x2048 ![1, 0] v slices_S2x2048_S1x2048_1_0) shapeCasts_S1x2048_S2048) shapeCasts_S2048_S1x2048 (ix2 0 j) = v (ix2 1 j) := by
    intro v
    pointwise
  refine Eq.trans ?_ (h _)
  congr 1
  funext a
  apply Fin.ext
  match a with
  | ⟨0, _⟩ => show win0_3.index t 0 * 1 + 1 * 0 = 0; rw [e0]
  | ⟨1, _⟩ => show win0_3.index t 1 * 2048 + 1 * j.val = j.val; rw [e1]; omega

/-- The norm's shifts as the region finds them: the second layer's row of the argument. -/
theorem V_b (c : Dev nD) : V m c main_v5
    = shapeCast S1x2048 (shapeCast S2048 (extractStridedSlice S1x2048 ![1, 0] (m ((c : Thread nD τ).loc main_arg4) : Vec F S2x2048 .f32) slices_S2x2048_S1x2048_1_0) shapeCasts_S1x2048_S2048) shapeCasts_S2048_S1x2048 := by
  unfold V
  after_results <;> rfl

/-- The norm's shifts at a point. -/
theorem iblk_b (c : Dev nD) (t : Fin cfg0.N) (j : Fin 2048) :
    (iblk m c 4 t : Vec F S1x2048 .f32) (ix2 0 j)
      = (m ((c : Thread nD τ).loc main_arg4) : Vec F S2x2048 .f32) (ix2 1 j) := by
  obtain ⟨-, -, -, -, -, -, -, -, -, e0, e1, -⟩ := idx_facts t
  unfold iblk
  rw [View.read_apply]
  show V m c main_v5 _ = m (c.tc.loc main_arg4) _
  rw [V_b]
  have h : ∀ v : Vec F S2x2048 .f32, shapeCast S1x2048 (shapeCast S2048 (extractStridedSlice S1x2048 ![1, 0] v slices_S2x2048_S1x2048_1_0) shapeCasts_S1x2048_S2048) shapeCasts_S2048_S1x2048 (ix2 0 j) = v (ix2 1 j) := by
    intro v
    pointwise
  refine Eq.trans ?_ (h _)
  congr 1
  funext a
  apply Fin.ext
  match a with
  | ⟨0, _⟩ => show win0_4.index t 0 * 1 + 1 * 0 = 0; rw [e0]
  | ⟨1, _⟩ => show win0_4.index t 1 * 2048 + 1 * j.val = j.val; rw [e1]; omega

/-! ## The scratch and the outputs after every point -/

/-- The scratch after a point: the weights. -/
theorem scratch_eq (c : Dev nD) : ∀ (n : ℕ) (t : Fin cfg0.N), t.val = n →
    (outsAt0 m c t.val t.isLt).2.2 = k0_pay1 (iblk m c 1 t) := by
  intro n
  induction n with
  | zero =>
    intro t ht
    rw [outsAt0_A m c t (by omega)]
    dsimp only
    rw [scratch_A]
  | succ n ih =>
    intro t ht
    by_cases h0 : t.val % 38 = 0
    · rw [outsAt0_A m c t h0]
      dsimp only
      rw [scratch_A]
    · rw [outsAt0_B m c t h0]
      dsimp only [sout0_B_0]
      rw [ih ⟨t.val - 1, by omega⟩ (by dsimp only; omega), iblk_w_eq m c ⟨t.val - 1, by omega⟩ t]

/-- Result 0's block after a point. -/
theorem out5_eq (c : Dev nD) (t : Fin cfg0.N) :
    (outsAt0 m c t.val t.isLt).1 = k0_pay2 (iblk m c 2 t) (iblk m c 0 t) (k0_pay1 (iblk m c 1 t)) (iblk m c 3 t) (iblk m c 4 t) := by
  by_cases h0 : t.val % 38 = 0
  · rw [outsAt0_A m c t h0]
    dsimp only
    rw [out5_A]
  · rw [outsAt0_B m c t h0]
    dsimp only
    rw [out5_B, scratch_eq m c _ ⟨t.val - 1, by omega⟩ rfl, iblk_w_eq m c ⟨t.val - 1, by omega⟩ t]

/-- Result 1's block after a point. -/
theorem out6_eq (c : Dev nD) (t : Fin cfg0.N) :
    (outsAt0 m c t.val t.isLt).2.1 = k0_pay3 (iblk m c 2 t) (iblk m c 0 t) (k0_pay1 (iblk m c 1 t)) (iblk m c 3 t) (iblk m c 4 t) := by
  by_cases h0 : t.val % 38 = 0
  · rw [outsAt0_A m c t h0]
    dsimp only
    rw [out6_A]
  · rw [outsAt0_B m c t h0]
    dsimp only
    rw [out6_B, scratch_eq m c _ ⟨t.val - 1, by omega⟩ rfl, iblk_w_eq m c ⟨t.val - 1, by omega⟩ t]

/-! ## The result arrays -/

/-- The mean of a row. -/
def mean (s : Fin 2048 → EReal) : EReal := Ideal.div (∑ l : Fin 2048, s l) (Scalar.ofBits .f32 0x45000000#32 : Ideal .f32)

/-- A row normed, scaled and shifted, at a column. -/
def normed (s : Fin 2048 → EReal) (g b : EReal) (j : Fin 2048) : EReal :=
  (s j - mean s) * Ideal.rsqrt (Ideal.div (∑ l : Fin 2048, (s l - mean s) * (s l - mean s)) (Scalar.ofBits .f32 0x45000000#32 : Ideal .f32)
    + (Scalar.ofBits .f32 0x3727C5AC#32 : Ideal .f32)) * g + b

/-- A row of the sum of the scaled residual and the product. -/
def resid (x : Vec Ideal S9728x2048 .f32) (a : Vec Ideal S9728x2048 .bf16) (w : Vec Ideal S2x2048x2048 .f32) (r : Fin 9728) (j : Fin 2048) : EReal :=
  (Scalar.ofBits .f32 0x3FB504F3#32 : Ideal .f32) * x (ix2 r j) + ∑ k : Fin 2048, a (ix2 r k) * w (ix3 1 k j)

/-- What the first result array ends holding. -/
def G (m : (ℓ : Loc nD τ sig) → Buf (Elt Ideal) ℓ) (c : Dev nD) : Vec Ideal S9728x2048 .f32 := fun i =>
  normed (resid (m ((c : Thread nD τ).loc main_arg2)) (m ((c : Thread nD τ).loc main_arg0)) (m ((c : Thread nD τ).loc main_arg1)) (i 0))
    ((m ((c : Thread nD τ).loc main_arg3) : Vec Ideal S2x2048 .f32) (ix2 1 (i 1)))
    ((m ((c : Thread nD τ).loc main_arg4) : Vec Ideal S2x2048 .f32) (ix2 1 (i 1))) (i 1)

/-- What the second result array ends holding: the same values. -/
def G' (m : (ℓ : Loc nD τ sig) → Buf (Elt Ideal) ℓ) (c : Dev nD) : Vec Ideal S9728x2048 .bf16 := fun i => G m c i

/-- The block computed from the blocks of the inputs, element by element. -/
theorem pay_apply (x : Vec Ideal S256x2048 .f32) (a : Vec Ideal S256x2048 .bf16) (w : Vec Ideal S1x2048x2048 .f32) (g b : Vec Ideal S1x2048 .f32)
    (r : Fin 256) (j : Fin 2048) :
    k0_pay2 x a (k0_pay1 w) g b (ix2 r j)
      = normed (fun l => (Scalar.ofBits .f32 0x3FB504F3#32 : Ideal .f32) * x (ix2 r l) + ∑ k : Fin 2048, a (ix2 r k) * w (ix3 0 k l))
          (g (ix2 0 j)) (b (ix2 0 j)) j := by
  unfold normed mean
  unfold_payloads
  pointwise

/-- The same block in the other type. -/
theorem pay3_apply (x : Vec Ideal S256x2048 .f32) (a : Vec Ideal S256x2048 .bf16) (w : Vec Ideal S1x2048x2048 .f32) (g b : Vec Ideal S1x2048 .f32)
    (i : S256x2048.Idx) :
    (k0_pay3 x a (k0_pay1 w) g b i : EReal) = k0_pay2 x a (k0_pay1 w) g b i := rfl

/-- A point's block of values is the block of `G` at its rows. -/
theorem value_eq (m : (ℓ : Loc nD τ sig) → Buf (Elt Ideal) ℓ) (c : Dev nD) (t : Fin cfg0.N) (r : Fin 256) (j : Fin 2048)
    (i : S9728x2048.Idx) (h0 : (i 0).val = t.val * 256 + 1 * r.val) (h1 : (i 1).val = 0 * 2048 + 1 * j.val) :
    k0_pay2 (iblk m c 2 t) (iblk m c 0 t) (k0_pay1 (iblk m c 1 t)) (iblk m c 3 t) (iblk m c 4 t) (ix2 r j) = G m c i := by
  have hi0 : i 0 = (⟨256 * t.val + r.val, by have := lt38 t; omega⟩ : Fin 9728) := Fin.ext (by rw [h0]; dsimp only; omega)
  have hi1 : i 1 = j := Fin.ext (by rw [h1]; omega)
  rw [pay_apply, iblk_g, iblk_b]
  unfold G
  rw [hi0, hi1]
  congr 1
  funext l
  unfold resid
  rw [iblk_x]
  refine congrArg₂ (· + ·) rfl (Finset.sum_congr rfl fun k _ => ?_)
  rw [iblk_a, iblk_w]

/-- Every point writes back its block of `G`. -/
theorem flushed5_eq (m : (ℓ : Loc nD τ sig) → Buf (Elt Ideal) ℓ) (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5, out5_eq]
  obtain ⟨-, -, -, -, -, -, -, -, -, -, -, e0, e1, -⟩ := idx_facts t
  funext y
  have hy0 : (y 0).val < 256 := (y 0).isLt
  have hy1 : (y 1).val < 2048 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 2048 + 1 * (y 1).val := rfl
  rw [e0] at hb0
  rw [e1] at hb1
  show k0_pay2 (iblk m c 2 t) (iblk m c 0 t) (k0_pay1 (iblk m c 1 t)) (iblk m c 3 t) (iblk m c 4 t) ((cfg0.win 5).xinj (grid0.coords t) y)
    = G m c (((cfg0.win 5).blk t).view.emb y)
  have hl : (cfg0.win 5).xinj (grid0.coords t) y = ix2 (⟨(y 0).val, hy0⟩ : Fin 256) (⟨(y 1).val, hy1⟩ : Fin 2048) := by
    funext a
    match a with
    | ⟨0, _⟩ => rfl
    | ⟨1, _⟩ => rfl
  rw [hl]
  exact value_eq m c t _ _ _ hb0 hb1

/-- An index of the array is in a point's block iff each coordinate is in the block's range. -/
theorem mem_blk5 (t : Fin cfg0.N) (i : S9728x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v6_0).slice (win0_5.rect t)).set ↔ _
  rw [View.set_slice_whole, Rect.mem_set_unit]
  exact Iff.rfl

/-- The result array after the run. -/
theorem final5 (m : (ℓ : Loc nD τ sig) → Buf (Elt Ideal) ℓ) (c : Dev nD) : (dats m 0 c).arrAt 5 cfg0.N = G m c :=
  (dats m 0 c).arrAt_eq_of_cover 5 _ (fun t _ => flushed5_eq m c t) fun i => by
    have h0 : (i 0).val < 9728 := (i 0).isLt
    have h1 : (i 1).val < 2048 := (i 1).isLt
    have hN : (i 0).val / 256 < cfg0.N := lt_of_lt_of_eq (by omega) N_0.symm
    refine ⟨⟨_, hN⟩, flush0_5 _, ?_⟩
    obtain ⟨-, -, -, -, -, -, -, -, -, -, -, e0, e1, -⟩ := idx_facts ⟨_, hN⟩
    dsimp only at e0 e1
    rw [mem_blk5]
    intro a
    match a with
    | ⟨0, _⟩ =>
      show win0_5.index _ (0 : Fin 2) * 256 ≤ (i 0).val ∧ (i 0).val < win0_5.index _ (0 : Fin 2) * 256 + 256
      rw [e0]; omega
    | ⟨1, _⟩ =>
      show win0_5.index _ (1 : Fin 2) * 2048 ≤ (i 1).val ∧ (i 1).val < win0_5.index _ (1 : Fin 2) * 2048 + 2048
      rw [e1]; omega

/-- Every point writes back its block of `G'`. -/
theorem flushed6_eq (m : (ℓ : Loc nD τ sig) → Buf (Elt Ideal) ℓ) (c : Dev nD) (t : Fin cfg0.N) :
    (dats m 0 c).flushed 6 t = ((cfg0.win 6).blk t).view.read (Elt Ideal) (G' m c) := by
  show (cfg0.win 6).cut (grid0.coords t) ((dats m 0 c).after 6 t) = _
  rw [after0_6, out6_eq]
  obtain ⟨-, -, -, -, -, -, -, -, -, -, -, -, -, e0, e1⟩ := idx_facts t
  funext y
  have hy0 : (y 0).val < 256 := (y 0).isLt
  have hy1 : (y 1).val < 2048 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 2048 + 1 * (y 1).val := rfl
  rw [e0] at hb0
  rw [e1] at hb1
  show k0_pay3 (iblk m c 2 t) (iblk m c 0 t) (k0_pay1 (iblk m c 1 t)) (iblk m c 3 t) (iblk m c 4 t) ((cfg0.win 6).xinj (grid0.coords t) y)
    = G' m c (((cfg0.win 6).blk t).view.emb y)
  have hl : (cfg0.win 6).xinj (grid0.coords t) y = ix2 (⟨(y 0).val, hy0⟩ : Fin 256) (⟨(y 1).val, hy1⟩ : Fin 2048) := by
    funext a
    match a with
    | ⟨0, _⟩ => rfl
    | ⟨1, _⟩ => rfl
  rw [hl]
  exact (pay3_apply _ _ _ _ _ _).trans (value_eq m c t _ _ _ hb0 hb1)

/-- An index of the array is in a point's block iff each coordinate is in the block's range. -/
theorem mem_blk6 (t : Fin cfg0.N) (i : S9728x2048.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_v6_1).slice (win0_6.rect t)).set ↔ _
  rw [View.set_slice_whole, Rect.mem_set_unit]
  exact Iff.rfl

/-- The result array after the run. -/
theorem final6 (m : (ℓ : Loc nD τ sig) → Buf (Elt Ideal) ℓ) (c : Dev nD) : (dats m 0 c).arrAt 6 cfg0.N = G' m c :=
  (dats m 0 c).arrAt_eq_of_cover 6 _ (fun t _ => flushed6_eq m c t) fun i => by
    have h0 : (i 0).val < 9728 := (i 0).isLt
    have h1 : (i 1).val < 2048 := (i 1).isLt
    have hN : (i 0).val / 256 < cfg0.N := lt_of_lt_of_eq (by omega) N_0.symm
    refine ⟨⟨_, hN⟩, flush0_6 _, ?_⟩
    obtain ⟨-, -, -, -, -, -, -, -, -, -, -, -, -, e0, e1⟩ := idx_facts ⟨_, hN⟩
    dsimp only at e0 e1
    rw [mem_blk6]
    intro a
    match a with
    | ⟨0, _⟩ =>
      show win0_6.index _ (0 : Fin 2) * 256 ≤ (i 0).val ∧ (i 0).val < win0_6.index _ (0 : Fin 2) * 256 + 256
      rw [e0]; omega
    | ⟨1, _⟩ =>
      show win0_6.index _ (1 : Fin 2) * 2048 ≤ (i 1).val ∧ (i 1).val < win0_6.index _ (1 : Fin 2) * 2048 + 2048
      rw [e1]; omega

/-- The run: the two result arrays are the normed sums, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6_0) = G m c
      ∧ r.2.mem ((c : Thread nD τ).loc main_v6_1) = G' m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.MatmulNormIdeal.NormValue

namespace Cert.MatmulNormReferenceIdeal.Read

open Cert.MatmulNormReferenceIdeal Cert.MatmulNormReferenceIdeal.Gen Idealize.ShloMosaic

/-- The reference's sum of the scaled residual and the product, at an index. -/
theorem resid_apply (x : Vec Ideal S9728x2048 .f32) (a : Vec Ideal S9728x2048 .bf16) (w : Vec Ideal S2x2048x2048 .f32) (r : Fin 9728) (j : Fin 2048) :
    (addf (mulf (broadcastInDim S9728x2048 ![] bcast_S_S9728x2048 (constant S_ .f32 0x3FB504F3#32)) x) (Host.dotGeneral dot_S9728x2048_S2048x2048_S9728x2048_1_0_0_1_n_n none (extf .f32 a bitsLt_bf16_f32) (shapeCast S2048x2048 (extractStridedSlice S1x2048x2048 ![1, 0, 0] w slices_S2x2048x2048_S1x2048x2048_1_0_0) shapeCasts_S1x2048x2048_S2048x2048 : FVec Ideal S2048x2048 .f32))) (ix2 r j)
      = Cert.MatmulNormIdeal.NormValue.resid x a w r j := by
  unfold Cert.MatmulNormIdeal.NormValue.resid
  pointwise

/-- The reference's difference from the mean, at an index. -/
theorem diff_apply (s : FVec Ideal S9728x2048 .f32) (r : Fin 9728) (j : Fin 2048) :
    (subf s (broadcastInDim S9728x2048 ![0, 1] bcast_S9728x1_S9728x2048_0_1 (Host.divf (broadcastInDim S9728x1 ![0] bcast_S9728_S9728x1_0 (Host.reduceAdd s (constant S_ .f32 0x00000000#32) reducesTo_S9728x2048_S9728_d1 h_S_)) (broadcastInDim S9728x1 ![] bcast_S_S9728x1 (constant S_ .f32 0x45000000#32))))) (ix2 r j)
      = s (ix2 r j) - Cert.MatmulNormIdeal.NormValue.mean fun l => s (ix2 r l) := by
  unfold Cert.MatmulNormIdeal.NormValue.mean
  pointwise

/-- The reference's norm from the differences, at an index. -/
theorem scaled_apply (d : FVec Ideal S9728x2048 .f32) (g b : Vec Ideal S2x2048 .f32) (r : Fin 9728) (j : Fin 2048) :
    (addf (mulf (mulf d (broadcastInDim S9728x2048 ![0, 1] bcast_S9728x1_S9728x2048_0_1 (Host.rsqrt (addf (Host.divf (broadcastInDim S9728x1 ![0] bcast_S9728_S9728x1_0 (Host.reduceAdd (mulf d d) (constant S_ .f32 0x00000000#32) reducesTo_S9728x2048_S9728_d1 h_S_)) (broadcastInDim S9728x1 ![] bcast_S_S9728x1 (constant S_ .f32 0x45000000#32))) (broadcastInDim S9728x1 ![] bcast_S_S9728x1 (constant S_ .f32 0x3727C5AC#32)))))) (broadcastInDim S9728x2048 ![0, 1] bcast_S1x2048_S9728x2048_0_1 (broadcastInDim S1x2048 ![1] bcast_S2048_S1x2048_1 (shapeCast S2048 (extractStridedSlice S1x2048 ![1, 0] g slices_S2x2048_S1x2048_1_0) shapeCasts_S1x2048_S2048 : FVec Ideal S2048 .f32)))) (broadcastInDim S9728x2048 ![0, 1] bcast_S1x2048_S9728x2048_0_1 (broadcastInDim S1x2048 ![1] bcast_S2048_S1x2048_1 (shapeCast S2048 (extractStridedSlice S1x2048 ![1, 0] b slices_S2x2048_S1x2048_1_0) shapeCasts_S1x2048_S2048 : FVec Ideal S2048 .f32)))) (ix2 r j)
      = d (ix2 r j) * Ideal.rsqrt (Ideal.div (∑ l : Fin 2048, d (ix2 r l) * d (ix2 r l)) (Scalar.ofBits .f32 0x45000000#32 : Ideal .f32)
          + (Scalar.ofBits .f32 0x3727C5AC#32 : Ideal .f32)) * g (ix2 1 j) + b (ix2 1 j) := by
  pointwise

end Cert.MatmulNormReferenceIdeal.Read

namespace Cert.Proof

open Idealize.ShloMosaic Idealize.SL.Sem

theorem quiescent_MatmulNormReferenceIdeal : quiescent_MatmulNormReferenceIdeal := fun m ρ _ =>
  (θ_run Cert.MatmulNormReferenceIdeal.defs _ _).mono
    (fun r h => ⟨fun c => (h c).2.2, sem_eq_zero_of_no_sems (by decide) r.2⟩)
    (Cert.MatmulNormReferenceIdeal.Value.run (F := Ideal) m ρ)

open Cert.MatmulNormReferenceIdeal Cert.MatmulNormReferenceIdeal.Read in
/-- The reference's first result at an index. -/
theorem norm_value (m' : (ℓ : Loc nD τ sig) → Buf (Elt Ideal) ℓ) (c : Dev nD) (r : Fin 9728) (j : Fin 2048) :
    (Cert.MatmulNormReferenceIdeal.Value.res_main_v34 m' c : Vec Ideal S9728x2048 .f32) (ix2 r j)
      = Cert.MatmulNormIdeal.NormValue.normed (Cert.MatmulNormIdeal.NormValue.resid (m' (c.tc.loc main_arg2)) (m' (c.tc.loc main_arg0)) (m' (c.tc.loc main_arg1)) r)
          ((m' (c.tc.loc main_arg3) : Vec Ideal S2x2048 .f32) (ix2 1 j)) ((m' (c.tc.loc main_arg4) : Vec Ideal S2x2048 .f32) (ix2 1 j)) j := by
  unfold Cert.MatmulNormReferenceIdeal.Value.res_main_v34
  refine (scaled_apply _ _ _ _ _).trans ?_
  have hs : ∀ l : Fin 2048, _ = Cert.MatmulNormIdeal.NormValue.resid (m' (c.tc.loc main_arg2)) (m' (c.tc.loc main_arg0)) (m' (c.tc.loc main_arg1)) r l :=
    fun l => resid_apply (m' (c.tc.loc main_arg2)) (m' (c.tc.loc main_arg0)) (m' (c.tc.loc main_arg1)) r l
  have hd : ∀ l : Fin 2048, _ = Cert.MatmulNormIdeal.NormValue.resid (m' (c.tc.loc main_arg2)) (m' (c.tc.loc main_arg0)) (m' (c.tc.loc main_arg1)) r l
      - Cert.MatmulNormIdeal.NormValue.mean (Cert.MatmulNormIdeal.NormValue.resid (m' (c.tc.loc main_arg2)) (m' (c.tc.loc main_arg0)) (m' (c.tc.loc main_arg1)) r) :=
    fun l => (diff_apply _ r l).trans (congrArg₂ (· - ·) (hs l) (congrArg Cert.MatmulNormIdeal.NormValue.mean (funext hs)))
  unfold Cert.MatmulNormIdeal.NormValue.normed
  refine congrArg₂ (· + ·) (congrArg₂ (· * ·) (congrArg₂ (· * ·) (hd j) (congrArg Ideal.rsqrt (congrArg₂ (· + ·)
    (congrArg₂ Ideal.div (Finset.sum_congr rfl fun l _ => congrArg₂ (· * ·) (hd l) (hd l)) rfl) rfl))) rfl) rfl

theorem algebraic_MatmulNormIdeal_MatmulNormReferenceIdeal : algebraic_MatmulNormIdeal_MatmulNormReferenceIdeal := by
  intro m ρ m' ρ' _ hagree
  refine ⟨_, _, Cert.MatmulNormIdeal.NormValue.run m ρ, ?_⟩
  refine (θ_run Cert.MatmulNormReferenceIdeal.defs _ _).mono (fun _ h c => ⟨?_, ?_, (h c).2.2⟩)
    (Cert.MatmulNormReferenceIdeal.Value.run (F := Ideal) m' ρ')
  · rw [(h c).1]
    funext j
    idx_vars j
    refine (norm_value m' c _ _).trans ?_
    rw [(hagree c).1, (hagree c).2.1, (hagree c).2.2.1, (hagree c).2.2.2.1, (hagree c).2.2.2.2]
    rfl
  · rw [(h c).2.1]
    funext j
    idx_vars j
    refine Eq.trans (b := (Cert.MatmulNormReferenceIdeal.Value.res_main_v34 m' c : Vec Ideal Cert.MatmulNormReferenceIdeal.S9728x2048 .f32) (ix2 j0 j1)) rfl ((norm_value m' c j0 j1).trans ?_)
    rw [(hagree c).1, (hagree c).2.1, (hagree c).2.2.1, (hagree c).2.2.2.1, (hagree c).2.2.2.2]
    rfl

end Cert.Proof

end
-- ==== Proof.ProjKValue.lean ====
/- The value of the projection to the attention's keys (`ProjKIdeal`): every grid point leaves, in its blocks of the two
   results, the product of its rows with the weights held in the scratch, which were loaded and transposed at the first point; the
   host code after the call cuts the prompts' rows and the samples' rows out of the first result. -/
module

public import proofs.«01_k».proof.Defs
public import proofs.«01_k».proof.Proof.Gen.ProjKIdeal.Frame
public import proofs.«01_k».proof.Proof.Gen.ProjKReferenceIdeal.Run
public import Idealize.ShloMosaic.Lib.Pipeline.Value
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.ProjKIdeal.KeyValue

open Cert.ProjKIdeal Cert.ProjKIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

/-- At the first point the scratch is left at the transposed weights. -/
theorem scratch_A (c : Dev nD) (i : grid0.Coords) (a1 h1 a2 h2 a3 h3 a4 h4 a5 h5) (hc : cond0_0 i) (x0 : Vec F S512x2048 .bf16)
    (x1 : Vec F S1x1024x2048 .f32) :
    sout0_A_0 c i a1 h1 a2 h2 a3 h3 a4 h4 a5 h5 hc x0 x1 = k0_pay1 x1 := by
  unfold sout0_A_0
  rw [View.read_writes_eq_canon _ _ _ (scover0_A_0 c i a1 h1 a2 h2 a3 h3 a4 h4 a5 h5 hc x0 x1)]
  unfold kernelRun0_A
  dsimp only
  sl_unfold_words
  rw [View.canon_unit_zero hz2]
  simp only [View.readAt_eq_ld, Memref.IsWhole.read_unread, View.ld_unit_zero (S := S512x2048) hz2,
    View.ld_unit_zero (S := S2048x1024) hz2, View.ld_unit_zero (S := S1x1024x2048) hz3]

/-- What the first point leaves in its block of result 0. -/
theorem out2_A (c : Dev nD) (i : grid0.Coords) (a1 h1 a2 h2 a3 h3 a4 h4 a5 h5) (hc : cond0_0 i) (x0 : Vec F S512x2048 .bf16)
    (x1 : Vec F S1x1024x2048 .f32) :
    out0_A_2 c i a1 h1 a2 h2 a3 h3 a4 h4 a5 h5 hc x0 x1 = k0_pay2 x0 (k0_pay1 x1) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz2, View.readCov_unit_zero _ hz2]
  simp only [View.readAt_eq_ld, Memref.IsWhole.read_unread, View.ld_unit_zero (S := S512x2048) hz2,
    View.ld_unit_zero (S := S2048x1024) hz2, View.ld_unit_zero (S := S1x1024x2048) hz3]

/-- What every other point leaves in its block of result 0, over what the scratch holds. -/
theorem out2_B (c : Dev nD) (i : grid0.Coords) (a1 h1 a2 h2 a3 h3 a4 h4 a5 h5) (hc : ¬cond0_0 i) (x0 : Vec F S512x2048 .bf16)
    (x1 : Vec F S1x1024x2048 .f32)
    (xs : Vec F S2048x1024 .bf16) : out0_B_2 c i a1 h1 a2 h2 a3 h3 a4 h4 a5 h5 hc x0 x1 xs = k0_pay2 x0 xs := by
  unfold out0_B_2
  rw [View.read_writes_eq_canon _ _ _ (cover0_B_2 c i a1 h1 a2 h2 a3 h3 a4 h4 a5 h5 hc x0 x1 xs)]
  unfold kernelRun0_B
  dsimp only
  sl_unfold_words
  rw [View.canon_unit_zero hz2]
  simp only [View.readAt_eq_ld, Memref.IsWhole.read_unread, View.ld_unit_zero (S := S512x2048) hz2,
    View.ld_unit_zero (S := S2048x1024) hz2, View.ld_unit_zero (S := S1x1024x2048) hz3]

/-- What the first point leaves in its block of result 1. -/
theorem out3_A (c : Dev nD) (i : grid0.Coords) (a1 h1 a2 h2 a3 h3 a4 h4 a5 h5) (hc : cond0_0 i) (x0 : Vec F S512x2048 .bf16)
    (x1 : Vec F S1x1024x2048 .f32) :
    out0_A_3 c i a1 h1 a2 h2 a3 h3 a4 h4 a5 h5 hc x0 x1 = k0_pay3 x0 (k0_pay1 x1) := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_unit_zero hz2, View.readCov_unit_zero _ hz2]
  simp only [View.readAt_eq_ld, Memref.IsWhole.read_unread, View.ld_unit_zero (S := S512x2048) hz2,
    View.ld_unit_zero (S := S2048x1024) hz2, View.ld_unit_zero (S := S1x1024x2048) hz3]

/-- What every other point leaves in its block of result 1, over what the scratch holds. -/
theorem out3_B (c : Dev nD) (i : grid0.Coords) (a1 h1 a2 h2 a3 h3 a4 h4 a5 h5) (hc : ¬cond0_0 i) (x0 : Vec F S512x2048 .bf16)
    (x1 : Vec F S1x1024x2048 .f32)
    (xs : Vec F S2048x1024 .bf16) : out0_B_3 c i a1 h1 a2 h2 a3 h3 a4 h4 a5 h5 hc x0 x1 xs = k0_pay3 x0 xs := by
  unfold out0_B_3
  rw [View.read_writes_eq_canon _ _ _ (cover0_B_3 c i a1 h1 a2 h2 a3 h3 a4 h4 a5 h5 hc x0 x1 xs)]
  unfold kernelRun0_B
  dsimp only
  sl_unfold_words
  rw [View.canon_unit_zero hz2]
  simp only [View.readAt_eq_ld, Memref.IsWhole.read_unread, View.ld_unit_zero (S := S512x2048) hz2,
    View.ld_unit_zero (S := S2048x1024) hz2, View.ld_unit_zero (S := S1x1024x2048) hz3]

/-! ## The blocks the windows read -/

/-- The block indices of the windows at a point. -/
theorem idx_facts : ∀ t : Fin cfg0.N, win0_0.index t (0 : Fin 2) = t.val ∧ win0_0.index t (1 : Fin 2) = 0
    ∧ win0_1.index t (0 : Fin 3) = 1 ∧ win0_1.index t (1 : Fin 3) = 1 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt19 (t : Fin cfg0.N) : t.val < 19 := lt_of_lt_of_eq t.isLt N_0

/-- The activations' block at a point: its 512 rows. -/
theorem iblk_x (c : Dev nD) (t : Fin cfg0.N) (r : Fin 512) (k : Fin 2048) :
    (iblk m c 0 t : Vec F S512x2048 .bf16) (ix2 r k)
      = (m ((c : Thread nD τ).loc main_arg0) : Vec F S9728x2048 .bf16) (ix2 ⟨512 * t.val + r.val, by have := lt19 t; omega⟩ k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [e0]; omega
  | ⟨1, _⟩ => show win0_0.index t 1 * 2048 + 1 * k.val = k.val; rw [e1]; omega

/-- The weights the region finds: the argument, its two last axes exchanged. -/
theorem V_w (c : Dev nD) : V m c main_v0
    = transpose S2x9296x2048 [0, 2, 1] (m ((c : Thread nD τ).loc main_arg1) : Vec F S2x2048x9296 .f32)
        transposes_S2x2048x9296_S2x9296x2048_0_2_1 := by
  show StableHlo.after hostOps0 (fun b => m (c, b)) (Proc.devRef .tc main_v0) = _
  after_results <;> rfl

/-- The weights' block at a point, element by element, in the argument's own order of axes. -/
theorem blk_w (c : Dev nD) (t : Fin cfg0.N) (j : Fin 1024) (k : Fin 2048) :
    (X0_1 m c t : Vec F S1x1024x2048 .f32) (ix3 0 j k)
      = (m ((c : Thread nD τ).loc main_arg1) : Vec F S2x2048x9296 .f32) (ix3 1 k ⟨1024 + j.val, by omega⟩) := by
  obtain ⟨-, -, e0, e1, e2, -⟩ := idx_facts t
  unfold X0_1 Pipeline.Window.fill
  rw [dif_pos (moved0_1 t _)]
  unfold iblk
  rw [View.read_apply]
  show V m c main_v0 _ = m (c.tc.loc main_arg1) _
  rw [V_w]
  refine transpose_apply _ _ _ _ _ fun a => ?_
  match a with
  | ⟨0, _⟩ => show 1 = win0_1.index t 0 * 1 + 1 * 0; rw [e0]
  | ⟨1, _⟩ => show 1024 + j.val = win0_1.index t 1 * 1024 + 1 * j.val; rw [e1]; omega
  | ⟨2, _⟩ => show k.val = win0_1.index t 2 * 2048 + 1 * k.val; rw [e2]; omega

/-- The weights' block does not move. -/
theorem blk_w_eq (c : Dev nD) (t s : Fin cfg0.N) : (X0_1 m c t : Vec F S1x1024x2048 .f32) = X0_1 m c s := by
  funext y
  idx_vars y
  obtain rfl : y0 = 0 := Subsingleton.elim _ _
  rw [blk_w, blk_w]

/-! ## The scratch and the outputs after every point -/

/-- The scratch after a point: the transposed weights. -/
theorem scratch_eq (c : Dev nD) : ∀ (n : ℕ) (t : Fin cfg0.N), t.val = n →
    (outsAt0 m c t.val t.isLt).2.2 = k0_pay1 (X0_1 m c t) := by
  intro n
  induction n with
  | zero =>
    intro t ht
    rw [outsAt0_A m c t (by omega)]
    dsimp only
    rw [scratch_A]
  | succ n ih =>
    intro t ht
    by_cases h0 : t.val % 19 = 0
    · rw [outsAt0_A m c t h0]
      dsimp only
      rw [scratch_A]
    · rw [outsAt0_B m c t h0]
      dsimp only [sout0_B_0]
      rw [ih ⟨t.val - 1, by omega⟩ (by dsimp only; omega), blk_w_eq m c ⟨t.val - 1, by omega⟩ t]

/-- Result 0's block after a point. -/
theorem out2_eq (c : Dev nD) (t : Fin cfg0.N) :
    (outsAt0 m c t.val t.isLt).1 = k0_pay2 (iblk m c 0 t) (k0_pay1 (X0_1 m c t)) := by
  by_cases h0 : t.val % 19 = 0
  · rw [outsAt0_A m c t h0]
    dsimp only
    rw [out2_A]
  · rw [outsAt0_B m c t h0]
    dsimp only
    rw [out2_B, scratch_eq m c _ ⟨t.val - 1, by omega⟩ rfl, blk_w_eq m c ⟨t.val - 1, by omega⟩ t]

/-- Result 1's block after a point. -/
theorem out3_eq (c : Dev nD) (t : Fin cfg0.N) :
    (outsAt0 m c t.val t.isLt).2.1 = k0_pay3 (iblk m c 0 t) (k0_pay1 (X0_1 m c t)) := by
  by_cases h0 : t.val % 19 = 0
  · rw [outsAt0_A m c t h0]
    dsimp only
    rw [out3_A]
  · rw [outsAt0_B m c t h0]
    dsimp only
    rw [out3_B, scratch_eq m c _ ⟨t.val - 1, by omega⟩ rfl, blk_w_eq m c ⟨t.val - 1, by omega⟩ t]

/-! ## The result arrays -/

/-- The product of the activations with the keys' columns of the weights. -/
def keys (x : Vec Ideal S9728x2048 .bf16) (w : Vec Ideal S2x2048x9296 .f32) (r : Fin 9728) (j : Fin 1024) : EReal :=
  ∑ k : Fin 2048, x (ix2 r k) * w (ix3 1 k ⟨1024 + j.val, by omega⟩)

/-- What the first result array ends holding. -/
def G (m : (ℓ : Loc nD τ sig) → Buf (Elt Ideal) ℓ) (c : Dev nD) : Vec Ideal S9728x1024 .f32 := fun i =>
  keys (m ((c : Thread nD τ).loc main_arg0)) (m ((c : Thread nD τ).loc main_arg1)) (i 0) (i 1)

/-- What the second result array ends holding: the same values. -/
def G' (m : (ℓ : Loc nD τ sig) → Buf (Elt Ideal) ℓ) (c : Dev nD) : Vec Ideal S9728x1024 .bf16 := fun i => G m c i

/-- The product of a block of rows with the transposed weights, read at an index. -/
theorem pay_apply (x : Vec Ideal S512x2048 .bf16) (w : Vec Ideal S1x1024x2048 .f32) (r : Fin 512) (j : Fin 1024) :
    k0_pay2 x (k0_pay1 w) (ix2 r j) = ∑ k : Fin 2048, x (ix2 r k) * w (ix3 0 j k) := by
  unfold_payloads
  pointwise

/-- The same block in the other type. -/
theorem pay3_apply (x : Vec Ideal S512x2048 .bf16) (w : Vec Ideal S1x1024x2048 .f32) (i : S512x1024.Idx) :
    (k0_pay3 x (k0_pay1 w) i : EReal) = k0_pay2 x (k0_pay1 w) i := rfl

/-- A point's block of values is the block of `G` at its rows. -/
theorem value_eq (m : (ℓ : Loc nD τ sig) → Buf (Elt Ideal) ℓ) (c : Dev nD) (t : Fin cfg0.N) (r : Fin 512) (j : Fin 1024)
    (i : S9728x1024.Idx) (h0 : (i 0).val = t.val * 512 + 1 * r.val) (h1 : (i 1).val = 0 * 1024 + 1 * j.val) :
    k0_pay2 (iblk m c 0 t) (k0_pay1 (X0_1 m c t)) (ix2 r j) = G m c i := by
  have hi0 : i 0 = (⟨512 * t.val + r.val, by have := lt19 t; omega⟩ : Fin 9728) := Fin.ext (by rw [h0]; dsimp only; omega)
  have hi1 : i 1 = j := Fin.ext (by rw [h1]; omega)
  rw [pay_apply]
  unfold G
  rw [hi0, hi1]
  unfold keys
  refine Finset.sum_congr rfl fun k _ => ?_
  rw [iblk_x, blk_w]

/-- Every point writes back its block of `G`. -/
theorem flushed2_eq (m : (ℓ : Loc nD τ sig) → Buf (Elt Ideal) ℓ) (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2, out2_eq]
  obtain ⟨-, -, -, -, -, e0, e1, -⟩ := idx_facts t
  funext y
  have hy0 : (y 0).val < 512 := (y 0).isLt
  have hy1 : (y 1).val < 1024 := (y 1).isLt
  have hb0 : (((cfg0.win 2).blk t).view.emb y 0).val = win0_2.index t (0 : Fin 2) * 512 + 1 * (y 0).val := rfl
  have hb1 : (((cfg0.win 2).blk t).view.emb y 1).val = win0_2.index t (1 : Fin 2) * 1024 + 1 * (y 1).val := rfl
  rw [e0] at hb0
  rw [e1] at hb1
  show k0_pay2 (iblk m c 0 t) (k0_pay1 (X0_1 m c t)) ((cfg0.win 2).xinj (grid0.coords t) y)
    = G m c (((cfg0.win 2).blk t).view.emb y)
  have hl : (cfg0.win 2).xinj (grid0.coords t) y = ix2 (⟨(y 0).val, hy0⟩ : Fin 512) (⟨(y 1).val, hy1⟩ : Fin 1024) := by
    funext a
    match a with
    | ⟨0, _⟩ => rfl
    | ⟨1, _⟩ => rfl
  rw [hl]
  exact value_eq m c t _ _ _ hb0 hb1

/-- An index of the array is in a point's block iff each coordinate is in the block's range. -/
theorem mem_blk2 (t : Fin cfg0.N) (i : S9728x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1_0).slice (win0_2.rect t)).set ↔ _
  rw [View.set_slice_whole, Rect.mem_set_unit]
  exact Iff.rfl

/-- The result array after the region. -/
theorem final2 (m : (ℓ : Loc nD τ sig) → Buf (Elt Ideal) ℓ) (c : Dev nD) : (dats m 0 c).arrAt 2 cfg0.N = G m c :=
  (dats m 0 c).arrAt_eq_of_cover 2 _ (fun t _ => flushed2_eq m c t) fun i => by
    have h0 : (i 0).val < 9728 := (i 0).isLt
    have h1 : (i 1).val < 1024 := (i 1).isLt
    have hN : (i 0).val / 512 < cfg0.N := lt_of_lt_of_eq (by omega) N_0.symm
    refine ⟨⟨_, hN⟩, flush0_2 _, ?_⟩
    obtain ⟨-, -, -, -, -, e0, e1, -⟩ := idx_facts ⟨_, hN⟩
    dsimp only at e0 e1
    rw [mem_blk2]
    intro a
    match a with
    | ⟨0, _⟩ =>
      show win0_2.index _ (0 : Fin 2) * 512 ≤ (i 0).val ∧ (i 0).val < win0_2.index _ (0 : Fin 2) * 512 + 512
      rw [e0]; omega
    | ⟨1, _⟩ =>
      show win0_2.index _ (1 : Fin 2) * 1024 ≤ (i 1).val ∧ (i 1).val < win0_2.index _ (1 : Fin 2) * 1024 + 1024
      rw [e1]; omega

/-- Every point writes back its block of `G'`. -/
theorem flushed3_eq (m : (ℓ : Loc nD τ sig) → Buf (Elt Ideal) ℓ) (c : Dev nD) (t : Fin cfg0.N) :
    (dats m 0 c).flushed 3 t = ((cfg0.win 3).blk t).view.read (Elt Ideal) (G' m c) := by
  show (cfg0.win 3).cut (grid0.coords t) ((dats m 0 c).after 3 t) = _
  rw [after0_3, out3_eq]
  obtain ⟨-, -, -, -, -, -, -, e0, e1⟩ := idx_facts t
  funext y
  have hy0 : (y 0).val < 512 := (y 0).isLt
  have hy1 : (y 1).val < 1024 := (y 1).isLt
  have hb0 : (((cfg0.win 3).blk t).view.emb y 0).val = win0_3.index t (0 : Fin 2) * 512 + 1 * (y 0).val := rfl
  have hb1 : (((cfg0.win 3).blk t).view.emb y 1).val = win0_3.index t (1 : Fin 2) * 1024 + 1 * (y 1).val := rfl
  rw [e0] at hb0
  rw [e1] at hb1
  show k0_pay3 (iblk m c 0 t) (k0_pay1 (X0_1 m c t)) ((cfg0.win 3).xinj (grid0.coords t) y)
    = G' m c (((cfg0.win 3).blk t).view.emb y)
  have hl : (cfg0.win 3).xinj (grid0.coords t) y = ix2 (⟨(y 0).val, hy0⟩ : Fin 512) (⟨(y 1).val, hy1⟩ : Fin 1024) := by
    funext a
    match a with
    | ⟨0, _⟩ => rfl
    | ⟨1, _⟩ => rfl
  rw [hl]
  exact (pay3_apply _ _ _).trans (value_eq m c t _ _ _ hb0 hb1)

/-- An index of the array is in a point's block iff each coordinate is in the block's range. -/
theorem mem_blk3 (t : Fin cfg0.N) (i : S9728x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v1_1).slice (win0_3.rect t)).set ↔ _
  rw [View.set_slice_whole, Rect.mem_set_unit]
  exact Iff.rfl

/-- The result array after the region. -/
theorem final3 (m : (ℓ : Loc nD τ sig) → Buf (Elt Ideal) ℓ) (c : Dev nD) : (dats m 0 c).arrAt 3 cfg0.N = G' m c :=
  (dats m 0 c).arrAt_eq_of_cover 3 _ (fun t _ => flushed3_eq m c t) fun i => by
    have h0 : (i 0).val < 9728 := (i 0).isLt
    have h1 : (i 1).val < 1024 := (i 1).isLt
    have hN : (i 0).val / 512 < cfg0.N := lt_of_lt_of_eq (by omega) N_0.symm
    refine ⟨⟨_, hN⟩, flush0_3 _, ?_⟩
    obtain ⟨-, -, -, -, -, -, -, e0, e1⟩ := idx_facts ⟨_, hN⟩
    dsimp only at e0 e1
    rw [mem_blk3]
    intro a
    match a with
    | ⟨0, _⟩ =>
      show win0_3.index _ (0 : Fin 2) * 512 ≤ (i 0).val ∧ (i 0).val < win0_3.index _ (0 : Fin 2) * 512 + 512
      rw [e0]; omega
    | ⟨1, _⟩ =>
      show win0_3.index _ (1 : Fin 2) * 1024 ≤ (i 1).val ∧ (i 1).val < win0_3.index _ (1 : Fin 2) * 1024 + 1024
      rw [e1]; omega

/-! ## The host code after the region -/

/-- The prompts' rows of an array, without the padding, the columns split by head. -/
def promptPart (P : Vec Ideal S9728x1024 .f32) : Vec Ideal S2x4112x8x128 .f32 :=
  shapeCast S2x4112x8x128 (extractStridedSlice S2x4112x1024 ![0, 240, 0] (shapeCast S2x4352x1024 (extractStridedSlice S8704x1024 ![0, 0] P slices_S9728x1024_S8704x1024_0_0) shapeCasts_S8704x1024_S2x4352x1024) slices_S2x4352x1024_S2x4112x1024_0_240_0) shapeCasts_S2x4112x1024_S2x4112x8x128

/-- The samples' rows of an array, the columns split by head. -/
def samplePart (P : Vec Ideal S9728x1024 .f32) : Vec Ideal S16x64x8x128 .f32 :=
  shapeCast S16x64x8x128 (extractStridedSlice S1024x1024 ![8704, 0] P slices_S9728x1024_S1024x1024_8704_0) shapeCasts_S1024x1024_S16x64x8x128

theorem arr_inj : Function.Injective (Pipeline.arrRef spec0) := by
  intro a b h
  revert a b
  decide

/-- What the first result array holds when the host code after the region starts. -/
theorem tail_arr (m : (ℓ : Loc nD τ sig) → Buf (Elt Ideal) ℓ) (c : Dev nD) :
    Pipeline.withArrays spec0 c (V0 m c) (fun w => (dats m 0 c).arrAt w cfg0.N) (Proc.devRef .tc main_v1_0) = G m c :=
  (Pipeline.withArrays_arr spec0 arr_inj c (V0 m c) (fun w => (dats m 0 c).arrAt w cfg0.N) 2).trans (final2 m c)

/-- The prompts' rows after the host code. -/
theorem tail_prompt (m : (ℓ : Loc nD τ sig) → Buf (Elt Ideal) ℓ) (c : Dev nD) :
    Pipeline.afterTail₀ cfgs (dats m) 0 (V0 m) [hostOps1] c main_v5 = promptPart (G m c) := by
  unfold promptPart
  rw [← tail_arr m c]
  show StableHlo.after hostOps1 (Pipeline.withArrays spec0 c (V0 m c) fun w => (dats m 0 c).arrAt w cfg0.N) (Proc.devRef .tc main_v5) = _
  generalize Pipeline.withArrays spec0 c (V0 m c) (fun w => (dats m 0 c).arrAt w cfg0.N) = W
  after_results <;> rfl

/-- The samples' rows after the host code. -/
theorem tail_sample (m : (ℓ : Loc nD τ sig) → Buf (Elt Ideal) ℓ) (c : Dev nD) :
    Pipeline.afterTail₀ cfgs (dats m) 0 (V0 m) [hostOps1] c main_v7 = samplePart (G m c) := by
  unfold samplePart
  rw [← tail_arr m c]
  show StableHlo.after hostOps1 (Pipeline.withArrays spec0 c (V0 m c) fun w => (dats m 0 c).arrAt w cfg0.N) (Proc.devRef .tc main_v7) = _
  generalize Pipeline.withArrays spec0 c (V0 m c) (fun w => (dats m 0 c).arrAt w cfg0.N) = W
  after_results <;> rfl

/-- The run: the three results are the keys in their places, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = promptPart (G m c)
      ∧ r.2.mem ((c : Thread nD τ).loc main_v7) = samplePart (G m c)
      ∧ r.2.mem ((c : Thread nD τ).loc main_v1_1) = G' m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v5 (Pipeline.mem_restRefs_of main_v5 (by decide) (by decide))).trans (tail_prompt m c),
      ((h c).2 main_v7 (Pipeline.mem_restRefs_of main_v7 (by decide) (by decide))).trans (tail_sample m c),
      ((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.ProjKIdeal.KeyValue

namespace Cert.ProjKReferenceIdeal.Read

open Cert.ProjKReferenceIdeal Cert.ProjKReferenceIdeal.Gen Idealize.ShloMosaic

/-- The reference's keys: its product, cut to the keys' columns. -/
def cols (x : Vec Ideal S9728x2048 .bf16) (w : Vec Ideal S2x2048x9296 .f32) : FVec Ideal S9728x1024 .f32 :=
  extractStridedSlice S9728x1024 ![0, 1024] (Host.dotGeneral dot_S9728x2048_S2048x9296_S9728x9296_1_0_0_1_n_n none (extf .f32 x bitsLt_bf16_f32) (shapeCast S2048x9296 (extractStridedSlice S1x2048x9296 ![1, 0, 0] w slices_S2x2048x9296_S1x2048x9296_1_0_0) shapeCasts_S1x2048x9296_S2048x9296 : FVec Ideal S2048x9296 .f32)) slices_S9728x9296_S9728x1024_0_1024

theorem cols_apply (x : Vec Ideal S9728x2048 .bf16) (w : Vec Ideal S2x2048x9296 .f32) (r : Fin 9728) (j : Fin 1024) :
    cols x w (ix2 r j) = Cert.ProjKIdeal.KeyValue.keys x w r j := by
  unfold cols Cert.ProjKIdeal.KeyValue.keys
  pointwise

/-- The prompts' rows, cut before or after the split of the columns by head. -/
theorem prompt_apply (P : FVec Ideal S9728x1024 .f32) :
    extractStridedSlice S2x4112x8x128 ![0, 240, 0, 0] (shapeCast S2x4352x8x128 (extractStridedSlice S8704x1024 ![0, 0] P slices_S9728x1024_S8704x1024_0_0) shapeCasts_S8704x1024_S2x4352x8x128 : FVec Ideal S2x4352x8x128 .f32) slices_S2x4352x8x128_S2x4112x8x128_0_240_0_0
      = Cert.ProjKIdeal.KeyValue.promptPart P := by
  unfold Cert.ProjKIdeal.KeyValue.promptPart
  funext j
  idx_vars j
  pointwise

end Cert.ProjKReferenceIdeal.Read

namespace Cert.Proof

open Idealize.ShloMosaic Idealize.SL.Sem

theorem quiescent_ProjKReferenceIdeal : quiescent_ProjKReferenceIdeal := fun m ρ _ =>
  (θ_run Cert.ProjKReferenceIdeal.defs _ _).mono
    (fun r h => ⟨fun c => (h c).2.2.2, sem_eq_zero_of_no_sems (by decide) r.2⟩)
    (Cert.ProjKReferenceIdeal.Value.run (F := Ideal) m ρ)

theorem algebraic_ProjKIdeal_ProjKReferenceIdeal : algebraic_ProjKIdeal_ProjKReferenceIdeal := by
  intro m ρ m' ρ' _ hagree
  refine ⟨_, _, _, Cert.ProjKIdeal.KeyValue.run m ρ, ?_⟩
  refine (θ_run Cert.ProjKReferenceIdeal.defs _ _).mono (fun _ h c => ⟨?_, ?_, ?_, (h c).2.2.2⟩)
    (Cert.ProjKReferenceIdeal.Value.run (F := Ideal) m' ρ')
  all_goals
    have hG : Cert.ProjKReferenceIdeal.Read.cols (m' (c.tc.loc Cert.ProjKReferenceIdeal.main_arg0)) (m' (c.tc.loc Cert.ProjKReferenceIdeal.main_arg1))
        = Cert.ProjKIdeal.KeyValue.G m c := by
      rw [(hagree c).1, (hagree c).2]
      funext j
      idx_vars j
      exact Cert.ProjKReferenceIdeal.Read.cols_apply _ _ _ _
  · rw [(h c).1, ← hG]
    exact Cert.ProjKReferenceIdeal.Read.prompt_apply _
  · rw [(h c).2.1, ← hG]
    rfl
  · rw [(h c).2.2.1]
    funext j
    show (Cert.ProjKReferenceIdeal.Read.cols (m' (c.tc.loc Cert.ProjKReferenceIdeal.main_arg0)) (m' (c.tc.loc Cert.ProjKReferenceIdeal.main_arg1)) j : EReal)
      = Cert.ProjKIdeal.KeyValue.G m c j
    rw [hG]

end Cert.Proof

end
-- ==== Proof.ProjVValue.lean ====
/- The value of the projection to the attention's values (`ProjVIdeal`): every grid point leaves, in its blocks of the results, the product of its
   rows with the weights held in the scratch, which were loaded and transposed at the first point; one result is written a lane tile at a time, each transposed. -/
module

public import proofs.«01_k».proof.Defs
public import proofs.«01_k».proof.Proof.Gen.ProjVIdeal.Frame
public import proofs.«01_k».proof.Proof.Gen.ProjVReferenceIdeal.Run
public import Idealize.ShloMosaic.Lib.Pipeline.Value
public import Idealize.ShloMosaic.Lib.Pipeline.ValueKit.Tiles
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.ProjVIdeal.ProjVal

open Cert.ProjVIdeal Cert.ProjVIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

/-- At the first point the scratch is left at the transposed weights. -/
theorem scratch_A (c : Dev nD) (i : grid0.Coords) (a1 h1 a2 h2 a3 h3 a4 h4 a5 h5) (hc : cond0_0 i) (x0 : Vec F S512x2048 .bf16)
    (x1 : Vec F S1x1024x2048 .f32) :
    sout0_A_0 c i a1 h1 a2 h2 a3 h3 a4 h4 a5 h5 hc x0 x1 = k0_pay2 x1 := by
  unfold sout0_A_0
  rw [View.read_writes_eq_canon _ _ _ (scover0_A_0 c i a1 h1 a2 h2 a3 h3 a4 h4 a5 h5 hc x0 x1)]
  unfold kernelRun0_A
  dsimp only
  sl_unfold_words
  rw [View.canon_unit_zero hz2]
  simp only [View.readAt_eq_ld, Memref.IsWhole.read_unread, View.ld_unit_zero (S := S512x2048) hz2,
    View.ld_unit_zero (S := S2048x1024) hz2, View.ld_unit_zero (S := S1x1024x2048) hz3]

/-- What the first point leaves in its block of result 0. -/
theorem out2_A (c : Dev nD) (i : grid0.Coords) (a1 h1 a2 h2 a3 h3 a4 h4 a5 h5) (hc : cond0_0 i) (x0 : Vec F S512x2048 .bf16)
    (x1 : Vec F S1x1024x2048 .f32) :
    out0_A_2 c i a1 h1 a2 h2 a3 h3 a4 h4 a5 h5 hc x0 x1 = k0_pay3 x0 (k0_pay2 x1) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz2, View.readCov_unit_zero _ hz2]
  simp only [View.readAt_eq_ld, Memref.IsWhole.read_unread, View.ld_unit_zero (S := S512x2048) hz2,
    View.ld_unit_zero (S := S2048x1024) hz2, View.ld_unit_zero (S := S1x1024x2048) hz3]

/-- What every other point leaves in its block of result 0, over what the scratch holds. -/
theorem out2_B (c : Dev nD) (i : grid0.Coords) (a1 h1 a2 h2 a3 h3 a4 h4 a5 h5) (hc : ¬cond0_0 i) (x0 : Vec F S512x2048 .bf16)
    (x1 : Vec F S1x1024x2048 .f32)
    (xs : Vec F S2048x1024 .bf16) : out0_B_2 c i a1 h1 a2 h2 a3 h3 a4 h4 a5 h5 hc x0 x1 xs = k0_pay3 x0 xs := by
  unfold out0_B_2
  rw [View.read_writes_eq_canon _ _ _ (cover0_B_2 c i a1 h1 a2 h2 a3 h3 a4 h4 a5 h5 hc x0 x1 xs)]
  unfold kernelRun0_B
  dsimp only
  sl_unfold_words
  rw [View.canon_unit_zero hz2]
  simp only [View.readAt_eq_ld, Memref.IsWhole.read_unread, View.ld_unit_zero (S := S512x2048) hz2,
    View.ld_unit_zero (S := S2048x1024) hz2, View.ld_unit_zero (S := S1x1024x2048) hz3]

/-- The lane tiles of a block of values, each transposed. -/
def tiles (R : FVec Ideal S512x1024 .f32) : Vec Ideal S4x8x128x128 .bf16 := fun i =>
  (R (ix2 ⟨128 * (i 0).val + (i 3).val, by have h0 : (i 0).val < 4 := (i 0).isLt; have h3 : (i 3).val < 128 := (i 3).isLt; omega⟩
    ⟨128 * (i 1).val + (i 2).val, by have h1 : (i 1).val < 8 := (i 1).isLt; have h2 : (i 2).val < 128 := (i 2).isLt; omega⟩) : EReal)

/-- One stored tile, read at an index. -/
theorem tile_apply (R : FVec Ideal S512x1024 .f32) (o p : ℕ) (h : Shape.Slices S512x1024 ![o, p] S128x128) (h' : Shape.Transposes S128x128 [1, 0] S128x128)
    (hb : FTy.bits .bf16 < FTy.bits .f32) (hs : Shape.ShapeCasts S128x128 S1x1x128x128) (x0 x1 : Fin 1) (a b : Fin 128) (r : Fin 512) (j : Fin 1024)
    (hr : r.val = o + b.val) (hj : j.val = p + a.val) :
    (shapeCast S1x1x128x128 (truncf .bf16 (transpose S128x128 [1, 0] (extractStridedSlice S128x128 ![o, p] R h) h') hb) hs (ix4 x0 x1 a b) : EReal)
      = R (ix2 r j) := by
  obtain rfl : x0 = 0 := Subsingleton.elim _ _
  obtain rfl : x1 = 0 := Subsingleton.elim _ _
  pointwise
  exact congrArg R (congrArg₂ ix2 (Fin.ext hr.symm) (Fin.ext hj.symm))

/-- What a point of case A leaves in its block of result 1. -/
theorem out3_A (c : Dev nD) (i : grid0.Coords) (a1 h1 a2 h2 a3 h3 a4 h4 a5 h5) (hc : cond0_0 i) (x0 : Vec Ideal S512x2048 .bf16)
    (x1 : Vec Ideal S1x1024x2048 .f32) :
    out0_A_3 c i a1 h1 a2 h2 a3 h3 a4 h4 a5 h5 hc x0 x1 = tiles (k0_pay3 x0 (k0_pay2 x1)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.readCov_unit_zero _ hz2]
  simp only [View.readAt_eq_ld, Memref.IsWhole.read_unread, View.ld_unit_zero (S := S512x2048) hz2,
    View.ld_unit_zero (S := S2048x1024) hz2, View.ld_unit_zero (S := S1x1024x2048) hz3]
  funext y
  unfold tiles
  idx_vars y
  canon_tiles t h
  all_goals
    open_payloads
    idx_vars t
    refine tile_apply _ _ _ (by decide) (by decide) (by decide) (by decide) _ _ _ _ _ _ ?_ ?_ <;> (dsimp only; omega)

/-- What a point of case B leaves in its block of result 1. -/
theorem out3_B (c : Dev nD) (i : grid0.Coords) (a1 h1 a2 h2 a3 h3 a4 h4 a5 h5) (hc : ¬cond0_0 i) (x0 : Vec Ideal S512x2048 .bf16)
    (x1 : Vec Ideal S1x1024x2048 .f32)
    (xs : Vec Ideal S2048x1024 .bf16) :
    out0_B_3 c i a1 h1 a2 h2 a3 h3 a4 h4 a5 h5 hc x0 x1 xs = tiles (k0_pay3 x0 xs) := by
  unfold out0_B_3
  rw [View.read_writes_eq_canon _ _ _ (cover0_B_3 c i a1 h1 a2 h2 a3 h3 a4 h4 a5 h5 hc x0 x1 xs)]
  unfold kernelRun0_B
  dsimp only
  sl_unfold_words
  simp only [View.readAt_eq_ld, Memref.IsWhole.read_unread, View.ld_unit_zero (S := S512x2048) hz2,
    View.ld_unit_zero (S := S2048x1024) hz2, View.ld_unit_zero (S := S1x1024x2048) hz3]
  funext y
  unfold tiles
  idx_vars y
  canon_tiles t h
  all_goals
    open_payloads
    idx_vars t
    refine tile_apply _ _ _ (by decide) (by decide) (by decide) (by decide) _ _ _ _ _ _ ?_ ?_ <;> (dsimp only; omega)

/-! ## The blocks the windows read -/

/-- The block indices of the windows at a point. -/
theorem idx_facts : ∀ t : Fin cfg0.N, win0_0.index t (0 : Fin 2) = t.val ∧ win0_0.index t (1 : Fin 2) = 0
    ∧ win0_1.index t (0 : Fin 3) = 1 ∧ win0_1.index t (1 : Fin 3) = 2 ∧ win0_1.index t (2 : Fin 3) = 0
    ∧ win0_2.index t (0 : Fin 2) = t.val ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem lt19 (t : Fin cfg0.N) : t.val < 19 := lt_of_lt_of_eq t.isLt N_0

/-- The activations' block at a point: its 512 rows. -/
theorem iblk_x (c : Dev nD) (t : Fin cfg0.N) (r : Fin 512) (k : Fin 2048) :
    (iblk m c 0 t : Vec F S512x2048 .bf16) (ix2 r k)
      = (m ((c : Thread nD τ).loc main_arg0) : Vec F S9728x2048 .bf16) (ix2 ⟨512 * t.val + r.val, by have := lt19 t; omega⟩ k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [e0]; omega
  | ⟨1, _⟩ => show win0_0.index t 1 * 2048 + 1 * k.val = k.val; rw [e1]; omega

/-- The weights the region finds: the argument, its two last axes exchanged. -/
theorem V_w (c : Dev nD) : V m c main_v0
    = transpose S2x9296x2048 [0, 2, 1] (m ((c : Thread nD τ).loc main_arg1) : Vec F S2x2048x9296 .f32)
        transposes_S2x2048x9296_S2x9296x2048_0_2_1 := by
  show StableHlo.after hostOps0 (fun b => m (c, b)) (Proc.devRef .tc main_v0) = _
  after_results <;> rfl

/-- The weights' block at a point, element by element, in the argument's own order of axes. -/
theorem blk_w (c : Dev nD) (t : Fin cfg0.N) (j : Fin 1024) (k : Fin 2048) :
    (X0_1 m c t : Vec F S1x1024x2048 .f32) (ix3 0 j k)
      = (m ((c : Thread nD τ).loc main_arg1) : Vec F S2x2048x9296 .f32) (ix3 1 k ⟨2048 + j.val, by omega⟩) := by
  obtain ⟨-, -, e0, e1, e2, -⟩ := idx_facts t
  unfold X0_1 Pipeline.Window.fill
  rw [dif_pos (moved0_1 t _)]
  unfold iblk
  rw [View.read_apply]
  show V m c main_v0 _ = m (c.tc.loc main_arg1) _
  rw [V_w]
  refine transpose_apply _ _ _ _ _ fun a => ?_
  match a with
  | ⟨0, _⟩ => show 1 = win0_1.index t 0 * 1 + 1 * 0; rw [e0]
  | ⟨1, _⟩ => show 2048 + j.val = win0_1.index t 1 * 1024 + 1 * j.val; rw [e1]; omega
  | ⟨2, _⟩ => show k.val = win0_1.index t 2 * 2048 + 1 * k.val; rw [e2]; omega

/-- The weights' block does not move. -/
theorem blk_w_eq (c : Dev nD) (t s : Fin cfg0.N) : (X0_1 m c t : Vec F S1x1024x2048 .f32) = X0_1 m c s := by
  funext y
  idx_vars y
  obtain rfl : y0 = 0 := Subsingleton.elim _ _
  rw [blk_w, blk_w]

/-! ## The scratch and the outputs after every point -/

/-- The scratch after a point: the transposed weights. -/
theorem scratch_eq (c : Dev nD) : ∀ (n : ℕ) (t : Fin cfg0.N), t.val = n →
    (outsAt0 m c t.val t.isLt).2.2 = k0_pay2 (X0_1 m c t) := by
  intro n
  induction n with
  | zero =>
    intro t ht
    rw [outsAt0_A m c t (by omega)]
    dsimp only
    rw [scratch_A]
  | succ n ih =>
    intro t ht
    by_cases h0 : t.val % 19 = 0
    · rw [outsAt0_A m c t h0]
      dsimp only
      rw [scratch_A]
    · rw [outsAt0_B m c t h0]
      dsimp only [sout0_B_0]
      rw [ih ⟨t.val - 1, by omega⟩ (by dsimp only; omega), blk_w_eq m c ⟨t.val - 1, by omega⟩ t]

/-- Result 0's block after a point. -/
theorem out2_eq (c : Dev nD) (t : Fin cfg0.N) :
    (outsAt0 m c t.val t.isLt).1 = k0_pay3 (iblk m c 0 t) (k0_pay2 (X0_1 m c t)) := by
  by_cases h0 : t.val % 19 = 0
  · rw [outsAt0_A m c t h0]
    dsimp only
    rw [out2_A]
  · rw [outsAt0_B m c t h0]
    dsimp only
    rw [out2_B, scratch_eq m c _ ⟨t.val - 1, by omega⟩ rfl, blk_w_eq m c ⟨t.val - 1, by omega⟩ t]

/-- Result 1's block after a point. -/
theorem out3_eq (m : (ℓ : Loc nD τ sig) → Buf (Elt Ideal) ℓ) (c : Dev nD) (t : Fin cfg0.N) :
    (outsAt0 m c t.val t.isLt).2.1 = tiles (k0_pay3 (iblk m c 0 t) (k0_pay2 (X0_1 m c t))) := by
  by_cases h0 : t.val % 19 = 0
  · rw [outsAt0_A m c t h0]
    dsimp only
    rw [out3_A]
  · rw [outsAt0_B m c t h0]
    dsimp only
    rw [out3_B, scratch_eq m c _ ⟨t.val - 1, by omega⟩ rfl, blk_w_eq m c ⟨t.val - 1, by omega⟩ t]

/-! ## The result arrays -/

/-- The product of the activations with the projection's columns of the weights. -/
def cols (x : Vec Ideal S9728x2048 .bf16) (w : Vec Ideal S2x2048x9296 .f32) (r : Fin 9728) (j : Fin 1024) : EReal :=
  (∑ k : Fin 2048, x (ix2 r k) * w (ix3 1 k ⟨2048 + j.val, by omega⟩))

/-- The product at every row and column: what all the results are made of. -/
def G (m : (ℓ : Loc nD τ sig) → Buf (Elt Ideal) ℓ) (c : Dev nD) : Vec Ideal S9728x1024 .f32 := fun i =>
  cols (m ((c : Thread nD τ).loc main_arg0)) (m ((c : Thread nD τ).loc main_arg1)) (i 0) (i 1)

/-- What result 1 ends holding: the values, a lane tile at a time, each transposed. -/
def G3 (m : (ℓ : Loc nD τ sig) → Buf (Elt Ideal) ℓ) (c : Dev nD) : Vec Ideal S76x8x128x128 .bf16 := fun i =>
  (G m c (ix2 (⟨128 * (i 0).val + (i 3).val, by have h0 : (i 0).val < 76 := (i 0).isLt; have h3 : (i 3).val < 128 := (i 3).isLt; omega⟩ : Fin 9728)
    (⟨128 * (i 1).val + (i 2).val, by have h1 : (i 1).val < 8 := (i 1).isLt; have h2 : (i 2).val < 128 := (i 2).isLt; omega⟩ : Fin 1024)) : EReal)

/-- The product of a block of rows with the transposed weights, read at an index. -/
theorem pay_apply (x : Vec Ideal S512x2048 .bf16) (w : Vec Ideal S1x1024x2048 .f32) (r : Fin 512) (j : Fin 1024) :
    k0_pay3 x (k0_pay2 w) (ix2 r j) = (∑ k : Fin 2048, x (ix2 r k) * w (ix3 0 j k)) := by
  unfold_payloads
  pointwise

/-- A point's value is the value of `G` at its row. -/
theorem value_eq (m : (ℓ : Loc nD τ sig) → Buf (Elt Ideal) ℓ) (c : Dev nD) (t : Fin cfg0.N) (r : Fin 512) (j : Fin 1024)
    (i : S9728x1024.Idx) (h0 : (i 0).val = t.val * 512 + r.val) (h1 : (i 1).val = j.val) :
    k0_pay3 (iblk m c 0 t) (k0_pay2 (X0_1 m c t)) (ix2 r j) = G m c i := by
  have hi0 : i 0 = (⟨512 * t.val + r.val, by have := lt19 t; omega⟩ : Fin 9728) := Fin.ext (by rw [h0]; dsimp only; omega)
  have hi1 : i 1 = j := Fin.ext h1
  rw [pay_apply]
  unfold G
  rw [hi0, hi1]
  unfold cols
  simp only [iblk_x, blk_w]

/-- Every point writes back its block of `G`. -/
theorem flushed2_eq (m : (ℓ : Loc nD τ sig) → Buf (Elt Ideal) ℓ) (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2, out2_eq]
  obtain ⟨-, -, -, -, -, e0, e1, -⟩ := idx_facts t
  funext y
  have hy0 : (y 0).val < 512 := (y 0).isLt
  have hy1 : (y 1).val < 1024 := (y 1).isLt
  have hb0 : (((cfg0.win 2).blk t).view.emb y 0).val = win0_2.index t (0 : Fin 2) * 512 + 1 * (y 0).val := rfl
  rw [e0] at hb0
  have hb1 : (((cfg0.win 2).blk t).view.emb y 1).val = win0_2.index t (1 : Fin 2) * 1024 + 1 * (y 1).val := rfl
  rw [e1] at hb1
  show (k0_pay3 (iblk m c 0 t) (k0_pay2 (X0_1 m c t))) ((cfg0.win 2).xinj (grid0.coords t) y)
    = G m c (((cfg0.win 2).blk t).view.emb y)
  have hl : (cfg0.win 2).xinj (grid0.coords t) y = ix2 (⟨(y 0).val, hy0⟩ : Fin 512) (⟨(y 1).val, hy1⟩ : Fin 1024) := by
    funext a
    match a with
    | ⟨0, _⟩ => rfl
    | ⟨1, _⟩ => rfl
  rw [hl]
  exact value_eq m c t (⟨(y 0).val, hy0⟩ : Fin 512) (⟨(y 1).val, hy1⟩ : Fin 1024) _ (by rw [hb0]; dsimp only; omega) (by rw [hb1]; dsimp only; omega)

/-- An index of the array is in a point's block iff each coordinate is in the block's range. -/
theorem mem_blk2 (t : Fin cfg0.N) (i : S9728x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1_0).slice (win0_2.rect t)).set ↔ _
  rw [View.set_slice_whole, Rect.mem_set_unit]
  exact Iff.rfl

/-- The result array after the region. -/
theorem final2 (m : (ℓ : Loc nD τ sig) → Buf (Elt Ideal) ℓ) (c : Dev nD) : (dats m 0 c).arrAt 2 cfg0.N = G m c :=
  (dats m 0 c).arrAt_eq_of_cover 2 _ (fun t _ => flushed2_eq m c t) fun i => by
    have h0 : (i 0).val < 9728 := (i 0).isLt
    have h1 : (i 1).val < 1024 := (i 1).isLt
    have hN : (i 0).val / 512 < cfg0.N := lt_of_lt_of_eq (by omega) N_0.symm
    refine ⟨⟨_, hN⟩, flush0_2 _, ?_⟩
    obtain ⟨-, -, -, -, -, e0, e1, -⟩ := idx_facts ⟨_, hN⟩
    dsimp only at e0 e1
    rw [mem_blk2]
    intro a
    match a with
    | ⟨0, _⟩ =>
      show win0_2.index _ (0 : Fin 2) * 512 ≤ (i 0).val ∧ (i 0).val < win0_2.index _ (0 : Fin 2) * 512 + 512
      rw [e0]; omega
    | ⟨1, _⟩ =>
      show win0_2.index _ (1 : Fin 2) * 1024 ≤ (i 1).val ∧ (i 1).val < win0_2.index _ (1 : Fin 2) * 1024 + 1024
      rw [e1]; omega

/-- Every point writes back its block of `G3`. -/
theorem flushed3_eq (m : (ℓ : Loc nD τ sig) → Buf (Elt Ideal) ℓ) (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, out3_eq]
  obtain ⟨-, -, -, -, -, -, -, e0, e1, e2, e3⟩ := idx_facts t
  funext y
  have hy0 : (y 0).val < 4 := (y 0).isLt
  have hy1 : (y 1).val < 8 := (y 1).isLt
  have hy2 : (y 2).val < 128 := (y 2).isLt
  have hy3 : (y 3).val < 128 := (y 3).isLt
  have hb0 : (((cfg0.win 3).blk t).view.emb y 0).val = win0_3.index t (0 : Fin 4) * 4 + 1 * (y 0).val := rfl
  rw [e0] at hb0
  have hb1 : (((cfg0.win 3).blk t).view.emb y 1).val = win0_3.index t (1 : Fin 4) * 8 + 1 * (y 1).val := rfl
  rw [e1] at hb1
  have hb2 : (((cfg0.win 3).blk t).view.emb y 2).val = win0_3.index t (2 : Fin 4) * 128 + 1 * (y 2).val := rfl
  rw [e2] at hb2
  have hb3 : (((cfg0.win 3).blk t).view.emb y 3).val = win0_3.index t (3 : Fin 4) * 128 + 1 * (y 3).val := rfl
  rw [e3] at hb3
  show (tiles (k0_pay3 (iblk m c 0 t) (k0_pay2 (X0_1 m c t)))) ((cfg0.win 3).xinj (grid0.coords t) y)
    = G3 m c (((cfg0.win 3).blk t).view.emb y)
  have hl : (cfg0.win 3).xinj (grid0.coords t) y = ix4 (⟨(y 0).val, hy0⟩ : Fin 4) (⟨(y 1).val, hy1⟩ : Fin 8) (⟨(y 2).val, hy2⟩ : Fin 128) (⟨(y 3).val, hy3⟩ : Fin 128) := by
    funext a
    match a with
    | ⟨0, _⟩ => rfl
    | ⟨1, _⟩ => rfl
    | ⟨2, _⟩ => rfl
    | ⟨3, _⟩ => rfl
  rw [hl]
  exact value_eq m c t (⟨128 * (y 0).val + (y 3).val, by omega⟩ : Fin 512) (⟨128 * (y 1).val + (y 2).val, by omega⟩ : Fin 1024) _
    (by show 128 * (((cfg0.win 3).blk t).view.emb y 0).val + (((cfg0.win 3).blk t).view.emb y 3).val = _; rw [hb0, hb3]; dsimp only; omega)
    (by show 128 * (((cfg0.win 3).blk t).view.emb y 1).val + (((cfg0.win 3).blk t).view.emb y 2).val = _; rw [hb1, hb2]; dsimp only; omega)

/-- An index of the array is in a point's block iff each coordinate is in the block's range. -/
theorem mem_blk3 (t : Fin cfg0.N) (i : S76x8x128x128.Idx) :
    i ∈ ((cfg0.win 3).blk t).view.set ↔ ∀ a : Fin 4, win0_3.index t a * S4x8x128x128.size a ≤ (i a).val
      ∧ (i a).val < win0_3.index t a * S4x8x128x128.size a + S4x8x128x128.size a := by
  show i ∈ ((View.whole main_v1_1).slice (win0_3.rect t)).set ↔ _
  rw [View.set_slice_whole, Rect.mem_set_unit]
  exact Iff.rfl

/-- The result array after the region. -/
theorem final3 (m : (ℓ : Loc nD τ sig) → Buf (Elt Ideal) ℓ) (c : Dev nD) : (dats m 0 c).arrAt 3 cfg0.N = G3 m c :=
  (dats m 0 c).arrAt_eq_of_cover 3 _ (fun t _ => flushed3_eq m c t) fun i => by
    have h0 : (i 0).val < 76 := (i 0).isLt
    have h1 : (i 1).val < 8 := (i 1).isLt
    have h2 : (i 2).val < 128 := (i 2).isLt
    have h3 : (i 3).val < 128 := (i 3).isLt
    have hN : (i 0).val / 4 < cfg0.N := lt_of_lt_of_eq (by omega) N_0.symm
    refine ⟨⟨_, hN⟩, flush0_3 _, ?_⟩
    obtain ⟨-, -, -, -, -, -, -, e0, e1, e2, e3⟩ := idx_facts ⟨_, hN⟩
    dsimp only at e0 e1 e2 e3
    rw [mem_blk3]
    intro a
    match a with
    | ⟨0, _⟩ =>
      show win0_3.index _ (0 : Fin 4) * 4 ≤ (i 0).val ∧ (i 0).val < win0_3.index _ (0 : Fin 4) * 4 + 4
      rw [e0]; omega
    | ⟨1, _⟩ =>
      show win0_3.index _ (1 : Fin 4) * 8 ≤ (i 1).val ∧ (i 1).val < win0_3.index _ (1 : Fin 4) * 8 + 8
      rw [e1]; omega
    | ⟨2, _⟩ =>
      show win0_3.index _ (2 : Fin 4) * 128 ≤ (i 2).val ∧ (i 2).val < win0_3.index _ (2 : Fin 4) * 128 + 128
      rw [e2]; omega
    | ⟨3, _⟩ =>
      show win0_3.index _ (3 : Fin 4) * 128 ≤ (i 3).val ∧ (i 3).val < win0_3.index _ (3 : Fin 4) * 128 + 128
      rw [e3]; omega

/-! ## The host code after the region -/

/-- The prompts' rows of an array, without the padding, the columns split by head. -/
def promptPart (P : Vec Ideal S9728x1024 .f32) : Vec Ideal S2x4112x8x128 .f32 :=
  shapeCast S2x4112x8x128 (extractStridedSlice S2x4112x1024 ![0, 240, 0] (shapeCast S2x4352x1024 (extractStridedSlice S8704x1024 ![0, 0] P slices_S9728x1024_S8704x1024_0_0) shapeCasts_S8704x1024_S2x4352x1024) slices_S2x4352x1024_S2x4112x1024_0_240_0) shapeCasts_S2x4112x1024_S2x4112x8x128

/-- The samples' rows of an array, the columns split by head. -/
def samplePart (P : Vec Ideal S9728x1024 .f32) : Vec Ideal S16x64x8x128 .f32 :=
  shapeCast S16x64x8x128 (extractStridedSlice S1024x1024 ![8704, 0] P slices_S9728x1024_S1024x1024_8704_0) shapeCasts_S1024x1024_S16x64x8x128

theorem arr_inj : Function.Injective (Pipeline.arrRef spec0) := by
  intro a b h
  revert a b
  decide

/-- What the first result array holds when the host code after the region starts. -/
theorem tail_arr (m : (ℓ : Loc nD τ sig) → Buf (Elt Ideal) ℓ) (c : Dev nD) :
    Pipeline.withArrays spec0 c (V0 m c) (fun w => (dats m 0 c).arrAt w cfg0.N) (Proc.devRef .tc main_v1_0) = G m c :=
  (Pipeline.withArrays_arr spec0 arr_inj c (V0 m c) (fun w => (dats m 0 c).arrAt w cfg0.N) 2).trans (final2 m c)

/-- The prompts' rows after the host code. -/
theorem tail_prompt (m : (ℓ : Loc nD τ sig) → Buf (Elt Ideal) ℓ) (c : Dev nD) :
    Pipeline.afterTail₀ cfgs (dats m) 0 (V0 m) [hostOps1] c main_v5 = promptPart (G m c) := by
  unfold promptPart
  rw [← tail_arr m c]
  show StableHlo.after hostOps1 (Pipeline.withArrays spec0 c (V0 m c) fun w => (dats m 0 c).arrAt w cfg0.N) (Proc.devRef .tc main_v5) = _
  generalize Pipeline.withArrays spec0 c (V0 m c) (fun w => (dats m 0 c).arrAt w cfg0.N) = W
  after_results <;> rfl

/-- The samples' rows after the host code. -/
theorem tail_sample (m : (ℓ : Loc nD τ sig) → Buf (Elt Ideal) ℓ) (c : Dev nD) :
    Pipeline.afterTail₀ cfgs (dats m) 0 (V0 m) [hostOps1] c main_v7 = samplePart (G m c) := by
  unfold samplePart
  rw [← tail_arr m c]
  show StableHlo.after hostOps1 (Pipeline.withArrays spec0 c (V0 m c) fun w => (dats m 0 c).arrAt w cfg0.N) (Proc.devRef .tc main_v7) = _
  generalize Pipeline.withArrays spec0 c (V0 m c) (fun w => (dats m 0 c).arrAt w cfg0.N) = W
  after_results <;> rfl

/-- The run: the results are the projection's values in their places, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = promptPart (G m c)
      ∧ r.2.mem ((c : Thread nD τ).loc main_v7) = samplePart (G m c)
      ∧ r.2.mem ((c : Thread nD τ).loc main_v1_1) = G3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v5 (Pipeline.mem_restRefs_of main_v5 (by decide) (by decide))).trans (tail_prompt m c),
      ((h c).2 main_v7 (Pipeline.mem_restRefs_of main_v7 (by decide) (by decide))).trans (tail_sample m c),
      ((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.ProjVIdeal.ProjVal

namespace Cert.ProjVReferenceIdeal.Read

open Cert.ProjVReferenceIdeal Cert.ProjVReferenceIdeal.Gen Idealize.ShloMosaic

/-- The reference's values: its product, cut to the projection's columns. -/
def vals (x : Vec Ideal S9728x2048 .bf16) (w : Vec Ideal S2x2048x9296 .f32) : FVec Ideal S9728x1024 .f32 :=
  extractStridedSlice S9728x1024 ![0, 2048] (Host.dotGeneral dot_S9728x2048_S2048x9296_S9728x9296_1_0_0_1_n_n none (extf .f32 x bitsLt_bf16_f32) (shapeCast S2048x9296 (extractStridedSlice S1x2048x9296 ![1, 0, 0] w slices_S2x2048x9296_S1x2048x9296_1_0_0) shapeCasts_S1x2048x9296_S2048x9296 : FVec Ideal S2048x9296 .f32)) slices_S9728x9296_S9728x1024_0_2048

theorem vals_apply (x : Vec Ideal S9728x2048 .bf16) (w : Vec Ideal S2x2048x9296 .f32) (r : Fin 9728) (j : Fin 1024) :
    vals x w (ix2 r j) = Cert.ProjVIdeal.ProjVal.cols x w r j := by
  unfold vals Cert.ProjVIdeal.ProjVal.cols
  pointwise

/-- The prompts' rows, cut before or after the split of the columns by head. -/
theorem prompt_apply (P : FVec Ideal S9728x1024 .f32) :
    extractStridedSlice S2x4112x8x128 ![0, 240, 0, 0] (shapeCast S2x4352x8x128 (extractStridedSlice S8704x1024 ![0, 0] P slices_S9728x1024_S8704x1024_0_0) shapeCasts_S8704x1024_S2x4352x8x128 : FVec Ideal S2x4352x8x128 .f32) slices_S2x4352x8x128_S2x4112x8x128_0_240_0_0
      = Cert.ProjVIdeal.ProjVal.promptPart P := by
  unfold Cert.ProjVIdeal.ProjVal.promptPart
  funext j
  idx_vars j
  pointwise

/-- The reference's transposed values, read at an index. -/
theorem tiles_apply (P : FVec Ideal S9728x1024 .f32) (r : Fin 76) (c : Fin 8) (a b : Fin 128) :
    (truncf .bf16 (transpose S76x8x128x128 [0, 2, 3, 1] (shapeCast S76x128x8x128 P shapeCasts_S9728x1024_S76x128x8x128 : FVec Ideal S76x128x8x128 .f32) transposes_S76x128x8x128_S76x8x128x128_0_2_3_1) bitsLt_bf16_f32 (ix4 r c a b) : EReal)
      = P (ix2 ⟨128 * r.val + b.val, by omega⟩ ⟨128 * c.val + a.val, by omega⟩) := by
  pointwise
  exact congrArg P (congrArg₂ ix2 (Fin.ext (by dsimp only; omega)) (Fin.ext (by dsimp only; omega)))

end Cert.ProjVReferenceIdeal.Read

namespace Cert.Proof

open Idealize.ShloMosaic Idealize.SL.Sem

theorem quiescent_ProjVReferenceIdeal : quiescent_ProjVReferenceIdeal := fun m ρ _ =>
  (θ_run Cert.ProjVReferenceIdeal.defs _ _).mono
    (fun r h => ⟨fun c => (h c).2.2.2, sem_eq_zero_of_no_sems (by decide) r.2⟩)
    (Cert.ProjVReferenceIdeal.Value.run (F := Ideal) m ρ)

theorem algebraic_ProjVIdeal_ProjVReferenceIdeal : algebraic_ProjVIdeal_ProjVReferenceIdeal := by
  intro m ρ m' ρ' _ hagree
  refine ⟨_, _, _, Cert.ProjVIdeal.ProjVal.run m ρ, ?_⟩
  refine (θ_run Cert.ProjVReferenceIdeal.defs _ _).mono (fun _ h c => ⟨?_, ?_, ?_, (h c).2.2.2⟩)
    (Cert.ProjVReferenceIdeal.Value.run (F := Ideal) m' ρ')
  all_goals
    have hG : Cert.ProjVReferenceIdeal.Read.vals (m' (c.tc.loc Cert.ProjVReferenceIdeal.main_arg0)) (m' (c.tc.loc Cert.ProjVReferenceIdeal.main_arg1))
        = Cert.ProjVIdeal.ProjVal.G m c := by
      rw [(hagree c).1, (hagree c).2]
      funext j
      idx_vars j
      exact Cert.ProjVReferenceIdeal.Read.vals_apply _ _ _ _
  · rw [(h c).1]
    rw [← hG]
    exact Cert.ProjVReferenceIdeal.Read.prompt_apply _
  · rw [(h c).2.1]
    rw [← hG]
    rfl
  · rw [(h c).2.2.1]
    funext j
    idx_vars j
    refine (Cert.ProjVReferenceIdeal.Read.tiles_apply _ _ _ _ _).trans ?_
    show (Cert.ProjVReferenceIdeal.Read.vals (m' (c.tc.loc Cert.ProjVReferenceIdeal.main_arg0)) (m' (c.tc.loc Cert.ProjVReferenceIdeal.main_arg1)) _ : EReal) = Cert.ProjVIdeal.ProjVal.G m c _
    rw [hG]
    rfl

end Cert.Proof

end
-- ==== Proof.ProjIdxValue.lean ====
/- The value of the projection to the indexer's keys and head weights (`ProjIdxIdeal`): every grid point leaves, in its blocks of the results, the product of its
   rows with the weights held in the scratch, which were loaded and transposed at the first point; one result is written a lane tile at a time, each transposed. -/
module

public import proofs.«01_k».proof.Defs
public import proofs.«01_k».proof.Proof.Gen.ProjIdxIdeal.Frame
public import proofs.«01_k».proof.Proof.Gen.ProjIdxReferenceIdeal.Run
public import Idealize.ShloMosaic.Lib.Pipeline.Value
public import Idealize.ShloMosaic.Lib.Pipeline.ValueKit.Tiles
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.ProjIdxIdeal.IndexKeyValue

open Cert.ProjIdxIdeal Cert.ProjIdxIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

/-- At the first point the scratch is left at the transposed weights. -/
theorem scratch_A (c : Dev nD) (i : grid0.Coords) (a1 h1 a2 h2 a3 h3 a4 h4 a5 h5 a6 h6) (hc : cond0_0 i) (x0 : Vec F S512x2048 .bf16)
    (x1 : Vec F S1x128x2048 .f32) :
    sout0_A_0 c i a1 h1 a2 h2 a3 h3 a4 h4 a5 h5 a6 h6 hc x0 x1 = k0_pay2 x1 := by
  unfold sout0_A_0
  rw [View.read_writes_eq_canon _ _ _ (scover0_A_0 c i a1 h1 a2 h2 a3 h3 a4 h4 a5 h5 a6 h6 hc x0 x1)]
  unfold kernelRun0_A
  dsimp only
  sl_unfold_words
  rw [View.canon_unit_zero hz2]
  simp only [View.readAt_eq_ld, Memref.IsWhole.read_unread, View.ld_unit_zero (S := S512x2048) hz2,
    View.ld_unit_zero (S := S2048x128) hz2, View.ld_unit_zero (S := S1x128x2048) hz3]

/-- What the first point leaves in its block of result 0. -/
theorem out2_A (c : Dev nD) (i : grid0.Coords) (a1 h1 a2 h2 a3 h3 a4 h4 a5 h5 a6 h6) (hc : cond0_0 i) (x0 : Vec F S512x2048 .bf16)
    (x1 : Vec F S1x128x2048 .f32) :
    out0_A_2 c i a1 h1 a2 h2 a3 h3 a4 h4 a5 h5 a6 h6 hc x0 x1 = k0_pay3 x0 (k0_pay2 x1) := by
  unfold out0_A_2
  rw [View.read_writes_eq_canon _ _ _ (cover0_A_2 c i a1 h1 a2 h2 a3 h3 a4 h4 a5 h5 a6 h6 hc x0 x1)]
  unfold kernelRun0_A
  dsimp only
  sl_unfold_words
  rw [View.canon_unit_zero hz2, View.readCov_unit_zero _ hz2]
  simp only [View.readAt_eq_ld, Memref.IsWhole.read_unread, View.ld_unit_zero (S := S512x2048) hz2,
    View.ld_unit_zero (S := S2048x128) hz2, View.ld_unit_zero (S := S1x128x2048) hz3]

/-- What every other point leaves in its block of result 0, over what the scratch holds. -/
theorem out2_B (c : Dev nD) (i : grid0.Coords) (a1 h1 a2 h2 a3 h3 a4 h4 a5 h5 a6 h6) (hc : ¬cond0_0 i) (x0 : Vec F S512x2048 .bf16)
    (x1 : Vec F S1x128x2048 .f32)
    (xs : Vec F S2048x128 .bf16) : out0_B_2 c i a1 h1 a2 h2 a3 h3 a4 h4 a5 h5 a6 h6 hc x0 x1 xs = k0_pay3 x0 xs := by
  unfold out0_B_2
  rw [View.read_writes_eq_canon _ _ _ (cover0_B_2 c i a1 h1 a2 h2 a3 h3 a4 h4 a5 h5 a6 h6 hc x0 x1 xs)]
  unfold kernelRun0_B
  dsimp only
  sl_unfold_words
  rw [View.canon_unit_zero hz2]
  simp only [View.readAt_eq_ld, Memref.IsWhole.read_unread, View.ld_unit_zero (S := S512x2048) hz2,
    View.ld_unit_zero (S := S2048x128) hz2, View.ld_unit_zero (S := S1x128x2048) hz3]

/-- What the first point leaves in its block of result 1. -/
theorem out3_A (c : Dev nD) (i : grid0.Coords) (a1 h1 a2 h2 a3 h3 a4 h4 a5 h5 a6 h6) (hc : cond0_0 i) (x0 : Vec F S512x2048 .bf16)
    (x1 : Vec F S1x128x2048 .f32) :
    out0_A_3 c i a1 h1 a2 h2 a3 h3 a4 h4 a5 h5 a6 h6 hc x0 x1 = k0_pay4 x0 (k0_pay2 x1) := by
  unfold out0_A_3
  rw [View.read_writes_eq_canon _ _ _ (cover0_A_3 c i a1 h1 a2 h2 a3 h3 a4 h4 a5 h5 a6 h6 hc x0 x1)]
  unfold kernelRun0_A
  dsimp only
  sl_unfold_words
  rw [View.canon_unit_zero hz2, View.readCov_unit_zero _ hz2]
  simp only [View.readAt_eq_ld, Memref.IsWhole.read_unread, View.ld_unit_zero (S := S512x2048) hz2,
    View.ld_unit_zero (S := S2048x128) hz2, View.ld_unit_zero (S := S1x128x2048) hz3]

/-- What every other point leaves in its block of result 1, over what the scratch holds. -/
theorem out3_B (c : Dev nD) (i : grid0.Coords) (a1 h1 a2 h2 a3 h3 a4 h4 a5 h5 a6 h6) (hc : ¬cond0_0 i) (x0 : Vec F S512x2048 .bf16)
    (x1 : Vec F S1x128x2048 .f32)
    (xs : Vec F S2048x128 .bf16) : out0_B_3 c i a1 h1 a2 h2 a3 h3 a4 h4 a5 h5 a6 h6 hc x0 x1 xs = k0_pay4 x0 xs := by
  unfold out0_B_3
  rw [View.read_writes_eq_canon _ _ _ (cover0_B_3 c i a1 h1 a2 h2 a3 h3 a4 h4 a5 h5 a6 h6 hc x0 x1 xs)]
  unfold kernelRun0_B
  dsimp only
  sl_unfold_words
  rw [View.canon_unit_zero hz2]
  simp only [View.readAt_eq_ld, Memref.IsWhole.read_unread, View.ld_unit_zero (S := S512x2048) hz2,
    View.ld_unit_zero (S := S2048x128) hz2, View.ld_unit_zero (S := S1x128x2048) hz3]

/-- The indexer's weights of a block of values, transposed a lane tile at a time. -/
def tiles (R : FVec Ideal S512x128 .f32) : Vec Ideal S4x16x128 .f32 := fun i =>
  (R (ix2 ⟨128 * (i 0).val + (i 2).val, by have h0 : (i 0).val < 4 := (i 0).isLt; have h2 : (i 2).val < 128 := (i 2).isLt; omega⟩
    ⟨64 + (i 1).val, by have h1 : (i 1).val < 16 := (i 1).isLt; omega⟩) : EReal)

/-- One stored tile, read at an index. -/
theorem tile_apply (R : FVec Ideal S512x128 .f32) (o : ℕ) (h : Shape.Slices S512x128 ![o, 0] S128x128) (h' : Shape.Transposes S128x128 [1, 0] S128x128)
    (hb : Shape.Slices S128x128 ![64, 0] S16x128) (hs : Shape.ShapeCasts S16x128 S1x16x128) (x0 : Fin 1) (a : Fin 16) (b : Fin 128) (r : Fin 512) (j : Fin 128)
    (hr : r.val = o + b.val) (hj : j.val = 64 + a.val) :
    (shapeCast S1x16x128 (extractStridedSlice S16x128 ![64, 0] (transpose S128x128 [1, 0] (extractStridedSlice S128x128 ![o, 0] R h) h') hb) hs (ix3 x0 a b) : EReal)
      = R (ix2 r j) := by
  obtain rfl : x0 = 0 := Subsingleton.elim _ _
  pointwise
  exact congrArg R (congrArg₂ ix2 (Fin.ext hr.symm) (Fin.ext hj.symm))

/-- What a point of case A leaves in its block of result 2. -/
theorem out4_A (c : Dev nD) (i : grid0.Coords) (a1 h1 a2 h2 a3 h3 a4 h4 a5 h5 a6 h6) (hc : cond0_0 i) (x0 : Vec Ideal S512x2048 .bf16)
    (x1 : Vec Ideal S1x128x2048 .f32) :
    out0_A_4 c i a1 h1 a2 h2 a3 h3 a4 h4 a5 h5 a6 h6 hc x0 x1 = tiles (k0_pay3 x0 (k0_pay2 x1)) := by
  unfold out0_A_4
  rw [View.read_writes_eq_canon _ _ _ (cover0_A_4 c i a1 h1 a2 h2 a3 h3 a4 h4 a5 h5 a6 h6 hc x0 x1)]
  unfold kernelRun0_A
  dsimp only
  sl_unfold_words
  rw [View.readCov_unit_zero _ hz2]
  simp only [View.readAt_eq_ld, Memref.IsWhole.read_unread, View.ld_unit_zero (S := S512x2048) hz2,
    View.ld_unit_zero (S := S2048x128) hz2, View.ld_unit_zero (S := S1x128x2048) hz3]
  funext y
  unfold tiles
  idx_vars y
  canon_tiles t h
  all_goals
    open_payloads
    idx_vars t
    refine tile_apply _ _ (by decide) (by decide) (by decide) (by decide) _ _ _ _ _ ?_ ?_ <;> (dsimp only; omega)

/-- What a point of case B leaves in its block of result 2. -/
theorem out4_B (c : Dev nD) (i : grid0.Coords) (a1 h1 a2 h2 a3 h3 a4 h4 a5 h5 a6 h6) (hc : ¬cond0_0 i) (x0 : Vec Ideal S512x2048 .bf16)
    (x1 : Vec Ideal S1x128x2048 .f32)
    (xs : Vec Ideal S2048x128 .bf16) :
    out0_B_4 c i a1 h1 a2 h2 a3 h3 a4 h4 a5 h5 a6 h6 hc x0 x1 xs = tiles (k0_pay3 x0 xs) := by
  unfold out0_B_4
  rw [View.read_writes_eq_canon _ _ _ (cover0_B_4 c i a1 h1 a2 h2 a3 h3 a4 h4 a5 h5 a6 h6 hc x0 x1 xs)]
  unfold kernelRun0_B
  dsimp only
  sl_unfold_words
  simp only [View.readAt_eq_ld, Memref.IsWhole.read_unread, View.ld_unit_zero (S := S512x2048) hz2,
    View.ld_unit_zero (S := S2048x128) hz2, View.ld_unit_zero (S := S1x128x2048) hz3]
  funext y
  unfold tiles
  idx_vars y
  canon_tiles t h
  all_goals
    open_payloads
    idx_vars t
    refine tile_apply _ _ (by decide) (by decide) (by decide) (by decide) _ _ _ _ _ ?_ ?_ <;> (dsimp only; omega)

/-! ## The blocks the windows read -/

/-- The block indices of the windows at a point. -/
theorem idx_facts : ∀ t : Fin cfg0.N, win0_0.index t (0 : Fin 2) = t.val ∧ win0_0.index t (1 : Fin 2) = 0
    ∧ win0_1.index t (0 : Fin 3) = 1 ∧ win0_1.index t (1 : Fin 3) = 32 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem lt19 (t : Fin cfg0.N) : t.val < 19 := lt_of_lt_of_eq t.isLt N_0

/-- The activations' block at a point: its 512 rows. -/
theorem iblk_x (c : Dev nD) (t : Fin cfg0.N) (r : Fin 512) (k : Fin 2048) :
    (iblk m c 0 t : Vec F S512x2048 .bf16) (ix2 r k)
      = (m ((c : Thread nD τ).loc main_arg0) : Vec F S9728x2048 .bf16) (ix2 ⟨512 * t.val + r.val, by have := lt19 t; omega⟩ k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [e0]; omega
  | ⟨1, _⟩ => show win0_0.index t 1 * 2048 + 1 * k.val = k.val; rw [e1]; omega

/-- The weights the region finds: the argument, its two last axes exchanged. -/
theorem V_w (c : Dev nD) : V m c main_v0
    = transpose S2x9296x2048 [0, 2, 1] (m ((c : Thread nD τ).loc main_arg1) : Vec F S2x2048x9296 .f32)
        transposes_S2x2048x9296_S2x9296x2048_0_2_1 := by
  show StableHlo.after hostOps0 (fun b => m (c, b)) (Proc.devRef .tc main_v0) = _
  after_results <;> rfl

/-- The weights' block at a point, element by element, in the argument's own order of axes. -/
theorem blk_w (c : Dev nD) (t : Fin cfg0.N) (j : Fin 128) (k : Fin 2048) :
    (X0_1 m c t : Vec F S1x128x2048 .f32) (ix3 0 j k)
      = (m ((c : Thread nD τ).loc main_arg1) : Vec F S2x2048x9296 .f32) (ix3 1 k ⟨4096 + j.val, by omega⟩) := by
  obtain ⟨-, -, e0, e1, e2, -⟩ := idx_facts t
  unfold X0_1 Pipeline.Window.fill
  rw [dif_pos (moved0_1 t _)]
  unfold iblk
  rw [View.read_apply]
  show V m c main_v0 _ = m (c.tc.loc main_arg1) _
  rw [V_w]
  refine transpose_apply _ _ _ _ _ fun a => ?_
  match a with
  | ⟨0, _⟩ => show 1 = win0_1.index t 0 * 1 + 1 * 0; rw [e0]
  | ⟨1, _⟩ => show 4096 + j.val = win0_1.index t 1 * 128 + 1 * j.val; rw [e1]; omega
  | ⟨2, _⟩ => show k.val = win0_1.index t 2 * 2048 + 1 * k.val; rw [e2]; omega

/-- The weights' block does not move. -/
theorem blk_w_eq (c : Dev nD) (t s : Fin cfg0.N) : (X0_1 m c t : Vec F S1x128x2048 .f32) = X0_1 m c s := by
  funext y
  idx_vars y
  obtain rfl : y0 = 0 := Subsingleton.elim _ _
  rw [blk_w, blk_w]

/-! ## The scratch and the outputs after every point -/

/-- The scratch after a point: the transposed weights. -/
theorem scratch_eq (c : Dev nD) : ∀ (n : ℕ) (t : Fin cfg0.N), t.val = n →
    (outsAt0 m c t.val t.isLt).2.2.2 = k0_pay2 (X0_1 m c t) := by
  intro n
  induction n with
  | zero =>
    intro t ht
    rw [outsAt0_A m c t (by omega)]
    dsimp only
    rw [scratch_A]
  | succ n ih =>
    intro t ht
    by_cases h0 : t.val % 19 = 0
    · rw [outsAt0_A m c t h0]
      dsimp only
      rw [scratch_A]
    · rw [outsAt0_B m c t h0]
      dsimp only [sout0_B_0]
      rw [ih ⟨t.val - 1, by omega⟩ (by dsimp only; omega), blk_w_eq m c ⟨t.val - 1, by omega⟩ t]

/-- Result 0's block after a point. -/
theorem out2_eq (c : Dev nD) (t : Fin cfg0.N) :
    (outsAt0 m c t.val t.isLt).1 = k0_pay3 (iblk m c 0 t) (k0_pay2 (X0_1 m c t)) := by
  by_cases h0 : t.val % 19 = 0
  · rw [outsAt0_A m c t h0]
    dsimp only
    rw [out2_A]
  · rw [outsAt0_B m c t h0]
    dsimp only
    rw [out2_B, scratch_eq m c _ ⟨t.val - 1, by omega⟩ rfl, blk_w_eq m c ⟨t.val - 1, by omega⟩ t]

/-- Result 1's block after a point. -/
theorem out3_eq (c : Dev nD) (t : Fin cfg0.N) :
    (outsAt0 m c t.val t.isLt).2.1 = k0_pay4 (iblk m c 0 t) (k0_pay2 (X0_1 m c t)) := by
  by_cases h0 : t.val % 19 = 0
  · rw [outsAt0_A m c t h0]
    dsimp only
    rw [out3_A]
  · rw [outsAt0_B m c t h0]
    dsimp only
    rw [out3_B, scratch_eq m c _ ⟨t.val - 1, by omega⟩ rfl, blk_w_eq m c ⟨t.val - 1, by omega⟩ t]

/-- Result 2's block after a point. -/
theorem out4_eq (m : (ℓ : Loc nD τ sig) → Buf (Elt Ideal) ℓ) (c : Dev nD) (t : Fin cfg0.N) :
    (outsAt0 m c t.val t.isLt).2.2.1 = tiles (k0_pay3 (iblk m c 0 t) (k0_pay2 (X0_1 m c t))) := by
  by_cases h0 : t.val % 19 = 0
  · rw [outsAt0_A m c t h0]
    dsimp only
    rw [out4_A]
  · rw [outsAt0_B m c t h0]
    dsimp only
    rw [out4_B, scratch_eq m c _ ⟨t.val - 1, by omega⟩ rfl, blk_w_eq m c ⟨t.val - 1, by omega⟩ t]

/-! ## The result arrays -/

/-- The product of the activations with the projection's columns of the weights. -/
def cols (x : Vec Ideal S9728x2048 .bf16) (w : Vec Ideal S2x2048x9296 .f32) (r : Fin 9728) (j : Fin 128) : EReal :=
  (∑ k : Fin 2048, x (ix2 r k) * w (ix3 1 k ⟨4096 + j.val, by omega⟩))

/-- The product at every row and column: what all the results are made of. -/
def G (m : (ℓ : Loc nD τ sig) → Buf (Elt Ideal) ℓ) (c : Dev nD) : Vec Ideal S9728x128 .f32 := fun i =>
  cols (m ((c : Thread nD τ).loc main_arg0)) (m ((c : Thread nD τ).loc main_arg1)) (i 0) (i 1)

/-- What result 1 ends holding: the values of the first 64 columns. -/
def G3 (m : (ℓ : Loc nD τ sig) → Buf (Elt Ideal) ℓ) (c : Dev nD) : Vec Ideal S9728x64 .bf16 := fun i =>
  (G m c (ix2 (⟨(i 0).val, (i 0).isLt⟩ : Fin 9728) (⟨(i 1).val, lt_trans (i 1).isLt (by decide)⟩ : Fin 128)) : EReal)

/-- What result 2 ends holding: the indexer's weights, transposed a lane tile at a time. -/
def G4 (m : (ℓ : Loc nD τ sig) → Buf (Elt Ideal) ℓ) (c : Dev nD) : Vec Ideal S76x16x128 .f32 := fun i =>
  (G m c (ix2 (⟨128 * (i 0).val + (i 2).val, by have h0 : (i 0).val < 76 := (i 0).isLt; have h2 : (i 2).val < 128 := (i 2).isLt; omega⟩ : Fin 9728)
    (⟨64 + (i 1).val, by have h1 : (i 1).val < 16 := (i 1).isLt; omega⟩ : Fin 128)) : EReal)

/-- The product of a block of rows with the transposed weights, read at an index. -/
theorem pay_apply (x : Vec Ideal S512x2048 .bf16) (w : Vec Ideal S1x128x2048 .f32) (r : Fin 512) (j : Fin 128) :
    k0_pay3 x (k0_pay2 w) (ix2 r j) = (∑ k : Fin 2048, x (ix2 r k) * w (ix3 0 j k)) := by
  unfold_payloads
  pointwise

/-- A point's value is the value of `G` at its row. -/
theorem value_eq (m : (ℓ : Loc nD τ sig) → Buf (Elt Ideal) ℓ) (c : Dev nD) (t : Fin cfg0.N) (r : Fin 512) (j : Fin 128)
    (i : S9728x128.Idx) (h0 : (i 0).val = t.val * 512 + r.val) (h1 : (i 1).val = j.val) :
    k0_pay3 (iblk m c 0 t) (k0_pay2 (X0_1 m c t)) (ix2 r j) = G m c i := by
  have hi0 : i 0 = (⟨512 * t.val + r.val, by have := lt19 t; omega⟩ : Fin 9728) := Fin.ext (by rw [h0]; dsimp only; omega)
  have hi1 : i 1 = j := Fin.ext h1
  rw [pay_apply]
  unfold G
  rw [hi0, hi1]
  unfold cols
  simp only [iblk_x, blk_w]

/-- Every point writes back its block of `G`. -/
theorem flushed2_eq (m : (ℓ : Loc nD τ sig) → Buf (Elt Ideal) ℓ) (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2, out2_eq]
  obtain ⟨-, -, -, -, -, e0, e1, -⟩ := idx_facts t
  funext y
  have hy0 : (y 0).val < 512 := (y 0).isLt
  have hy1 : (y 1).val < 128 := (y 1).isLt
  have hb0 : (((cfg0.win 2).blk t).view.emb y 0).val = win0_2.index t (0 : Fin 2) * 512 + 1 * (y 0).val := rfl
  rw [e0] at hb0
  have hb1 : (((cfg0.win 2).blk t).view.emb y 1).val = win0_2.index t (1 : Fin 2) * 128 + 1 * (y 1).val := rfl
  rw [e1] at hb1
  show (k0_pay3 (iblk m c 0 t) (k0_pay2 (X0_1 m c t))) ((cfg0.win 2).xinj (grid0.coords t) y)
    = G m c (((cfg0.win 2).blk t).view.emb y)
  have hl : (cfg0.win 2).xinj (grid0.coords t) y = ix2 (⟨(y 0).val, hy0⟩ : Fin 512) (⟨(y 1).val, hy1⟩ : Fin 128) := by
    funext a
    match a with
    | ⟨0, _⟩ => rfl
    | ⟨1, _⟩ => rfl
  rw [hl]
  exact value_eq m c t (⟨(y 0).val, hy0⟩ : Fin 512) (⟨(y 1).val, hy1⟩ : Fin 128) _ (by rw [hb0]; dsimp only; omega) (by rw [hb1]; dsimp only; omega)

/-- An index of the array is in a point's block iff each coordinate is in the block's range. -/
theorem mem_blk2 (t : Fin cfg0.N) (i : S9728x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v1_0).slice (win0_2.rect t)).set ↔ _
  rw [View.set_slice_whole, Rect.mem_set_unit]
  exact Iff.rfl

/-- The result array after the region. -/
theorem final2 (m : (ℓ : Loc nD τ sig) → Buf (Elt Ideal) ℓ) (c : Dev nD) : (dats m 0 c).arrAt 2 cfg0.N = G m c :=
  (dats m 0 c).arrAt_eq_of_cover 2 _ (fun t _ => flushed2_eq m c t) fun i => by
    have h0 : (i 0).val < 9728 := (i 0).isLt
    have h1 : (i 1).val < 128 := (i 1).isLt
    have hN : (i 0).val / 512 < cfg0.N := lt_of_lt_of_eq (by omega) N_0.symm
    refine ⟨⟨_, hN⟩, flush0_2 _, ?_⟩
    obtain ⟨-, -, -, -, -, e0, e1, -⟩ := idx_facts ⟨_, hN⟩
    dsimp only at e0 e1
    rw [mem_blk2]
    intro a
    match a with
    | ⟨0, _⟩ =>
      show win0_2.index _ (0 : Fin 2) * 512 ≤ (i 0).val ∧ (i 0).val < win0_2.index _ (0 : Fin 2) * 512 + 512
      rw [e0]; omega
    | ⟨1, _⟩ =>
      show win0_2.index _ (1 : Fin 2) * 128 ≤ (i 1).val ∧ (i 1).val < win0_2.index _ (1 : Fin 2) * 128 + 128
      rw [e1]; omega

/-- The first 64 columns of a block of values. -/
theorem part_apply (x : Vec Ideal S512x2048 .bf16) (w : Vec Ideal S2048x128 .bf16) (r : Fin 512) (j : Fin 64) :
    (k0_pay4 x w (ix2 r j) : EReal) = k0_pay3 x w (ix2 r ⟨j.val, by omega⟩) := by
  unfold k0_pay4
  generalize k0_pay3 x w = R
  pointwise

/-- Every point writes back its block of `G3`. -/
theorem flushed3_eq (m : (ℓ : Loc nD τ sig) → Buf (Elt Ideal) ℓ) (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, out3_eq]
  obtain ⟨-, -, -, -, -, -, -, e0, e1, -⟩ := idx_facts t
  funext y
  have hy0 : (y 0).val < 512 := (y 0).isLt
  have hy1 : (y 1).val < 64 := (y 1).isLt
  have hb0 : (((cfg0.win 3).blk t).view.emb y 0).val = win0_3.index t (0 : Fin 2) * 512 + 1 * (y 0).val := rfl
  rw [e0] at hb0
  have hb1 : (((cfg0.win 3).blk t).view.emb y 1).val = win0_3.index t (1 : Fin 2) * 64 + 1 * (y 1).val := rfl
  rw [e1] at hb1
  show (k0_pay4 (iblk m c 0 t) (k0_pay2 (X0_1 m c t))) ((cfg0.win 3).xinj (grid0.coords t) y)
    = G3 m c (((cfg0.win 3).blk t).view.emb y)
  have hl : (cfg0.win 3).xinj (grid0.coords t) y = ix2 (⟨(y 0).val, hy0⟩ : Fin 512) (⟨(y 1).val, hy1⟩ : Fin 64) := by
    funext a
    match a with
    | ⟨0, _⟩ => rfl
    | ⟨1, _⟩ => rfl
  rw [hl]
  refine (part_apply _ _ _ _).trans ?_
  exact value_eq m c t (⟨(y 0).val, hy0⟩ : Fin 512) (⟨(y 1).val, by omega⟩ : Fin 128) _ (by show (((cfg0.win 3).blk t).view.emb y 0).val = _; rw [hb0]; dsimp only; omega) (by show (((cfg0.win 3).blk t).view.emb y 1).val = _; rw [hb1]; dsimp only; omega)

/-- An index of the array is in a point's block iff each coordinate is in the block's range. -/
theorem mem_blk3 (t : Fin cfg0.N) (i : S9728x64.Idx) :
    i ∈ ((cfg0.win 3).blk t).view.set ↔ ∀ a : Fin 2, win0_3.index t a * S512x64.size a ≤ (i a).val
      ∧ (i a).val < win0_3.index t a * S512x64.size a + S512x64.size a := by
  show i ∈ ((View.whole main_v1_1).slice (win0_3.rect t)).set ↔ _
  rw [View.set_slice_whole, Rect.mem_set_unit]
  exact Iff.rfl

/-- The result array after the region. -/
theorem final3 (m : (ℓ : Loc nD τ sig) → Buf (Elt Ideal) ℓ) (c : Dev nD) : (dats m 0 c).arrAt 3 cfg0.N = G3 m c :=
  (dats m 0 c).arrAt_eq_of_cover 3 _ (fun t _ => flushed3_eq m c t) fun i => by
    have h0 : (i 0).val < 9728 := (i 0).isLt
    have h1 : (i 1).val < 64 := (i 1).isLt
    have hN : (i 0).val / 512 < cfg0.N := lt_of_lt_of_eq (by omega) N_0.symm
    refine ⟨⟨_, hN⟩, flush0_3 _, ?_⟩
    obtain ⟨-, -, -, -, -, -, -, e0, e1, -⟩ := idx_facts ⟨_, hN⟩
    dsimp only at e0 e1
    rw [mem_blk3]
    intro a
    match a with
    | ⟨0, _⟩ =>
      show win0_3.index _ (0 : Fin 2) * 512 ≤ (i 0).val ∧ (i 0).val < win0_3.index _ (0 : Fin 2) * 512 + 512
      rw [e0]; omega
    | ⟨1, _⟩ =>
      show win0_3.index _ (1 : Fin 2) * 64 ≤ (i 1).val ∧ (i 1).val < win0_3.index _ (1 : Fin 2) * 64 + 64
      rw [e1]; omega

/-- Every point writes back its block of `G4`. -/
theorem flushed4_eq (m : (ℓ : Loc nD τ sig) → Buf (Elt Ideal) ℓ) (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4, out4_eq]
  obtain ⟨-, -, -, -, -, -, -, -, -, e0, e1, e2⟩ := idx_facts t
  funext y
  have hy0 : (y 0).val < 4 := (y 0).isLt
  have hy1 : (y 1).val < 16 := (y 1).isLt
  have hy2 : (y 2).val < 128 := (y 2).isLt
  have hb0 : (((cfg0.win 4).blk t).view.emb y 0).val = win0_4.index t (0 : Fin 3) * 4 + 1 * (y 0).val := rfl
  rw [e0] at hb0
  have hb1 : (((cfg0.win 4).blk t).view.emb y 1).val = win0_4.index t (1 : Fin 3) * 16 + 1 * (y 1).val := rfl
  rw [e1] at hb1
  have hb2 : (((cfg0.win 4).blk t).view.emb y 2).val = win0_4.index t (2 : Fin 3) * 128 + 1 * (y 2).val := rfl
  rw [e2] at hb2
  show (tiles (k0_pay3 (iblk m c 0 t) (k0_pay2 (X0_1 m c t)))) ((cfg0.win 4).xinj (grid0.coords t) y)
    = G4 m c (((cfg0.win 4).blk t).view.emb y)
  have hl : (cfg0.win 4).xinj (grid0.coords t) y = ix3 (⟨(y 0).val, hy0⟩ : Fin 4) (⟨(y 1).val, hy1⟩ : Fin 16) (⟨(y 2).val, hy2⟩ : Fin 128) := by
    funext a
    match a with
    | ⟨0, _⟩ => rfl
    | ⟨1, _⟩ => rfl
    | ⟨2, _⟩ => rfl
  rw [hl]
  exact value_eq m c t (⟨128 * (y 0).val + (y 2).val, by omega⟩ : Fin 512) (⟨64 + (y 1).val, by omega⟩ : Fin 128) _
    (by show 128 * (((cfg0.win 4).blk t).view.emb y 0).val + (((cfg0.win 4).blk t).view.emb y 2).val = _; rw [hb0, hb2]; dsimp only; omega)
    (by show 64 + (((cfg0.win 4).blk t).view.emb y 1).val = _; rw [hb1]; dsimp only; omega)

/-- An index of the array is in a point's block iff each coordinate is in the block's range. -/
theorem mem_blk4 (t : Fin cfg0.N) (i : S76x16x128.Idx) :
    i ∈ ((cfg0.win 4).blk t).view.set ↔ ∀ a : Fin 3, win0_4.index t a * S4x16x128.size a ≤ (i a).val
      ∧ (i a).val < win0_4.index t a * S4x16x128.size a + S4x16x128.size a := by
  show i ∈ ((View.whole main_v1_2).slice (win0_4.rect t)).set ↔ _
  rw [View.set_slice_whole, Rect.mem_set_unit]
  exact Iff.rfl

/-- The result array after the region. -/
theorem final4 (m : (ℓ : Loc nD τ sig) → Buf (Elt Ideal) ℓ) (c : Dev nD) : (dats m 0 c).arrAt 4 cfg0.N = G4 m c :=
  (dats m 0 c).arrAt_eq_of_cover 4 _ (fun t _ => flushed4_eq m c t) fun i => by
    have h0 : (i 0).val < 76 := (i 0).isLt
    have h1 : (i 1).val < 16 := (i 1).isLt
    have h2 : (i 2).val < 128 := (i 2).isLt
    have hN : (i 0).val / 4 < cfg0.N := lt_of_lt_of_eq (by omega) N_0.symm
    refine ⟨⟨_, hN⟩, flush0_4 _, ?_⟩
    obtain ⟨-, -, -, -, -, -, -, -, -, e0, e1, e2⟩ := idx_facts ⟨_, hN⟩
    dsimp only at e0 e1 e2
    rw [mem_blk4]
    intro a
    match a with
    | ⟨0, _⟩ =>
      show win0_4.index _ (0 : Fin 3) * 4 ≤ (i 0).val ∧ (i 0).val < win0_4.index _ (0 : Fin 3) * 4 + 4
      rw [e0]; omega
    | ⟨1, _⟩ =>
      show win0_4.index _ (1 : Fin 3) * 16 ≤ (i 1).val ∧ (i 1).val < win0_4.index _ (1 : Fin 3) * 16 + 16
      rw [e1]; omega
    | ⟨2, _⟩ =>
      show win0_4.index _ (2 : Fin 3) * 128 ≤ (i 2).val ∧ (i 2).val < win0_4.index _ (2 : Fin 3) * 128 + 128
      rw [e2]; omega

/-! ## The host code after the region -/

/-- The first 64 columns of an array: the indexer's keys. -/
def keyCols (P : Vec Ideal S9728x128 .f32) : Vec Ideal S9728x64 .f32 :=
  extractStridedSlice S9728x64 ![0, 0] P slices_S9728x128_S9728x64_0_0

theorem keyCols_apply (P : Vec Ideal S9728x128 .f32) (r : Fin 9728) (j : Fin 64) : keyCols P (ix2 r j) = P (ix2 r ⟨j.val, by omega⟩) := by
  unfold keyCols
  pointwise

/-- The prompts' rows of an array, without the padding. -/
def promptPart (P : Vec Ideal S9728x64 .f32) : Vec Ideal S2x4112x64 .f32 :=
  extractStridedSlice S2x4112x64 ![0, 240, 0] (shapeCast S2x4352x64 (extractStridedSlice S8704x64 ![0, 0] P slices_S9728x64_S8704x64_0_0) shapeCasts_S8704x64_S2x4352x64) slices_S2x4352x64_S2x4112x64_0_240_0

/-- The samples' rows of an array. -/
def samplePart (P : Vec Ideal S9728x64 .f32) : Vec Ideal S16x64x64 .f32 :=
  shapeCast S16x64x64 (extractStridedSlice S1024x64 ![8704, 0] P slices_S9728x64_S1024x64_8704_0) shapeCasts_S1024x64_S16x64x64

theorem arr_inj : Function.Injective (Pipeline.arrRef spec0) := by
  intro a b h
  revert a b
  decide

/-- What the first result array holds when the host code after the region starts. -/
theorem tail_arr (m : (ℓ : Loc nD τ sig) → Buf (Elt Ideal) ℓ) (c : Dev nD) :
    Pipeline.withArrays spec0 c (V0 m c) (fun w => (dats m 0 c).arrAt w cfg0.N) (Proc.devRef .tc main_v1_0) = G m c :=
  (Pipeline.withArrays_arr spec0 arr_inj c (V0 m c) (fun w => (dats m 0 c).arrAt w cfg0.N) 2).trans (final2 m c)

/-- The prompts' rows after the host code. -/
theorem tail_prompt (m : (ℓ : Loc nD τ sig) → Buf (Elt Ideal) ℓ) (c : Dev nD) :
    Pipeline.afterTail₀ cfgs (dats m) 0 (V0 m) [hostOps1] c main_v5 = promptPart (keyCols (G m c)) := by
  unfold promptPart keyCols
  rw [← tail_arr m c]
  show StableHlo.after hostOps1 (Pipeline.withArrays spec0 c (V0 m c) fun w => (dats m 0 c).arrAt w cfg0.N) (Proc.devRef .tc main_v5) = _
  generalize Pipeline.withArrays spec0 c (V0 m c) (fun w => (dats m 0 c).arrAt w cfg0.N) = W
  after_results <;> rfl

/-- The samples' rows after the host code. -/
theorem tail_sample (m : (ℓ : Loc nD τ sig) → Buf (Elt Ideal) ℓ) (c : Dev nD) :
    Pipeline.afterTail₀ cfgs (dats m) 0 (V0 m) [hostOps1] c main_v7 = samplePart (keyCols (G m c)) := by
  unfold samplePart keyCols
  rw [← tail_arr m c]
  show StableHlo.after hostOps1 (Pipeline.withArrays spec0 c (V0 m c) fun w => (dats m 0 c).arrAt w cfg0.N) (Proc.devRef .tc main_v7) = _
  generalize Pipeline.withArrays spec0 c (V0 m c) (fun w => (dats m 0 c).arrAt w cfg0.N) = W
  after_results <;> rfl

/-- The run: the results are the projection's values in their places, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v5) = promptPart (keyCols (G m c))
      ∧ r.2.mem ((c : Thread nD τ).loc main_v7) = samplePart (keyCols (G m c))
      ∧ r.2.mem ((c : Thread nD τ).loc main_v1_0) = G m c
      ∧ r.2.mem ((c : Thread nD τ).loc main_v1_1) = G3 m c
      ∧ r.2.mem ((c : Thread nD τ).loc main_v1_2) = G4 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v5 (Pipeline.mem_restRefs_of main_v5 (by decide) (by decide))).trans (tail_prompt m c),
      ((h c).2 main_v7 (Pipeline.mem_restRefs_of main_v7 (by decide) (by decide))).trans (tail_sample m c),
      ((h c).1 2).trans (final2 m c),
      ((h c).1 3).trans (final3 m c),
      ((h c).1 4).trans (final4 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.ProjIdxIdeal.IndexKeyValue

namespace Cert.ProjIdxReferenceIdeal.Read

open Cert.ProjIdxReferenceIdeal Cert.ProjIdxReferenceIdeal.Gen Idealize.ShloMosaic

/-- The reference's values: its product, cut to the projection's columns. -/
def vals (x : Vec Ideal S9728x2048 .bf16) (w : Vec Ideal S2x2048x9296 .f32) : FVec Ideal S9728x128 .f32 :=
  extractStridedSlice S9728x128 ![0, 4096] (Host.dotGeneral dot_S9728x2048_S2048x9296_S9728x9296_1_0_0_1_n_n none (extf .f32 x bitsLt_bf16_f32) (shapeCast S2048x9296 (extractStridedSlice S1x2048x9296 ![1, 0, 0] w slices_S2x2048x9296_S1x2048x9296_1_0_0) shapeCasts_S1x2048x9296_S2048x9296 : FVec Ideal S2048x9296 .f32)) slices_S9728x9296_S9728x128_0_4096

theorem vals_apply (x : Vec Ideal S9728x2048 .bf16) (w : Vec Ideal S2x2048x9296 .f32) (r : Fin 9728) (j : Fin 128) :
    vals x w (ix2 r j) = Cert.ProjIdxIdeal.IndexKeyValue.cols x w r j := by
  unfold vals Cert.ProjIdxIdeal.IndexKeyValue.cols
  pointwise

/-- The reference's keys are the first 64 of its values' columns. -/
theorem keys_eq (D : FVec Ideal S9728x9296 .f32) :
    extractStridedSlice S9728x64 ![0, 4096] D slices_S9728x9296_S9728x64_0_4096
      = Cert.ProjIdxIdeal.IndexKeyValue.keyCols (extractStridedSlice S9728x128 ![0, 4096] D slices_S9728x9296_S9728x128_0_4096) := by
  unfold Cert.ProjIdxIdeal.IndexKeyValue.keyCols
  funext j
  idx_vars j
  pointwise

/-- The same, in the narrower format. -/
theorem keys16_apply (D : FVec Ideal S9728x9296 .f32) (j : S9728x64.Idx) :
    (truncf .bf16 (extractStridedSlice S9728x64 ![0, 4096] D slices_S9728x9296_S9728x64_0_4096) bitsLt_bf16_f32 j : EReal)
      = Cert.ProjIdxIdeal.IndexKeyValue.keyCols (extractStridedSlice S9728x128 ![0, 4096] D slices_S9728x9296_S9728x128_0_4096) j := by
  show (extractStridedSlice S9728x64 ![0, 4096] D slices_S9728x9296_S9728x64_0_4096 j : EReal) = _
  exact congrFun (keys_eq D) j

/-- The reference's weights of the indexer's heads, transposed, read at an index. -/
theorem weights_apply (D : FVec Ideal S9728x9296 .f32) (r : Fin 76) (a : Fin 16) (b : Fin 128) :
    (transpose S76x16x128 [0, 2, 1] (shapeCast S76x128x16 (extractStridedSlice S9728x16 ![0, 4160] D slices_S9728x9296_S9728x16_0_4160) shapeCasts_S9728x16_S76x128x16 : FVec Ideal S76x128x16 .f32) transposes_S76x128x16_S76x16x128_0_2_1 (ix3 r a b) : EReal)
      = extractStridedSlice S9728x128 ![0, 4096] D slices_S9728x9296_S9728x128_0_4096 (ix2 ⟨128 * r.val + b.val, by omega⟩ ⟨64 + a.val, by omega⟩) := by
  pointwise
  exact congrArg D (congrArg₂ ix2 (Fin.ext (by dsimp only; omega)) (Fin.ext (by dsimp only; omega)))

end Cert.ProjIdxReferenceIdeal.Read

namespace Cert.Proof

open Idealize.ShloMosaic Idealize.SL.Sem

theorem quiescent_ProjIdxReferenceIdeal : quiescent_ProjIdxReferenceIdeal := fun m ρ _ =>
  (θ_run Cert.ProjIdxReferenceIdeal.defs _ _).mono
    (fun r h => ⟨fun c => (h c).2.2.2.2.2, sem_eq_zero_of_no_sems (by decide) r.2⟩)
    (Cert.ProjIdxReferenceIdeal.Value.run (F := Ideal) m ρ)

theorem algebraic_ProjIdxIdeal_ProjIdxReferenceIdeal : algebraic_ProjIdxIdeal_ProjIdxReferenceIdeal := by
  intro m ρ m' ρ' _ hagree
  refine ⟨_, _, _, _, _, Cert.ProjIdxIdeal.IndexKeyValue.run m ρ, ?_⟩
  refine (θ_run Cert.ProjIdxReferenceIdeal.defs _ _).mono (fun _ h c => ⟨?_, ?_, ?_, ?_, ?_, (h c).2.2.2.2.2⟩)
    (Cert.ProjIdxReferenceIdeal.Value.run (F := Ideal) m' ρ')
  all_goals
    have hG : Cert.ProjIdxReferenceIdeal.Read.vals (m' (c.tc.loc Cert.ProjIdxReferenceIdeal.main_arg0)) (m' (c.tc.loc Cert.ProjIdxReferenceIdeal.main_arg1))
        = Cert.ProjIdxIdeal.IndexKeyValue.G m c := by
      rw [(hagree c).1, (hagree c).2]
      funext j
      idx_vars j
      exact Cert.ProjIdxReferenceIdeal.Read.vals_apply _ _ _ _
  · rw [(h c).1]
    rw [← hG]
    exact congrArg Cert.ProjIdxIdeal.IndexKeyValue.promptPart (Cert.ProjIdxReferenceIdeal.Read.keys_eq _)
  · rw [(h c).2.1]
    rw [← hG]
    exact congrArg Cert.ProjIdxIdeal.IndexKeyValue.samplePart (Cert.ProjIdxReferenceIdeal.Read.keys_eq _)
  · rw [(h c).2.2.1]
    funext j
    show (Cert.ProjIdxReferenceIdeal.Read.vals (m' (c.tc.loc Cert.ProjIdxReferenceIdeal.main_arg0)) (m' (c.tc.loc Cert.ProjIdxReferenceIdeal.main_arg1)) j : EReal) = Cert.ProjIdxIdeal.IndexKeyValue.G m c j
    rw [hG]
  · rw [(h c).2.2.2.1]
    funext j
    refine (Cert.ProjIdxReferenceIdeal.Read.keys16_apply _ j).trans ?_
    show (Cert.ProjIdxIdeal.IndexKeyValue.keyCols (Cert.ProjIdxReferenceIdeal.Read.vals (m' (c.tc.loc Cert.ProjIdxReferenceIdeal.main_arg0)) (m' (c.tc.loc Cert.ProjIdxReferenceIdeal.main_arg1))) j : EReal) = Cert.ProjIdxIdeal.IndexKeyValue.G3 m c j
    rw [hG]
    idx_vars j
    rw [Cert.ProjIdxIdeal.IndexKeyValue.keyCols_apply]
    rfl
  · rw [(h c).2.2.2.2.1]
    funext j
    idx_vars j
    refine (Cert.ProjIdxReferenceIdeal.Read.weights_apply _ _ _ _).trans ?_
    show (Cert.ProjIdxReferenceIdeal.Read.vals (m' (c.tc.loc Cert.ProjIdxReferenceIdeal.main_arg0)) (m' (c.tc.loc Cert.ProjIdxReferenceIdeal.main_arg1)) _ : EReal) = Cert.ProjIdxIdeal.IndexKeyValue.G m c _
    rw [hG]
    rfl

end Cert.Proof

end
-- ==== Proof.ProjQValue.lean ====
/- The value of the projection to the attention's queries, scaled (`ProjQIdeal`): every grid point leaves, in its blocks of the results, the product of its
   rows with the weights held in the scratch, which were loaded and transposed at the first point; one result is written a lane tile at a time, each transposed. -/
module

public import proofs.«01_k».proof.Defs
public import proofs.«01_k».proof.Proof.Gen.ProjQIdeal.Frame
public import proofs.«01_k».proof.Proof.Gen.ProjQReferenceIdeal.Run
public import Idealize.ShloMosaic.Lib.Pipeline.Value
public import Idealize.ShloMosaic.Lib.Pipeline.ValueKit.Tiles
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.ProjQIdeal.QueryValue

open Cert.ProjQIdeal Cert.ProjQIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

/-- At the first point the scratch is left at the transposed weights. -/
theorem scratch_A (c : Dev nD) (i : grid0.Coords) (a1 h1 a2 h2 a3 h3 a4 h4 a5 h5) (hc : cond0_0 i) (x0 : Vec F S512x2048 .bf16)
    (x1 : Vec F S1x1024x2048 .f32) :
    sout0_A_0 c i a1 h1 a2 h2 a3 h3 a4 h4 a5 h5 hc x0 x1 = k0_pay3 x1 := by
  unfold sout0_A_0
  rw [View.read_writes_eq_canon _ _ _ (scover0_A_0 c i a1 h1 a2 h2 a3 h3 a4 h4 a5 h5 hc x0 x1)]
  unfold kernelRun0_A
  dsimp only
  sl_unfold_words
  rw [View.canon_unit_zero hz2]
  simp only [View.readAt_eq_ld, Memref.IsWhole.read_unread, View.ld_unit_zero (S := S512x2048) hz2,
    View.ld_unit_zero (S := S2048x1024) hz2, View.ld_unit_zero (S := S1x1024x2048) hz3]

/-- What the first point leaves in its block of result 0. -/
theorem out2_A (c : Dev nD) (i : grid0.Coords) (a1 h1 a2 h2 a3 h3 a4 h4 a5 h5) (hc : cond0_0 i) (x0 : Vec F S512x2048 .bf16)
    (x1 : Vec F S1x1024x2048 .f32) :
    out0_A_2 c i a1 h1 a2 h2 a3 h3 a4 h4 a5 h5 hc x0 x1 = k0_pay5 x0 (k0_pay3 x1) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz2, View.readCov_unit_zero _ hz2]
  simp only [View.readAt_eq_ld, Memref.IsWhole.read_unread, View.ld_unit_zero (S := S512x2048) hz2,
    View.ld_unit_zero (S := S2048x1024) hz2, View.ld_unit_zero (S := S1x1024x2048) hz3]

/-- What every other point leaves in its block of result 0, over what the scratch holds. -/
theorem out2_B (c : Dev nD) (i : grid0.Coords) (a1 h1 a2 h2 a3 h3 a4 h4 a5 h5) (hc : ¬cond0_0 i) (x0 : Vec F S512x2048 .bf16)
    (x1 : Vec F S1x1024x2048 .f32)
    (xs : Vec F S2048x1024 .bf16) : out0_B_2 c i a1 h1 a2 h2 a3 h3 a4 h4 a5 h5 hc x0 x1 xs = k0_pay5 x0 xs := by
  unfold out0_B_2
  rw [View.read_writes_eq_canon _ _ _ (cover0_B_2 c i a1 h1 a2 h2 a3 h3 a4 h4 a5 h5 hc x0 x1 xs)]
  unfold kernelRun0_B
  dsimp only
  sl_unfold_words
  rw [View.canon_unit_zero hz2]
  simp only [View.readAt_eq_ld, Memref.IsWhole.read_unread, View.ld_unit_zero (S := S512x2048) hz2,
    View.ld_unit_zero (S := S2048x1024) hz2, View.ld_unit_zero (S := S1x1024x2048) hz3]

/-- The lane tiles of a block of values, each transposed. -/
def tiles (R : FVec Ideal S512x1024 .f32) : Vec Ideal S4x8x128x128 .bf16 := fun i =>
  (R (ix2 ⟨128 * (i 0).val + (i 3).val, by have h0 : (i 0).val < 4 := (i 0).isLt; have h3 : (i 3).val < 128 := (i 3).isLt; omega⟩
    ⟨128 * (i 1).val + (i 2).val, by have h1 : (i 1).val < 8 := (i 1).isLt; have h2 : (i 2).val < 128 := (i 2).isLt; omega⟩) : EReal)

/-- One stored tile, read at an index. -/
theorem tile_apply (R : FVec Ideal S512x1024 .f32) (o p : ℕ) (h : Shape.Slices S512x1024 ![o, p] S128x128) (h' : Shape.Transposes S128x128 [1, 0] S128x128)
    (hb : FTy.bits .bf16 < FTy.bits .f32) (hs : Shape.ShapeCasts S128x128 S1x1x128x128) (x0 x1 : Fin 1) (a b : Fin 128) (r : Fin 512) (j : Fin 1024)
    (hr : r.val = o + b.val) (hj : j.val = p + a.val) :
    (shapeCast S1x1x128x128 (truncf .bf16 (transpose S128x128 [1, 0] (extractStridedSlice S128x128 ![o, p] R h) h') hb) hs (ix4 x0 x1 a b) : EReal)
      = R (ix2 r j) := by
  obtain rfl : x0 = 0 := Subsingleton.elim _ _
  obtain rfl : x1 = 0 := Subsingleton.elim _ _
  pointwise
  exact congrArg R (congrArg₂ ix2 (Fin.ext hr.symm) (Fin.ext hj.symm))

/-- What a point of case A leaves in its block of result 1. -/
theorem out3_A (c : Dev nD) (i : grid0.Coords) (a1 h1 a2 h2 a3 h3 a4 h4 a5 h5) (hc : cond0_0 i) (x0 : Vec Ideal S512x2048 .bf16)
    (x1 : Vec Ideal S1x1024x2048 .f32) :
    out0_A_3 c i a1 h1 a2 h2 a3 h3 a4 h4 a5 h5 hc x0 x1 = tiles (k0_pay4 x0 (k0_pay3 x1)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.readCov_unit_zero _ hz2]
  simp only [View.readAt_eq_ld, Memref.IsWhole.read_unread, View.ld_unit_zero (S := S512x2048) hz2,
    View.ld_unit_zero (S := S2048x1024) hz2, View.ld_unit_zero (S := S1x1024x2048) hz3]
  funext y
  unfold tiles
  idx_vars y
  canon_tiles t h
  all_goals
    open_payloads
    idx_vars t
    refine tile_apply _ _ _ (by decide) (by decide) (by decide) (by decide) _ _ _ _ _ _ ?_ ?_ <;> (dsimp only; omega)

/-- What a point of case B leaves in its block of result 1. -/
theorem out3_B (c : Dev nD) (i : grid0.Coords) (a1 h1 a2 h2 a3 h3 a4 h4 a5 h5) (hc : ¬cond0_0 i) (x0 : Vec Ideal S512x2048 .bf16)
    (x1 : Vec Ideal S1x1024x2048 .f32)
    (xs : Vec Ideal S2048x1024 .bf16) :
    out0_B_3 c i a1 h1 a2 h2 a3 h3 a4 h4 a5 h5 hc x0 x1 xs = tiles (k0_pay4 x0 xs) := by
  unfold out0_B_3
  rw [View.read_writes_eq_canon _ _ _ (cover0_B_3 c i a1 h1 a2 h2 a3 h3 a4 h4 a5 h5 hc x0 x1 xs)]
  unfold kernelRun0_B
  dsimp only
  sl_unfold_words
  simp only [View.readAt_eq_ld, Memref.IsWhole.read_unread, View.ld_unit_zero (S := S512x2048) hz2,
    View.ld_unit_zero (S := S2048x1024) hz2, View.ld_unit_zero (S := S1x1024x2048) hz3]
  funext y
  unfold tiles
  idx_vars y
  canon_tiles t h
  all_goals
    open_payloads
    idx_vars t
    refine tile_apply _ _ _ (by decide) (by decide) (by decide) (by decide) _ _ _ _ _ _ ?_ ?_ <;> (dsimp only; omega)

/-! ## The blocks the windows read -/

/-- The block indices of the windows at a point. -/
theorem idx_facts : ∀ t : Fin cfg0.N, win0_0.index t (0 : Fin 2) = t.val ∧ win0_0.index t (1 : Fin 2) = 0
    ∧ win0_1.index t (0 : Fin 3) = 1 ∧ win0_1.index t (1 : Fin 3) = 0 ∧ win0_1.index t (2 : Fin 3) = 0
    ∧ win0_2.index t (0 : Fin 2) = t.val ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem lt19 (t : Fin cfg0.N) : t.val < 19 := lt_of_lt_of_eq t.isLt N_0

/-- The activations' block at a point: its 512 rows. -/
theorem iblk_x (c : Dev nD) (t : Fin cfg0.N) (r : Fin 512) (k : Fin 2048) :
    (iblk m c 0 t : Vec F S512x2048 .bf16) (ix2 r k)
      = (m ((c : Thread nD τ).loc main_arg0) : Vec F S9728x2048 .bf16) (ix2 ⟨512 * t.val + r.val, by have := lt19 t; omega⟩ k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [e0]; omega
  | ⟨1, _⟩ => show win0_0.index t 1 * 2048 + 1 * k.val = k.val; rw [e1]; omega

/-- The weights the region finds: the argument, its two last axes exchanged. -/
theorem V_w (c : Dev nD) : V m c main_v0
    = transpose S2x9296x2048 [0, 2, 1] (m ((c : Thread nD τ).loc main_arg1) : Vec F S2x2048x9296 .f32)
        transposes_S2x2048x9296_S2x9296x2048_0_2_1 := by
  show StableHlo.after hostOps0 (fun b => m (c, b)) (Proc.devRef .tc main_v0) = _
  after_results <;> rfl

/-- The weights' block at a point, element by element, in the argument's own order of axes. -/
theorem blk_w (c : Dev nD) (t : Fin cfg0.N) (j : Fin 1024) (k : Fin 2048) :
    (X0_1 m c t : Vec F S1x1024x2048 .f32) (ix3 0 j k)
      = (m ((c : Thread nD τ).loc main_arg1) : Vec F S2x2048x9296 .f32) (ix3 1 k ⟨0 + j.val, by omega⟩) := by
  obtain ⟨-, -, e0, e1, e2, -⟩ := idx_facts t
  unfold X0_1 Pipeline.Window.fill
  rw [dif_pos (moved0_1 t _)]
  unfold iblk
  rw [View.read_apply]
  show V m c main_v0 _ = m (c.tc.loc main_arg1) _
  rw [V_w]
  refine transpose_apply _ _ _ _ _ fun a => ?_
  match a with
  | ⟨0, _⟩ => show 1 = win0_1.index t 0 * 1 + 1 * 0; rw [e0]
  | ⟨1, _⟩ => show 0 + j.val = win0_1.index t 1 * 1024 + 1 * j.val; rw [e1]; omega
  | ⟨2, _⟩ => show k.val = win0_1.index t 2 * 2048 + 1 * k.val; rw [e2]; omega

/-- The weights' block does not move. -/
theorem blk_w_eq (c : Dev nD) (t s : Fin cfg0.N) : (X0_1 m c t : Vec F S1x1024x2048 .f32) = X0_1 m c s := by
  funext y
  idx_vars y
  obtain rfl : y0 = 0 := Subsingleton.elim _ _
  rw [blk_w, blk_w]

/-! ## The scratch and the outputs after every point -/

/-- The scratch after a point: the transposed weights. -/
theorem scratch_eq (c : Dev nD) : ∀ (n : ℕ) (t : Fin cfg0.N), t.val = n →
    (outsAt0 m c t.val t.isLt).2.2 = k0_pay3 (X0_1 m c t) := by
  intro n
  induction n with
  | zero =>
    intro t ht
    rw [outsAt0_A m c t (by omega)]
    dsimp only
    rw [scratch_A]
  | succ n ih =>
    intro t ht
    by_cases h0 : t.val % 19 = 0
    · rw [outsAt0_A m c t h0]
      dsimp only
      rw [scratch_A]
    · rw [outsAt0_B m c t h0]
      dsimp only [sout0_B_0]
      rw [ih ⟨t.val - 1, by omega⟩ (by dsimp only; omega), blk_w_eq m c ⟨t.val - 1, by omega⟩ t]

/-- Result 0's block after a point. -/
theorem out2_eq (c : Dev nD) (t : Fin cfg0.N) :
    (outsAt0 m c t.val t.isLt).1 = k0_pay5 (iblk m c 0 t) (k0_pay3 (X0_1 m c t)) := by
  by_cases h0 : t.val % 19 = 0
  · rw [outsAt0_A m c t h0]
    dsimp only
    rw [out2_A]
  · rw [outsAt0_B m c t h0]
    dsimp only
    rw [out2_B, scratch_eq m c _ ⟨t.val - 1, by omega⟩ rfl, blk_w_eq m c ⟨t.val - 1, by omega⟩ t]

/-- Result 1's block after a point. -/
theorem out3_eq (m : (ℓ : Loc nD τ sig) → Buf (Elt Ideal) ℓ) (c : Dev nD) (t : Fin cfg0.N) :
    (outsAt0 m c t.val t.isLt).2.1 = tiles (k0_pay4 (iblk m c 0 t) (k0_pay3 (X0_1 m c t))) := by
  by_cases h0 : t.val % 19 = 0
  · rw [outsAt0_A m c t h0]
    dsimp only
    rw [out3_A]
  · rw [outsAt0_B m c t h0]
    dsimp only
    rw [out3_B, scratch_eq m c _ ⟨t.val - 1, by omega⟩ rfl, blk_w_eq m c ⟨t.val - 1, by omega⟩ t]

/-! ## The result arrays -/

/-- The product of the activations with the projection's columns of the weights, scaled. -/
def cols (x : Vec Ideal S9728x2048 .bf16) (w : Vec Ideal S2x2048x9296 .f32) (r : Fin 9728) (j : Fin 1024) : EReal :=
  (∑ k : Fin 2048, x (ix2 r k) * w (ix3 1 k ⟨0 + j.val, by omega⟩)) * (Scalar.ofBits .f32 0x3E0293EE#32 : Ideal .f32)

/-- The product at every row and column: what all the results are made of. -/
def G (m : (ℓ : Loc nD τ sig) → Buf (Elt Ideal) ℓ) (c : Dev nD) : Vec Ideal S9728x1024 .f32 := fun i =>
  cols (m ((c : Thread nD τ).loc main_arg0)) (m ((c : Thread nD τ).loc main_arg1)) (i 0) (i 1)

/-- What result 0 ends holding: the same values. -/
def G2 (m : (ℓ : Loc nD τ sig) → Buf (Elt Ideal) ℓ) (c : Dev nD) : Vec Ideal S9728x1024 .bf16 := fun i => G m c i

/-- What result 1 ends holding: the values, a lane tile at a time, each transposed. -/
def G3 (m : (ℓ : Loc nD τ sig) → Buf (Elt Ideal) ℓ) (c : Dev nD) : Vec Ideal S76x8x128x128 .bf16 := fun i =>
  (G m c (ix2 (⟨128 * (i 0).val + (i 3).val, by have h0 : (i 0).val < 76 := (i 0).isLt; have h3 : (i 3).val < 128 := (i 3).isLt; omega⟩ : Fin 9728)
    (⟨128 * (i 1).val + (i 2).val, by have h1 : (i 1).val < 8 := (i 1).isLt; have h2 : (i 2).val < 128 := (i 2).isLt; omega⟩ : Fin 1024)) : EReal)

/-- The product of a block of rows with the transposed weights, read at an index. -/
theorem pay_apply (x : Vec Ideal S512x2048 .bf16) (w : Vec Ideal S1x1024x2048 .f32) (r : Fin 512) (j : Fin 1024) :
    k0_pay4 x (k0_pay3 w) (ix2 r j) = (∑ k : Fin 2048, x (ix2 r k) * w (ix3 0 j k)) * (Scalar.ofBits .f32 0x3E0293EE#32 : Ideal .f32) := by
  unfold_payloads
  pointwise

/-- A point's value is the value of `G` at its row. -/
theorem value_eq (m : (ℓ : Loc nD τ sig) → Buf (Elt Ideal) ℓ) (c : Dev nD) (t : Fin cfg0.N) (r : Fin 512) (j : Fin 1024)
    (i : S9728x1024.Idx) (h0 : (i 0).val = t.val * 512 + r.val) (h1 : (i 1).val = j.val) :
    k0_pay4 (iblk m c 0 t) (k0_pay3 (X0_1 m c t)) (ix2 r j) = G m c i := by
  have hi0 : i 0 = (⟨512 * t.val + r.val, by have := lt19 t; omega⟩ : Fin 9728) := Fin.ext (by rw [h0]; dsimp only; omega)
  have hi1 : i 1 = j := Fin.ext h1
  rw [pay_apply]
  unfold G
  rw [hi0, hi1]
  unfold cols
  simp only [iblk_x, blk_w]

/-- Every point writes back its block of `G2`. -/
theorem flushed2_eq (m : (ℓ : Loc nD τ sig) → Buf (Elt Ideal) ℓ) (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2, out2_eq]
  obtain ⟨-, -, -, -, -, e0, e1, -⟩ := idx_facts t
  funext y
  have hy0 : (y 0).val < 512 := (y 0).isLt
  have hy1 : (y 1).val < 1024 := (y 1).isLt
  have hb0 : (((cfg0.win 2).blk t).view.emb y 0).val = win0_2.index t (0 : Fin 2) * 512 + 1 * (y 0).val := rfl
  rw [e0] at hb0
  have hb1 : (((cfg0.win 2).blk t).view.emb y 1).val = win0_2.index t (1 : Fin 2) * 1024 + 1 * (y 1).val := rfl
  rw [e1] at hb1
  show (k0_pay5 (iblk m c 0 t) (k0_pay3 (X0_1 m c t))) ((cfg0.win 2).xinj (grid0.coords t) y)
    = G2 m c (((cfg0.win 2).blk t).view.emb y)
  have hl : (cfg0.win 2).xinj (grid0.coords t) y = ix2 (⟨(y 0).val, hy0⟩ : Fin 512) (⟨(y 1).val, hy1⟩ : Fin 1024) := by
    funext a
    match a with
    | ⟨0, _⟩ => rfl
    | ⟨1, _⟩ => rfl
  rw [hl]
  exact value_eq m c t (⟨(y 0).val, hy0⟩ : Fin 512) (⟨(y 1).val, hy1⟩ : Fin 1024) _ (by rw [hb0]; dsimp only; omega) (by rw [hb1]; dsimp only; omega)

/-- An index of the array is in a point's block iff each coordinate is in the block's range. -/
theorem mem_blk2 (t : Fin cfg0.N) (i : S9728x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1_0).slice (win0_2.rect t)).set ↔ _
  rw [View.set_slice_whole, Rect.mem_set_unit]
  exact Iff.rfl

/-- The result array after the region. -/
theorem final2 (m : (ℓ : Loc nD τ sig) → Buf (Elt Ideal) ℓ) (c : Dev nD) : (dats m 0 c).arrAt 2 cfg0.N = G2 m c :=
  (dats m 0 c).arrAt_eq_of_cover 2 _ (fun t _ => flushed2_eq m c t) fun i => by
    have h0 : (i 0).val < 9728 := (i 0).isLt
    have h1 : (i 1).val < 1024 := (i 1).isLt
    have hN : (i 0).val / 512 < cfg0.N := lt_of_lt_of_eq (by omega) N_0.symm
    refine ⟨⟨_, hN⟩, flush0_2 _, ?_⟩
    obtain ⟨-, -, -, -, -, e0, e1, -⟩ := idx_facts ⟨_, hN⟩
    dsimp only at e0 e1
    rw [mem_blk2]
    intro a
    match a with
    | ⟨0, _⟩ =>
      show win0_2.index _ (0 : Fin 2) * 512 ≤ (i 0).val ∧ (i 0).val < win0_2.index _ (0 : Fin 2) * 512 + 512
      rw [e0]; omega
    | ⟨1, _⟩ =>
      show win0_2.index _ (1 : Fin 2) * 1024 ≤ (i 1).val ∧ (i 1).val < win0_2.index _ (1 : Fin 2) * 1024 + 1024
      rw [e1]; omega

/-- Every point writes back its block of `G3`. -/
theorem flushed3_eq (m : (ℓ : Loc nD τ sig) → Buf (Elt Ideal) ℓ) (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, out3_eq]
  obtain ⟨-, -, -, -, -, -, -, e0, e1, e2, e3⟩ := idx_facts t
  funext y
  have hy0 : (y 0).val < 4 := (y 0).isLt
  have hy1 : (y 1).val < 8 := (y 1).isLt
  have hy2 : (y 2).val < 128 := (y 2).isLt
  have hy3 : (y 3).val < 128 := (y 3).isLt
  have hb0 : (((cfg0.win 3).blk t).view.emb y 0).val = win0_3.index t (0 : Fin 4) * 4 + 1 * (y 0).val := rfl
  rw [e0] at hb0
  have hb1 : (((cfg0.win 3).blk t).view.emb y 1).val = win0_3.index t (1 : Fin 4) * 8 + 1 * (y 1).val := rfl
  rw [e1] at hb1
  have hb2 : (((cfg0.win 3).blk t).view.emb y 2).val = win0_3.index t (2 : Fin 4) * 128 + 1 * (y 2).val := rfl
  rw [e2] at hb2
  have hb3 : (((cfg0.win 3).blk t).view.emb y 3).val = win0_3.index t (3 : Fin 4) * 128 + 1 * (y 3).val := rfl
  rw [e3] at hb3
  show (tiles (k0_pay4 (iblk m c 0 t) (k0_pay3 (X0_1 m c t)))) ((cfg0.win 3).xinj (grid0.coords t) y)
    = G3 m c (((cfg0.win 3).blk t).view.emb y)
  have hl : (cfg0.win 3).xinj (grid0.coords t) y = ix4 (⟨(y 0).val, hy0⟩ : Fin 4) (⟨(y 1).val, hy1⟩ : Fin 8) (⟨(y 2).val, hy2⟩ : Fin 128) (⟨(y 3).val, hy3⟩ : Fin 128) := by
    funext a
    match a with
    | ⟨0, _⟩ => rfl
    | ⟨1, _⟩ => rfl
    | ⟨2, _⟩ => rfl
    | ⟨3, _⟩ => rfl
  rw [hl]
  exact value_eq m c t (⟨128 * (y 0).val + (y 3).val, by omega⟩ : Fin 512) (⟨128 * (y 1).val + (y 2).val, by omega⟩ : Fin 1024) _
    (by show 128 * (((cfg0.win 3).blk t).view.emb y 0).val + (((cfg0.win 3).blk t).view.emb y 3).val = _; rw [hb0, hb3]; dsimp only; omega)
    (by show 128 * (((cfg0.win 3).blk t).view.emb y 1).val + (((cfg0.win 3).blk t).view.emb y 2).val = _; rw [hb1, hb2]; dsimp only; omega)

/-- An index of the array is in a point's block iff each coordinate is in the block's range. -/
theorem mem_blk3 (t : Fin cfg0.N) (i : S76x8x128x128.Idx) :
    i ∈ ((cfg0.win 3).blk t).view.set ↔ ∀ a : Fin 4, win0_3.index t a * S4x8x128x128.size a ≤ (i a).val
      ∧ (i a).val < win0_3.index t a * S4x8x128x128.size a + S4x8x128x128.size a := by
  show i ∈ ((View.whole main_v1_1).slice (win0_3.rect t)).set ↔ _
  rw [View.set_slice_whole, Rect.mem_set_unit]
  exact Iff.rfl

/-- The result array after the region. -/
theorem final3 (m : (ℓ : Loc nD τ sig) → Buf (Elt Ideal) ℓ) (c : Dev nD) : (dats m 0 c).arrAt 3 cfg0.N = G3 m c :=
  (dats m 0 c).arrAt_eq_of_cover 3 _ (fun t _ => flushed3_eq m c t) fun i => by
    have h0 : (i 0).val < 76 := (i 0).isLt
    have h1 : (i 1).val < 8 := (i 1).isLt
    have h2 : (i 2).val < 128 := (i 2).isLt
    have h3 : (i 3).val < 128 := (i 3).isLt
    have hN : (i 0).val / 4 < cfg0.N := lt_of_lt_of_eq (by omega) N_0.symm
    refine ⟨⟨_, hN⟩, flush0_3 _, ?_⟩
    obtain ⟨-, -, -, -, -, -, -, e0, e1, e2, e3⟩ := idx_facts ⟨_, hN⟩
    dsimp only at e0 e1 e2 e3
    rw [mem_blk3]
    intro a
    match a with
    | ⟨0, _⟩ =>
      show win0_3.index _ (0 : Fin 4) * 4 ≤ (i 0).val ∧ (i 0).val < win0_3.index _ (0 : Fin 4) * 4 + 4
      rw [e0]; omega
    | ⟨1, _⟩ =>
      show win0_3.index _ (1 : Fin 4) * 8 ≤ (i 1).val ∧ (i 1).val < win0_3.index _ (1 : Fin 4) * 8 + 8
      rw [e1]; omega
    | ⟨2, _⟩ =>
      show win0_3.index _ (2 : Fin 4) * 128 ≤ (i 2).val ∧ (i 2).val < win0_3.index _ (2 : Fin 4) * 128 + 128
      rw [e2]; omega
    | ⟨3, _⟩ =>
      show win0_3.index _ (3 : Fin 4) * 128 ≤ (i 3).val ∧ (i 3).val < win0_3.index _ (3 : Fin 4) * 128 + 128
      rw [e3]; omega

/-- The run: the results are the projection's values in their places, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1_0) = G2 m c
      ∧ r.2.mem ((c : Thread nD τ).loc main_v1_1) = G3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final2 m c),
      ((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.ProjQIdeal.QueryValue

namespace Cert.ProjQReferenceIdeal.Read

open Cert.ProjQReferenceIdeal Cert.ProjQReferenceIdeal.Gen Idealize.ShloMosaic

/-- The reference's values: its product, cut to the projection's columns, scaled. -/
def vals (x : Vec Ideal S9728x2048 .bf16) (w : Vec Ideal S2x2048x9296 .f32) : FVec Ideal S9728x1024 .f32 :=
  mulf (extractStridedSlice S9728x1024 ![0, 0] (Host.dotGeneral dot_S9728x2048_S2048x9296_S9728x9296_1_0_0_1_n_n none (extf .f32 x bitsLt_bf16_f32) (shapeCast S2048x9296 (extractStridedSlice S1x2048x9296 ![1, 0, 0] w slices_S2x2048x9296_S1x2048x9296_1_0_0) shapeCasts_S1x2048x9296_S2048x9296 : FVec Ideal S2048x9296 .f32)) slices_S9728x9296_S9728x1024_0_0) (broadcastInDim S9728x1024 ![] bcast_S_S9728x1024 (constant S_ .f32 0x3E0293EE#32))

theorem vals_apply (x : Vec Ideal S9728x2048 .bf16) (w : Vec Ideal S2x2048x9296 .f32) (r : Fin 9728) (j : Fin 1024) :
    vals x w (ix2 r j) = Cert.ProjQIdeal.QueryValue.cols x w r j := by
  unfold vals Cert.ProjQIdeal.QueryValue.cols
  pointwise

/-- The reference's transposed values, read at an index. -/
theorem tiles_apply (P : FVec Ideal S9728x1024 .f32) (r : Fin 76) (c : Fin 8) (a b : Fin 128) :
    (truncf .bf16 (transpose S76x8x128x128 [0, 2, 3, 1] (shapeCast S76x128x8x128 P shapeCasts_S9728x1024_S76x128x8x128 : FVec Ideal S76x128x8x128 .f32) transposes_S76x128x8x128_S76x8x128x128_0_2_3_1) bitsLt_bf16_f32 (ix4 r c a b) : EReal)
      = P (ix2 ⟨128 * r.val + b.val, by omega⟩ ⟨128 * c.val + a.val, by omega⟩) := by
  pointwise
  exact congrArg P (congrArg₂ ix2 (Fin.ext (by dsimp only; omega)) (Fin.ext (by dsimp only; omega)))

end Cert.ProjQReferenceIdeal.Read

namespace Cert.Proof

open Idealize.ShloMosaic Idealize.SL.Sem

theorem quiescent_ProjQReferenceIdeal : quiescent_ProjQReferenceIdeal := fun m ρ _ =>
  (θ_run Cert.ProjQReferenceIdeal.defs _ _).mono
    (fun r h => ⟨fun c => (h c).2.2, sem_eq_zero_of_no_sems (by decide) r.2⟩)
    (Cert.ProjQReferenceIdeal.Value.run (F := Ideal) m ρ)

theorem algebraic_ProjQIdeal_ProjQReferenceIdeal : algebraic_ProjQIdeal_ProjQReferenceIdeal := by
  intro m ρ m' ρ' _ hagree
  refine ⟨_, _, Cert.ProjQIdeal.QueryValue.run m ρ, ?_⟩
  refine (θ_run Cert.ProjQReferenceIdeal.defs _ _).mono (fun _ h c => ⟨?_, ?_, (h c).2.2⟩)
    (Cert.ProjQReferenceIdeal.Value.run (F := Ideal) m' ρ')
  all_goals
    have hG : Cert.ProjQReferenceIdeal.Read.vals (m' (c.tc.loc Cert.ProjQReferenceIdeal.main_arg0)) (m' (c.tc.loc Cert.ProjQReferenceIdeal.main_arg1))
        = Cert.ProjQIdeal.QueryValue.G m c := by
      rw [(hagree c).1, (hagree c).2]
      funext j
      idx_vars j
      exact Cert.ProjQReferenceIdeal.Read.vals_apply _ _ _ _
  · rw [(h c).1]
    funext j
    show (Cert.ProjQReferenceIdeal.Read.vals (m' (c.tc.loc Cert.ProjQReferenceIdeal.main_arg0)) (m' (c.tc.loc Cert.ProjQReferenceIdeal.main_arg1)) j : EReal) = Cert.ProjQIdeal.QueryValue.G m c j
    rw [hG]
  · rw [(h c).2.1]
    funext j
    idx_vars j
    refine (Cert.ProjQReferenceIdeal.Read.tiles_apply _ _ _ _ _).trans ?_
    show (Cert.ProjQReferenceIdeal.Read.vals (m' (c.tc.loc Cert.ProjQReferenceIdeal.main_arg0)) (m' (c.tc.loc Cert.ProjQReferenceIdeal.main_arg1)) _ : EReal) = Cert.ProjQIdeal.QueryValue.G m c _
    rw [hG]
    rfl

end Cert.Proof

end
-- ==== Proof.ProjQIValue.lean ====
/- The value of the projection to the indexer's queries (`ProjQIIdeal`): every grid point leaves, in its blocks of the results, the product of its
   rows with the weights held in the scratch, which were loaded and transposed at the first point; one result is written a lane tile at a time, each transposed. -/
module

public import proofs.«01_k».proof.Defs
public import proofs.«01_k».proof.Proof.Gen.ProjQIIdeal.Frame
public import proofs.«01_k».proof.Proof.Gen.ProjQIReferenceIdeal.Run
public import Idealize.ShloMosaic.Lib.Pipeline.Value
public import Idealize.ShloMosaic.Lib.Pipeline.ValueKit.Tiles
public import Idealize.ShloMosaic.Lib.Pointwise
public import Idealize.ShloMosaic.Lib.Tactic
public import Idealize.ShloMosaic.Lib.Quiescent
public import Idealize.ShloMosaic.Adequacy

@[expose] public section

set_option maxRecDepth 16384

noncomputable section

namespace Cert.ProjQIIdeal.IndexQueryValue

open Cert.ProjQIIdeal Cert.ProjQIIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves -/

/-- At the first point the scratch is left at the transposed weights. -/
theorem scratch_A (c : Dev nD) (i : grid0.Coords) (a1 h1 a2 h2 a3 h3 a4 h4 a5 h5) (hc : cond0_0 i) (x0 : Vec F S512x2048 .bf16)
    (x1 : Vec F S1x1024x2048 .f32) :
    sout0_A_0 c i a1 h1 a2 h2 a3 h3 a4 h4 a5 h5 hc x0 x1 = k0_pay2 x1 := by
  unfold sout0_A_0
  rw [View.read_writes_eq_canon _ _ _ (scover0_A_0 c i a1 h1 a2 h2 a3 h3 a4 h4 a5 h5 hc x0 x1)]
  unfold kernelRun0_A
  dsimp only
  sl_unfold_words
  rw [View.canon_unit_zero hz2]
  simp only [View.readAt_eq_ld, Memref.IsWhole.read_unread, View.ld_unit_zero (S := S512x2048) hz2,
    View.ld_unit_zero (S := S2048x1024) hz2, View.ld_unit_zero (S := S1x1024x2048) hz3]

/-- What the first point leaves in its block of result 0. -/
theorem out2_A (c : Dev nD) (i : grid0.Coords) (a1 h1 a2 h2 a3 h3 a4 h4 a5 h5) (hc : cond0_0 i) (x0 : Vec F S512x2048 .bf16)
    (x1 : Vec F S1x1024x2048 .f32) :
    out0_A_2 c i a1 h1 a2 h2 a3 h3 a4 h4 a5 h5 hc x0 x1 = k0_pay4 x0 (k0_pay2 x1) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero hz2, View.readCov_unit_zero _ hz2]
  simp only [View.readAt_eq_ld, Memref.IsWhole.read_unread, View.ld_unit_zero (S := S512x2048) hz2,
    View.ld_unit_zero (S := S2048x1024) hz2, View.ld_unit_zero (S := S1x1024x2048) hz3]

/-- What every other point leaves in its block of result 0, over what the scratch holds. -/
theorem out2_B (c : Dev nD) (i : grid0.Coords) (a1 h1 a2 h2 a3 h3 a4 h4 a5 h5) (hc : ¬cond0_0 i) (x0 : Vec F S512x2048 .bf16)
    (x1 : Vec F S1x1024x2048 .f32)
    (xs : Vec F S2048x1024 .bf16) : out0_B_2 c i a1 h1 a2 h2 a3 h3 a4 h4 a5 h5 hc x0 x1 xs = k0_pay4 x0 xs := by
  unfold out0_B_2
  rw [View.read_writes_eq_canon _ _ _ (cover0_B_2 c i a1 h1 a2 h2 a3 h3 a4 h4 a5 h5 hc x0 x1 xs)]
  unfold kernelRun0_B
  dsimp only
  sl_unfold_words
  rw [View.canon_unit_zero hz2]
  simp only [View.readAt_eq_ld, Memref.IsWhole.read_unread, View.ld_unit_zero (S := S512x2048) hz2,
    View.ld_unit_zero (S := S2048x1024) hz2, View.ld_unit_zero (S := S1x1024x2048) hz3]

/-- The lane tiles of a block of values, each transposed. -/
def tiles (R : FVec Ideal S512x1024 .f32) : Vec Ideal S4x8x128x128 .bf16 := fun i =>
  (R (ix2 ⟨128 * (i 0).val + (i 3).val, by have h0 : (i 0).val < 4 := (i 0).isLt; have h3 : (i 3).val < 128 := (i 3).isLt; omega⟩
    ⟨128 * (i 1).val + (i 2).val, by have h1 : (i 1).val < 8 := (i 1).isLt; have h2 : (i 2).val < 128 := (i 2).isLt; omega⟩) : EReal)

/-- One stored tile, read at an index. -/
theorem tile_apply (R : FVec Ideal S512x1024 .f32) (o p : ℕ) (h : Shape.Slices S512x1024 ![o, p] S128x128) (h' : Shape.Transposes S128x128 [1, 0] S128x128)
    (hb : FTy.bits .bf16 < FTy.bits .f32) (hs : Shape.ShapeCasts S128x128 S1x1x128x128) (x0 x1 : Fin 1) (a b : Fin 128) (r : Fin 512) (j : Fin 1024)
    (hr : r.val = o + b.val) (hj : j.val = p + a.val) :
    (shapeCast S1x1x128x128 (truncf .bf16 (transpose S128x128 [1, 0] (extractStridedSlice S128x128 ![o, p] R h) h') hb) hs (ix4 x0 x1 a b) : EReal)
      = R (ix2 r j) := by
  obtain rfl : x0 = 0 := Subsingleton.elim _ _
  obtain rfl : x1 = 0 := Subsingleton.elim _ _
  pointwise
  exact congrArg R (congrArg₂ ix2 (Fin.ext hr.symm) (Fin.ext hj.symm))

/-- What a point of case A leaves in its block of result 1. -/
theorem out3_A (c : Dev nD) (i : grid0.Coords) (a1 h1 a2 h2 a3 h3 a4 h4 a5 h5) (hc : cond0_0 i) (x0 : Vec Ideal S512x2048 .bf16)
    (x1 : Vec Ideal S1x1024x2048 .f32) :
    out0_A_3 c i a1 h1 a2 h2 a3 h3 a4 h4 a5 h5 hc x0 x1 = tiles (k0_pay3 x0 (k0_pay2 x1)) := by
  unfold out0_A_3
  rw [View.read_writes_eq_canon _ _ _ (cover0_A_3 c i a1 h1 a2 h2 a3 h3 a4 h4 a5 h5 hc x0 x1)]
  unfold kernelRun0_A
  dsimp only
  sl_unfold_words
  rw [View.readCov_unit_zero _ hz2]
  simp only [View.readAt_eq_ld, Memref.IsWhole.read_unread, View.ld_unit_zero (S := S512x2048) hz2,
    View.ld_unit_zero (S := S2048x1024) hz2, View.ld_unit_zero (S := S1x1024x2048) hz3]
  funext y
  unfold tiles
  idx_vars y
  canon_tiles t h
  all_goals
    open_payloads
    idx_vars t
    refine tile_apply _ _ _ (by decide) (by decide) (by decide) (by decide) _ _ _ _ _ _ ?_ ?_ <;> (dsimp only; omega)

/-- What a point of case B leaves in its block of result 1. -/
theorem out3_B (c : Dev nD) (i : grid0.Coords) (a1 h1 a2 h2 a3 h3 a4 h4 a5 h5) (hc : ¬cond0_0 i) (x0 : Vec Ideal S512x2048 .bf16)
    (x1 : Vec Ideal S1x1024x2048 .f32)
    (xs : Vec Ideal S2048x1024 .bf16) :
    out0_B_3 c i a1 h1 a2 h2 a3 h3 a4 h4 a5 h5 hc x0 x1 xs = tiles (k0_pay3 x0 xs) := by
  unfold out0_B_3
  rw [View.read_writes_eq_canon _ _ _ (cover0_B_3 c i a1 h1 a2 h2 a3 h3 a4 h4 a5 h5 hc x0 x1 xs)]
  unfold kernelRun0_B
  dsimp only
  sl_unfold_words
  simp only [View.readAt_eq_ld, Memref.IsWhole.read_unread, View.ld_unit_zero (S := S512x2048) hz2,
    View.ld_unit_zero (S := S2048x1024) hz2, View.ld_unit_zero (S := S1x1024x2048) hz3]
  funext y
  unfold tiles
  idx_vars y
  canon_tiles t h
  all_goals
    open_payloads
    idx_vars t
    refine tile_apply _ _ _ (by decide) (by decide) (by decide) (by decide) _ _ _ _ _ _ ?_ ?_ <;> (dsimp only; omega)

/-! ## The blocks the windows read -/

/-- The block indices of the windows at a point. -/
theorem idx_facts : ∀ t : Fin cfg0.N, win0_0.index t (0 : Fin 2) = t.val ∧ win0_0.index t (1 : Fin 2) = 0
    ∧ win0_1.index t (0 : Fin 3) = 1 ∧ win0_1.index t (1 : Fin 3) = 3 ∧ win0_1.index t (2 : Fin 3) = 0
    ∧ win0_2.index t (0 : Fin 2) = t.val ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem lt19 (t : Fin cfg0.N) : t.val < 19 := lt_of_lt_of_eq t.isLt N_0

/-- The activations' block at a point: its 512 rows. -/
theorem iblk_x (c : Dev nD) (t : Fin cfg0.N) (r : Fin 512) (k : Fin 2048) :
    (iblk m c 0 t : Vec F S512x2048 .bf16) (ix2 r k)
      = (m ((c : Thread nD τ).loc main_arg0) : Vec F S9728x2048 .bf16) (ix2 ⟨512 * t.val + r.val, by have := lt19 t; omega⟩ k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [e0]; omega
  | ⟨1, _⟩ => show win0_0.index t 1 * 2048 + 1 * k.val = k.val; rw [e1]; omega

/-- The weights the region finds: the argument, its two last axes exchanged. -/
theorem V_w (c : Dev nD) : V m c main_v0
    = transpose S2x9296x2048 [0, 2, 1] (m ((c : Thread nD τ).loc main_arg1) : Vec F S2x2048x9296 .f32)
        transposes_S2x2048x9296_S2x9296x2048_0_2_1 := by
  show StableHlo.after hostOps0 (fun b => m (c, b)) (Proc.devRef .tc main_v0) = _
  after_results <;> rfl

/-- The weights' block at a point, element by element, in the argument's own order of axes. -/
theorem blk_w (c : Dev nD) (t : Fin cfg0.N) (j : Fin 1024) (k : Fin 2048) :
    (X0_1 m c t : Vec F S1x1024x2048 .f32) (ix3 0 j k)
      = (m ((c : Thread nD τ).loc main_arg1) : Vec F S2x2048x9296 .f32) (ix3 1 k ⟨3072 + j.val, by omega⟩) := by
  obtain ⟨-, -, e0, e1, e2, -⟩ := idx_facts t
  unfold X0_1 Pipeline.Window.fill
  rw [dif_pos (moved0_1 t _)]
  unfold iblk
  rw [View.read_apply]
  show V m c main_v0 _ = m (c.tc.loc main_arg1) _
  rw [V_w]
  refine transpose_apply _ _ _ _ _ fun a => ?_
  match a with
  | ⟨0, _⟩ => show 1 = win0_1.index t 0 * 1 + 1 * 0; rw [e0]
  | ⟨1, _⟩ => show 3072 + j.val = win0_1.index t 1 * 1024 + 1 * j.val; rw [e1]; omega
  | ⟨2, _⟩ => show k.val = win0_1.index t 2 * 2048 + 1 * k.val; rw [e2]; omega

/-- The weights' block does not move. -/
theorem blk_w_eq (c : Dev nD) (t s : Fin cfg0.N) : (X0_1 m c t : Vec F S1x1024x2048 .f32) = X0_1 m c s := by
  funext y
  idx_vars y
  obtain rfl : y0 = 0 := Subsingleton.elim _ _
  rw [blk_w, blk_w]

/-! ## The scratch and the outputs after every point -/

/-- The scratch after a point: the transposed weights. -/
theorem scratch_eq (c : Dev nD) : ∀ (n : ℕ) (t : Fin cfg0.N), t.val = n →
    (outsAt0 m c t.val t.isLt).2.2 = k0_pay2 (X0_1 m c t) := by
  intro n
  induction n with
  | zero =>
    intro t ht
    rw [outsAt0_A m c t (by omega)]
    dsimp only
    rw [scratch_A]
  | succ n ih =>
    intro t ht
    by_cases h0 : t.val % 19 = 0
    · rw [outsAt0_A m c t h0]
      dsimp only
      rw [scratch_A]
    · rw [outsAt0_B m c t h0]
      dsimp only [sout0_B_0]
      rw [ih ⟨t.val - 1, by omega⟩ (by dsimp only; omega), blk_w_eq m c ⟨t.val - 1, by omega⟩ t]

/-- Result 0's block after a point. -/
theorem out2_eq (c : Dev nD) (t : Fin cfg0.N) :
    (outsAt0 m c t.val t.isLt).1 = k0_pay4 (iblk m c 0 t) (k0_pay2 (X0_1 m c t)) := by
  by_cases h0 : t.val % 19 = 0
  · rw [outsAt0_A m c t h0]
    dsimp only
    rw [out2_A]
  · rw [outsAt0_B m c t h0]
    dsimp only
    rw [out2_B, scratch_eq m c _ ⟨t.val - 1, by omega⟩ rfl, blk_w_eq m c ⟨t.val - 1, by omega⟩ t]

/-- Result 1's block after a point. -/
theorem out3_eq (m : (ℓ : Loc nD τ sig) → Buf (Elt Ideal) ℓ) (c : Dev nD) (t : Fin cfg0.N) :
    (outsAt0 m c t.val t.isLt).2.1 = tiles (k0_pay3 (iblk m c 0 t) (k0_pay2 (X0_1 m c t))) := by
  by_cases h0 : t.val % 19 = 0
  · rw [outsAt0_A m c t h0]
    dsimp only
    rw [out3_A]
  · rw [outsAt0_B m c t h0]
    dsimp only
    rw [out3_B, scratch_eq m c _ ⟨t.val - 1, by omega⟩ rfl, blk_w_eq m c ⟨t.val - 1, by omega⟩ t]

/-! ## The result arrays -/

/-- The product of the activations with the projection's columns of the weights. -/
def cols (x : Vec Ideal S9728x2048 .bf16) (w : Vec Ideal S2x2048x9296 .f32) (r : Fin 9728) (j : Fin 1024) : EReal :=
  (∑ k : Fin 2048, x (ix2 r k) * w (ix3 1 k ⟨3072 + j.val, by omega⟩))

/-- The product at every row and column: what all the results are made of. -/
def G (m : (ℓ : Loc nD τ sig) → Buf (Elt Ideal) ℓ) (c : Dev nD) : Vec Ideal S9728x1024 .f32 := fun i =>
  cols (m ((c : Thread nD τ).loc main_arg0)) (m ((c : Thread nD τ).loc main_arg1)) (i 0) (i 1)

/-- What result 0 ends holding: the same values. -/
def G2 (m : (ℓ : Loc nD τ sig) → Buf (Elt Ideal) ℓ) (c : Dev nD) : Vec Ideal S9728x1024 .bf16 := fun i => G m c i

/-- What result 1 ends holding: the values, a lane tile at a time, each transposed. -/
def G3 (m : (ℓ : Loc nD τ sig) → Buf (Elt Ideal) ℓ) (c : Dev nD) : Vec Ideal S76x8x128x128 .bf16 := fun i =>
  (G m c (ix2 (⟨128 * (i 0).val + (i 3).val, by have h0 : (i 0).val < 76 := (i 0).isLt; have h3 : (i 3).val < 128 := (i 3).isLt; omega⟩ : Fin 9728)
    (⟨128 * (i 1).val + (i 2).val, by have h1 : (i 1).val < 8 := (i 1).isLt; have h2 : (i 2).val < 128 := (i 2).isLt; omega⟩ : Fin 1024)) : EReal)

/-- The product of a block of rows with the transposed weights, read at an index. -/
theorem pay_apply (x : Vec Ideal S512x2048 .bf16) (w : Vec Ideal S1x1024x2048 .f32) (r : Fin 512) (j : Fin 1024) :
    k0_pay3 x (k0_pay2 w) (ix2 r j) = (∑ k : Fin 2048, x (ix2 r k) * w (ix3 0 j k)) := by
  unfold_payloads
  pointwise

/-- A point's value is the value of `G` at its row. -/
theorem value_eq (m : (ℓ : Loc nD τ sig) → Buf (Elt Ideal) ℓ) (c : Dev nD) (t : Fin cfg0.N) (r : Fin 512) (j : Fin 1024)
    (i : S9728x1024.Idx) (h0 : (i 0).val = t.val * 512 + r.val) (h1 : (i 1).val = j.val) :
    k0_pay3 (iblk m c 0 t) (k0_pay2 (X0_1 m c t)) (ix2 r j) = G m c i := by
  have hi0 : i 0 = (⟨512 * t.val + r.val, by have := lt19 t; omega⟩ : Fin 9728) := Fin.ext (by rw [h0]; dsimp only; omega)
  have hi1 : i 1 = j := Fin.ext h1
  rw [pay_apply]
  unfold G
  rw [hi0, hi1]
  unfold cols
  simp only [iblk_x, blk_w]

/-- Every point writes back its block of `G2`. -/
theorem flushed2_eq (m : (ℓ : Loc nD τ sig) → Buf (Elt Ideal) ℓ) (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after0_2, out2_eq]
  obtain ⟨-, -, -, -, -, e0, e1, -⟩ := idx_facts t
  funext y
  have hy0 : (y 0).val < 512 := (y 0).isLt
  have hy1 : (y 1).val < 1024 := (y 1).isLt
  have hb0 : (((cfg0.win 2).blk t).view.emb y 0).val = win0_2.index t (0 : Fin 2) * 512 + 1 * (y 0).val := rfl
  rw [e0] at hb0
  have hb1 : (((cfg0.win 2).blk t).view.emb y 1).val = win0_2.index t (1 : Fin 2) * 1024 + 1 * (y 1).val := rfl
  rw [e1] at hb1
  show (k0_pay4 (iblk m c 0 t) (k0_pay2 (X0_1 m c t))) ((cfg0.win 2).xinj (grid0.coords t) y)
    = G2 m c (((cfg0.win 2).blk t).view.emb y)
  have hl : (cfg0.win 2).xinj (grid0.coords t) y = ix2 (⟨(y 0).val, hy0⟩ : Fin 512) (⟨(y 1).val, hy1⟩ : Fin 1024) := by
    funext a
    match a with
    | ⟨0, _⟩ => rfl
    | ⟨1, _⟩ => rfl
  rw [hl]
  exact value_eq m c t (⟨(y 0).val, hy0⟩ : Fin 512) (⟨(y 1).val, hy1⟩ : Fin 1024) _ (by rw [hb0]; dsimp only; omega) (by rw [hb1]; dsimp only; omega)

/-- An index of the array is in a point's block iff each coordinate is in the block's range. -/
theorem mem_blk2 (t : Fin cfg0.N) (i : S9728x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1_0).slice (win0_2.rect t)).set ↔ _
  rw [View.set_slice_whole, Rect.mem_set_unit]
  exact Iff.rfl

/-- The result array after the region. -/
theorem final2 (m : (ℓ : Loc nD τ sig) → Buf (Elt Ideal) ℓ) (c : Dev nD) : (dats m 0 c).arrAt 2 cfg0.N = G2 m c :=
  (dats m 0 c).arrAt_eq_of_cover 2 _ (fun t _ => flushed2_eq m c t) fun i => by
    have h0 : (i 0).val < 9728 := (i 0).isLt
    have h1 : (i 1).val < 1024 := (i 1).isLt
    have hN : (i 0).val / 512 < cfg0.N := lt_of_lt_of_eq (by omega) N_0.symm
    refine ⟨⟨_, hN⟩, flush0_2 _, ?_⟩
    obtain ⟨-, -, -, -, -, e0, e1, -⟩ := idx_facts ⟨_, hN⟩
    dsimp only at e0 e1
    rw [mem_blk2]
    intro a
    match a with
    | ⟨0, _⟩ =>
      show win0_2.index _ (0 : Fin 2) * 512 ≤ (i 0).val ∧ (i 0).val < win0_2.index _ (0 : Fin 2) * 512 + 512
      rw [e0]; omega
    | ⟨1, _⟩ =>
      show win0_2.index _ (1 : Fin 2) * 1024 ≤ (i 1).val ∧ (i 1).val < win0_2.index _ (1 : Fin 2) * 1024 + 1024
      rw [e1]; omega

/-- Every point writes back its block of `G3`. -/
theorem flushed3_eq (m : (ℓ : Loc nD τ sig) → Buf (Elt Ideal) ℓ) (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, out3_eq]
  obtain ⟨-, -, -, -, -, -, -, e0, e1, e2, e3⟩ := idx_facts t
  funext y
  have hy0 : (y 0).val < 4 := (y 0).isLt
  have hy1 : (y 1).val < 8 := (y 1).isLt
  have hy2 : (y 2).val < 128 := (y 2).isLt
  have hy3 : (y 3).val < 128 := (y 3).isLt
  have hb0 : (((cfg0.win 3).blk t).view.emb y 0).val = win0_3.index t (0 : Fin 4) * 4 + 1 * (y 0).val := rfl
  rw [e0] at hb0
  have hb1 : (((cfg0.win 3).blk t).view.emb y 1).val = win0_3.index t (1 : Fin 4) * 8 + 1 * (y 1).val := rfl
  rw [e1] at hb1
  have hb2 : (((cfg0.win 3).blk t).view.emb y 2).val = win0_3.index t (2 : Fin 4) * 128 + 1 * (y 2).val := rfl
  rw [e2] at hb2
  have hb3 : (((cfg0.win 3).blk t).view.emb y 3).val = win0_3.index t (3 : Fin 4) * 128 + 1 * (y 3).val := rfl
  rw [e3] at hb3
  show (tiles (k0_pay3 (iblk m c 0 t) (k0_pay2 (X0_1 m c t)))) ((cfg0.win 3).xinj (grid0.coords t) y)
    = G3 m c (((cfg0.win 3).blk t).view.emb y)
  have hl : (cfg0.win 3).xinj (grid0.coords t) y = ix4 (⟨(y 0).val, hy0⟩ : Fin 4) (⟨(y 1).val, hy1⟩ : Fin 8) (⟨(y 2).val, hy2⟩ : Fin 128) (⟨(y 3).val, hy3⟩ : Fin 128) := by
    funext a
    match a with
    | ⟨0, _⟩ => rfl
    | ⟨1, _⟩ => rfl
    | ⟨2, _⟩ => rfl
    | ⟨3, _⟩ => rfl
  rw [hl]
  exact value_eq m c t (⟨128 * (y 0).val + (y 3).val, by omega⟩ : Fin 512) (⟨128 * (y 1).val + (y 2).val, by omega⟩ : Fin 1024) _
    (by show 128 * (((cfg0.win 3).blk t).view.emb y 0).val + (((cfg0.win 3).blk t).view.emb y 3).val = _; rw [hb0, hb3]; dsimp only; omega)
    (by show 128 * (((cfg0.win 3).blk t).view.emb y 1).val + (((cfg0.win 3).blk t).view.emb y 2).val = _; rw [hb1, hb2]; dsimp only; omega)

/-- An index of the array is in a point's block iff each coordinate is in the block's range. -/
theorem mem_blk3 (t : Fin cfg0.N) (i : S76x8x128x128.Idx) :
    i ∈ ((cfg0.win 3).blk t).view.set ↔ ∀ a : Fin 4, win0_3.index t a * S4x8x128x128.size a ≤ (i a).val
      ∧ (i a).val < win0_3.index t a * S4x8x128x128.size a + S4x8x128x128.size a := by
  show i ∈ ((View.whole main_v1_1).slice (win0_3.rect t)).set ↔ _
  rw [View.set_slice_whole, Rect.mem_set_unit]
  exact Iff.rfl

/-- The result array after the region. -/
theorem final3 (m : (ℓ : Loc nD τ sig) → Buf (Elt Ideal) ℓ) (c : Dev nD) : (dats m 0 c).arrAt 3 cfg0.N = G3 m c :=
  (dats m 0 c).arrAt_eq_of_cover 3 _ (fun t _ => flushed3_eq m c t) fun i => by
    have h0 : (i 0).val < 76 := (i 0).isLt
    have h1 : (i 1).val < 8 := (i 1).isLt
    have h2 : (i 2).val < 128 := (i 2).isLt
    have h3 : (i 3).val < 128 := (i 3).isLt
    have hN : (i 0).val / 4 < cfg0.N := lt_of_lt_of_eq (by omega) N_0.symm
    refine ⟨⟨_, hN⟩, flush0_3 _, ?_⟩
    obtain ⟨-, -, -, -, -, -, -, e0, e1, e2, e3⟩ := idx_facts ⟨_, hN⟩
    dsimp only at e0 e1 e2 e3
    rw [mem_blk3]
    intro a
    match a with
    | ⟨0, _⟩ =>
      show win0_3.index _ (0 : Fin 4) * 4 ≤ (i 0).val ∧ (i 0).val < win0_3.index _ (0 : Fin 4) * 4 + 4
      rw [e0]; omega
    | ⟨1, _⟩ =>
      show win0_3.index _ (1 : Fin 4) * 8 ≤ (i 1).val ∧ (i 1).val < win0_3.index _ (1 : Fin 4) * 8 + 8
      rw [e1]; omega
    | ⟨2, _⟩ =>
      show win0_3.index _ (2 : Fin 4) * 128 ≤ (i 2).val ∧ (i 2).val < win0_3.index _ (2 : Fin 4) * 128 + 128
      rw [e2]; omega
    | ⟨3, _⟩ =>
      show win0_3.index _ (3 : Fin 4) * 128 ≤ (i 3).val ∧ (i 3).val < win0_3.index _ (3 : Fin 4) * 128 + 128
      rw [e3]; omega

/-- The run: the results are the projection's values in their places, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1_0) = G2 m c
      ∧ r.2.mem ((c : Thread nD τ).loc main_v1_1) = G3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final2 m c),
      ((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.ProjQIIdeal.IndexQueryValue

namespace Cert.ProjQIReferenceIdeal.Read

open Cert.ProjQIReferenceIdeal Cert.ProjQIReferenceIdeal.Gen Idealize.ShloMosaic

/-- The reference's values: its product, cut to the projection's columns. -/
def vals (x : Vec Ideal S9728x2048 .bf16) (w : Vec Ideal S2x2048x9296 .f32) : FVec Ideal S9728x1024 .f32 :=
  extractStridedSlice S9728x1024 ![0, 3072] (Host.dotGeneral dot_S9728x2048_S2048x9296_S9728x9296_1_0_0_1_n_n none (extf .f32 x bitsLt_bf16_f32) (shapeCast S2048x9296 (extractStridedSlice S1x2048x9296 ![1, 0, 0] w slices_S2x2048x9296_S1x2048x9296_1_0_0) shapeCasts_S1x2048x9296_S2048x9296 : FVec Ideal S2048x9296 .f32)) slices_S9728x9296_S9728x1024_0_3072

theorem vals_apply (x : Vec Ideal S9728x2048 .bf16) (w : Vec Ideal S2x2048x9296 .f32) (r : Fin 9728) (j : Fin 1024) :
    vals x w (ix2 r j) = Cert.ProjQIIdeal.IndexQueryValue.cols x w r j := by
  unfold vals Cert.ProjQIIdeal.IndexQueryValue.cols
  pointwise

/-- The reference's transposed values, read at an index. -/
theorem tiles_apply (P : FVec Ideal S9728x1024 .f32) (r : Fin 76) (c : Fin 8) (a b : Fin 128) :
    (truncf .bf16 (transpose S76x8x128x128 [0, 2, 3, 1] (shapeCast S76x128x8x128 P shapeCasts_S9728x1024_S76x128x8x128 : FVec Ideal S76x128x8x128 .f32) transposes_S76x128x8x128_S76x8x128x128_0_2_3_1) bitsLt_bf16_f32 (ix4 r c a b) : EReal)
      = P (ix2 ⟨128 * r.val + b.val, by omega⟩ ⟨128 * c.val + a.val, by omega⟩) := by
  pointwise
  exact congrArg P (congrArg₂ ix2 (Fin.ext (by dsimp only; omega)) (Fin.ext (by dsimp only; omega)))

end Cert.ProjQIReferenceIdeal.Read

namespace Cert.Proof

open Idealize.ShloMosaic Idealize.SL.Sem

theorem quiescent_ProjQIReferenceIdeal : quiescent_ProjQIReferenceIdeal := fun m ρ _ =>
  (θ_run Cert.ProjQIReferenceIdeal.defs _ _).mono
    (fun r h => ⟨fun c => (h c).2.2, sem_eq_zero_of_no_sems (by decide) r.2⟩)
    (Cert.ProjQIReferenceIdeal.Value.run (F := Ideal) m ρ)

theorem algebraic_ProjQIIdeal_ProjQIReferenceIdeal : algebraic_ProjQIIdeal_ProjQIReferenceIdeal := by
  intro m ρ m' ρ' _ hagree
  refine ⟨_, _, Cert.ProjQIIdeal.IndexQueryValue.run m ρ, ?_⟩
  refine (θ_run Cert.ProjQIReferenceIdeal.defs _ _).mono (fun _ h c => ⟨?_, ?_, (h c).2.2⟩)
    (Cert.ProjQIReferenceIdeal.Value.run (F := Ideal) m' ρ')
  all_goals
    have hG : Cert.ProjQIReferenceIdeal.Read.vals (m' (c.tc.loc Cert.ProjQIReferenceIdeal.main_arg0)) (m' (c.tc.loc Cert.ProjQIReferenceIdeal.main_arg1))
        = Cert.ProjQIIdeal.IndexQueryValue.G m c := by
      rw [(hagree c).1, (hagree c).2]
      funext j
      idx_vars j
      exact Cert.ProjQIReferenceIdeal.Read.vals_apply _ _ _ _
  · rw [(h c).1]
    funext j
    show (Cert.ProjQIReferenceIdeal.Read.vals (m' (c.tc.loc Cert.ProjQIReferenceIdeal.main_arg0)) (m' (c.tc.loc Cert.ProjQIReferenceIdeal.main_arg1)) j : EReal) = Cert.ProjQIIdeal.IndexQueryValue.G m c j
    rw [hG]
  · rw [(h c).2.1]
    funext j
    idx_vars j
    refine (Cert.ProjQIReferenceIdeal.Read.tiles_apply _ _ _ _ _).trans ?_
    show (Cert.ProjQIReferenceIdeal.Read.vals (m' (c.tc.loc Cert.ProjQIReferenceIdeal.main_arg0)) (m' (c.tc.loc Cert.ProjQIReferenceIdeal.main_arg1)) _ : EReal) = Cert.ProjQIIdeal.IndexQueryValue.G m c _
    rw [hG]
    rfl

end Cert.Proof

end
-- ==== Proof.RetentionValue.lean ====
module

public import proofs.«01_k».proof.Defs
public import proofs.«01_k».proof.Proof.Gen.RetentionIdeal.Frame
public import proofs.«01_k».proof.Proof.Gen.RetentionReferenceIdeal.Run
public import Idealize.ShloMosaic.Lib.Pipeline.Value
public import Idealize.ShloMosaic.Lib.Pipeline.ValueKit.Tiles
public import Idealize.ShloMosaic.Lib.Pipeline.ValueKit.Partial
public import Idealize.ShloMosaic.Lib.Pointwise
public import Idealize.ShloMosaic.Lib.Tactic
public import Idealize.ShloMosaic.Lib.Quiescent
public import Idealize.ShloMosaic.Adequacy

/-!
# The retention of the sample's sequences

What one grid point leaves, a head at a time: the gated, normed rows and the new state. The results are then read at an index, and the
reference's terms at the same index are the same sums.
-/

@[expose] public section

set_option maxRecDepth 16384

noncomputable section

namespace Cert.RetentionIdeal.HeadValue

open Cert.RetentionIdeal Cert.RetentionIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The columns of a block of rows from `o` on. -/
def cols (x : Vec F S64x1024 .f32) (o : ℕ) : Vec F S64x128 .f32 := fun t =>
  x (ix2 (t 0) ⟨(o + (t 1).val) % 1024, Nat.mod_lt _ (by norm_num)⟩)

theorem ld_cols (x : Vec F S64x1024 .f32) (o : ℕ) (inb) :
    View.ld x (Rect.unit (s := S64x1024) ![0, o] ![64, 128] inb) = cols x o := by
  funext t
  have h1 : (t 1).val < 128 := (t 1).isLt
  have hb : o + 128 ≤ 1024 := inb 1
  show x _ = x _
  congr 1
  funext a
  apply Fin.ext
  match a with
  | ⟨0, _⟩ => show 0 + 1 * (t 0).val = (t 0).val; omega
  | ⟨1, _⟩ => show o + 1 * (t 1).val = (o + (t 1).val) % 1024; omega

/-- The plane `o` of a stack of eight. -/
def plane {n k : ℕ} (x : Vec F ⟨3, ![8, n, k]⟩ .f32) (o : ℕ) : Vec F ⟨3, ![1, n, k]⟩ .f32 := fun t =>
  x (ix3 ⟨o % 8, Nat.mod_lt _ (by norm_num)⟩ (t 1) (t 2))

theorem ld_plane {n k : ℕ} (x : Vec F ⟨3, ![8, n, k]⟩ .f32) (o : ℕ) (inb) :
    View.ld x (Rect.unit (s := ⟨3, ![8, n, k]⟩) ![o, 0, 0] ![1, n, k] inb) = plane x o := by
  funext t
  have h1 : (t 0).val < 1 := (t 0).isLt
  have hb : o + 1 ≤ 8 := inb 0
  show x _ = x _
  congr 1
  funext a
  apply Fin.ext
  match a with
  | ⟨0, _⟩ => show o + 1 * (t 0).val = o % 8; omega
  | ⟨1, _⟩ => show 0 + 1 * (t 1).val = (t 1).val; omega
  | ⟨2, _⟩ => show 0 + 1 * (t 2).val = (t 2).val; omega

/-- A load of a plane of the scratch reads the plane of what was stored in it whole. -/
theorem cov_plane (v : View sig .tc .vmem S8x128x128 .f32) (w : Vec F S8x128x128 .f32) (inb0) (o : ℕ) (inb) :
    v.readCov [⟨Rect.unit (s := S8x128x128) ![0, 0, 0] ![8, 128, 128] inb0, w⟩]
      (Rect.unit (s := S8x128x128) ![o, 0, 0] ![1, 128, 128] inb).toLoadRect = plane w o := by
  rw [View.readCov_eq_canon']
  have e : View.canon [⟨Rect.unit (s := S8x128x128) ![0, 0, 0] ![8, 128, 128] inb0, w⟩] = w := View.canon_unit_zero hz3 ..
  rw [e]
  exact ld_plane w o inb

/-- Stores that reach an index hide whatever was stored before them. -/
theorem canon_hides {S : Shape} {e : EltTy} (B : List (View.Piece (Elt F) S e)) (y : S.Idx) :
    ∀ (A : List (View.Piece (Elt F) S e)) (_ : ∃ p ∈ A, y ∈ p.1.set), View.canon (A ++ B) y = View.canon A y
  | [], h => by obtain ⟨_, hp, _⟩ := h; exact absurd hp List.not_mem_nil
  | p :: A, h => by
    by_cases hy : y ∈ p.1.set
    · obtain ⟨x, rfl⟩ := p.1.exists_idx_of_mem hy
      exact (View.canon_cons_emb _ _ _ x).trans (View.canon_cons_emb _ _ _ x).symm
    · rw [List.cons_append, View.canon_cons_of_not_mem _ _ hy, View.canon_cons_of_not_mem _ _ hy]
      obtain ⟨q, hq, hqy⟩ := h
      refine canon_hides B y A ⟨q, (List.mem_cons.mp hq).resolve_left ?_, hqy⟩
      rintro rfl
      exact hy hqy

/-! ## One head -/

/-- What a head computes before the normalisation. -/
def headSum (i : grid0.Coords) (q k v : Vec F S64x128 .f32) (cs sn : Vec F S64x128 .f32) (dm : Vec F S1x64x64 .f32) (cr : Vec F S1x64x128 .f32)
    (S : Vec F S1x128x128 .f32) : FVec F S64x128 .f32 :=
  k0_pay69 (k0_pay24 (k0_pay3 i) v) (k0_pay42 (k0_pay6 cs sn q) (k0_pay14 (k0_pay3 i) (k0_pay4 cs) (k0_pay5 sn) k) dm)
    (k0_pay51 (k0_pay6 cs sn q) (k0_pay34 S) cr)

/-- A head's columns of the result. -/
def headOut (i : grid0.Coords) (q k v g : Vec F S64x128 .f32) (cs sn : Vec F S64x128 .f32) (dm : Vec F S1x64x64 .f32) (cr : Vec F S1x64x128 .f32)
    (S : Vec F S1x128x128 .f32) : FVec F S64x128 .bf16 :=
  k0_pay87 (k0_pay85 (headSum i q k v cs sn dm cr S)) (k0_pay86 (headSum i q k v cs sn dm cr S)) g

/-- A head's new state. -/
def headState (i : grid0.Coords) (k v : Vec F S64x128 .f32) (cs sn : Vec F S64x128 .f32) (kd : Vec F S1x64x128 .f32) (gn : Vec F S1x1x128 .f32)
    (S : Vec F S1x128x128 .f32) : FVec F S1x128x128 .f32 :=
  k0_pay77 (k0_pay34 S) (k0_pay60 (k0_pay14 (k0_pay3 i) (k0_pay4 cs) (k0_pay5 sn) k) (k0_pay24 (k0_pay3 i) v) kd) gn

/-- The heads' columns side by side. -/
def heads (i : grid0.Coords) (x0 x1 x2 x3 : Vec F S64x1024 .f32) (x4 x5 : Vec F S64x128 .f32) (x6 : Vec F S8x64x64 .f32) (x7 : Vec F S8x64x128 .f32)
    (x10 : Vec F S1x8x128x128 .f32) : Vec F S64x1024 .bf16 := fun y =>
  headOut i (cols x0 (128 * ((y 1).val / 128))) (cols x1 (128 * ((y 1).val / 128))) (cols x2 (128 * ((y 1).val / 128)))
    (cols x3 (128 * ((y 1).val / 128))) x4 x5 (plane x6 ((y 1).val / 128)) (plane x7 ((y 1).val / 128)) (plane (k0_pay2 x10) ((y 1).val / 128))
    (ix2 (y 0) ⟨(y 1).val % 128, Nat.mod_lt _ (by norm_num)⟩)

/-- The heads' states stacked. -/
def states (i : grid0.Coords) (x1 x2 : Vec F S64x1024 .f32) (x4 x5 : Vec F S64x128 .f32) (x8 : Vec F S8x64x128 .f32) (x9 : Vec F S8x1x128 .f32)
    (x10 : Vec F S1x8x128x128 .f32) : Vec F S8x128x128 .f32 := fun y =>
  headState i (cols x1 (128 * (y 0).val)) (cols x2 (128 * (y 0).val)) x4 x5 (plane x8 (y 0).val) (plane x9 (y 0).val)
    (plane (k0_pay2 x10) (y 0).val) (ix3 0 (y 1) (y 2))

/-! ## What one grid point leaves -/

theorem out11 (c : Dev nD) (i : grid0.Coords) (a1 h1 a2 h2 a3 h3 a4 h4 a5 h5 a6 h6 a7 h7 a8 h8 a9 h9 a10 h10 a11 h11 a12 h12 a13 h13 a14 h14) (hc0 hc1)
    (x0 x1 x2 x3 : Vec F S64x1024 .f32) (x4 x5 : Vec F S64x128 .f32) (x6 : Vec F S8x64x64 .f32) (x7 x8 : Vec F S8x64x128 .f32) (x9 : Vec F S8x1x128 .f32)
    (x10 : Vec F S1x8x128x128 .f32) :
    out0_A_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = heads i x0 x1 x2 x3 x4 x5 x6 x7 x10 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  simp only [View.readAt_eq_ld, Memref.IsWhole.read_unread, View.ld_unit_zero (S := S64x128) hz2, View.ld_unit_zero (S := S1x8x128x128) hz4,
    ld_cols, ld_plane, cov_plane]
  funext y
  unfold heads
  idx_vars y
  canon_tiles t h
  all_goals
    change y0.val = _ at h0
    change y1.val = _ at h1
    have et : (ix2 y0 ⟨y1.val % 128, Nat.mod_lt _ (by norm_num)⟩ : S64x128.Idx) = t := by
      funext a
      apply Fin.ext
      match a with
      | ⟨0, _⟩ => show y0.val = (t 0).val; omega
      | ⟨1, _⟩ => show y1.val % 128 = (t 1).val; omega
    rw [et]
    first
      | rw [show y1.val / 128 = 0 by omega]; rfl
      | rw [show y1.val / 128 = 1 by omega]; rfl
      | rw [show y1.val / 128 = 2 by omega]; rfl
      | rw [show y1.val / 128 = 3 by omega]; rfl
      | rw [show y1.val / 128 = 4 by omega]; rfl
      | rw [show y1.val / 128 = 5 by omega]; rfl
      | rw [show y1.val / 128 = 6 by omega]; rfl
      | rw [show y1.val / 128 = 7 by omega]; rfl

theorem out12 (c : Dev nD) (i : grid0.Coords) (a1 h1 a2 h2 a3 h3 a4 h4 a5 h5 a6 h6 a7 h7 a8 h8 a9 h9 a10 h10 a11 h11 a12 h12 a13 h13 a14 h14) (hc0 hc1)
    (x0 x1 x2 x3 : Vec F S64x1024 .f32) (x4 x5 : Vec F S64x128 .f32) (x6 : Vec F S8x64x64 .f32) (x7 x8 : Vec F S8x64x128 .f32) (x9 : Vec F S8x1x128 .f32)
    (x10 : Vec F S1x8x128x128 .f32) :
    out0_A_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10 = k0_pay1 (states i x1 x2 x4 x5 x8 x9 x10) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc0 hc1 x0 x1 x2 x3 x4 x5 x6 x7 x8 x9 x10)]
  unfold kernelRun0_A
  dsimp only
  sl_unfold_words
  rw [View.canon_unit_zero hz4]
  simp only [View.readAt_eq_ld, Memref.IsWhole.read_unread, View.ld_unit_zero (S := S64x128) hz2, View.ld_unit_zero (S := S1x8x128x128) hz4,
    ld_cols, ld_plane, cov_plane]
  rw [View.readCov_eq_canon']
  congr 1
  funext y
  unfold states
  have ey : (Rect.unit (s := S8x128x128) ![0, 0, 0] ![8, 128, 128] inb_S8x128x128_S8x128x128_0_0_0).toLoadRect.idx y = y := by
    funext a
    apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [ey]
  idx_vars y
  refine (canon_hides [_] (ix3 y0 y1 y2) [_, _, _, _, _, _, _, _] (View.cover_of_tiled_head _ _ _ (by rfl) _)).trans ?_
  canon_tiles t h
  all_goals
    change y0.val = _ at h0
    change y1.val = _ at h1
    change y2.val = _ at h2
    have t0 : (t 0).val < 1 := (t 0).isLt
    have et : (ix3 0 y1 y2 : S1x128x128.Idx) = t := by
      funext a
      apply Fin.ext
      match a with
      | ⟨0, _⟩ => show 0 = (t 0).val; omega
      | ⟨1, _⟩ => show y1.val = (t 1).val; omega
      | ⟨2, _⟩ => show y2.val = (t 2).val; omega
    rw [et]
    first
      | rw [show y0.val = 0 by omega]; rfl
      | rw [show y0.val = 1 by omega]; rfl
      | rw [show y0.val = 2 by omega]; rfl
      | rw [show y0.val = 3 by omega]; rfl
      | rw [show y0.val = 4 by omega]; rfl
      | rw [show y0.val = 5 by omega]; rfl
      | rw [show y0.val = 6 by omega]; rfl
      | rw [show y0.val = 7 by omega]; rfl

/-! ## One head's values, element by element -/

/-- The scale of the keys. -/
def keyScale : EReal := (Scalar.ofBits .f32 0x3DB504F3#32 : Ideal .f32)

/-- The number of a head's columns. -/
def width : EReal := (Scalar.ofBits .f32 0x43000000#32 : Ideal .f32)

/-- What is added to a variance. -/
def eps : EReal := (Scalar.ofBits .f32 0x3727C5AC#32 : Ideal .f32)

/-- The rows are all within the sequence. -/
theorem valid (i : grid0.Coords) (h : (i 1).val = 0) : k0_pay3 i = fun _ => 1#1 := by
  funext y
  idx_vars y
  obtain rfl : y1 = 0 := Subsingleton.elim _ _
  unfold k0_pay3
  rw [h]
  revert y0
  decide +kernel

/-- The column half a head away. -/
def across (d : Fin 128) : Fin 128 := ⟨(d.val + 64) % 128, Nat.mod_lt _ (by norm_num)⟩

/-- A head's rows rotated by their positions. -/
def rope (cs sn x : Vec Ideal S64x128 .f32) (n : Fin 64) (d : Fin 128) : EReal :=
  x (ix2 n d) * cs (ix2 n d) + x (ix2 n (across d)) * sn (ix2 n d)

theorem rotate_apply (x : Vec Ideal S64x128 .f32) (n : Fin 64) (d : Fin 128) :
    dynamicRotate 1 64#32 none x rotates_S64x128_d1 (ix2 n d) = x (ix2 n (across d)) := by
  rw [Pointwise.dynamicRotate_apply]
  congr 1
  funext b
  apply Fin.ext
  match b with
  | ⟨0, _⟩ => rfl
  | ⟨1, _⟩ => show (d.val + 128 - (64 + 0) % 128) % 128 = (d.val + 64) % 128; omega

theorem query_apply (cs sn q : Vec Ideal S64x128 .f32) (n : Fin 64) (d : Fin 128) :
    (k0_pay6 cs sn q (ix2 n d) : EReal) = rope cs sn q n d := by
  unfold rope
  rw [← rotate_apply q]
  unfold_payloads
  generalize dynamicRotate 1 64#32 none q rotates_S64x128_d1 = z
  pointwise

theorem key_apply (cs sn k : Vec Ideal S64x128 .f32) (n : Fin 64) (d : Fin 128) :
    (k0_pay14 (fun _ => 1#1) (k0_pay4 cs) (k0_pay5 sn) k (ix2 n d) : EReal) = rope cs sn k n d * keyScale := by
  unfold rope keyScale
  rw [← rotate_apply k]
  unfold_payloads
  generalize dynamicRotate 1 64#32 none k rotates_S64x128_d1 = z
  pointwise

theorem value_apply (v : Vec Ideal S64x128 .f32) (n : Fin 64) (e : Fin 128) :
    (k0_pay24 (fun _ => 1#1) v (ix2 n e) : EReal) = v (ix2 n e) := by
  unfold_payloads
  pointwise

theorem inner_apply (q : FVec Ideal S64x128 .bf16) (k : FVec Ideal S64x128 .f32) (dm : Vec Ideal S1x64x64 .f32) (n l : Fin 64) :
    (k0_pay42 q k dm (ix2 n l) : EReal) = (∑ d : Fin 128, (q (ix2 n d) : EReal) * k (ix2 l d)) * dm (ix3 0 n l) := by
  unfold_payloads
  pointwise

theorem cross_apply (q : FVec Ideal S64x128 .bf16) (S : Vec Ideal S1x128x128 .f32) (cr : Vec Ideal S1x64x128 .f32) (n : Fin 64) (e : Fin 128) :
    (k0_pay51 q (k0_pay34 S) cr (ix2 n e) : EReal) = (∑ d : Fin 128, (q (ix2 n d) : EReal) * S (ix3 0 d e)) * cr (ix3 0 n e) := by
  unfold_payloads
  pointwise

theorem sum_apply (v : FVec Ideal S64x128 .bf16) (a : FVec Ideal S64x64 .f32) (b : FVec Ideal S64x128 .f32) (n : Fin 64) (e : Fin 128) :
    (k0_pay69 v a b (ix2 n e) : EReal) = (∑ l : Fin 64, (a (ix2 n l) : EReal) * v (ix2 l e)) + b (ix2 n e) := by
  unfold_payloads
  pointwise

theorem update_apply (k : FVec Ideal S64x128 .f32) (v : FVec Ideal S64x128 .bf16) (kd : Vec Ideal S1x64x128 .f32) (d e : Fin 128) :
    (k0_pay60 k v kd (ix2 d e) : EReal) = ∑ l : Fin 64, ((k (ix2 l d) : EReal) * kd (ix3 0 l d)) * v (ix2 l e) := by
  unfold_payloads
  pointwise

theorem state_apply (S : Vec Ideal S1x128x128 .f32) (u : FVec Ideal S128x128 .f32) (gn : Vec Ideal S1x1x128 .f32) (d e : Fin 128) :
    (k0_pay77 (k0_pay34 S) u gn (ix3 0 d e) : EReal) = gn (ix3 0 0 e) * S (ix3 0 d e) + u (ix2 d e) := by
  unfold_payloads
  pointwise

/-- The mean of a head's row. -/
def mean (s : Fin 128 → EReal) : EReal := Ideal.div (∑ l : Fin 128, s l) width

/-- A head's row normed and gated, at a column. -/
def normed (s : Fin 128 → EReal) (g : EReal) (e : Fin 128) : EReal :=
  g * Ideal.logistic g * ((s e - mean s) * Ideal.rsqrt (Ideal.div (∑ l : Fin 128, (s l - mean s) * (s l - mean s)) width + eps))

theorem normed_apply (o : FVec Ideal S64x128 .f32) (g : Vec Ideal S64x128 .f32) (n : Fin 64) (e : Fin 128) :
    (k0_pay87 (k0_pay85 o) (k0_pay86 o) g (ix2 n e) : EReal) = normed (fun l => o (ix2 n l)) (g (ix2 n e)) e := by
  unfold normed mean width eps
  unfold_payloads
  pointwise

/-! ## One head's values from the blocks -/

/-- A head's row before the normalisation. -/
def headRow (q k v cs sn : Vec Ideal S64x128 .f32) (dm : Fin 64 → Fin 64 → EReal) (cr : Fin 64 → EReal) (S : Fin 128 → Fin 128 → EReal)
    (n : Fin 64) (e : Fin 128) : EReal :=
  (∑ l : Fin 64, ((∑ d : Fin 128, rope cs sn q n d * (rope cs sn k l d * keyScale)) * dm n l) * v (ix2 l e))
    + (∑ d : Fin 128, rope cs sn q n d * S d e) * cr n

theorem headOut_apply (i : grid0.Coords) (hi : (i 1).val = 0) (q k v g cs sn : Vec Ideal S64x128 .f32) (dm : Vec Ideal S1x64x64 .f32)
    (cr : Vec Ideal S1x64x128 .f32) (S : Vec Ideal S1x128x128 .f32) (cr' : Fin 64 → EReal) (hcr : ∀ n e, cr (ix3 0 n e) = cr' n) (n : Fin 64) (e : Fin 128) :
    (headOut i q k v g cs sn dm cr S (ix2 n e) : EReal)
      = normed (headRow q k v cs sn (fun a b => dm (ix3 0 a b)) cr' (fun a b => S (ix3 0 a b)) n) (g (ix2 n e)) e := by
  unfold headOut
  rw [normed_apply]
  congr 1
  funext l
  unfold headSum headRow
  rw [sum_apply, cross_apply, valid i hi, hcr]
  refine congrArg₂ (· + ·) (Finset.sum_congr rfl fun a _ => ?_) (congrArg (· * _) (Finset.sum_congr rfl fun d _ => ?_))
  · rw [inner_apply, value_apply]
    refine congrArg (· * _) (congrArg (· * _) (Finset.sum_congr rfl fun d _ => ?_))
    rw [query_apply, key_apply]
  · rw [query_apply]

theorem headState_apply (i : grid0.Coords) (hi : (i 1).val = 0) (k v cs sn : Vec Ideal S64x128 .f32) (kd : Vec Ideal S1x64x128 .f32)
    (gn : Vec Ideal S1x1x128 .f32) (S : Vec Ideal S1x128x128 .f32) (d e : Fin 128) :
    (headState i k v cs sn kd gn S (ix3 0 d e) : EReal)
      = gn (ix3 0 0 e) * S (ix3 0 d e) + ∑ l : Fin 64, ((rope cs sn k l d * keyScale) * kd (ix3 0 l d)) * v (ix2 l e) := by
  unfold headState
  rw [state_apply, update_apply, valid i hi]
  refine congrArg₂ (· + ·) rfl (Finset.sum_congr rfl fun l _ => ?_)
  rw [key_apply, value_apply]

/-! ## The tables -/

/-- The rotation's angles. -/
def angles : Vec F S64x64 .f32 :=
  mulf (broadcastInDim S64x64 ![0, 1] bcast_S64x1_S64x64_0_1 (broadcastInDim S64x1 ![0] bcast_S64_S64x1_0
      (sitofp .f32 (addi (broadcastInDim S64 ![] bcast_S_S64 (constantI S_ 32 2048#32)) (iotaInDim S64 32 0)))))
    (broadcastInDim S64x64 ![0, 1] bcast_S1x64_S64x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- The heads' rates of decay. -/
def rates : Vec F S8 .f32 :=
  Host.log (subf (broadcastInDim S8 ![] bcast_S_S8 (constant S_ .f32 0x3F800000#32))
    (Host.powf (broadcastInDim S8 ![] bcast_S_S8 (constant S_ .f32 0x40000000#32))
      (subf (broadcastInDim S8 ![] bcast_S_S8 (constant S_ .f32 0xC0A00000#32)) (sitofp .f32 (iotaInDim S8 32 0)))))

/-- The rows' numbers. -/
def rowNo : Vec F S64 .f32 := sitofp .f32 (iotaInDim S64 32 0)

/-- How far one row is after another. -/
def apart : Vec F S64x64 .f32 :=
  subf (broadcastInDim S64x64 ![0, 1] bcast_S64x1_S64x64_0_1 (broadcastInDim S64x1 ![0] bcast_S64_S64x1_0 rowNo))
    (broadcastInDim S64x64 ![0, 1] bcast_S1x64_S64x64_0_1 (broadcastInDim S1x64 ![1] bcast_S64_S1x64_1 rowNo))

/-- The decay from a row to a later one. -/
def decay : Vec F S8x64x64 .f32 :=
  select (broadcastInDim S8x64x64 ![1, 2] bcast_S64x64_S8x64x64_1_2 (cmpf .oge (apart (F := F)) (broadcastInDim S64x64 ![] bcast_S_S64x64 (constant S_ .f32 0x00000000#32))))
    (Host.exp (mulf (broadcastInDim S8x64x64 ![0, 1, 2] bcast_S1x64x64_S8x64x64_0_1_2 (broadcastInDim S1x64x64 ![1, 2] bcast_S64x64_S1x64x64_1_2
        (maximumf apart (broadcastInDim S64x64 ![] bcast_S_S64x64 (constant S_ .f32 0x00000000#32)))))
      (broadcastInDim S8x64x64 ![0, 1, 2] bcast_S8x1x1_S8x64x64_0_1_2 (broadcastInDim S8x1x1 ![0] bcast_S8_S8x1x1_0 rates))))
    (broadcastInDim S8x64x64 ![] bcast_S_S8x64x64 (id (constant S_ .f32 0x00000000#32)))

/-- The decay of the state up to a row. -/
def decayTo : Vec F S8x64 .f32 :=
  Host.exp (mulf (broadcastInDim S8x64 ![0, 1] bcast_S1x64_S8x64_0_1 (addf (broadcastInDim S1x64 ![1] bcast_S64_S1x64_1 rowNo)
      (broadcastInDim S1x64 ![] bcast_S_S1x64 (constant S_ .f32 0x3F800000#32))))
    (broadcastInDim S8x64 ![0, 1] bcast_S8x1_S8x64_0_1 (broadcastInDim S8x1 ![0] bcast_S8_S8x1_0 rates)))

/-- The decay from a row to the end. -/
def decayFrom : Vec F S8x64 .f32 :=
  Host.exp (mulf (broadcastInDim S8x64 ![0, 1] bcast_S1x64_S8x64_0_1 (broadcastInDim S1x64 ![1] bcast_S64_S1x64_1
      (subf (broadcastInDim S64 ![] bcast_S_S64 (constant S_ .f32 0x427C0000#32)) rowNo)))
    (broadcastInDim S8x64 ![0, 1] bcast_S8x1_S8x64_0_1 (broadcastInDim S8x1 ![0] bcast_S8_S8x1_0 rates)))

/-- The decay over all the rows. -/
def decayAll : Vec F S8 .f32 :=
  Host.exp (mulf (broadcastInDim S8 ![] bcast_S_S8 (constant S_ .f32 0x42800000#32)) rates)

theorem V_cos (c : Dev nD) : V m c main_v17
    = concatenate S64x128 1 [⟨S64x64, Host.cos angles⟩, ⟨S64x64, Host.cos angles⟩] concatenates_S64x64_S64x64_S64x128_d1 := by
  unfold V
  simp only [hostOps0, hostOps0_1, hostOps0_2, List.flatten_cons, List.flatten_nil, List.append_nil, List.cons_append, List.nil_append]
  after_results <;> rfl

theorem V_sin (c : Dev nD) : V m c main_v19
    = concatenate S64x128 1 [⟨S64x64, Host.negf (Host.sin angles)⟩, ⟨S64x64, Host.sin angles⟩] concatenates_S64x64_S64x64_S64x128_d1 := by
  unfold V
  simp only [hostOps0, hostOps0_1, hostOps0_2, List.flatten_cons, List.flatten_nil, List.append_nil, List.cons_append, List.nil_append]
  after_results <;> rfl

theorem V_decay (c : Dev nD) : V m c main_v44 = decay := by
  unfold V
  simp only [hostOps0, hostOps0_1, hostOps0_2, List.flatten_cons, List.flatten_nil, List.append_nil, List.cons_append, List.nil_append]
  after_results <;> rfl

theorem V_to (c : Dev nD) : V m c main_v65
    = broadcastInDim S8x64x128 ![0, 1, 2] bcast_S8x64x1_S8x64x128_0_1_2 (broadcastInDim S8x64x1 ![0, 1] bcast_S8x64_S8x64x1_0_1 decayTo) := by
  unfold V
  simp only [hostOps0, hostOps0_1, hostOps0_2, List.flatten_cons, List.flatten_nil, List.append_nil, List.cons_append, List.nil_append]
  after_results <;> rfl

theorem V_from (c : Dev nD) : V m c main_v67
    = broadcastInDim S8x64x128 ![0, 1, 2] bcast_S8x64x1_S8x64x128_0_1_2 (broadcastInDim S8x64x1 ![0, 1] bcast_S8x64_S8x64x1_0_1 decayFrom) := by
  unfold V
  simp only [hostOps0, hostOps0_1, hostOps0_2, List.flatten_cons, List.flatten_nil, List.append_nil, List.cons_append, List.nil_append]
  after_results <;> rfl

theorem V_all (c : Dev nD) : V m c main_v69
    = broadcastInDim S8x1x128 ![0, 1, 2] bcast_S8x1x1_S8x1x128_0_1_2 (broadcastInDim S8x1x1 ![0] bcast_S8_S8x1x1_0 decayAll) := by
  unfold V
  simp only [hostOps0, hostOps0_1, hostOps0_2, List.flatten_cons, List.flatten_nil, List.append_nil, List.cons_append, List.nil_append]
  after_results <;> rfl

theorem V_state (c : Dev nD) : V m c main_v71
    = shapeCast S16x8x128x128 (extractStridedSlice S1x16x8x128x128 ![1, 0, 0, 0, 0] (m ((c : Thread nD τ).loc main_arg1) : Vec F S2x16x8x128x128 .f32)
        slices_S2x16x8x128x128_S1x16x8x128x128_1_0_0_0_0) shapeCasts_S1x16x8x128x128_S16x8x128x128 := by
  unfold V
  simp only [hostOps0, hostOps0_1, hostOps0_2, List.flatten_cons, List.flatten_nil, List.append_nil, List.cons_append, List.nil_append]
  after_results <;> rfl

theorem V_out (c : Dev nD) : V m c main_v72_0 = m ((c : Thread nD τ).loc main_arg2) := by
  unfold V
  simp only [hostOps0, hostOps0_1, hostOps0_2, List.flatten_cons, List.flatten_nil, List.append_nil, List.cons_append, List.nil_append]
  after_results <;> rfl

/-! ## The blocks of the inputs -/

theorem idx_parts : ∀ t : Fin cfg0.N, win0_0.index t (0 : Fin 2) = 136 + t.val ∧ win0_0.index t (1 : Fin 2) = 1
    ∧ win0_1.index t (0 : Fin 2) = 136 + t.val ∧ win0_1.index t (1 : Fin 2) = 2
    ∧ win0_2.index t (0 : Fin 2) = 136 + t.val ∧ win0_2.index t (1 : Fin 2) = 3
    ∧ win0_3.index t (0 : Fin 2) = 136 + t.val ∧ win0_3.index t (1 : Fin 2) = 4
    :=
  (by decide +kernel : ∀ t : Fin grid0.N, _)

theorem idx_tables : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 3) = 0 ∧ win0_7.index t (1 : Fin 3) = 0 ∧ win0_7.index t (2 : Fin 3) = 0
    ∧ win0_8.index t (0 : Fin 3) = 0 ∧ win0_8.index t (1 : Fin 3) = 0 ∧ win0_8.index t (2 : Fin 3) = 0
    ∧ win0_9.index t (0 : Fin 3) = 0 ∧ win0_9.index t (1 : Fin 3) = 0 ∧ win0_9.index t (2 : Fin 3) = 0 :=
  (by decide +kernel : ∀ t : Fin grid0.N, _)

theorem idx_state : ∀ t : Fin cfg0.N, win0_10.index t (0 : Fin 4) = t.val ∧ win0_10.index t (1 : Fin 4) = 0
    ∧ win0_10.index t (2 : Fin 4) = 0 ∧ win0_10.index t (3 : Fin 4) = 0
    ∧ win0_12.index t (0 : Fin 4) = t.val ∧ win0_12.index t (1 : Fin 4) = 0
    ∧ win0_12.index t (2 : Fin 4) = 0 ∧ win0_12.index t (3 : Fin 4) = 0
    ∧ win0_11.index t (0 : Fin 2) = 136 + t.val ∧ win0_11.index t (1 : Fin 2) = 0 :=
  (by decide +kernel : ∀ t : Fin grid0.N, _)

theorem lt16 (t : Fin cfg0.N) : t.val < 16 := lt_of_lt_of_eq t.isLt N_0

/-- A sequence's number, from the point. -/
def seq (t : Fin cfg0.N) : Fin 16 := ⟨t.val, lt16 t⟩

/-- A part of the projected rows: the queries, the keys, the values or the gates of a sequence, head by head. -/
def part (p : Vec F S9728x5120 .f32) (j : Fin 4) (b : Fin 16) (n : Fin 64) (h : Fin 8) (d : Fin 128) : F .f32 :=
  p (ix2 ⟨8704 + 64 * b.val + n.val, by omega⟩ ⟨1024 * (j.val + 1) + 128 * h.val + d.val, by omega⟩)

/-- The queries at a point. -/
theorem cols_q (c : Dev nD) (t : Fin cfg0.N) (h : Fin 8) (n : Fin 64) (d : Fin 128) :
    cols (iblk m c 0 t : Vec F S64x1024 .f32) (128 * h.val) (ix2 n d) = part (m ((c : Thread nD τ).loc main_arg0)) 0 (seq t) n h d := by
  obtain ⟨e0, e1, -⟩ := idx_parts t
  unfold cols iblk part
  rw [View.read_apply]
  show V m c main_arg0 _ = m (c.tc.loc main_arg0) _
  rw [V_main_arg0]
  congr 1
  funext a
  apply Fin.ext
  match a with
  | ⟨0, _⟩ => show win0_0.index t 0 * 64 + 1 * n.val = 8704 + 64 * t.val + n.val; rw [e0]; omega
  | ⟨1, _⟩ => show win0_0.index t 1 * 1024 + 1 * ((128 * h.val + d.val) % 1024) = 1024 * (0 + 1) + 128 * h.val + d.val; rw [e1]; omega

/-- The keys at a point. -/
theorem cols_k (c : Dev nD) (t : Fin cfg0.N) (h : Fin 8) (n : Fin 64) (d : Fin 128) :
    cols (iblk m c 1 t : Vec F S64x1024 .f32) (128 * h.val) (ix2 n d) = part (m ((c : Thread nD τ).loc main_arg0)) 1 (seq t) n h d := by
  obtain ⟨-, -, e0, e1, -⟩ := idx_parts t
  unfold cols iblk part
  rw [View.read_apply]
  show V m c main_arg0 _ = m (c.tc.loc main_arg0) _
  rw [V_main_arg0]
  congr 1
  funext a
  apply Fin.ext
  match a with
  | ⟨0, _⟩ => show win0_1.index t 0 * 64 + 1 * n.val = 8704 + 64 * t.val + n.val; rw [e0]; omega
  | ⟨1, _⟩ => show win0_1.index t 1 * 1024 + 1 * ((128 * h.val + d.val) % 1024) = 1024 * (1 + 1) + 128 * h.val + d.val; rw [e1]; omega

/-- The values at a point. -/
theorem cols_v (c : Dev nD) (t : Fin cfg0.N) (h : Fin 8) (n : Fin 64) (d : Fin 128) :
    cols (iblk m c 2 t : Vec F S64x1024 .f32) (128 * h.val) (ix2 n d) = part (m ((c : Thread nD τ).loc main_arg0)) 2 (seq t) n h d := by
  obtain ⟨-, -, -, -, e0, e1, -⟩ := idx_parts t
  unfold cols iblk part
  rw [View.read_apply]
  show V m c main_arg0 _ = m (c.tc.loc main_arg0) _
  rw [V_main_arg0]
  congr 1
  funext a
  apply Fin.ext
  match a with
  | ⟨0, _⟩ => show win0_2.index t 0 * 64 + 1 * n.val = 8704 + 64 * t.val + n.val; rw [e0]; omega
  | ⟨1, _⟩ => show win0_2.index t 1 * 1024 + 1 * ((128 * h.val + d.val) % 1024) = 1024 * (2 + 1) + 128 * h.val + d.val; rw [e1]; omega

/-- The gates at a point. -/
theorem cols_g (c : Dev nD) (t : Fin cfg0.N) (h : Fin 8) (n : Fin 64) (d : Fin 128) :
    cols (iblk m c 3 t : Vec F S64x1024 .f32) (128 * h.val) (ix2 n d) = part (m ((c : Thread nD τ).loc main_arg0)) 3 (seq t) n h d := by
  obtain ⟨-, -, -, -, -, -, e0, e1⟩ := idx_parts t
  unfold cols iblk part
  rw [View.read_apply]
  show V m c main_arg0 _ = m (c.tc.loc main_arg0) _
  rw [V_main_arg0]
  congr 1
  funext a
  apply Fin.ext
  match a with
  | ⟨0, _⟩ => show win0_3.index t 0 * 64 + 1 * n.val = 8704 + 64 * t.val + n.val; rw [e0]; omega
  | ⟨1, _⟩ => show win0_3.index t 1 * 1024 + 1 * ((128 * h.val + d.val) % 1024) = 1024 * (3 + 1) + 128 * h.val + d.val; rw [e1]; omega

/-- The table of cosines does not move. -/
theorem iblk_cos (c : Dev nD) (t : Fin cfg0.N) : (iblk m c 4 t : Vec F S64x128 .f32) = V m c main_v17 := by
  obtain ⟨e0, e1, -⟩ := idx_tables t
  funext y
  unfold iblk
  rw [View.read_apply]
  show V m c main_v17 _ = V m c main_v17 y
  congr 1
  funext a
  apply Fin.ext
  match a with
  | ⟨0, _⟩ => show win0_4.index t 0 * 64 + 1 * (y 0).val = (y 0).val; rw [e0]; omega
  | ⟨1, _⟩ => show win0_4.index t 1 * 128 + 1 * (y 1).val = (y 1).val; rw [e1]; omega

/-- The table of sines does not move. -/
theorem iblk_sin (c : Dev nD) (t : Fin cfg0.N) : (iblk m c 5 t : Vec F S64x128 .f32) = V m c main_v19 := by
  obtain ⟨-, -, e0, e1, -⟩ := idx_tables t
  funext y
  unfold iblk
  rw [View.read_apply]
  show V m c main_v19 _ = V m c main_v19 y
  congr 1
  funext a
  apply Fin.ext
  match a with
  | ⟨0, _⟩ => show win0_5.index t 0 * 64 + 1 * (y 0).val = (y 0).val; rw [e0]; omega
  | ⟨1, _⟩ => show win0_5.index t 1 * 128 + 1 * (y 1).val = (y 1).val; rw [e1]; omega

/-- The decays do not move. -/
theorem iblk_decay (c : Dev nD) (t : Fin cfg0.N) : (iblk m c 6 t : Vec F S8x64x64 .f32) = V m c main_v44 := by
  obtain ⟨-, -, -, -, e0, e1, e2, -⟩ := idx_tables t
  funext y
  unfold iblk
  rw [View.read_apply]
  show V m c main_v44 _ = V m c main_v44 y
  congr 1
  funext a
  apply Fin.ext
  match a with
  | ⟨0, _⟩ => show win0_6.index t 0 * 8 + 1 * (y 0).val = (y 0).val; rw [e0]; omega
  | ⟨1, _⟩ => show win0_6.index t 1 * 64 + 1 * (y 1).val = (y 1).val; rw [e1]; omega
  | ⟨2, _⟩ => show win0_6.index t 2 * 64 + 1 * (y 2).val = (y 2).val; rw [e2]; omega

/-- The decays up to the rows do not move. -/
theorem iblk_to (c : Dev nD) (t : Fin cfg0.N) : (iblk m c 7 t : Vec F S8x64x128 .f32) = V m c main_v65 := by
  obtain ⟨-, -, -, -, -, -, -, e0, e1, e2, -⟩ := idx_tables t
  funext y
  unfold iblk
  rw [View.read_apply]
  show V m c main_v65 _ = V m c main_v65 y
  congr 1
  funext a
  apply Fin.ext
  match a with
  | ⟨0, _⟩ => show win0_7.index t 0 * 8 + 1 * (y 0).val = (y 0).val; rw [e0]; omega
  | ⟨1, _⟩ => show win0_7.index t 1 * 64 + 1 * (y 1).val = (y 1).val; rw [e1]; omega
  | ⟨2, _⟩ => show win0_7.index t 2 * 128 + 1 * (y 2).val = (y 2).val; rw [e2]; omega

/-- The decays from the rows do not move. -/
theorem iblk_from (c : Dev nD) (t : Fin cfg0.N) : (iblk m c 8 t : Vec F S8x64x128 .f32) = V m c main_v67 := by
  obtain ⟨-, -, -, -, -, -, -, -, -, -, e0, e1, e2, -⟩ := idx_tables t
  funext y
  unfold iblk
  rw [View.read_apply]
  show V m c main_v67 _ = V m c main_v67 y
  congr 1
  funext a
  apply Fin.ext
  match a with
  | ⟨0, _⟩ => show win0_8.index t 0 * 8 + 1 * (y 0).val = (y 0).val; rw [e0]; omega
  | ⟨1, _⟩ => show win0_8.index t 1 * 64 + 1 * (y 1).val = (y 1).val; rw [e1]; omega
  | ⟨2, _⟩ => show win0_8.index t 2 * 128 + 1 * (y 2).val = (y 2).val; rw [e2]; omega

/-- The decays over all the rows do not move. -/
theorem iblk_all (c : Dev nD) (t : Fin cfg0.N) : (iblk m c 9 t : Vec F S8x1x128 .f32) = V m c main_v69 := by
  obtain ⟨-, -, -, -, -, -, -, -, -, -, -, -, -, e0, e1, e2⟩ := idx_tables t
  funext y
  unfold iblk
  rw [View.read_apply]
  show V m c main_v69 _ = V m c main_v69 y
  congr 1
  funext a
  apply Fin.ext
  match a with
  | ⟨0, _⟩ => show win0_9.index t 0 * 8 + 1 * (y 0).val = (y 0).val; rw [e0]; omega
  | ⟨1, _⟩ => show win0_9.index t 1 * 1 + 1 * (y 1).val = (y 1).val; rw [e1]; omega
  | ⟨2, _⟩ => show win0_9.index t 2 * 128 + 1 * (y 2).val = (y 2).val; rw [e2]; omega

/-- The state at a point: the second layer's, of the point's sequence. -/
theorem plane_state (c : Dev nD) (t : Fin cfg0.N) (h : Fin 8) (d e : Fin 128) :
    plane (k0_pay2 (iblk m c 10 t : Vec F S1x8x128x128 .f32)) h.val (ix3 0 d e)
      = (m ((c : Thread nD τ).loc main_arg1) : Vec F S2x16x8x128x128 .f32) (ix5 1 (seq t) h d e) := by
  obtain ⟨e0, e1, e2, e3, -⟩ := idx_state t
  have hh : (⟨h.val % 8, Nat.mod_lt _ (by norm_num)⟩ : Fin 8) = h := Fin.ext (Nat.mod_eq_of_lt h.isLt)
  show k0_pay2 (iblk m c 10 t : Vec F S1x8x128x128 .f32) (ix3 ⟨h.val % 8, Nat.mod_lt _ (by norm_num)⟩ d e) = _
  rw [hh]
  have h1 : ∀ x : Vec F S1x8x128x128 .f32, k0_pay2 x (ix3 h d e) = x (ix4 0 h d e) := by
    intro x
    unfold_payloads
    pointwise
  rw [h1]
  unfold iblk
  rw [View.read_apply]
  show V m c main_v71 _ = m (c.tc.loc main_arg1) _
  rw [V_state]
  have h2 : ∀ v : Vec F S2x16x8x128x128 .f32, shapeCast S16x8x128x128 (extractStridedSlice S1x16x8x128x128 ![1, 0, 0, 0, 0] v
      slices_S2x16x8x128x128_S1x16x8x128x128_1_0_0_0_0) shapeCasts_S1x16x8x128x128_S16x8x128x128 (ix4 (seq t) h d e) = v (ix5 1 (seq t) h d e) := by
    intro v
    pointwise
  refine Eq.trans ?_ (h2 _)
  congr 1
  funext a
  apply Fin.ext
  match a with
  | ⟨0, _⟩ => show win0_10.index t 0 * 1 + 1 * 0 = t.val; rw [e0]; omega
  | ⟨1, _⟩ => show win0_10.index t 1 * 8 + 1 * h.val = h.val; rw [e1]; omega
  | ⟨2, _⟩ => show win0_10.index t 2 * 128 + 1 * d.val = d.val; rw [e2]; omega
  | ⟨3, _⟩ => show win0_10.index t 3 * 128 + 1 * e.val = e.val; rw [e3]; omega

/-! ## The results -/

/-- The cosines of the angles. -/
def cosT : FVec Ideal S64x64 .f32 := Host.cos (angles (F := Ideal))

/-- The sines of the angles. -/
def sinT : FVec Ideal S64x64 .f32 := Host.sin (angles (F := Ideal))

/-- A row rotated by its position. -/
def turn (x : Fin 128 → EReal) (n : Fin 64) (d : Fin 128) : EReal :=
  if h : d.val < 64 then
    x d * (cosT (ix2 n ⟨d.val, h⟩) : EReal) - x ⟨d.val + 64, by omega⟩ * (sinT (ix2 n ⟨d.val, h⟩) : EReal)
  else
    x ⟨d.val - 64, by omega⟩ * (sinT (ix2 n ⟨d.val - 64, by omega⟩) : EReal)
      + x d * (cosT (ix2 n ⟨d.val - 64, by omega⟩) : EReal)

theorem rope_eq (x : Vec Ideal S64x128 .f32) (y : Fin 64 → Fin 128 → EReal) (hx : ∀ n d, x (ix2 n d) = y n d) (n : Fin 64) (d : Fin 128) :
    rope (concatenate S64x128 1 [⟨S64x64, (cosT : Vec Ideal S64x64 .f32)⟩, ⟨S64x64, (cosT : Vec Ideal S64x64 .f32)⟩] concatenates_S64x64_S64x64_S64x128_d1)
      (concatenate S64x128 1 [⟨S64x64, (Host.negf sinT : FVec Ideal S64x64 .f32)⟩, ⟨S64x64, (sinT : Vec Ideal S64x64 .f32)⟩] concatenates_S64x64_S64x64_S64x128_d1)
      x n d = turn (y n) n d := by
  unfold rope turn
  rw [hx, hx]
  generalize cosT = C
  generalize sinT = S
  have e1 : ∀ (A B : Vec Ideal S64x64 .f32), concatenate S64x128 1 [⟨S64x64, A⟩, ⟨S64x64, B⟩] concatenates_S64x64_S64x64_S64x128_d1 (ix2 n d)
      = if h : d.val < 64 then A (ix2 n ⟨d.val, h⟩) else B (ix2 n ⟨d.val - 64, by omega⟩) := by
    intro A B
    pointwise
  rw [e1, e1]
  split
  · rename_i h
    have ea : across d = ⟨d.val + 64, by omega⟩ := Fin.ext (Nat.mod_eq_of_lt (by omega))
    rw [ea]
    have en : (Host.negf S (ix2 n ⟨d.val, h⟩) : EReal) = - (S (ix2 n ⟨d.val, h⟩) : EReal) := by pointwise
    rw [en, mul_neg, sub_eq_add_neg]
  · rename_i h
    have ea : across d = ⟨d.val - 64, by omega⟩ := Fin.ext (by show (d.val + 64) % 128 = d.val - 64; omega)
    rw [ea, add_comm]

/-- A head's row before the normalisation. -/
def row (p : Vec Ideal S9728x5120 .f32) (S : Vec Ideal S2x16x8x128x128 .f32) (b : Fin 16) (h : Fin 8) (n : Fin 64) (e : Fin 128) : EReal :=
  (∑ l : Fin 64, ((∑ d : Fin 128, turn (part p 0 b n h) n d * (turn (part p 1 b l h) l d * keyScale)) * (decay (F := Ideal) (ix3 h n l) : EReal)) * part p 2 b l h e)
    + (∑ d : Fin 128, turn (part p 0 b n h) n d * S (ix5 1 b h d e)) * (decayTo (F := Ideal) (ix2 h n) : EReal)

/-- The new state. -/
def newState (p : Vec Ideal S9728x5120 .f32) (S : Vec Ideal S2x16x8x128x128 .f32) (b : Fin 16) (h : Fin 8) (d e : Fin 128) : EReal :=
  (decayAll (F := Ideal) (ix1 h) : EReal) * S (ix5 1 b h d e)
    + ∑ l : Fin 64, ((turn (part p 1 b l h) l d * keyScale) * (decayFrom (F := Ideal) (ix2 h l) : EReal)) * part p 2 b l h e

/-! ## What a point leaves, in the arguments -/

theorem coord_one (t : Fin cfg0.N) : (grid0.coords t 1).val = 0 :=
  (Pipeline.Grid.coords_val t 1 (by decide) rfl : (grid0.coords t 1).val = t.val / 1 % 1).trans (Nat.mod_one _)

theorem iblk_cosT (m : (ℓ : Loc nD τ sig) → Buf (Elt Ideal) ℓ) (c : Dev nD) (t : Fin cfg0.N) : (iblk m c 4 t : Vec Ideal S64x128 .f32)
    = concatenate S64x128 1 [⟨S64x64, (cosT : Vec Ideal S64x64 .f32)⟩, ⟨S64x64, (cosT : Vec Ideal S64x64 .f32)⟩] concatenates_S64x64_S64x64_S64x128_d1 :=
  (iblk_cos m c t).trans (V_cos m c)

theorem iblk_sinT (m : (ℓ : Loc nD τ sig) → Buf (Elt Ideal) ℓ) (c : Dev nD) (t : Fin cfg0.N) : (iblk m c 5 t : Vec Ideal S64x128 .f32)
    = concatenate S64x128 1 [⟨S64x64, (Host.negf sinT : FVec Ideal S64x64 .f32)⟩, ⟨S64x64, (sinT : Vec Ideal S64x64 .f32)⟩] concatenates_S64x64_S64x64_S64x128_d1 :=
  (iblk_sin m c t).trans (V_sin m c)

theorem plane_apply {n k : ℕ} (x : Vec Ideal ⟨3, ![8, n, k]⟩ .f32) (h : Fin 8) (a : Fin n) (b : Fin k) : plane x h.val (ix3 0 a b) = x (ix3 h a b) := by
  show x (ix3 ⟨h.val % 8, _⟩ a b) = _
  rw [show (⟨h.val % 8, Nat.mod_lt _ (by norm_num)⟩ : Fin 8) = h from Fin.ext (Nat.mod_eq_of_lt h.isLt)]

theorem plane_to (m : (ℓ : Loc nD τ sig) → Buf (Elt Ideal) ℓ) (c : Dev nD) (t : Fin cfg0.N) (h : Fin 8) (n : Fin 64) (e : Fin 128) :
    plane (iblk m c 7 t : Vec Ideal S8x64x128 .f32) h.val (ix3 0 n e) = decayTo (F := Ideal) (ix2 h n) := by
  rw [plane_apply, iblk_to, V_to]
  generalize decayTo (F := Ideal) = z
  pointwise

theorem plane_from (m : (ℓ : Loc nD τ sig) → Buf (Elt Ideal) ℓ) (c : Dev nD) (t : Fin cfg0.N) (h : Fin 8) (n : Fin 64) (e : Fin 128) :
    plane (iblk m c 8 t : Vec Ideal S8x64x128 .f32) h.val (ix3 0 n e) = decayFrom (F := Ideal) (ix2 h n) := by
  rw [plane_apply, iblk_from, V_from]
  generalize decayFrom (F := Ideal) = z
  pointwise

theorem plane_all (m : (ℓ : Loc nD τ sig) → Buf (Elt Ideal) ℓ) (c : Dev nD) (t : Fin cfg0.N) (h : Fin 8) (e : Fin 128) :
    plane (iblk m c 9 t : Vec Ideal S8x1x128 .f32) h.val (ix3 0 0 e) = decayAll (F := Ideal) (ix1 h) := by
  rw [plane_apply, iblk_all, V_all]
  generalize decayAll (F := Ideal) = z
  pointwise

theorem plane_decay (m : (ℓ : Loc nD τ sig) → Buf (Elt Ideal) ℓ) (c : Dev nD) (t : Fin cfg0.N) (h : Fin 8) (n l : Fin 64) :
    plane (iblk m c 6 t : Vec Ideal S8x64x64 .f32) h.val (ix3 0 n l) = decay (F := Ideal) (ix3 h n l) := by
  rw [plane_apply, iblk_decay, V_decay]

/-- A head's row, from what its parts read. -/
theorem headRow_eq (q k v cs sn : Vec Ideal S64x128 .f32) (dm : Fin 64 → Fin 64 → EReal) (cr : Fin 64 → EReal) (S : Fin 128 → Fin 128 → EReal)
    (p : Vec Ideal S9728x5120 .f32) (s : Vec Ideal S2x16x8x128x128 .f32) (b : Fin 16) (h : Fin 8)
    (hq : ∀ n d, rope cs sn q n d = turn (part p 0 b n h) n d) (hk : ∀ n d, rope cs sn k n d = turn (part p 1 b n h) n d)
    (hv : ∀ n d, v (ix2 n d) = part p 2 b n h d) (hd : ∀ n l, dm n l = decay (F := Ideal) (ix3 h n l)) (hc : ∀ n, cr n = decayTo (F := Ideal) (ix2 h n))
    (hs : ∀ d e, S d e = s (ix5 1 b h d e)) (n : Fin 64) (e : Fin 128) : headRow q k v cs sn dm cr S n e = row p s b h n e := by
  unfold headRow row
  simp only [hq, hk, hv, hd, hc, hs]

/-- A head's columns at a point. -/
theorem head_value (m : (ℓ : Loc nD τ sig) → Buf (Elt Ideal) ℓ) (c : Dev nD) (t : Fin cfg0.N) (h : Fin 8) (n : Fin 64) (e : Fin 128) :
    (headOut (grid0.coords t) (cols (iblk m c 0 t) (128 * h.val)) (cols (iblk m c 1 t) (128 * h.val)) (cols (iblk m c 2 t) (128 * h.val))
        (cols (iblk m c 3 t) (128 * h.val)) (iblk m c 4 t) (iblk m c 5 t) (plane (iblk m c 6 t : Vec Ideal S8x64x64 .f32) h.val)
        (plane (iblk m c 7 t : Vec Ideal S8x64x128 .f32) h.val) (plane (k0_pay2 (iblk m c 10 t)) h.val) (ix2 n e) : EReal)
      = normed (row (m ((c : Thread nD τ).loc main_arg0)) (m ((c : Thread nD τ).loc main_arg1)) (seq t) h n)
          (part (m ((c : Thread nD τ).loc main_arg0)) 3 (seq t) n h e) e := by
  refine (headOut_apply _ (coord_one t) _ _ _ _ _ _ _ _ _ _ (plane_to m c t h) n e).trans ?_
  refine congrArg₂ (fun r g => normed r g e) (funext fun l => headRow_eq _ _ _ _ _ _ _ _ _ _ (seq t) h ?_ ?_ (cols_v m c t h) (plane_decay m c t h)
    (fun _ => rfl) (plane_state m c t h) n l) (cols_g m c t h n e)
  · intro a d
    rw [iblk_cosT, iblk_sinT]
    exact rope_eq _ _ (cols_q m c t h) a d
  · intro a d
    rw [iblk_cosT, iblk_sinT]
    exact rope_eq _ _ (cols_k m c t h) a d

/-- A head's new state at a point. -/
theorem state_value (m : (ℓ : Loc nD τ sig) → Buf (Elt Ideal) ℓ) (c : Dev nD) (t : Fin cfg0.N) (h : Fin 8) (d e : Fin 128) :
    (headState (grid0.coords t) (cols (iblk m c 1 t) (128 * h.val)) (cols (iblk m c 2 t) (128 * h.val)) (iblk m c 4 t) (iblk m c 5 t)
        (plane (iblk m c 8 t : Vec Ideal S8x64x128 .f32) h.val) (plane (iblk m c 9 t : Vec Ideal S8x1x128 .f32) h.val)
        (plane (k0_pay2 (iblk m c 10 t)) h.val) (ix3 0 d e) : EReal)
      = newState (m ((c : Thread nD τ).loc main_arg0)) (m ((c : Thread nD τ).loc main_arg1)) (seq t) h d e := by
  rw [headState_apply _ (coord_one t), plane_all, plane_state]
  unfold newState
  rw [iblk_cosT, iblk_sinT]
  have hk := rope_eq _ _ (cols_k m c t h)
  refine congrArg₂ (· + ·) rfl (Finset.sum_congr rfl fun l _ => ?_)
  rw [hk, plane_from, cols_v]

/-! ## The result arrays -/

/-- What the written rows of the first result end holding. -/
def G (m : (ℓ : Loc nD τ sig) → Buf (Elt Ideal) ℓ) (c : Dev nD) : Vec Ideal S9728x1024 .bf16 := fun i =>
  normed (row (m ((c : Thread nD τ).loc main_arg0)) (m ((c : Thread nD τ).loc main_arg1)) ⟨((i 0).val / 64 - 136) % 16, Nat.mod_lt _ (by norm_num)⟩
      ⟨(i 1).val / 128 % 8, Nat.mod_lt _ (by norm_num)⟩ ⟨(i 0).val % 64, Nat.mod_lt _ (by norm_num)⟩)
    (part (m ((c : Thread nD τ).loc main_arg0)) 3 ⟨((i 0).val / 64 - 136) % 16, Nat.mod_lt _ (by norm_num)⟩ ⟨(i 0).val % 64, Nat.mod_lt _ (by norm_num)⟩
      ⟨(i 1).val / 128 % 8, Nat.mod_lt _ (by norm_num)⟩ ⟨(i 1).val % 128, Nat.mod_lt _ (by norm_num)⟩)
    ⟨(i 1).val % 128, Nat.mod_lt _ (by norm_num)⟩

/-- What the first result ends holding. -/
def G11 (m : (ℓ : Loc nD τ sig) → Buf (Elt Ideal) ℓ) (c : Dev nD) : Vec Ideal S9728x1024 .bf16 := fun i =>
  if 136 ≤ (i 0).val / 64 then G m c i else (m ((c : Thread nD τ).loc main_arg2) : Vec Ideal S9728x1024 .bf16) i

/-- What the second result ends holding. -/
def G12 (m : (ℓ : Loc nD τ sig) → Buf (Elt Ideal) ℓ) (c : Dev nD) : Vec Ideal S16x8x128x128 .f32 := fun i =>
  newState (m ((c : Thread nD τ).loc main_arg0)) (m ((c : Thread nD τ).loc main_arg1)) (i 0) (i 1) (i 2) (i 3)

theorem outs11 (c : Dev nD) (t : Fin cfg0.N) : (outsAt0 m c t).1
    = heads (grid0.coords t) (iblk m c 0 t) (iblk m c 1 t) (iblk m c 2 t) (iblk m c 3 t) (iblk m c 4 t) (iblk m c 5 t) (iblk m c 6 t) (iblk m c 7 t) (iblk m c 10 t) := by
  unfold outsAt0
  dsimp only
  rw [out11]

theorem outs12 (c : Dev nD) (t : Fin cfg0.N) : (outsAt0 m c t).2
    = k0_pay1 (states (grid0.coords t) (iblk m c 1 t) (iblk m c 2 t) (iblk m c 4 t) (iblk m c 5 t) (iblk m c 8 t) (iblk m c 9 t) (iblk m c 10 t)) := by
  unfold outsAt0
  dsimp only
  rw [out12]

theorem pay1_apply (x : Vec Ideal S8x128x128 .f32) (h : Fin 8) (d e : Fin 128) : k0_pay1 x (ix4 0 h d e) = x (ix3 h d e) := by
  unfold_payloads
  pointwise

theorem point11 (m : (ℓ : Loc nD τ sig) → Buf (Elt Ideal) ℓ) (c : Dev nD) (t : Fin cfg0.N) (n : Fin 64) (j : Fin 1024) (i : S9728x1024.Idx)
    (h0 : (i 0).val = (136 + t.val) * 64 + 1 * n.val) (h1 : (i 1).val = 0 * 1024 + 1 * j.val) :
    heads (grid0.coords t) (iblk m c 0 t) (iblk m c 1 t) (iblk m c 2 t) (iblk m c 3 t) (iblk m c 4 t) (iblk m c 5 t) (iblk m c 6 t) (iblk m c 7 t) (iblk m c 10 t)
      (ix2 n j) = G m c i := by
  have ht := lt16 t
  have hs : (⟨((i 0).val / 64 - 136) % 16, Nat.mod_lt _ (by norm_num)⟩ : Fin 16) = seq t := Fin.ext (by show ((i 0).val / 64 - 136) % 16 = t.val; omega)
  have hn : (⟨(i 0).val % 64, Nat.mod_lt _ (by norm_num)⟩ : Fin 64) = n := Fin.ext (by rw [h0]; dsimp only; omega)
  have hj : (i 1).val = j.val := by rw [h1]; omega
  have hh : (⟨(i 1).val / 128 % 8, Nat.mod_lt _ (by norm_num)⟩ : Fin 8) = ⟨j.val / 128, by omega⟩ := Fin.ext (by rw [hj]; dsimp only; omega)
  have he : (⟨(i 1).val % 128, Nat.mod_lt _ (by norm_num)⟩ : Fin 128) = ⟨j.val % 128, Nat.mod_lt _ (by norm_num)⟩ := Fin.ext (by rw [hj])
  unfold G
  rw [hs, hn, hh, he]
  exact head_value m c t ⟨j.val / 128, by omega⟩ n ⟨j.val % 128, Nat.mod_lt _ (by norm_num)⟩

theorem final11 (m : (ℓ : Loc nD τ sig) → Buf (Elt Ideal) ℓ) (c : Dev nD) : (dats m 0 c).arrAt 11 cfg0.N = G11 m c := by
  have h := (dats m 0 c).arrAt_eq_of_coversWhere 11 (G m c) (P := fun i => 136 ≤ (i (0 : Fin 2)).val / 64) (fun β => 136 ≤ β (0 : Fin 2))
    (by decide +kernel) (fun t _ y => ?_) (fun j => Iff.rfl)
  · refine h.trans ?_
    funext i
    unfold G11
    refine if_congr Iff.rfl rfl ?_
    exact congrFun ((A_eq m c 11).trans (V_out m c)) i
  · obtain ⟨-, -, -, -, -, -, -, -, e0, e1⟩ := idx_state t
    have hy0 : (y 0).val < 64 := (y 0).isLt
    have hy1 : (y 1).val < 1024 := (y 1).isLt
    have hb0 : (((cfg0.win 11).blk t).view.emb y 0).val = win0_11.index t (0 : Fin 2) * 64 + 1 * (y 0).val := rfl
    have hb1 : (((cfg0.win 11).blk t).view.emb y 1).val = win0_11.index t (1 : Fin 2) * 1024 + 1 * (y 1).val := rfl
    rw [e0] at hb0
    rw [e1] at hb1
    have hl : (cfg0.win 11).xinj (grid0.coords t) y = ix2 (⟨(y 0).val, hy0⟩ : Fin 64) (⟨(y 1).val, hy1⟩ : Fin 1024) := by
      funext a
      match a with
      | ⟨0, _⟩ => rfl
      | ⟨1, _⟩ => rfl
    rw [after0_11, outs11]
    refine Eq.trans (congrArg (heads (grid0.coords t) (iblk m c 0 t) (iblk m c 1 t) (iblk m c 2 t) (iblk m c 3 t) (iblk m c 4 t) (iblk m c 5 t) (iblk m c 6 t)
      (iblk m c 7 t) (iblk m c 10 t)) hl) ?_
    exact point11 m c t ⟨(y 0).val, hy0⟩ ⟨(y 1).val, hy1⟩ _ hb0 hb1

/-- An index of the second result is in a point's block iff each coordinate is in the block's range. -/
theorem mem_blk12 (t : Fin cfg0.N) (i : S16x8x128x128.Idx) :
    i ∈ ((cfg0.win 12).blk t).view.set ↔ ∀ a : Fin 4, win0_12.index t a * S1x8x128x128.size a ≤ (i a).val
      ∧ (i a).val < win0_12.index t a * S1x8x128x128.size a + S1x8x128x128.size a := by
  show i ∈ ((View.whole main_v72_1).slice (win0_12.rect t)).set ↔ _
  rw [View.set_slice_whole, Rect.mem_set_unit]
  exact Iff.rfl

theorem flushed12_eq (m : (ℓ : Loc nD τ sig) → Buf (Elt Ideal) ℓ) (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12, outs12]
  obtain ⟨-, -, -, -, e0, e1, e2, e3, -⟩ := idx_state t
  funext y
  have hy0 : (y 0).val < 1 := (y 0).isLt
  have hy1 : (y 1).val < 8 := (y 1).isLt
  have hy2 : (y 2).val < 128 := (y 2).isLt
  have hy3 : (y 3).val < 128 := (y 3).isLt
  have hb0 : (((cfg0.win 12).blk t).view.emb y 0).val = win0_12.index t (0 : Fin 4) * 1 + 1 * (y 0).val := rfl
  have hb1 : (((cfg0.win 12).blk t).view.emb y 1).val = win0_12.index t (1 : Fin 4) * 8 + 1 * (y 1).val := rfl
  have hb2 : (((cfg0.win 12).blk t).view.emb y 2).val = win0_12.index t (2 : Fin 4) * 128 + 1 * (y 2).val := rfl
  have hb3 : (((cfg0.win 12).blk t).view.emb y 3).val = win0_12.index t (3 : Fin 4) * 128 + 1 * (y 3).val := rfl
  rw [e0] at hb0
  rw [e1] at hb1
  rw [e2] at hb2
  rw [e3] at hb3
  have hl : (cfg0.win 12).xinj (grid0.coords t) y = ix4 (0 : Fin 1) (⟨(y 1).val, hy1⟩ : Fin 8) (⟨(y 2).val, hy2⟩ : Fin 128) (⟨(y 3).val, hy3⟩ : Fin 128) := by
    funext a
    apply Fin.ext
    match a with
    | ⟨0, _⟩ => show (y 0).val = 0; omega
    | ⟨1, _⟩ => rfl
    | ⟨2, _⟩ => rfl
    | ⟨3, _⟩ => rfl
  show k0_pay1 (states (grid0.coords t) (iblk m c 1 t) (iblk m c 2 t) (iblk m c 4 t) (iblk m c 5 t) (iblk m c 8 t) (iblk m c 9 t) (iblk m c 10 t))
    ((cfg0.win 12).xinj (grid0.coords t) y) = G12 m c (((cfg0.win 12).blk t).view.emb y)
  rw [hl, pay1_apply]
  refine (state_value m c t ⟨(y 1).val, hy1⟩ ⟨(y 2).val, hy2⟩ ⟨(y 3).val, hy3⟩).trans ?_
  unfold G12
  have i0 : ((cfg0.win 12).blk t).view.emb y 0 = seq t := Fin.ext (by rw [hb0]; show t.val * 1 + 1 * (y 0).val = t.val; omega)
  have i1 : ((cfg0.win 12).blk t).view.emb y 1 = (⟨(y 1).val, hy1⟩ : Fin 8) := Fin.ext (by rw [hb1]; dsimp only; omega)
  have i2 : ((cfg0.win 12).blk t).view.emb y 2 = (⟨(y 2).val, hy2⟩ : Fin 128) := Fin.ext (by rw [hb2]; dsimp only; omega)
  have i3 : ((cfg0.win 12).blk t).view.emb y 3 = (⟨(y 3).val, hy3⟩ : Fin 128) := Fin.ext (by rw [hb3]; dsimp only; omega)
  rw [i0, i1, i2, i3]

theorem final12 (m : (ℓ : Loc nD τ sig) → Buf (Elt Ideal) ℓ) (c : Dev nD) : (dats m 0 c).arrAt 12 cfg0.N = G12 m c :=
  (dats m 0 c).arrAt_eq_of_cover 12 _ (fun t _ => flushed12_eq m c t) fun i => by
    have h0 : (i 0).val < 16 := (i 0).isLt
    have h1 : (i 1).val < 8 := (i 1).isLt
    have h2 : (i 2).val < 128 := (i 2).isLt
    have h3 : (i 3).val < 128 := (i 3).isLt
    have hN : (i 0).val < cfg0.N := lt_of_lt_of_eq (by omega) N_0.symm
    refine ⟨⟨_, hN⟩, flush0_12 _, ?_⟩
    obtain ⟨-, -, -, -, e0, e1, e2, e3, -⟩ := idx_state ⟨_, hN⟩
    dsimp only at e0
    rw [mem_blk12]
    intro a
    match a with
    | ⟨0, _⟩ => show win0_12.index _ (0 : Fin 4) * 1 ≤ (i 0).val ∧ (i 0).val < win0_12.index _ (0 : Fin 4) * 1 + 1; rw [e0]; omega
    | ⟨1, _⟩ => show win0_12.index _ (1 : Fin 4) * 8 ≤ (i 1).val ∧ (i 1).val < win0_12.index _ (1 : Fin 4) * 8 + 8; rw [e1]; omega
    | ⟨2, _⟩ => show win0_12.index _ (2 : Fin 4) * 128 ≤ (i 2).val ∧ (i 2).val < win0_12.index _ (2 : Fin 4) * 128 + 128; rw [e2]; omega
    | ⟨3, _⟩ => show win0_12.index _ (3 : Fin 4) * 128 ≤ (i 3).val ∧ (i 3).val < win0_12.index _ (3 : Fin 4) * 128 + 128; rw [e3]; omega

/-- The run: the results, the arguments end as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v72_0) = G11 m c
      ∧ r.2.mem ((c : Thread nD τ).loc main_v72_1) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 11).trans (final11 m c), ((h c).1 12).trans (final12 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.RetentionIdeal.HeadValue

namespace Cert.RetentionReferenceIdeal.Read

open Cert.RetentionReferenceIdeal Cert.RetentionReferenceIdeal.Gen Cert.RetentionReferenceIdeal.Value Idealize.ShloMosaic
open Cert.RetentionIdeal.HeadValue (part cosT sinT turn row newState keyScale width eps mean normed decay decayTo decayFrom decayAll)

/-! ## The reference's terms at an index -/

theorem split_rows (x : Vec Ideal S1024x5120 .f32) (b : Fin 16) (n : Fin 64) (j : Fin 5120) :
    shapeCast S16x64x5120 x shapeCasts_S1024x5120_S16x64x5120 (ix3 b n j) = x (ix2 ⟨64 * b.val + n.val, by omega⟩ j) := by
  refine shapeCast_apply _ _ _ _ ?_
  rw [Shape.rowMajor_val_two, Shape.rowMajor_val_three]
  show (64 * b.val + n.val) * 5120 + j.val = (b.val * 64 + n.val) * 5120 + j.val
  omega

theorem split_heads (x : Vec Ideal S16x64x1024 .f32) (b : Fin 16) (n : Fin 64) (h : Fin 8) (d : Fin 128) :
    shapeCast S16x64x8x128 x shapeCasts_S16x64x1024_S16x64x8x128 (ix4 b n h d) = x (ix3 b n ⟨128 * h.val + d.val, by omega⟩) := by
  refine shapeCast_apply _ _ _ _ ?_
  rw [Shape.rowMajor_val_three, Shape.rowMajor_val_four]
  show (b.val * 64 + n.val) * 1024 + (128 * h.val + d.val) = ((b.val * 64 + n.val) * 8 + h.val) * 128 + d.val
  omega

theorem join_heads (x : Vec Ideal S16x64x8x128 .f32) (b : Fin 16) (n : Fin 64) (h : Fin 8) (d : Fin 128) :
    shapeCast S16x64x1024 x shapeCasts_S16x64x8x128_S16x64x1024 (ix3 b n ⟨128 * h.val + d.val, by omega⟩) = x (ix4 b n h d) := by
  refine shapeCast_apply _ _ _ _ ?_
  rw [Shape.rowMajor_val_three, Shape.rowMajor_val_four]
  show ((b.val * 64 + n.val) * 8 + h.val) * 128 + d.val = (b.val * 64 + n.val) * 1024 + (128 * h.val + d.val)
  omega

theorem join_rows (x : Vec Ideal S16x64x1024 .f32) (b : Fin 16) (n : Fin 64) (j : Fin 1024) :
    shapeCast S1024x1024 x shapeCasts_S16x64x1024_S1024x1024 (ix2 ⟨64 * b.val + n.val, by omega⟩ j) = x (ix3 b n j) := by
  refine shapeCast_apply _ _ _ _ ?_
  rw [Shape.rowMajor_val_two, Shape.rowMajor_val_three]
  show (b.val * 64 + n.val) * 1024 + j.val = (64 * b.val + n.val) * 1024 + j.val
  omega

theorem rows_apply (p : Vec Ideal S9728x5120 .f32) (b : Fin 16) (n : Fin 64) (j : Fin 5120) :
    shapeCast S16x64x5120 (extractStridedSlice S1024x5120 ![8704, 0] p slices_S9728x5120_S1024x5120_8704_0) shapeCasts_S1024x5120_S16x64x5120 (ix3 b n j)
      = p (ix2 ⟨8704 + 64 * b.val + n.val, by omega⟩ j) := by
  rw [split_rows]
  refine extractStridedSlice_apply _ _ _ _ _ fun a => ?_
  match a with
  | ⟨0, _⟩ => show 8704 + 64 * b.val + n.val = 8704 + (64 * b.val + n.val); omega
  | ⟨1, _⟩ => show j.val = 0 + j.val; omega

theorem cols_apply (y : Vec Ideal S16x64x5120 .f32) (o : ℕ) (ho : o + 1024 ≤ 5120) (hs : S16x64x5120.Slices ![0, 0, o] S16x64x1024) (b : Fin 16) (n : Fin 64) (j : Fin 1024) :
    extractStridedSlice S16x64x1024 ![0, 0, o] y hs (ix3 b n j) = y (ix3 b n ⟨o + j.val, by omega⟩) := by
  refine extractStridedSlice_apply _ _ _ _ _ fun a => ?_
  match a with
  | ⟨0, _⟩ => show b.val = 0 + b.val; omega
  | ⟨1, _⟩ => show n.val = 0 + n.val; omega
  | ⟨2, _⟩ => rfl

/-- The queries, the keys and the values, head by head. -/
theorem part_apply (p : Vec Ideal S9728x5120 .f32) (j : Fin 4) (o : ℕ) (ho : o = 1024 * (j.val + 1)) (hs : S16x64x5120.Slices ![0, 0, o] S16x64x1024) (b : Fin 16) (n : Fin 64)
    (h : Fin 8) (d : Fin 128) :
    shapeCast S16x64x8x128 (extractStridedSlice S16x64x1024 ![0, 0, o] (shapeCast S16x64x5120 (extractStridedSlice S1024x5120 ![8704, 0] p
        slices_S9728x5120_S1024x5120_8704_0) shapeCasts_S1024x5120_S16x64x5120 : Vec Ideal S16x64x5120 .f32) hs : Vec Ideal S16x64x1024 .f32)
        shapeCasts_S16x64x1024_S16x64x8x128 (ix4 b n h d) = part p j b n h d := by
  rw [split_heads, cols_apply _ o (by omega), rows_apply]
  unfold part
  subst ho
  refine congrArg p (congrArg (ix2 _) (Fin.ext ?_))
  show 1024 * (j.val + 1) + (128 * h.val + d.val) = 1024 * (j.val + 1) + 128 * h.val + d.val
  omega

/-- The gates. -/
theorem gates_apply (p : Vec Ideal S9728x5120 .f32) (b : Fin 16) (n : Fin 64) (h : Fin 8) (d : Fin 128) :
    extractStridedSlice S16x64x1024 ![0, 0, 4096] (shapeCast S16x64x5120 (extractStridedSlice S1024x5120 ![8704, 0] p
        slices_S9728x5120_S1024x5120_8704_0) shapeCasts_S1024x5120_S16x64x5120 : Vec Ideal S16x64x5120 .f32) slices_S16x64x5120_S16x64x1024_0_0_4096
        (ix3 b n ⟨128 * h.val + d.val, by omega⟩) = part p 3 b n h d := by
  rw [cols_apply _ 4096 (by omega), rows_apply]
  unfold part
  refine congrArg p (congrArg (ix2 _) (Fin.ext ?_))
  show 4096 + (128 * h.val + d.val) = 1024 * (3 + 1) + 128 * h.val + d.val
  omega

/-- A rotation, at an index. -/
theorem turn_apply (x : FVec Ideal S16x64x8x128 .f32) (b : Fin 16) (n : Fin 64) (h : Fin 8) (d : Fin 128) :
    (concatenate S16x64x8x128 3 [⟨S16x64x8x64, (subf (mulf (extractStridedSlice S16x64x8x64 ![0, 0, 0, 0] x slices_S16x64x8x128_S16x64x8x64_0_0_0_0) (broadcastInDim S16x64x8x64 ![0, 1, 2, 3] bcast_S1x64x1x64_S16x64x8x64_0_1_2_3 (broadcastInDim S1x64x1x64 ![1, 3] bcast_S64x64_S1x64x1x64_1_3 cosT))) (mulf (extractStridedSlice S16x64x8x64 ![0, 0, 0, 64] x slices_S16x64x8x128_S16x64x8x64_0_0_0_64) (broadcastInDim S16x64x8x64 ![0, 1, 2, 3] bcast_S1x64x1x64_S16x64x8x64_0_1_2_3 (broadcastInDim S1x64x1x64 ![1, 3] bcast_S64x64_S1x64x1x64_1_3 sinT))))⟩, ⟨S16x64x8x64, (addf (mulf (extractStridedSlice S16x64x8x64 ![0, 0, 0, 0] x slices_S16x64x8x128_S16x64x8x64_0_0_0_0) (broadcastInDim S16x64x8x64 ![0, 1, 2, 3] bcast_S1x64x1x64_S16x64x8x64_0_1_2_3 (broadcastInDim S1x64x1x64 ![1, 3] bcast_S64x64_S1x64x1x64_1_3 sinT))) (mulf (extractStridedSlice S16x64x8x64 ![0, 0, 0, 64] x slices_S16x64x8x128_S16x64x8x64_0_0_0_64) (broadcastInDim S16x64x8x64 ![0, 1, 2, 3] bcast_S1x64x1x64_S16x64x8x64_0_1_2_3 (broadcastInDim S1x64x1x64 ![1, 3] bcast_S64x64_S1x64x1x64_1_3 cosT))))⟩] concatenates_S16x64x8x64_S16x64x8x64_S16x64x8x128_d3) (ix4 b n h d)
      = turn (fun l => x (ix4 b n h l)) n d := by
  unfold turn
  pointwise
  by_cases hd : d.val < 64
  · rw [dif_pos hd, dif_pos hd, (Fin.ext (Nat.add_comm _ _) : (⟨64 + d.val, by omega⟩ : Fin 128) = ⟨d.val + 64, by omega⟩)]
  · rw [dif_neg hd, dif_neg hd, (Fin.ext (by show 64 + (d.val - 64) = d.val; omega) : (⟨64 + (d.val - 64), by omega⟩ : Fin 128) = d)]

/-- The keys' scale, at an index. -/
theorem keys_apply (x : FVec Ideal S16x64x8x128 .f32) (b : Fin 16) (n : Fin 64) (h : Fin 8) (d : Fin 128) :
    (mulf x (broadcastInDim S16x64x8x128 ![] bcast_S_S16x64x8x128 (constant S_ .f32 0x3DB504F3#32))) (ix4 b n h d) = x (ix4 b n h d) * keyScale := by
  unfold keyScale
  pointwise

/-- The retention's rows, at an index. -/
theorem rows_sum (v q k : FVec Ideal S16x64x8x128 .f32) (D : FVec Ideal S8x64x64 .f32) (S : FVec Ideal S16x8x128x128 .f32) (T : FVec Ideal S8x64 .f32)
    (b : Fin 16) (n : Fin 64) (h : Fin 8) (e : Fin 128) :
    (addf (transpose S16x64x8x128 [0, 3, 1, 2] (Host.dotGeneral dot_S16x64x8x128_S16x8x64x64_S16x8x128x64_1_3_3_2_02_01 none v (mulf (Host.dotGeneral dot_S16x64x8x128_S16x64x8x128_S16x8x64x64_3_3_1_1_02_02 none q k) (broadcastInDim S16x8x64x64 ![0, 1, 2, 3] bcast_S1x8x64x64_S16x8x64x64_0_1_2_3 (broadcastInDim S1x8x64x64 ![1, 2, 3] bcast_S8x64x64_S1x8x64x64_1_2_3 D)))) transposes_S16x8x128x64_S16x64x8x128_0_3_1_2) (mulf (transpose S16x64x8x128 [0, 3, 1, 2] (Host.dotGeneral dot_S16x8x128x128_S16x64x8x128_S16x8x128x64_2_3_3_1_01_02 none S q) transposes_S16x8x128x64_S16x64x8x128_0_3_1_2) (broadcastInDim S16x64x8x128 ![0, 1, 2, 3] bcast_S1x64x8x1_S16x64x8x128_0_1_2_3 (broadcastInDim S1x64x8x1 ![1, 2] bcast_S64x8_S1x64x8x1_1_2 (transpose S64x8 [1, 0] T transposes_S8x64_S64x8_1_0)))) : FVec Ideal S16x64x8x128 .f32) (ix4 b n h e)
      = ((∑ l : Fin 64, (v (ix4 b l h e) : EReal) * ((∑ d : Fin 128, (q (ix4 b n h d) : EReal) * k (ix4 b l h d)) * D (ix3 h n l)))
        + (∑ d : Fin 128, (S (ix4 b h d e) : EReal) * q (ix4 b n h d)) * T (ix2 h n) : EReal) := by
  pointwise

/-- The new state, at an index. -/
theorem state_sum (v k : FVec Ideal S16x64x8x128 .f32) (A : FVec Ideal S8 .f32) (S : FVec Ideal S16x8x128x128 .f32) (T : FVec Ideal S8x64 .f32)
    (b : Fin 16) (h : Fin 8) (d e : Fin 128) :
    (addf (mulf (broadcastInDim S16x8x128x128 ![0, 1, 2, 3] bcast_S1x8x1x1_S16x8x128x128_0_1_2_3 (broadcastInDim S1x8x1x1 ![1] bcast_S8_S1x8x1x1_1 A)) S) (Host.dotGeneral dot_S16x64x8x128_S16x64x8x128_S16x8x128x128_1_1_3_3_02_02 none (mulf k (broadcastInDim S16x64x8x128 ![0, 1, 2, 3] bcast_S1x64x8x1_S16x64x8x128_0_1_2_3 (broadcastInDim S1x64x8x1 ![1, 2] bcast_S64x8_S1x64x8x1_1_2 (transpose S64x8 [1, 0] T transposes_S8x64_S64x8_1_0)))) v) : FVec Ideal S16x8x128x128 .f32) (ix4 b h d e)
      = (A (ix1 h) : EReal) * S (ix4 b h d e) + ∑ l : Fin 64, ((k (ix4 b l h d) : EReal) * T (ix2 h l)) * v (ix4 b l h e) := by
  pointwise

/-- A state of the second layer, at an index. -/
theorem layer_apply (S : FVec Ideal S2x16x8x128x128 .f32) (b : Fin 16) (h : Fin 8) (d e : Fin 128) :
    (shapeCast S16x8x128x128 (extractStridedSlice S1x16x8x128x128 ![1, 0, 0, 0, 0] S slices_S2x16x8x128x128_S1x16x8x128x128_1_0_0_0_0) shapeCasts_S1x16x8x128x128_S16x8x128x128
      : FVec Ideal S16x8x128x128 .f32) (ix4 b h d e) = S (ix5 1 b h d e) := by
  pointwise

/-- The difference from the mean, at an index. -/
theorem diff_apply (s : FVec Ideal S16x64x8x128 .f32) (b : Fin 16) (n : Fin 64) (h : Fin 8) (e : Fin 128) :
    (subf s (broadcastInDim S16x64x8x128 ![0, 1, 2, 3] bcast_S16x64x8x1_S16x64x8x128_0_1_2_3 (Host.divf (broadcastInDim S16x64x8x1 ![0, 1, 2] bcast_S16x64x8_S16x64x8x1_0_1_2 (Host.reduceAdd s (constant S_ .f32 0x00000000#32) reducesTo_S16x64x8x128_S16x64x8_d3 h_S_)) (broadcastInDim S16x64x8x1 ![] bcast_S_S16x64x8x1 (constant S_ .f32 0x43000000#32))))) (ix4 b n h e) = s (ix4 b n h e) - mean fun l => s (ix4 b n h l) := by
  unfold mean width
  pointwise

/-- The differences scaled, at an index. -/
theorem scaled_apply (d : FVec Ideal S16x64x8x128 .f32) (b : Fin 16) (n : Fin 64) (h : Fin 8) (e : Fin 128) :
    ((mulf d (broadcastInDim S16x64x8x128 ![0, 1, 2, 3] bcast_S16x64x8x1_S16x64x8x128_0_1_2_3 (Host.rsqrt (addf (Host.divf (broadcastInDim S16x64x8x1 ![0, 1, 2] bcast_S16x64x8_S16x64x8x1_0_1_2 (Host.reduceAdd (mulf d d) (constant S_ .f32 0x00000000#32) reducesTo_S16x64x8x128_S16x64x8_d3 h_S_)) (broadcastInDim S16x64x8x1 ![] bcast_S_S16x64x8x1 (constant S_ .f32 0x43000000#32))) (broadcastInDim S16x64x8x1 ![] bcast_S_S16x64x8x1 (constant S_ .f32 0x3727C5AC#32))))))) (ix4 b n h e)
      = d (ix4 b n h e) * Ideal.rsqrt (Ideal.div (∑ l : Fin 128, d (ix4 b n h l) * d (ix4 b n h l)) width + eps) := by
  unfold width eps
  pointwise

theorem narrow_apply (x : FVec Ideal S1024x1024 .f32) (i : S1024x1024.Idx) : (truncf .bf16 x bitsLt_bf16_f32 i : EReal) = x i := rfl

/-- The gated rows, at an index. -/
theorem gated_apply (g : FVec Ideal S16x64x1024 .f32) (y : FVec Ideal S16x64x8x128 .f32) (b : Fin 16) (n : Fin 64) (h : Fin 8) (e : Fin 128) :
    ((truncf .bf16 (shapeCast _ (mulf (mulf g (Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf g))))) (shapeCast _ y shapeCasts_S16x64x8x128_S16x64x1024)) shapeCasts_S16x64x1024_S1024x1024) bitsLt_bf16_f32) : FVec Ideal S1024x1024 .bf16)
        (ix2 (⟨64 * b.val + n.val, by omega⟩ : Fin 1024) (⟨128 * h.val + e.val, by omega⟩ : Fin 1024))
      = ((g (ix3 b n ⟨128 * h.val + e.val, by omega⟩) : EReal) * Ideal.logistic (g (ix3 b n ⟨128 * h.val + e.val, by omega⟩)) * y (ix4 b n h e) : EReal) := by
  refine (narrow_apply _ _).trans ((join_rows _ b n ⟨128 * h.val + e.val, by omega⟩).trans ?_)
  refine congrArg₂ (· * ·) ?_ (join_heads y b n h e)
  pointwise
  rfl

/-- The first result, at an index. -/
theorem joined_apply (o : FVec Ideal S9728x1024 .bf16) (y : FVec Ideal S1024x1024 .bf16) (r : Fin 9728) (j : Fin 1024) :
    (concatenate S9728x1024 0 [⟨S8704x1024, (extractStridedSlice S8704x1024 ![0, 0] o slices_S9728x1024_S8704x1024_0_0)⟩, ⟨S1024x1024, y⟩] concatenates_S8704x1024_S1024x1024_S9728x1024_d0) (ix2 r j)
      = if h : r.val < 8704 then o (ix2 r j) else y (ix2 ⟨r.val - 8704, by omega⟩ j) := by
  pointwise

/-! ## The reference's values -/

variable (V0 : Valuation τ sig (Elt Ideal))

theorem query_value (b : Fin 16) (n : Fin 64) (h : Fin 8) (d : Fin 128) :
    (res_main_v50 V0 : FVec Ideal S16x64x8x128 .f32) (ix4 b n h d) = turn (part (V0 (Proc.devRef .tc main_arg0)) 0 b n h) n d :=
  (turn_apply (res_main_v3 V0) b n h d).trans (congrArg (fun x => turn x n d) (funext fun l => part_apply _ 0 1024 rfl _ b n h l))

theorem key_value (b : Fin 16) (n : Fin 64) (h : Fin 8) (d : Fin 128) :
    (res_main_v81 V0 : FVec Ideal S16x64x8x128 .f32) (ix4 b n h d) = turn (part (V0 (Proc.devRef .tc main_arg0)) 1 b n h) n d * keyScale :=
  (keys_apply _ b n h d).trans (congrArg (· * keyScale) ((turn_apply (res_main_v5 V0) b n h d).trans
    (congrArg (fun x => turn x n d) (funext fun l => part_apply _ 1 2048 rfl _ b n h l))))

theorem value_value (b : Fin 16) (n : Fin 64) (h : Fin 8) (d : Fin 128) :
    (res_main_v7 V0 : FVec Ideal S16x64x8x128 .f32) (ix4 b n h d) = part (V0 (Proc.devRef .tc main_arg0)) 2 b n h d :=
  part_apply _ 2 3072 rfl _ b n h d

theorem row_value (b : Fin 16) (n : Fin 64) (h : Fin 8) (e : Fin 128) :
    (res_main_v119 V0 : FVec Ideal S16x64x8x128 .f32) (ix4 b n h e) = row (V0 (Proc.devRef .tc main_arg0)) (V0 (Proc.devRef .tc main_arg1)) b h n e := by
  refine (rows_sum (res_main_v7 V0) (res_main_v50 V0) (res_main_v81 V0) (decay (F := Ideal)) (res_main_v21 V0) (decayTo (F := Ideal)) b n h e).trans ?_
  unfold row
  refine congrArg₂ (· + ·) (Finset.sum_congr rfl fun l _ => ?_) (congrArg (· * _) (Finset.sum_congr rfl fun d _ => ?_))
  · refine (mul_comm _ _).trans (congrArg₂ (· * ·) (congrArg (· * _) (Finset.sum_congr rfl fun d _ => ?_)) (value_value V0 b l h e))
    exact congrArg₂ (· * ·) (query_value V0 b n h d) (key_value V0 b l h d)
  · exact (mul_comm _ _).trans (congrArg₂ (· * ·) (query_value V0 b n h d) (layer_apply _ b h d e))

theorem norm_value (b : Fin 16) (n : Fin 64) (h : Fin 8) (e : Fin 128) :
    ((truncf .bf16 (shapeCast _ (mulf (mulf (res_main_v8 V0) (Host.divf (broadcastInDim S16x64x1024 ![] bcast_S_S16x64x1024 (constant S_ .f32 0x3F800000#32)) (addf (broadcastInDim S16x64x1024 ![] bcast_S_S16x64x1024 (constant S_ .f32 0x3F800000#32)) (Host.exp (Host.negf (res_main_v8 V0)))))) (shapeCast _ (mulf (subf (res_main_v119 V0) (broadcastInDim S16x64x8x128 ![0, 1, 2, 3] bcast_S16x64x8x1_S16x64x8x128_0_1_2_3 (res_main_v143 V0))) (broadcastInDim S16x64x8x128 ![0, 1, 2, 3] bcast_S16x64x8x1_S16x64x8x128_0_1_2_3 (Host.rsqrt (addf (Host.divf (broadcastInDim S16x64x8x1 ![0, 1, 2] bcast_S16x64x8_S16x64x8x1_0_1_2 (Host.reduceAdd (mulf (res_main_v145 V0) (res_main_v145 V0)) (constant S_ .f32 0x00000000#32) reducesTo_S16x64x8x128_S16x64x8_d3 h_S_)) (broadcastInDim S16x64x8x1 ![] bcast_S_S16x64x8x1 (constant S_ .f32 0x43000000#32))) (broadcastInDim S16x64x8x1 ![] bcast_S_S16x64x8x1 (constant S_ .f32 0x3727C5AC#32)))))) shapeCasts_S16x64x8x128_S16x64x1024)) shapeCasts_S16x64x1024_S1024x1024) bitsLt_bf16_f32) : FVec Ideal S1024x1024 .bf16)
        (ix2 (⟨64 * b.val + n.val, by omega⟩ : Fin 1024) (⟨128 * h.val + e.val, by omega⟩ : Fin 1024))
      = normed (row (V0 (Proc.devRef .tc main_arg0)) (V0 (Proc.devRef .tc main_arg1)) b h n) (part (V0 (Proc.devRef .tc main_arg0)) 3 b n h e) e := by
  refine (gated_apply _ _ b n h e).trans ?_
  have hg : (res_main_v8 V0 : FVec Ideal S16x64x1024 .f32) (ix3 b n ⟨128 * h.val + e.val, by omega⟩) = part (V0 (Proc.devRef .tc main_arg0)) 3 b n h e :=
    gates_apply _ b n h e
  have hd : ∀ l, (res_main_v145 V0 : FVec Ideal S16x64x8x128 .f32) (ix4 b n h l) = _ := fun l =>
    (diff_apply (res_main_v119 V0) b n h l).trans (congrArg₂ (· - ·) (row_value V0 b n h l) (congrArg mean (funext fun a => row_value V0 b n h a)))
  rw [hg]
  unfold normed
  refine congrArg₂ (· * ·) rfl ((scaled_apply (res_main_v145 V0) b n h e).trans ?_)
  exact congrArg₂ (· * ·) (hd e) (congrArg Ideal.rsqrt (congrArg (· + eps) (congrArg (Ideal.div · width)
    (Finset.sum_congr rfl fun l _ => congrArg₂ (· * ·) (hd l) (hd l)))))

theorem state_value (b : Fin 16) (h : Fin 8) (d e : Fin 128) :
    (addf (mulf (broadcastInDim S16x8x128x128 ![0, 1, 2, 3] bcast_S1x8x1x1_S16x8x128x128_0_1_2_3 (broadcastInDim S1x8x1x1 ![1] bcast_S8_S1x8x1x1_1 (Host.exp (mulf (broadcastInDim S8 ![] bcast_S_S8 (constant S_ .f32 0x42800000#32)) (res_main_v19 V0))))) (res_main_v21 V0)) (Host.dotGeneral (φ₂ := .f32) dot_S16x64x8x128_S16x64x8x128_S16x8x128x128_1_1_3_3_02_02 none (mulf (res_main_v81 V0) (broadcastInDim S16x64x8x128 ![0, 1, 2, 3] bcast_S1x64x8x1_S16x64x8x128_0_1_2_3 (broadcastInDim S1x64x8x1 ![1, 2] bcast_S64x8_S1x64x8x1_1_2 (transpose S64x8 [1, 0] (Host.exp (mulf (broadcastInDim S8x64 ![0, 1] bcast_S1x64_S8x64_0_1 (broadcastInDim S1x64 ![1] bcast_S64_S1x64_1 (subf (broadcastInDim S64 ![] bcast_S_S64 (constant S_ .f32 0x427C0000#32)) (res_main_v82 V0)))) (broadcastInDim S8x64 ![0, 1] bcast_S8x1_S8x64_0_1 (broadcastInDim S8x1 ![0] bcast_S8_S8x1_0 (res_main_v19 V0))))) transposes_S8x64_S64x8_1_0)))) (res_main_v7 V0)) : FVec Ideal S16x8x128x128 .f32) (ix4 b h d e)
      = newState (V0 (Proc.devRef .tc main_arg0)) (V0 (Proc.devRef .tc main_arg1)) b h d e := by
  refine (state_sum (res_main_v7 V0) (res_main_v81 V0) (decayAll (F := Ideal)) (res_main_v21 V0) (decayFrom (F := Ideal)) b h d e).trans ?_
  unfold newState
  refine congrArg₂ (· + ·) (congrArg (_ * ·) (layer_apply _ b h d e)) (Finset.sum_congr rfl fun l _ => ?_)
  exact congrArg₂ (· * ·) (congrArg (· * _) (key_value V0 b l h d)) (value_value V0 b l h e)

end Cert.RetentionReferenceIdeal.Read

namespace Cert.Proof

open Idealize.ShloMosaic Idealize.SL.Sem

theorem quiescent_RetentionReferenceIdeal : quiescent_RetentionReferenceIdeal := fun m ρ _ =>
  (θ_run Cert.RetentionReferenceIdeal.defs _ _).mono
    (fun r h => ⟨fun c => (h c).2.2, sem_eq_zero_of_no_sems (by decide) r.2⟩)
    (Cert.RetentionReferenceIdeal.Value.run (F := Ideal) m ρ)

open Cert.RetentionIdeal in
/-- The first result, an index at a time. -/
theorem retained (p : Vec Ideal S9728x5120 .f32) (S : Vec Ideal S2x16x8x128x128 .f32) (o : FVec Ideal S9728x1024 .bf16) (y : FVec Ideal Cert.RetentionReferenceIdeal.S1024x1024 .bf16)
    (hy : ∀ (b : Fin 16) (n : Fin 64) (h : Fin 8) (e : Fin 128), y (ix2 (⟨64 * b.val + n.val, by omega⟩ : Fin 1024) (⟨128 * h.val + e.val, by omega⟩ : Fin 1024))
      = HeadValue.normed (HeadValue.row p S b h n) (HeadValue.part p 3 b n h e) e) (r : Fin 9728) (j : Fin 1024) :
    (if h : r.val < 8704 then o (ix2 r j) else y (ix2 ⟨r.val - 8704, by omega⟩ j) : EReal)
      = if 136 ≤ r.val / 64 then HeadValue.normed (HeadValue.row p S ⟨(r.val / 64 - 136) % 16, Nat.mod_lt _ (by norm_num)⟩
          ⟨j.val / 128 % 8, Nat.mod_lt _ (by norm_num)⟩ ⟨r.val % 64, Nat.mod_lt _ (by norm_num)⟩)
        (HeadValue.part p 3 ⟨(r.val / 64 - 136) % 16, Nat.mod_lt _ (by norm_num)⟩ ⟨r.val % 64, Nat.mod_lt _ (by norm_num)⟩
          ⟨j.val / 128 % 8, Nat.mod_lt _ (by norm_num)⟩ ⟨j.val % 128, Nat.mod_lt _ (by norm_num)⟩)
        ⟨j.val % 128, Nat.mod_lt _ (by norm_num)⟩ else o (ix2 r j) := by
  by_cases h : r.val < 8704
  · rw [dif_pos h, if_neg (by omega)]
  · rw [dif_neg h, if_pos (by omega), ← hy]
    have hr := r.isLt
    have hj := j.isLt
    refine congrArg₂ (fun a b => y (ix2 a b)) (Fin.ext ?_) (Fin.ext ?_)
    · show r.val - 8704 = 64 * ((r.val / 64 - 136) % 16) + r.val % 64
      omega
    · show j.val = 128 * (j.val / 128 % 8) + j.val % 128
      omega

theorem algebraic_RetentionIdeal_RetentionReferenceIdeal : algebraic_RetentionIdeal_RetentionReferenceIdeal := by
  intro m ρ m' ρ' _ hagree
  refine ⟨_, _, Cert.RetentionIdeal.HeadValue.run m ρ, ?_⟩
  refine (θ_run Cert.RetentionReferenceIdeal.defs _ _).mono (fun _ h c => ⟨?_, ?_, (h c).2.2⟩)
    (Cert.RetentionReferenceIdeal.Value.run (F := Ideal) m' ρ')
  all_goals
    have h0 : StableHlo.launchContents m' c (Proc.devRef .tc Cert.RetentionReferenceIdeal.main_arg0) = m (c.tc.loc Cert.RetentionIdeal.main_arg0) := (hagree c).1
    have h1 : StableHlo.launchContents m' c (Proc.devRef .tc Cert.RetentionReferenceIdeal.main_arg1) = m (c.tc.loc Cert.RetentionIdeal.main_arg1) := (hagree c).2.1
    have h2 : StableHlo.launchContents m' c (Proc.devRef .tc Cert.RetentionReferenceIdeal.main_arg2) = m (c.tc.loc Cert.RetentionIdeal.main_arg2) := (hagree c).2.2
  · rw [(h c).1]
    funext j
    idx_vars j
    refine (Cert.RetentionReferenceIdeal.Read.joined_apply _ _ j0 j1).trans ?_
    refine (retained _ _ _ _ (Cert.RetentionReferenceIdeal.Read.norm_value (StableHlo.launchContents m' c)) j0 j1).trans ?_
    rw [h0, h1, h2]
    rfl
  · rw [(h c).2.1]
    funext j
    idx_vars j
    refine (Cert.RetentionReferenceIdeal.Read.state_value (StableHlo.launchContents m' c) j0 j1 j2 j3).trans ?_
    rw [h0, h1]
    rfl

end Cert.Proof

end
-- ==== Proof.lean ====
module

public import proofs.«01_k».proof.Defs
public import proofs.«01_k».proof.Proof.Gen.ProjTail
public import proofs.«01_k».proof.Proof.Gen.ProjTail.Frame
public import proofs.«01_k».proof.Proof.Gen.ProjTailIdeal
public import proofs.«01_k».proof.Proof.Gen.ProjTailIdeal.Frame
public import proofs.«01_k».proof.Proof.Gen.ProjTailReferenceIdeal
public import proofs.«01_k».proof.Proof.Gen.ProjTailReferenceIdeal.Run
public import proofs.«01_k».proof.Proof.ProjTailValue
public import proofs.«01_k».proof.Proof.Gen.MoeGateUp
public import proofs.«01_k».proof.Proof.Gen.MoeGateUpIdeal
public import proofs.«01_k».proof.Proof.Gen.MoeGateUpReferenceIdeal
public import proofs.«01_k».proof.Proof.Gen.MoeGateUpReferenceIdeal.Run
public import proofs.«01_k».proof.Proof.MoeGateUpValue
public import proofs.«01_k».proof.Proof.Gen.MoeDown
public import proofs.«01_k».proof.Proof.Gen.MoeDownIdeal
public import proofs.«01_k».proof.Proof.Gen.MoeDownReferenceIdeal
public import proofs.«01_k».proof.Proof.Gen.MoeDownReferenceIdeal.Run
public import proofs.«01_k».proof.Proof.MoeDownValue
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpReferenceIdeal
public import proofs.«01_k».proof.Proof.Gen.GateUpReferenceIdeal.Run
public import proofs.«01_k».proof.Proof.GateUpValue
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownReferenceIdeal
public import proofs.«01_k».proof.Proof.Gen.FfnDownReferenceIdeal.Run
public import proofs.«01_k».proof.Proof.FfnDownValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import proofs.«01_k».proof.Proof.MergeValue
public import proofs.«01_k».proof.Proof.Gen.MatmulNorm
public import proofs.«01_k».proof.Proof.Gen.MatmulNorm.Frame
public import proofs.«01_k».proof.Proof.Gen.MatmulNormIdeal
public import proofs.«01_k».proof.Proof.Gen.MatmulNormIdeal.Frame
public import proofs.«01_k».proof.Proof.Gen.MatmulNormReferenceIdeal
public import proofs.«01_k».proof.Proof.Gen.MatmulNormReferenceIdeal.Run
public import proofs.«01_k».proof.Proof.MatmulNormValue
public import proofs.«01_k».proof.Proof.Gen.ProjK
public import proofs.«01_k».proof.Proof.Gen.ProjK.Frame
public import proofs.«01_k».proof.Proof.Gen.ProjKIdeal
public import proofs.«01_k».proof.Proof.Gen.ProjKIdeal.Frame
public import proofs.«01_k».proof.Proof.Gen.ProjKReferenceIdeal
public import proofs.«01_k».proof.Proof.Gen.ProjKReferenceIdeal.Run
public import proofs.«01_k».proof.Proof.ProjKValue
public import proofs.«01_k».proof.Proof.Gen.ProjV
public import proofs.«01_k».proof.Proof.Gen.ProjV.Frame
public import proofs.«01_k».proof.Proof.Gen.ProjVIdeal
public import proofs.«01_k».proof.Proof.Gen.ProjVIdeal.Frame
public import proofs.«01_k».proof.Proof.Gen.ProjVReferenceIdeal
public import proofs.«01_k».proof.Proof.Gen.ProjVReferenceIdeal.Run
public import proofs.«01_k».proof.Proof.ProjVValue
public import proofs.«01_k».proof.Proof.Gen.ProjIdx
public import proofs.«01_k».proof.Proof.Gen.ProjIdx.Frame
public import proofs.«01_k».proof.Proof.Gen.ProjIdxIdeal
public import proofs.«01_k».proof.Proof.Gen.ProjIdxIdeal.Frame
public import proofs.«01_k».proof.Proof.Gen.ProjIdxReferenceIdeal
public import proofs.«01_k».proof.Proof.Gen.ProjIdxReferenceIdeal.Run
public import proofs.«01_k».proof.Proof.ProjIdxValue
public import proofs.«01_k».proof.Proof.Gen.ProjQ
public import proofs.«01_k».proof.Proof.Gen.ProjQ.Frame
public import proofs.«01_k».proof.Proof.Gen.ProjQIdeal
public import proofs.«01_k».proof.Proof.Gen.ProjQIdeal.Frame
public import proofs.«01_k».proof.Proof.Gen.ProjQReferenceIdeal
public import proofs.«01_k».proof.Proof.Gen.ProjQReferenceIdeal.Run
public import proofs.«01_k».proof.Proof.ProjQValue
public import proofs.«01_k».proof.Proof.Gen.ProjQI
public import proofs.«01_k».proof.Proof.Gen.ProjQI.Frame
public import proofs.«01_k».proof.Proof.Gen.ProjQIIdeal
public import proofs.«01_k».proof.Proof.Gen.ProjQIIdeal.Frame
public import proofs.«01_k».proof.Proof.Gen.ProjQIReferenceIdeal
public import proofs.«01_k».proof.Proof.Gen.ProjQIReferenceIdeal.Run
public import proofs.«01_k».proof.Proof.ProjQIValue
public import proofs.«01_k».proof.Proof.Gen.Retention
public import proofs.«01_k».proof.Proof.Gen.Retention.Frame
public import proofs.«01_k».proof.Proof.Gen.RetentionIdeal
public import proofs.«01_k».proof.Proof.Gen.RetentionIdeal.Frame
public import proofs.«01_k».proof.Proof.Gen.RetentionReferenceIdeal
public import proofs.«01_k».proof.Proof.Gen.RetentionReferenceIdeal.Run
public import proofs.«01_k».proof.Proof.RetentionValue
public import proofs.«01_k».proof.Proof.Gen.Pre_up_tables
public import proofs.«01_k».proof.Proof.Gen.Pre_down_tables
public import Idealize.ShloMosaic.Adequacy
public import Idealize.ShloMosaic.Init

@[expose] public section

noncomputable section

namespace Cert.Proof

open Idealize.ShloMosaic Idealize.SL.Sem

theorem claim : Cert.Claim :=
  ⟨Cert.ProjTail.Gen.facts,
    Cert.ProjTailIdeal.Gen.facts,
    Cert.ProjTailReferenceIdeal.Gen.facts,
    Cert.MoeGateUp.Gen.facts,
    Cert.MoeGateUpIdeal.Gen.facts,
    Cert.MoeGateUpReferenceIdeal.Gen.facts,
    Cert.MoeDown.Gen.facts,
    Cert.MoeDownIdeal.Gen.facts,
    Cert.MoeDownReferenceIdeal.Gen.facts,
    Cert.GateUp.Gen.facts,
    Cert.GateUpIdeal.Gen.facts,
    Cert.GateUpReferenceIdeal.Gen.facts,
    Cert.FfnDown.Gen.facts,
    Cert.FfnDownIdeal.Gen.facts,
    Cert.FfnDownReferenceIdeal.Gen.facts,
    Cert.Merge.Gen.facts,
    Cert.MergeIdeal.Gen.facts,
    Cert.MergeReferenceIdeal.Gen.facts,
    Cert.MatmulNorm.Gen.facts,
    Cert.MatmulNormIdeal.Gen.facts,
    Cert.MatmulNormReferenceIdeal.Gen.facts,
    Cert.ProjK.Gen.facts,
    Cert.ProjKIdeal.Gen.facts,
    Cert.ProjKReferenceIdeal.Gen.facts,
    Cert.ProjV.Gen.facts,
    Cert.ProjVIdeal.Gen.facts,
    Cert.ProjVReferenceIdeal.Gen.facts,
    Cert.ProjIdx.Gen.facts,
    Cert.ProjIdxIdeal.Gen.facts,
    Cert.ProjIdxReferenceIdeal.Gen.facts,
    Cert.ProjQ.Gen.facts,
    Cert.ProjQIdeal.Gen.facts,
    Cert.ProjQReferenceIdeal.Gen.facts,
    Cert.ProjQI.Gen.facts,
    Cert.ProjQIIdeal.Gen.facts,
    Cert.ProjQIReferenceIdeal.Gen.facts,
    Cert.Retention.Gen.facts,
    Cert.RetentionIdeal.Gen.facts,
    Cert.RetentionReferenceIdeal.Gen.facts,
    Cert.Pre_up_tables.Gen.facts,
    Cert.Pre_down_tables.Gen.facts,
    (fun m ρ _ => Cert.ProjTail.Gen.frame m ρ),
    (fun m ρ _ => Cert.ProjTailIdeal.Gen.frame m ρ),
    quiescent_ProjTailReferenceIdeal,
    quiescent_MoeGateUp,
    quiescent_MoeGateUpIdeal,
    quiescent_MoeGateUpReferenceIdeal,
    quiescent_MoeDown,
    quiescent_MoeDownIdeal,
    quiescent_MoeDownReferenceIdeal,
    (fun m ρ _ => Cert.GateUp.Gen.frame m ρ),
    (fun m ρ _ => Cert.GateUpIdeal.Gen.frame m ρ),
    quiescent_GateUpReferenceIdeal,
    (fun m ρ _ => Cert.FfnDown.Gen.frame m ρ),
    (fun m ρ _ => Cert.FfnDownIdeal.Gen.frame m ρ),
    quiescent_FfnDownReferenceIdeal,
    (fun m ρ _ => Cert.Merge.Gen.frame m ρ),
    (fun m ρ _ => Cert.MergeIdeal.Gen.frame m ρ),
    quiescent_MergeReferenceIdeal,
    (fun m ρ _ => Cert.MatmulNorm.Gen.frame m ρ),
    (fun m ρ _ => Cert.MatmulNormIdeal.Gen.frame m ρ),
    quiescent_MatmulNormReferenceIdeal,
    (fun m ρ _ => Cert.ProjK.Gen.frame m ρ),
    (fun m ρ _ => Cert.ProjKIdeal.Gen.frame m ρ),
    quiescent_ProjKReferenceIdeal,
    (fun m ρ _ => Cert.ProjV.Gen.frame m ρ),
    (fun m ρ _ => Cert.ProjVIdeal.Gen.frame m ρ),
    quiescent_ProjVReferenceIdeal,
    (fun m ρ _ => Cert.ProjIdx.Gen.frame m ρ),
    (fun m ρ _ => Cert.ProjIdxIdeal.Gen.frame m ρ),
    quiescent_ProjIdxReferenceIdeal,
    (fun m ρ _ => Cert.ProjQ.Gen.frame m ρ),
    (fun m ρ _ => Cert.ProjQIdeal.Gen.frame m ρ),
    quiescent_ProjQReferenceIdeal,
    (fun m ρ _ => Cert.ProjQI.Gen.frame m ρ),
    (fun m ρ _ => Cert.ProjQIIdeal.Gen.frame m ρ),
    quiescent_ProjQIReferenceIdeal,
    (fun m ρ _ => Cert.Retention.Gen.frame m ρ),
    (fun m ρ _ => Cert.RetentionIdeal.Gen.frame m ρ),
    quiescent_RetentionReferenceIdeal,
    (trivial : preserves_ProjTail_ProjTailIdeal),
    algebraic_ProjTailIdeal_ProjTailReferenceIdeal,
    (trivial : preserves_MoeGateUp_MoeGateUpIdeal),
    algebraic_MoeGateUpIdeal_MoeGateUpReferenceIdeal,
    (trivial : preserves_MoeDown_MoeDownIdeal),
    algebraic_MoeDownIdeal_MoeDownReferenceIdeal,
    (trivial : preserves_GateUp_GateUpIdeal),
    algebraic_GateUpIdeal_GateUpReferenceIdeal,
    (trivial : preserves_FfnDown_FfnDownIdeal),
    algebraic_FfnDownIdeal_FfnDownReferenceIdeal,
    (trivial : preserves_Merge_MergeIdeal),
    algebraic_MergeIdeal_MergeReferenceIdeal,
    (trivial : preserves_MatmulNorm_MatmulNormIdeal),
    algebraic_MatmulNormIdeal_MatmulNormReferenceIdeal,
    (trivial : preserves_ProjK_ProjKIdeal),
    algebraic_ProjKIdeal_ProjKReferenceIdeal,
    (trivial : preserves_ProjV_ProjVIdeal),
    algebraic_ProjVIdeal_ProjVReferenceIdeal,
    (trivial : preserves_ProjIdx_ProjIdxIdeal),
    algebraic_ProjIdxIdeal_ProjIdxReferenceIdeal,
    (trivial : preserves_ProjQ_ProjQIdeal),
    algebraic_ProjQIdeal_ProjQReferenceIdeal,
    (trivial : preserves_ProjQI_ProjQIIdeal),
    algebraic_ProjQIIdeal_ProjQIReferenceIdeal,
    (trivial : preserves_Retention_RetentionIdeal),
    algebraic_RetentionIdeal_RetentionReferenceIdeal⟩

end Cert.Proof

end
